-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v88) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v56_0)) (v1 : (c : Dev Cert.Kernel6Ideal.nD) → Buf (Elt Ideal) ((c.tc : Thread Cert.Kernel6Ideal.nD Cert.Kernel6Ideal.τ).loc Cert.Kernel6Ideal.main_v56_1)) (v2 : (c : Dev Cert.Kernel6Ideal.nD) → Buf (Elt Ideal) ((c.tc : Thread Cert.Kernel6Ideal.nD Cert.Kernel6Ideal.τ).loc Cert.Kernel6Ideal.main_v56_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v56_0) = v0 c
          ∧ r.2.mem ((c.tc : Thread Cert.Kernel6Ideal.nD Cert.Kernel6Ideal.τ).loc Cert.Kernel6Ideal.main_v56_1) = v1 c
          ∧ r.2.mem ((c.tc : Thread Cert.Kernel6Ideal.nD Cert.Kernel6Ideal.τ).loc Cert.Kernel6Ideal.main_v56_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v66) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x4352x6x96 : Shape := ⟨4, ![2, 4352, 6, 96]⟩
abbrev S2x4352x6x64 : Shape := ⟨4, ![2, 4352, 6, 64]⟩
abbrev S_ : Shape := ⟨0, ![]⟩

class Facts : Prop where
  bcast_S_S2x4352x6x96 : S_.BroadcastsInDim S2x4352x6x96 (![] : Fin 0 → Fin S2x4352x6x96.rank)
  reducesTo_S2x4352x6x96_S_d0_1_2_3 : S2x4352x6x96.ReducesTo [0, 1, 2, 3] S_
  h_S_ : 0 < S_.numel
  bcast_S_S2x4352x6x64 : S_.BroadcastsInDim S2x4352x6x64 (![] : Fin 0 → Fin S2x4352x6x64.rank)
  reducesTo_S2x4352x6x64_S_d0_1_2_3 : S2x4352x6x64.ReducesTo [0, 1, 2, 3] S_

variable [Facts]

def fn_part1 {F : FTy → Type} [FloatOps F] (main_v13 : IVec S_ 1) (main_v16 : IVec S2x4352x6x64 1) : IVec S_ 1 :=
  let main_c_5 : IVec S_ 1 := constantI S_ 1 1#1
  let main_v17 : IVec S_ 1 := (fun x v => Host.reduce IntOp.andi x v reducesTo_S2x4352x6x64_S_d0_1_2_3 h_S_) main_v16 main_c_5
  let main_v18 : IVec S_ 1 := andi main_v13 main_v17
  main_v18

def fn {F : FTy → Type} [FloatOps F] (main_arg0 : FVec F S2x4352x6x96 .f32) (main_arg1 : FVec F S2x4352x6x96 .f32) (main_arg2 : FVec F S2x4352x6x64 .f32) (main_arg3 : FVec F S2x4352x6x64 .f32) : IVec S_ 1 :=
  let main_v0 : FVec F S2x4352x6x96 .f32 := Host.absf main_arg0
  let main_cst : FVec F S_ .f32 := constant S_ .f32 0x7F800000#32
  let main_v1 : FVec F S2x4352x6x96 .f32 := broadcastInDim S2x4352x6x96 ![] bcast_S_S2x4352x6x96 main_cst
  let main_v2 : IVec S2x4352x6x96 1 := cmpf .olt main_v0 main_v1
  let main_c : IVec S_ 1 := constantI S_ 1 1#1
  let main_v3 : IVec S_ 1 := (fun x v => Host.reduce IntOp.andi x v reducesTo_S2x4352x6x96_S_d0_1_2_3 h_S_) main_v2 main_c
  let main_v4 : FVec F S2x4352x6x96 .f32 := Host.absf main_arg1
  let main_cst_0 : FVec F S_ .f32 := constant S_ .f32 0x7F800000#32
  let main_v5 : FVec F S2x4352x6x96 .f32 := broadcastInDim S2x4352x6x96 ![] bcast_S_S2x4352x6x96 main_cst_0
  let main_v6 : IVec S2x4352x6x96 1 := cmpf .olt main_v4 main_v5
  let main_c_1 : IVec S_ 1 := constantI S_ 1 1#1
  let main_v7 : IVec S_ 1 := (fun x v => Host.reduce IntOp.andi x v reducesTo_S2x4352x6x96_S_d0_1_2_3 h_S_) main_v6 main_c_1
  let main_v8 : IVec S_ 1 := andi main_v3 main_v7
  let main_v9 : FVec F S2x4352x6x64 .f32 := Host.absf main_arg2
  let main_cst_2 : FVec F S_ .f32 := constant S_ .f32 0x7F800000#32
  let main_v10 : FVec F S2x4352x6x64 .f32 := broadcastInDim S2x4352x6x64 ![] bcast_S_S2x4352x6x64 main_cst_2
  let main_v11 : IVec S2x4352x6x64 1 := cmpf .olt main_v9 main_v10
  let main_c_3 : IVec S_ 1 := constantI S_ 1 1#1
  let main_v12 : IVec S_ 1 := (fun x v => Host.reduce IntOp.andi x v reducesTo_S2x4352x6x64_S_d0_1_2_3 h_S_) main_v11 main_c_3
  let main_v13 : IVec S_ 1 := andi main_v8 main_v12
  let main_v14 : FVec F S2x4352x6x64 .f32 := Host.absf main_arg3
  let main_cst_4 : FVec F S_ .f32 := constant S_ .f32 0x7F800000#32
  let main_v15 : FVec F S2x4352x6x64 .f32 := broadcastInDim S2x4352x6x64 ![] bcast_S_S2x4352x6x64 main_cst_4
  let main_v16 : IVec S2x4352x6x64 1 := cmpf .olt main_v14 main_v15
  fn_part1 (F := F) main_v13 main_v16
-- ==== Kernel.lean ====
abbrev S2x4352x6x96 : Shape := ⟨4, ![2, 4352, 6, 96]⟩
abbrev S2x4352x6x64 : Shape := ⟨4, ![2, 4352, 6, 64]⟩
abbrev S_ : Shape := ⟨0, ![]⟩
abbrev S2x256x6x96 : Shape := ⟨4, ![2, 256, 6, 96]⟩
abbrev S2x256x6x64 : Shape := ⟨4, ![2, 256, 6, 64]⟩
abbrev S2x6x256x256 : Shape := ⟨4, ![2, 6, 256, 256]⟩
abbrev S2x6x256 : Shape := ⟨3, ![2, 6, 256]⟩
abbrev S2x6x256x1 : Shape := ⟨4, ![2, 6, 256, 1]⟩
abbrev S2x6x64x256 : Shape := ⟨4, ![2, 6, 64, 256]⟩
abbrev S2x4096x6x96 : Shape := ⟨4, ![2, 4096, 6, 96]⟩
abbrev S2x6x4096x4352 : Shape := ⟨4, ![2, 6, 4096, 4352]⟩
abbrev S2x6x4096 : Shape := ⟨3, ![2, 6, 4096]⟩
abbrev S2x6x4096x1 : Shape := ⟨4, ![2, 6, 4096, 1]⟩
abbrev S2x6x64x4096 : Shape := ⟨4, ![2, 6, 64, 4096]⟩
abbrev S2x4096x6x64 : Shape := ⟨4, ![2, 4096, 6, 64]⟩
abbrev S2x256x6x256 : Shape := ⟨4, ![2, 256, 6, 256]⟩
abbrev S2x256x6 : Shape := ⟨3, ![2, 256, 6]⟩
abbrev S2x256x6x1 : Shape := ⟨4, ![2, 256, 6, 1]⟩
abbrev S2x6x4352x4096 : Shape := ⟨4, ![2, 6, 4352, 4096]⟩
abbrev S2x4096x6x4352 : Shape := ⟨4, ![2, 4096, 6, 4352]⟩
abbrev S2x4096x6 : Shape := ⟨3, ![2, 4096, 6]⟩
abbrev S2x4096x6x1 : Shape := ⟨4, ![2, 4096, 6, 1]⟩
abbrev S2x4352x6x1 : Shape := ⟨4, ![2, 4352, 6, 1]⟩
abbrev S2x4352x6x128 : Shape := ⟨4, ![2, 4352, 6, 128]⟩
abbrev S8704x768 : Shape := ⟨2, ![8704, 768]⟩
abbrev S256x256 : Shape := ⟨2, ![256, 256]⟩
abbrev S4352x256 : Shape := ⟨2, ![4352, 256]⟩
abbrev S256x128 : Shape := ⟨2, ![256, 128]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩

abbrev nBuf : Space → Nat
  | .hbm => 121
  | .vmem => 18
  | .smem => 0
  | _ => 0

abbrev bufTy : (tb : Table) → Fin (tcTables nBuf tb) → BufTy
  | .hbm, ⟨0, _⟩ => ⟨S2x4352x6x96, .f32⟩
  | .hbm, ⟨1, _⟩ => ⟨S2x4352x6x96, .f32⟩
  | .hbm, ⟨2, _⟩ => ⟨S2x4352x6x64, .f32⟩
  | .hbm, ⟨3, _⟩ => ⟨S2x4352x6x64, .f32⟩
  | .hbm, ⟨4, _⟩ => ⟨S_, .f32⟩
  | .hbm, ⟨5, _⟩ => ⟨S_, .f32⟩
  | .hbm, ⟨6, _⟩ => ⟨S2x256x6x96, .f32⟩
  | .hbm, ⟨7, _⟩ => ⟨S2x256x6x96, .f32⟩
  | .hbm, ⟨8, _⟩ => ⟨S2x256x6x64, .f32⟩
  | .hbm, ⟨9, _⟩ => ⟨S2x6x256x256, .f32⟩
  | .hbm, ⟨10, _⟩ => ⟨S_, .f32⟩
  | .hbm, ⟨11, _⟩ => ⟨S2x6x256x256, .f32⟩
  | .hbm, ⟨12, _⟩ => ⟨S2x6x256x256, .f32⟩
  | .hbm, ⟨13, _⟩ => ⟨S_, .f32⟩
  | .hbm, ⟨14, _⟩ => ⟨S2x6x256, .f32⟩
  | .hbm, ⟨15, _⟩ => ⟨S_, .f32⟩
  | .hbm, ⟨16, _⟩ => ⟨S2x6x256, .f32⟩
  | .hbm, ⟨17, _⟩ => ⟨S2x6x256, .f32⟩
  | .hbm, ⟨18, _⟩ => ⟨S2x6x256x1, .f32⟩
  | .hbm, ⟨19, _⟩ => ⟨S2x6x256x256, .f32⟩
  | .hbm, ⟨20, _⟩ => ⟨S2x6x256x256, .f32⟩
  | .hbm, ⟨21, _⟩ => ⟨S2x6x256x256, .f32⟩
  | .hbm, ⟨22, _⟩ => ⟨S_, .f32⟩
  | .hbm, ⟨23, _⟩ => ⟨S2x6x256, .f32⟩
  | .hbm, ⟨24, _⟩ => ⟨S2x6x256x1, .f32⟩
  | .hbm, ⟨25, _⟩ => ⟨S2x6x256x256, .f32⟩
  | .hbm, ⟨26, _⟩ => ⟨S2x6x256x256, .f32⟩
  | .hbm, ⟨27, _⟩ => ⟨S2x6x64x256, .f32⟩
  | .hbm, ⟨28, _⟩ => ⟨S2x256x6x64, .f32⟩
  | .hbm, ⟨29, _⟩ => ⟨S2x4096x6x96, .f32⟩
  | .hbm, ⟨30, _⟩ => ⟨S2x6x4096x4352, .f32⟩
  | .hbm, ⟨31, _⟩ => ⟨S_, .f32⟩
  | .hbm, ⟨32, _⟩ => ⟨S2x6x4096x4352, .f32⟩
  | .hbm, ⟨33, _⟩ => ⟨S2x6x4096x4352, .f32⟩
  | .hbm, ⟨34, _⟩ => ⟨S_, .f32⟩
  | .hbm, ⟨35, _⟩ => ⟨S2x6x4096, .f32⟩
  | .hbm, ⟨36, _⟩ => ⟨S_, .f32⟩
  | .hbm, ⟨37, _⟩ => ⟨S2x6x4096, .f32⟩
  | .hbm, ⟨38, _⟩ => ⟨S2x6x4096, .f32⟩
  | .hbm, ⟨39, _⟩ => ⟨S2x6x4096x1, .f32⟩
  | .hbm, ⟨40, _⟩ => ⟨S2x6x4096x4352, .f32⟩
  | .hbm, ⟨41, _⟩ => ⟨S2x6x4096x4352, .f32⟩
  | .hbm, ⟨42, _⟩ => ⟨S2x6x4096x4352, .f32⟩
  | .hbm, ⟨43, _⟩ => ⟨S_, .f32⟩
  | .hbm, ⟨44, _⟩ => ⟨S2x6x4096, .f32⟩
  | .hbm, ⟨45, _⟩ => ⟨S2x6x4096x1, .f32⟩
  | .hbm, ⟨46, _⟩ => ⟨S2x6x4096x4352, .f32⟩
  | .hbm, ⟨47, _⟩ => ⟨S2x6x4096x4352, .f32⟩
  | .hbm, ⟨48, _⟩ => ⟨S2x6x64x4096, .f32⟩
  | .hbm, ⟨49, _⟩ => ⟨S2x4096x6x64, .f32⟩
  | .hbm, ⟨50, _⟩ => ⟨S2x4352x6x64, .f32⟩
  | .hbm, ⟨51, _⟩ => ⟨S2x256x6x96, .f32⟩
  | .hbm, ⟨52, _⟩ => ⟨S2x256x6x96, .f32⟩
  | .hbm, ⟨53, _⟩ => ⟨S2x6x256x256, .f32⟩
  | .hbm, ⟨54, _⟩ => ⟨S2x256x6x256, .f32⟩
  | .hbm, ⟨55, _⟩ => ⟨S_, .f32⟩
  | .hbm, ⟨56, _⟩ => ⟨S2x256x6x256, .f32⟩
  | .hbm, ⟨57, _⟩ => ⟨S2x256x6x256, .f32⟩
  | .hbm, ⟨58, _⟩ => ⟨S_, .f32⟩
  | .hbm, ⟨59, _⟩ => ⟨S2x256x6, .f32⟩
  | .hbm, ⟨60, _⟩ => ⟨S2x256x6x1, .f32⟩
  | .hbm, ⟨61, _⟩ => ⟨S2x256x6x256, .f32⟩
  | .hbm, ⟨62, _⟩ => ⟨S2x256x6x256, .f32⟩
  | .hbm, ⟨63, _⟩ => ⟨S2x256x6x256, .f32⟩
  | .hbm, ⟨64, _⟩ => ⟨S_, .f32⟩
  | .hbm, ⟨65, _⟩ => ⟨S2x256x6, .f32⟩
  | .hbm, ⟨66, _⟩ => ⟨S2x256x6x1, .f32⟩
  | .hbm, ⟨67, _⟩ => ⟨S2x256x6x1, .f32⟩
  | .hbm, ⟨68, _⟩ => ⟨S2x256x6x1, .f32⟩
  | .hbm, ⟨69, _⟩ => ⟨S2x4096x6x96, .f32⟩
  | .hbm, ⟨70, _⟩ => ⟨S2x6x4352x4096, .f32⟩
  | .hbm, ⟨71, _⟩ => ⟨S2x4096x6x4352, .f32⟩
  | .hbm, ⟨72, _⟩ => ⟨S_, .f32⟩
  | .hbm, ⟨73, _⟩ => ⟨S2x4096x6x4352, .f32⟩
  | .hbm, ⟨74, _⟩ => ⟨S2x4096x6x4352, .f32⟩
  | .hbm, ⟨75, _⟩ => ⟨S_, .f32⟩
  | .hbm, ⟨76, _⟩ => ⟨S2x4096x6, .f32⟩
  | .hbm, ⟨77, _⟩ => ⟨S2x4096x6x1, .f32⟩
  | .hbm, ⟨78, _⟩ => ⟨S2x4096x6x4352, .f32⟩
  | .hbm, ⟨79, _⟩ => ⟨S2x4096x6x4352, .f32⟩
  | .hbm, ⟨80, _⟩ => ⟨S2x4096x6x4352, .f32⟩
  | .hbm, ⟨81, _⟩ => ⟨S_, .f32⟩
  | .hbm, ⟨82, _⟩ => ⟨S2x4096x6, .f32⟩
  | .hbm, ⟨83, _⟩ => ⟨S2x4096x6x1, .f32⟩
  | .hbm, ⟨84, _⟩ => ⟨S2x4096x6x1, .f32⟩
  | .hbm, ⟨85, _⟩ => ⟨S2x4096x6x1, .f32⟩
  | .hbm, ⟨86, _⟩ => ⟨S2x4352x6x1, .f32⟩
  | .hbm, ⟨87, _⟩ => ⟨S2x4352x6x1, .f32⟩
  | .hbm, ⟨88, _⟩ => ⟨S2x4352x6x1, .f32⟩
  | .hbm, ⟨89, _⟩ => ⟨S2x4352x6x128, .f32⟩
  | .hbm, ⟨90, _⟩ => ⟨S8704x768, .f32⟩
  | .hbm, ⟨91, _⟩ => ⟨S_, .i32⟩
  | .hbm, ⟨92, _⟩ => ⟨S_, .f32⟩
  | .hbm, ⟨93, _⟩ => ⟨S2x4352x6x128, .f32⟩
  | .hbm, ⟨94, _⟩ => ⟨S8704x768, .f32⟩
  | .hbm, ⟨95, _⟩ => ⟨S_, .f32⟩
  | .hbm, ⟨96, _⟩ => ⟨S_, .f32⟩
  | .hbm, ⟨97, _⟩ => ⟨S8704x768, .f32⟩
  | .hbm, ⟨98, _⟩ => ⟨S8704x768, .f32⟩
  | .hbm, ⟨99, _⟩ => ⟨S8704x768, .bf16⟩
  | .hbm, ⟨100, _⟩ => ⟨S_, .i32⟩
  | .hbm, ⟨101, _⟩ => ⟨S_, .f32⟩
  | .hbm, ⟨102, _⟩ => ⟨S2x4352x6x128, .f32⟩
  | .hbm, ⟨103, _⟩ => ⟨S8704x768, .f32⟩
  | .hbm, ⟨104, _⟩ => ⟨S8704x768, .bf16⟩
  | .hbm, ⟨105, _⟩ => ⟨S_, .i32⟩
  | .hbm, ⟨106, _⟩ => ⟨S_, .f32⟩
  | .hbm, ⟨107, _⟩ => ⟨S2x4352x6x128, .f32⟩
  | .hbm, ⟨108, _⟩ => ⟨S8704x768, .f32⟩
  | .hbm, ⟨109, _⟩ => ⟨S8704x768, .bf16⟩
  | .hbm, ⟨110, _⟩ => ⟨S_, .i32⟩
  | .hbm, ⟨111, _⟩ => ⟨S_, .f32⟩
  | .hbm, ⟨112, _⟩ => ⟨S2x4352x6x128, .f32⟩
  | .hbm, ⟨113, _⟩ => ⟨S8704x768, .f32⟩
  | .hbm, ⟨114, _⟩ => ⟨S_, .i32⟩
  | .hbm, ⟨115, _⟩ => ⟨S_, .f32⟩
  | .hbm, ⟨116, _⟩ => ⟨S2x4352x6x128, .f32⟩
  | .hbm, ⟨117, _⟩ => ⟨S8704x768, .f32⟩
  | .hbm, ⟨118, _⟩ => ⟨S8704x768, .f32⟩
  | .hbm, ⟨119, _⟩ => ⟨S8704x768, .f32⟩
  | .hbm, ⟨120, _⟩ => ⟨S8704x768, .f32⟩
  | .local _ .vmem, ⟨0, _⟩ => ⟨S256x256, .bf16⟩
  | .local _ .vmem, ⟨1, _⟩ => ⟨S256x256, .bf16⟩
  | .local _ .vmem, ⟨2, _⟩ => ⟨S4352x256, .bf16⟩
  | .local _ .vmem, ⟨3, _⟩ => ⟨S4352x256, .bf16⟩
  | .local _ .vmem, ⟨4, _⟩ => ⟨S4352x256, .bf16⟩
  | .local _ .vmem, ⟨5, _⟩ => ⟨S4352x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S4352x256, .f32⟩
  | .local _ .vmem, ⟨15, _⟩ => ⟨S4352x256, .f32⟩
  | .local _ .vmem, ⟨16, _⟩ => ⟨S4352x256, .f32⟩
  | .local _ .vmem, ⟨17, _⟩ => ⟨S4352x256, .f32⟩
  | _, _ => ⟨S2x4352x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c : Ref sig .tc := ⟨.hbm, 91, rfl⟩
abbrev main_call0_v0 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_16 : Ref sig .tc := ⟨.hbm, 105, rfl⟩
abbrev main_call2_v0 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_17 : Ref sig .tc := ⟨.hbm, 110, rfl⟩
abbrev main_call3_v0 : Ref sig .tc := ⟨.hbm, 111, rfl⟩
abbrev main_v84 : Ref sig .tc := ⟨.hbm, 112, rfl⟩
abbrev main_v85 : Ref sig .tc := ⟨.hbm, 113, rfl⟩
abbrev main_c_18 : Ref sig .tc := ⟨.hbm, 114, rfl⟩
abbrev main_call4_v0 : Ref sig .tc := ⟨.hbm, 115, rfl⟩
abbrev main_v86 : Ref sig .tc := ⟨.hbm, 116, rfl⟩
abbrev main_v87 : Ref sig .tc := ⟨.hbm, 117, rfl⟩
abbrev main_v88_0 : Ref sig .tc := ⟨.hbm, 118, rfl⟩
abbrev main_v88_1 : Ref sig .tc := ⟨.hbm, 119, rfl⟩
abbrev main_v88_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 3, 17], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c0_i32_3 : BitVec 32 := 0#32
  let v6 : BitVec 1 := Scalar.cmpi .sgt arg2 c0_i32_3
  let v7 : BitVec 32 := Scalar.extui v6
  let c0_i32_4 : BitVec 32 := 0#32
  let v8 : BitVec 1 := Scalar.cmpi .ne v7 c0_i32_4
  v8

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x4352x6x96 : Shape := ⟨4, ![2, 4352, 6, 96]⟩
abbrev S2x4352x6x64 : Shape := ⟨4, ![2, 4352, 6, 64]⟩
abbrev S2x256x6x96 : Shape := ⟨4, ![2, 256, 6, 96]⟩
abbrev S2x256x6x64 : Shape := ⟨4, ![2, 256, 6, 64]⟩
abbrev S2x6x256x256 : Shape := ⟨4, ![2, 6, 256, 256]⟩
abbrev S_ : Shape := ⟨0, ![]⟩
abbrev S2x6x256 : Shape := ⟨3, ![2, 6, 256]⟩
abbrev S2x6x256x1 : Shape := ⟨4, ![2, 6, 256, 1]⟩
abbrev S2x6x64x256 : Shape := ⟨4, ![2, 6, 64, 256]⟩
abbrev S2x4096x6x96 : Shape := ⟨4, ![2, 4096, 6, 96]⟩
abbrev S2x6x4096x4352 : Shape := ⟨4, ![2, 6, 4096, 4352]⟩
abbrev S2x6x4096 : Shape := ⟨3, ![2, 6, 4096]⟩
abbrev S2x6x4096x1 : Shape := ⟨4, ![2, 6, 4096, 1]⟩
abbrev S2x6x64x4096 : Shape := ⟨4, ![2, 6, 64, 4096]⟩
abbrev S2x4096x6x64 : Shape := ⟨4, ![2, 4096, 6, 64]⟩
abbrev S2x6x64x4352 : Shape := ⟨4, ![2, 6, 64, 4352]⟩
abbrev S2x6x4352x96 : Shape := ⟨4, ![2, 6, 4352, 96]⟩
abbrev S2x6x4096x96 : Shape := ⟨4, ![2, 6, 4096, 96]⟩
abbrev S2x6x256x96 : Shape := ⟨4, ![2, 6, 256, 96]⟩
abbrev S2x4352x6x128 : Shape := ⟨4, ![2, 4352, 6, 128]⟩
abbrev S8704x768 : Shape := ⟨2, ![8704, 768]⟩

abbrev nBuf : Space → Nat
  | .hbm => 179
  | .vmem => 0
  | .smem => 0
  | _ => 0

abbrev hbmTy0_0 (i : Nat) : BufTy := match i % 128 with
  | 0 => ⟨S2x4352x6x96, .f32⟩
  | 1 => ⟨S2x4352x6x96, .f32⟩
  | 2 => ⟨S2x4352x6x64, .f32⟩
  | 3 => ⟨S2x4352x6x64, .f32⟩
  | 4 => ⟨S2x256x6x96, .f32⟩
  | 5 => ⟨S2x256x6x96, .f32⟩
  | 6 => ⟨S2x256x6x64, .f32⟩
  | 7 => ⟨S2x6x256x256, .f32⟩
  | 8 => ⟨S_, .f32⟩
  | 9 => ⟨S2x6x256x256, .f32⟩
  | 10 => ⟨S2x6x256x256, .f32⟩
  | 11 => ⟨S_, .f32⟩
  | 12 => ⟨S2x6x256, .f32⟩
  | 13 => ⟨S2x6x256x1, .f32⟩
  | 14 => ⟨S2x6x256x256, .f32⟩
  | 15 => ⟨S2x6x256x256, .i1⟩
  | 16 => ⟨S2x6x256x256, .f32⟩
  | 17 => ⟨S_, .f32⟩
  | 18 => ⟨S2x6x256, .f32⟩
  | 19 => ⟨S_, .f32⟩
  | 20 => ⟨S2x6x256, .f32⟩
  | 21 => ⟨S2x6x256, .f32⟩
  | 22 => ⟨S_, .f32⟩
  | 23 => ⟨S2x6x256, .f32⟩
  | 24 => ⟨S2x6x256, .i1⟩
  | 25 => ⟨S_, .f32⟩
  | 26 => ⟨S2x6x256, .f32⟩
  | 27 => ⟨S2x6x256, .i1⟩
  | 28 => ⟨S_, .f32⟩
  | 29 => ⟨S2x6x256, .f32⟩
  | 30 => ⟨S_, .f32⟩
  | 31 => ⟨S2x6x256, .f32⟩
  | 32 => ⟨S_, .f32⟩
  | 33 => ⟨S2x6x256, .f32⟩
  | 34 => ⟨S2x6x256, .f32⟩
  | 35 => ⟨S2x6x256, .f32⟩
  | 36 => ⟨S2x6x256x1, .f32⟩
  | 37 => ⟨S2x6x256x256, .f32⟩
  | 38 => ⟨S2x6x256x256, .f32⟩
  | 39 => ⟨S2x6x256x256, .f32⟩
  | 40 => ⟨S_, .f32⟩
  | 41 => ⟨S2x6x256, .f32⟩
  | 42 => ⟨S2x6x256x1, .f32⟩
  | 43 => ⟨S2x6x256x256, .f32⟩
  | 44 => ⟨S2x6x256x256, .f32⟩
  | 45 => ⟨S2x6x256x1, .f32⟩
  | 46 => ⟨S_, .f32⟩
  | 47 => ⟨S2x6x256x1, .f32⟩
  | 48 => ⟨S2x6x256x1, .f32⟩
  | 49 => ⟨S2x6x64x256, .f32⟩
  | 50 => ⟨S2x256x6x64, .f32⟩
  | 51 => ⟨S2x4096x6x96, .f32⟩
  | 52 => ⟨S2x6x4096x4352, .f32⟩
  | 53 => ⟨S_, .f32⟩
  | 54 => ⟨S2x6x4096x4352, .f32⟩
  | 55 => ⟨S2x6x4096x4352, .f32⟩
  | 56 => ⟨S_, .f32⟩
  | 57 => ⟨S2x6x4096, .f32⟩
  | 58 => ⟨S2x6x4096x1, .f32⟩
  | 59 => ⟨S2x6x4096x4352, .f32⟩
  | 60 => ⟨S2x6x4096x4352, .i1⟩
  | 61 => ⟨S2x6x4096x4352, .f32⟩
  | 62 => ⟨S_, .f32⟩
  | 63 => ⟨S2x6x4096, .f32⟩
  | 64 => ⟨S_, .f32⟩
  | 65 => ⟨S2x6x4096, .f32⟩
  | 66 => ⟨S2x6x4096, .f32⟩
  | 67 => ⟨S_, .f32⟩
  | 68 => ⟨S2x6x4096, .f32⟩
  | 69 => ⟨S2x6x4096, .i1⟩
  | 70 => ⟨S_, .f32⟩
  | 71 => ⟨S2x6x4096, .f32⟩
  | 72 => ⟨S2x6x4096, .i1⟩
  | 73 => ⟨S_, .f32⟩
  | 74 => ⟨S2x6x4096, .f32⟩
  | 75 => ⟨S_, .f32⟩
  | 76 => ⟨S2x6x4096, .f32⟩
  | 77 => ⟨S_, .f32⟩
  | 78 => ⟨S2x6x4096, .f32⟩
  | 79 => ⟨S2x6x4096, .f32⟩
  | 80 => ⟨S2x6x4096, .f32⟩
  | 81 => ⟨S2x6x4096x1, .f32⟩
  | 82 => ⟨S2x6x4096x4352, .f32⟩
  | 83 => ⟨S2x6x4096x4352, .f32⟩
  | 84 => ⟨S2x6x4096x4352, .f32⟩
  | 85 => ⟨S_, .f32⟩
  | 86 => ⟨S2x6x4096, .f32⟩
  | 87 => ⟨S2x6x4096x1, .f32⟩
  | 88 => ⟨S2x6x4096x4352, .f32⟩
  | 89 => ⟨S2x6x4096x4352, .f32⟩
  | 90 => ⟨S2x6x4096x1, .f32⟩
  | 91 => ⟨S_, .f32⟩
  | 92 => ⟨S2x6x4096x1, .f32⟩
  | 93 => ⟨S2x6x4096x1, .f32⟩
  | 94 => ⟨S2x6x64x4096, .f32⟩
  | 95 => ⟨S2x4096x6x64, .f32⟩
  | 96 => ⟨S2x4352x6x64, .f32⟩
  | 97 => ⟨S2x256x6x64, .f32⟩
  | 98 => ⟨S2x4096x6x64, .f32⟩
  | 99 => ⟨S2x6x64x4096, .f32⟩
  | 100 => ⟨S2x6x4096x4352, .f32⟩
  | 101 => ⟨S2x6x64x4352, .f32⟩
  | 102 => ⟨S2x4352x6x64, .f32⟩
  | 103 => ⟨S2x6x4096x4352, .f32⟩
  | 104 => ⟨S2x6x4096x4352, .f32⟩
  | 105 => ⟨S2x6x4096x4352, .f32⟩
  | 106 => ⟨S_, .f32⟩
  | 107 => ⟨S2x6x4096, .f32⟩
  | 108 => ⟨S2x6x4096x1, .f32⟩
  | 109 => ⟨S2x6x4096x1, .f32⟩
  | 110 => ⟨S2x6x4096x4352, .f32⟩
  | 111 => ⟨S2x6x4096x4352, .f32⟩
  | 112 => ⟨S_, .f32⟩
  | 113 => ⟨S2x6x4096, .f32⟩
  | 114 => ⟨S2x6x4096x4352, .f32⟩
  | 115 => ⟨S2x6x4096x4352, .f32⟩
  | 116 => ⟨S2x6x4096x4352, .f32⟩
  | 117 => ⟨S_, .f32⟩
  | 118 => ⟨S2x6x4096x4352, .f32⟩
  | 119 => ⟨S2x6x4096x4352, .f32⟩
  | 120 => ⟨S2x6x4352x96, .f32⟩
  | 121 => ⟨S2x4352x6x96, .f32⟩
  | 122 => ⟨S2x6x4096x96, .f32⟩
  | 123 => ⟨S2x4096x6x96, .f32⟩
  | 124 => ⟨S_, .f32⟩
  | 125 => ⟨S2x4352x6x96, .f32⟩
  | 126 => ⟨S2x6x64x256, .f32⟩
  | 127 => ⟨S2x6x256x256, .f32⟩
  | _ => ⟨S2x4352x6x96, .f32⟩

abbrev hbmTy0_1 (i : Nat) : BufTy := match i % 128 with
  | 0 => ⟨S2x6x64x256, .f32⟩
  | 1 => ⟨S2x256x6x64, .f32⟩
  | 2 => ⟨S2x6x256x256, .f32⟩
  | 3 => ⟨S2x6x256x256, .f32⟩
  | 4 => ⟨S2x6x256x256, .f32⟩
  | 5 => ⟨S_, .f32⟩
  | 6 => ⟨S2x6x256, .f32⟩
  | 7 => ⟨S2x6x256x1, .f32⟩
  | 8 => ⟨S2x6x256x1, .f32⟩
  | 9 => ⟨S2x6x256x256, .f32⟩
  | 10 => ⟨S2x6x256x256, .f32⟩
  | 11 => ⟨S_, .f32⟩
  | 12 => ⟨S2x6x256, .f32⟩
  | 13 => ⟨S2x6x256x256, .f32⟩
  | 14 => ⟨S2x6x256x256, .f32⟩
  | 15 => ⟨S2x6x256x256, .f32⟩
  | 16 => ⟨S_, .f32⟩
  | 17 => ⟨S2x6x256x256, .f32⟩
  | 18 => ⟨S2x6x256x256, .f32⟩
  | 19 => ⟨S2x6x256x96, .f32⟩
  | 20 => ⟨S2x256x6x96, .f32⟩
  | 21 => ⟨S2x6x256x96, .f32⟩
  | 22 => ⟨S2x256x6x96, .f32⟩
  | 23 => ⟨S_, .f32⟩
  | 24 => ⟨S2x4352x6x64, .f32⟩
  | 25 => ⟨S2x4352x6x64, .f32⟩
  | 26 => ⟨S_, .f32⟩
  | 27 => ⟨S2x4352x6x96, .f32⟩
  | 28 => ⟨S2x4352x6x96, .f32⟩
  | 29 => ⟨S_, .f32⟩
  | 30 => ⟨S2x4352x6x96, .f32⟩
  | 31 => ⟨S2x4352x6x96, .f32⟩
  | 32 => ⟨S_, .f32⟩
  | 33 => ⟨S_, .f32⟩
  | 34 => ⟨S_, .i32⟩
  | 35 => ⟨S_, .f32⟩
  | 36 => ⟨S2x4352x6x128, .f32⟩
  | 37 => ⟨S8704x768, .f32⟩
  | 38 => ⟨S_, .f32⟩
  | 39 => ⟨S8704x768, .f32⟩
  | 40 => ⟨S8704x768, .f32⟩
  | 41 => ⟨S_, .i32⟩
  | 42 => ⟨S_, .f32⟩
  | 43 => ⟨S2x4352x6x128, .f32⟩
  | 44 => ⟨S8704x768, .f32⟩
  | 45 => ⟨S8704x768, .f32⟩
  | 46 => ⟨S8704x768, .f32⟩
  | 47 => ⟨S_, .i32⟩
  | 48 => ⟨S_, .f32⟩
  | 49 => ⟨S2x4352x6x128, .f32⟩
  | 50 => ⟨S8704x768, .f32⟩
  | _ => ⟨S2x4352x6x96, .f32⟩

abbrev hbmTy (i : Nat) : BufTy := match i / 128 with
  | 0 => hbmTy0_0 i
  | 1 => hbmTy0_1 i
  | _ => ⟨S2x4352x6x96, .f32⟩

abbrev bufTy : (tb : Table) → Fin (tcTables nBuf tb) → BufTy
  | .hbm, ⟨i, _⟩ => hbmTy i
  | _, _ => ⟨S2x4352x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_19 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_21 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_22 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_24 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_25 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_26 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_27 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_28 : Ref sig .tc := ⟨.hbm, 151, rfl⟩
abbrev main_v118 : Ref sig .tc := ⟨.hbm, 152, rfl⟩
abbrev main_v119 : Ref sig .tc := ⟨.hbm, 153, rfl⟩
abbrev main_cst_29 : Ref sig .tc := ⟨.hbm, 154, rfl⟩
abbrev main_v120 : Ref sig .tc := ⟨.hbm, 155, rfl⟩
abbrev main_v121 : Ref sig .tc := ⟨.hbm, 156, rfl⟩
abbrev main_cst_30 : Ref sig .tc := ⟨.hbm, 157, rfl⟩
abbrev main_v122 : Ref sig .tc := ⟨.hbm, 158, rfl⟩
abbrev main_v123 : Ref sig .tc := ⟨.hbm, 159, rfl⟩
abbrev main_cst_31 : Ref sig .tc := ⟨.hbm, 160, rfl⟩
abbrev main_v124 : Ref sig .tc := ⟨.hbm, 161, rfl⟩
abbrev main_c : Ref sig .tc := ⟨.hbm, 162, rfl⟩
abbrev main_call0_v0 : Ref sig .tc := ⟨.hbm, 163, rfl⟩
abbrev main_v125 : Ref sig .tc := ⟨.hbm, 164, rfl⟩
abbrev main_v126 : Ref sig .tc := ⟨.hbm, 165, rfl⟩
abbrev main_cst_32 : Ref sig .tc := ⟨.hbm, 166, rfl⟩
abbrev main_v127 : Ref sig .tc := ⟨.hbm, 167, rfl⟩
abbrev main_v128 : Ref sig .tc := ⟨.hbm, 168, rfl⟩
abbrev main_c_33 : Ref sig .tc := ⟨.hbm, 169, rfl⟩
abbrev main_call1_v0 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_c_34 : Ref sig .tc := ⟨.hbm, 175, rfl⟩
abbrev main_call2_v0 : Ref sig .tc := ⟨.hbm, 176, rfl⟩
abbrev main_v133 : Ref sig .tc := ⟨.hbm, 177, rfl⟩
abbrev main_v134 : Ref sig .tc := ⟨.hbm, 178, rfl⟩

abbrev nD : Nat := 1
abbrev τ : Topo := Topo.v7x

variable {F : FTy → Type} [FloatOps F]
-- ==== Kernel2.lean ====
abbrev S2x4352x1024 : Shape := ⟨3, ![2, 4352, 1024]⟩
abbrev S3x6x1024 : Shape := ⟨3, ![3, 6, 1024]⟩
abbrev S1024 : Shape := ⟨1, ![1024]⟩
abbrev S1024x4096 : Shape := ⟨2, ![1024, 4096]⟩
abbrev S4096x1024 : Shape := ⟨2, ![4096, 1024]⟩
abbrev S1x6x1024 : Shape := ⟨3, ![1, 6, 1024]⟩
abbrev S6x1024 : Shape := ⟨2, ![6, 1024]⟩
abbrev S2x256x6x1024 : Shape := ⟨4, ![2, 256, 6, 1024]⟩
abbrev S2x6x1024 : Shape := ⟨3, ![2, 6, 1024]⟩
abbrev S2x1x6x1024 : Shape := ⟨4, ![2, 1, 6, 1024]⟩
abbrev S2x4096x6x1024 : Shape := ⟨4, ![2, 4096, 6, 1024]⟩
abbrev S2x4352x6x1024 : Shape := ⟨4, ![2, 4352, 6, 1024]⟩
abbrev S2x4352x1x1024 : Shape := ⟨4, ![2, 4352, 1, 1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x4352x4096 : Shape := ⟨3, ![2, 4352, 4096]⟩
abbrev S8704x1024 : Shape := ⟨2, ![8704, 1024]⟩
abbrev S8704x4096 : Shape := ⟨2, ![8704, 4096]⟩
abbrev S16x6x1024 : Shape := ⟨3, ![16, 6, 1024]⟩
abbrev S34x6x1024 : Shape := ⟨3, ![34, 6, 1024]⟩
abbrev S34x8x1024 : Shape := ⟨3, ![34, 8, 1024]⟩
abbrev S1x1024 : Shape := ⟨2, ![1, 1024]⟩
abbrev S512x1024 : Shape := ⟨2, ![512, 1024]⟩
abbrev S512x4096 : Shape := ⟨2, ![512, 4096]⟩
abbrev S2x8x1024 : Shape := ⟨3, ![2, 8, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S4x1024 : Shape := ⟨2, ![4, 1024]⟩
abbrev S8x1024 : Shape := ⟨2, ![8, 1024]⟩
abbrev S1x8x1024 : Shape := ⟨3, ![1, 8, 1024]⟩

abbrev nBuf : Space → Nat
  | .hbm => 67
  | .vmem => 22
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S2x4352x1024, .f32⟩
  | .hbm, ⟨6, _⟩ => ⟨S1x6x1024, .f32⟩
  | .hbm, ⟨7, _⟩ => ⟨S6x1024, .f32⟩
  | .hbm, ⟨8, _⟩ => ⟨S2x256x6x1024, .f32⟩
  | .hbm, ⟨9, _⟩ => ⟨S2x6x1024, .f32⟩
  | .hbm, ⟨10, _⟩ => ⟨S2x1x6x1024, .f32⟩
  | .hbm, ⟨11, _⟩ => ⟨S2x4096x6x1024, .f32⟩
  | .hbm, ⟨12, _⟩ => ⟨S2x4352x6x1024, .f32⟩
  | .hbm, ⟨13, _⟩ => ⟨S2x4352x1x1024, .f32⟩
  | .hbm, ⟨14, _⟩ => ⟨S2x4352x1024, .f32⟩
  | .hbm, ⟨15, _⟩ => ⟨S2x4352x1x1024, .f32⟩
  | .hbm, ⟨16, _⟩ => ⟨S2x4352x1024, .f32⟩
  | .hbm, ⟨17, _⟩ => ⟨S2x4352x1024, .f32⟩
  | .hbm, ⟨18, _⟩ => ⟨S_, .f32⟩
  | .hbm, ⟨19, _⟩ => ⟨S2x4352, .f32⟩
  | .hbm, ⟨20, _⟩ => ⟨S2x4352x1, .f32⟩
  | .hbm, ⟨21, _⟩ => ⟨S_, .f32⟩
  | .hbm, ⟨22, _⟩ => ⟨S2x4352x1, .f32⟩
  | .hbm, ⟨23, _⟩ => ⟨S2x4352x1, .f32⟩
  | .hbm, ⟨24, _⟩ => ⟨S_, .f32⟩
  | .hbm, ⟨25, _⟩ => ⟨S2x4352x1, .f32⟩
  | .hbm, ⟨26, _⟩ => ⟨S2x4352x1, .f32⟩
  | .hbm, ⟨27, _⟩ => ⟨S2x4352x1, .f32⟩
  | .hbm, ⟨28, _⟩ => ⟨S2x4352x1024, .f32⟩
  | .hbm, ⟨29, _⟩ => ⟨S2x4352x1024, .f32⟩
  | .hbm, ⟨30, _⟩ => ⟨S1x1x1024, .f32⟩
  | .hbm, ⟨31, _⟩ => ⟨S2x4352x1024, .f32⟩
  | .hbm, ⟨32, _⟩ => ⟨S2x4352x1024, .f32⟩
  | .hbm, ⟨33, _⟩ => ⟨S_, .f32⟩
  | .hbm, ⟨34, _⟩ => ⟨S2x4352x1024, .f32⟩
  | .hbm, ⟨35, _⟩ => ⟨S2x4352x1024, .f32⟩
  | .hbm, ⟨36, _⟩ => ⟨S2x4352x1024, .f32⟩
  | .hbm, ⟨37, _⟩ => ⟨S2x4352x1024, .f32⟩
  | .hbm, ⟨38, _⟩ => ⟨S2x4352x4096, .f32⟩
  | .hbm, ⟨39, _⟩ => ⟨S_, .f32⟩
  | .hbm, ⟨40, _⟩ => ⟨S2x4352x4096, .f32⟩
  | .hbm, ⟨41, _⟩ => ⟨S2x4352x4096, .f32⟩
  | .hbm, ⟨42, _⟩ => ⟨S2x4352x4096, .f32⟩
  | .hbm, ⟨43, _⟩ => ⟨S2x4352x1024, .f32⟩
  | .hbm, ⟨44, _⟩ => ⟨S8704x1024, .f32⟩
  | .hbm, ⟨45, _⟩ => ⟨S8704x1024, .f32⟩
  | .hbm, ⟨46, _⟩ => ⟨S2x4352x1024, .bf16⟩
  | .hbm, ⟨47, _⟩ => ⟨S8704x1024, .bf16⟩
  | .hbm, ⟨48, _⟩ => ⟨S2x4352x4096, .bf16⟩
  | .hbm, ⟨49, _⟩ => ⟨S8704x4096, .bf16⟩
  | .hbm, ⟨50, _⟩ => ⟨S1x6x1024, .f32⟩
  | .hbm, ⟨51, _⟩ => ⟨S1x6x1024, .f32⟩
  | .hbm, ⟨52, _⟩ => ⟨S16x6x1024, .f32⟩
  | .hbm, ⟨53, _⟩ => ⟨S1x6x1024, .f32⟩
  | .hbm, ⟨54, _⟩ => ⟨S1x6x1024, .f32⟩
  | .hbm, ⟨55, _⟩ => ⟨S16x6x1024, .f32⟩
  | .hbm, ⟨56, _⟩ => ⟨S34x6x1024, .f32⟩
  | .hbm, ⟨57, _⟩ => ⟨S_, .i32⟩
  | .hbm, ⟨58, _⟩ => ⟨S_, .f32⟩
  | .hbm, ⟨59, _⟩ => ⟨S34x8x1024, .f32⟩
  | .hbm, ⟨60, _⟩ => ⟨S1x1024, .f32⟩
  | .hbm, ⟨61, _⟩ => ⟨S4096x1024, .bf16⟩
  | .hbm, ⟨62, _⟩ => ⟨S1024x4096, .bf16⟩
  | .hbm, ⟨63, _⟩ => ⟨S8704x1024, .f32⟩
  | .hbm, ⟨64, _⟩ => ⟨S8704x4096, .bf16⟩
  | .hbm, ⟨65, _⟩ => ⟨S8704x1024, .bf16⟩
  | .hbm, ⟨66, _⟩ => ⟨S34x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S2x8x1024, .f32⟩
  | .local _ .vmem, ⟨9, _⟩ => ⟨S2x8x1024, .f32⟩
  | .local _ .vmem, ⟨10, _⟩ => ⟨S1x1024, .f32⟩
  | .local _ .vmem, ⟨11, _⟩ => ⟨S4096x1024, .bf16⟩
  | .local _ .vmem, ⟨12, _⟩ => ⟨S1024x4096, .bf16⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S2x8x1024, .f32⟩
  | .local _ .vmem, ⟨20, _⟩ => ⟨S2x8x1024, .f32⟩
  | .local _ .vmem, ⟨21, _⟩ => ⟨S512x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c : Ref sig .tc := ⟨.hbm, 57, rfl⟩
abbrev main_call1_v0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev main_v49_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2x4352x1024 : Shape := ⟨3, ![2, 4352, 1024]⟩
abbrev S3x6x1024 : Shape := ⟨3, ![3, 6, 1024]⟩
abbrev S1024 : Shape := ⟨1, ![1024]⟩
abbrev S1024x4096 : Shape := ⟨2, ![1024, 4096]⟩
abbrev S4096x1024 : Shape := ⟨2, ![4096, 1024]⟩
abbrev S1x6x1024 : Shape := ⟨3, ![1, 6, 1024]⟩
abbrev S6x1024 : Shape := ⟨2, ![6, 1024]⟩
abbrev S2x256x6x1024 : Shape := ⟨4, ![2, 256, 6, 1024]⟩
abbrev S2x6x1024 : Shape := ⟨3, ![2, 6, 1024]⟩
abbrev S2x1x6x1024 : Shape := ⟨4, ![2, 1, 6, 1024]⟩
abbrev S2x4096x6x1024 : Shape := ⟨4, ![2, 4096, 6, 1024]⟩
abbrev S2x4352x6x1024 : Shape := ⟨4, ![2, 4352, 6, 1024]⟩
abbrev S2x4352x1x1024 : Shape := ⟨4, ![2, 4352, 1, 1024]⟩
abbrev S_ : Shape := ⟨0, ![]⟩
abbrev S2x4352 : Shape := ⟨2, ![2, 4352]⟩
abbrev S2x4352x1 : Shape := ⟨3, ![2, 4352, 1]⟩
abbrev S2x4352x4096 : Shape := ⟨3, ![2, 4352, 4096]⟩
abbrev S34x256x1024 : Shape := ⟨3, ![34, 256, 1024]⟩
abbrev S34x1024 : Shape := ⟨2, ![34, 1024]⟩
abbrev S34x1x1024 : Shape := ⟨3, ![34, 1, 1024]⟩
abbrev S34x4x1024 : Shape := ⟨3, ![34, 4, 1024]⟩
abbrev S8704x1024 : Shape := ⟨2, ![8704, 1024]⟩
abbrev S8704x4096 : Shape := ⟨2, ![8704, 4096]⟩
abbrev S34x8x1024 : Shape := ⟨3, ![34, 8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S2x4352x1024, .f32⟩
  | .hbm, ⟨6, _⟩ => ⟨S1x6x1024, .f32⟩
  | .hbm, ⟨7, _⟩ => ⟨S6x1024, .f32⟩
  | .hbm, ⟨8, _⟩ => ⟨S2x256x6x1024, .f32⟩
  | .hbm, ⟨9, _⟩ => ⟨S2x6x1024, .f32⟩
  | .hbm, ⟨10, _⟩ => ⟨S2x1x6x1024, .f32⟩
  | .hbm, ⟨11, _⟩ => ⟨S2x4096x6x1024, .f32⟩
  | .hbm, ⟨12, _⟩ => ⟨S2x4352x6x1024, .f32⟩
  | .hbm, ⟨13, _⟩ => ⟨S2x4352x1x1024, .f32⟩
  | .hbm, ⟨14, _⟩ => ⟨S2x4352x1024, .f32⟩
  | .hbm, ⟨15, _⟩ => ⟨S2x4352x1x1024, .f32⟩
  | .hbm, ⟨16, _⟩ => ⟨S2x4352x1024, .f32⟩
  | .hbm, ⟨17, _⟩ => ⟨S2x4352x1x1024, .f32⟩
  | .hbm, ⟨18, _⟩ => ⟨S2x4352x1024, .f32⟩
  | .hbm, ⟨19, _⟩ => ⟨S2x4352x1024, .f32⟩
  | .hbm, ⟨20, _⟩ => ⟨S2x4352x1024, .f32⟩
  | .hbm, ⟨21, _⟩ => ⟨S_, .f32⟩
  | .hbm, ⟨22, _⟩ => ⟨S2x4352, .f32⟩
  | .hbm, ⟨23, _⟩ => ⟨S2x4352x1, .f32⟩
  | .hbm, ⟨24, _⟩ => ⟨S_, .f32⟩
  | .hbm, ⟨25, _⟩ => ⟨S2x4352x1, .f32⟩
  | .hbm, ⟨26, _⟩ => ⟨S2x4352x1, .f32⟩
  | .hbm, ⟨27, _⟩ => ⟨S_, .f32⟩
  | .hbm, ⟨28, _⟩ => ⟨S2x4352x1, .f32⟩
  | .hbm, ⟨29, _⟩ => ⟨S2x4352x1, .f32⟩
  | .hbm, ⟨30, _⟩ => ⟨S2x4352x1, .f32⟩
  | .hbm, ⟨31, _⟩ => ⟨S2x4352x1, .f32⟩
  | .hbm, ⟨32, _⟩ => ⟨S_, .f32⟩
  | .hbm, ⟨33, _⟩ => ⟨S2x4352x1, .f32⟩
  | .hbm, ⟨34, _⟩ => ⟨S2x4352x1, .f32⟩
  | .hbm, ⟨35, _⟩ => ⟨S2x4352x1024, .f32⟩
  | .hbm, ⟨36, _⟩ => ⟨S2x4352x1024, .f32⟩
  | .hbm, ⟨37, _⟩ => ⟨S2x4352x1024, .f32⟩
  | .hbm, ⟨38, _⟩ => ⟨S_, .f32⟩
  | .hbm, ⟨39, _⟩ => ⟨S2x4352x1024, .f32⟩
  | .hbm, ⟨40, _⟩ => ⟨S2x4352x1024, .f32⟩
  | .hbm, ⟨41, _⟩ => ⟨S2x4352x1024, .f32⟩
  | .hbm, ⟨42, _⟩ => ⟨S2x4352x1024, .f32⟩
  | .hbm, ⟨43, _⟩ => ⟨S2x4352x4096, .f32⟩
  | .hbm, ⟨44, _⟩ => ⟨S_, .f32⟩
  | .hbm, ⟨45, _⟩ => ⟨S2x4352x4096, .f32⟩
  | .hbm, ⟨46, _⟩ => ⟨S2x4352x4096, .f32⟩
  | .hbm, ⟨47, _⟩ => ⟨S_, .f32⟩
  | .hbm, ⟨48, _⟩ => ⟨S2x4352x4096, .f32⟩
  | .hbm, ⟨49, _⟩ => ⟨S2x4352x4096, .i1⟩
  | .hbm, ⟨50, _⟩ => ⟨S_, .f32⟩
  | .hbm, ⟨51, _⟩ => ⟨S2x4352x4096, .f32⟩
  | .hbm, ⟨52, _⟩ => ⟨S2x4352x4096, .f32⟩
  | .hbm, ⟨53, _⟩ => ⟨S_, .f32⟩
  | .hbm, ⟨54, _⟩ => ⟨S2x4352x4096, .f32⟩
  | .hbm, ⟨55, _⟩ => ⟨S2x4352x4096, .f32⟩
  | .hbm, ⟨56, _⟩ => ⟨S2x4352x1024, .f32⟩
  | .hbm, ⟨57, _⟩ => ⟨S2x4352x1024, .f32⟩
  | .hbm, ⟨58, _⟩ => ⟨S2x4352x1024, .f32⟩
  | .hbm, ⟨59, _⟩ => ⟨S2x4352x1024, .f32⟩
  | .hbm, ⟨60, _⟩ => ⟨S2x4352x1024, .f32⟩
  | .hbm, ⟨61, _⟩ => ⟨S2x4352x1024, .f32⟩
  | .hbm, ⟨62, _⟩ => ⟨S2x4352x4096, .f32⟩
  | .hbm, ⟨63, _⟩ => ⟨S2x4352x4096, .f32⟩
  | .hbm, ⟨64, _⟩ => ⟨S_, .f32⟩
  | .hbm, ⟨65, _⟩ => ⟨S2x4352x4096, .f32⟩
  | .hbm, ⟨66, _⟩ => ⟨S2x4352x4096, .f32⟩
  | .hbm, ⟨67, _⟩ => ⟨S2x4352x1024, .f32⟩
  | .hbm, ⟨68, _⟩ => ⟨S2x4352x1024, .f32⟩
  | .hbm, ⟨69, _⟩ => ⟨S2x4352x1024, .f32⟩
  | .hbm, ⟨70, _⟩ => ⟨S2x4352x1024, .f32⟩
  | .hbm, ⟨71, _⟩ => ⟨S2x4352x1024, .f32⟩
  | .hbm, ⟨72, _⟩ => ⟨S2x4352x1024, .f32⟩
  | .hbm, ⟨73, _⟩ => ⟨S_, .f32⟩
  | .hbm, ⟨74, _⟩ => ⟨S2x4352, .f32⟩
  | .hbm, ⟨75, _⟩ => ⟨S2x4352x1, .f32⟩
  | .hbm, ⟨76, _⟩ => ⟨S2x4352x1024, .f32⟩
  | .hbm, ⟨77, _⟩ => ⟨S2x4352x1024, .f32⟩
  | .hbm, ⟨78, _⟩ => ⟨S2x4352x1, .f32⟩
  | .hbm, ⟨79, _⟩ => ⟨S_, .f32⟩
  | .hbm, ⟨80, _⟩ => ⟨S2x4352x1, .f32⟩
  | .hbm, ⟨81, _⟩ => ⟨S2x4352x1, .f32⟩
  | .hbm, ⟨82, _⟩ => ⟨S_, .f32⟩
  | .hbm, ⟨83, _⟩ => ⟨S2x4352, .f32⟩
  | .hbm, ⟨84, _⟩ => ⟨S2x4352x1024, .f32⟩
  | .hbm, ⟨85, _⟩ => ⟨S2x4352x1024, .f32⟩
  | .hbm, ⟨86, _⟩ => ⟨S2x4352x1024, .f32⟩
  | .hbm, ⟨87, _⟩ => ⟨S2x4352x1024, .f32⟩
  | .hbm, ⟨88, _⟩ => ⟨S2x4352x1024, .f32⟩
  | .hbm, ⟨89, _⟩ => ⟨S34x256x1024, .f32⟩
  | .hbm, ⟨90, _⟩ => ⟨S_, .f32⟩
  | .hbm, ⟨91, _⟩ => ⟨S34x1024, .f32⟩
  | .hbm, ⟨92, _⟩ => ⟨S34x256x1024, .f32⟩
  | .hbm, ⟨93, _⟩ => ⟨S_, .f32⟩
  | .hbm, ⟨94, _⟩ => ⟨S34x1024, .f32⟩
  | .hbm, ⟨95, _⟩ => ⟨S34x256x1024, .f32⟩
  | .hbm, ⟨96, _⟩ => ⟨S_, .f32⟩
  | .hbm, ⟨97, _⟩ => ⟨S34x1024, .f32⟩
  | .hbm, ⟨98, _⟩ => ⟨S34x256x1024, .f32⟩
  | .hbm, ⟨99, _⟩ => ⟨S_, .f32⟩
  | .hbm, ⟨100, _⟩ => ⟨S34x1024, .f32⟩
  | .hbm, ⟨101, _⟩ => ⟨S34x1x1024, .f32⟩
  | .hbm, ⟨102, _⟩ => ⟨S34x1x1024, .f32⟩
  | .hbm, ⟨103, _⟩ => ⟨S34x1x1024, .f32⟩
  | .hbm, ⟨104, _⟩ => ⟨S34x1x1024, .f32⟩
  | .hbm, ⟨105, _⟩ => ⟨S34x4x1024, .f32⟩
  | .hbm, ⟨106, _⟩ => ⟨S2x4352x1024, .f32⟩
  | .hbm, ⟨107, _⟩ => ⟨S8704x1024, .f32⟩
  | .hbm, ⟨108, _⟩ => ⟨S8704x4096, .f32⟩
  | .hbm, ⟨109, _⟩ => ⟨S8704x4096, .bf16⟩
  | .hbm, ⟨110, _⟩ => ⟨S8704x1024, .f32⟩
  | .hbm, ⟨111, _⟩ => ⟨S8704x1024, .bf16⟩
  | .hbm, ⟨112, _⟩ => ⟨S_, .i32⟩
  | .hbm, ⟨113, _⟩ => ⟨S_, .f32⟩
  | .hbm, ⟨114, _⟩ => ⟨S34x8x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_cst : Ref sig .tc := ⟨.hbm, 44, rfl⟩
abbrev main_call0_v0 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c : Ref sig .tc := ⟨.hbm, 112, rfl⟩
abbrev main_call1_v0 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel3.lean ====
abbrev S2x4352x1024 : Shape := ⟨3, ![2, 4352, 1024]⟩
abbrev S2x4352x4096 : Shape := ⟨3, ![2, 4352, 4096]⟩
abbrev S8704x1024 : Shape := ⟨2, ![8704, 1024]⟩
abbrev S8704x4096 : Shape := ⟨2, ![8704, 4096]⟩
abbrev S4x1024x1024 : Shape := ⟨3, ![4, 1024, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x1024, .f32⟩
  | .hbm, ⟨1, _⟩ => ⟨S2x4352x4096, .f32⟩
  | .hbm, ⟨2, _⟩ => ⟨S2x4352x1024, .bf16⟩
  | .hbm, ⟨3, _⟩ => ⟨S8704x1024, .bf16⟩
  | .hbm, ⟨4, _⟩ => ⟨S2x4352x4096, .bf16⟩
  | .hbm, ⟨5, _⟩ => ⟨S8704x4096, .bf16⟩
  | .hbm, ⟨6, _⟩ => ⟨S4x1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .f32⟩
  | .local _ .vmem, ⟨5, _⟩ => ⟨S1x1024x1024, .f32⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference3Ideal.lean ====
abbrev S2x4352x1024 : Shape := ⟨3, ![2, 4352, 1024]⟩
abbrev S2x4352x4096 : Shape := ⟨3, ![2, 4352, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x4096, .f32⟩
  | .hbm, ⟨2, _⟩ => ⟨S_, .f32⟩
  | .hbm, ⟨3, _⟩ => ⟨S1024x4096, .f32⟩
  | .hbm, ⟨4, _⟩ => ⟨S2x4352x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2x4352x4096 : Shape := ⟨3, ![2, 4352, 4096]⟩
abbrev S2x4352x1024 : Shape := ⟨3, ![2, 4352, 1024]⟩
abbrev S8704x4096 : Shape := ⟨2, ![8704, 4096]⟩
abbrev S8704x1024 : Shape := ⟨2, ![8704, 1024]⟩
abbrev S4096x1024 : Shape := ⟨2, ![4096, 1024]⟩
abbrev S2176x1024 : Shape := ⟨2, ![2176, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4352x4096, .f32⟩
  | .hbm, ⟨1, _⟩ => ⟨S2x4352x1024, .f32⟩
  | .hbm, ⟨2, _⟩ => ⟨S2x4352x4096, .bf16⟩
  | .hbm, ⟨3, _⟩ => ⟨S8704x4096, .bf16⟩
  | .hbm, ⟨4, _⟩ => ⟨S2x4352x1024, .bf16⟩
  | .hbm, ⟨5, _⟩ => ⟨S8704x1024, .bf16⟩
  | .hbm, ⟨6, _⟩ => ⟨S4096x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S2x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4352x4096 : Shape := ⟨3, ![2, 4352, 4096]⟩
abbrev S2x4352x1024 : Shape := ⟨3, ![2, 4352, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x4352x4096, .f32⟩
  | .hbm, ⟨1, _⟩ => ⟨S2x4352x1024, .f32⟩
  | .hbm, ⟨2, _⟩ => ⟨S_, .f32⟩
  | .hbm, ⟨3, _⟩ => ⟨S4096x1024, .f32⟩
  | .hbm, ⟨4, _⟩ => ⟨S2x4352x4096, .f32⟩
  | .hbm, ⟨5, _⟩ => ⟨S2x4352x1024, .f32⟩
  | .hbm, ⟨6, _⟩ => ⟨S1024x4096, .f32⟩
  | .hbm, ⟨7, _⟩ => ⟨S4096x1024, .f32⟩
  | _, _ => ⟨S2x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x4352x1024 : Shape := ⟨3, ![2, 4352, 1024]⟩
abbrev S3x6x1024 : Shape := ⟨3, ![3, 6, 1024]⟩
abbrev S1024 : Shape := ⟨1, ![1024]⟩
abbrev S1024x4096 : Shape := ⟨2, ![1024, 4096]⟩
abbrev S4096x1024 : Shape := ⟨2, ![4096, 1024]⟩
abbrev S8704x1024 : Shape := ⟨2, ![8704, 1024]⟩
abbrev S1x6x1024 : Shape := ⟨3, ![1, 6, 1024]⟩
abbrev S16x6x1024 : Shape := ⟨3, ![16, 6, 1024]⟩
abbrev S34x6x1024 : Shape := ⟨3, ![34, 6, 1024]⟩
abbrev S_ : Shape := ⟨0, ![]⟩
abbrev S34x8x1024 : Shape := ⟨3, ![34, 8, 1024]⟩
abbrev S1x1024 : Shape := ⟨2, ![1, 1024]⟩
abbrev S8704x4096 : Shape := ⟨2, ![8704, 4096]⟩
abbrev S512x1024 : Shape := ⟨2, ![512, 1024]⟩
abbrev S2x8x1024 : Shape := ⟨3, ![2, 8, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩

abbrev nBuf : Space → Nat
  | .hbm => 23
  | .vmem => 15
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8704x1024, .f32⟩
  | .hbm, ⟨6, _⟩ => ⟨S1x6x1024, .f32⟩
  | .hbm, ⟨7, _⟩ => ⟨S1x6x1024, .f32⟩
  | .hbm, ⟨8, _⟩ => ⟨S16x6x1024, .f32⟩
  | .hbm, ⟨9, _⟩ => ⟨S1x6x1024, .f32⟩
  | .hbm, ⟨10, _⟩ => ⟨S1x6x1024, .f32⟩
  | .hbm, ⟨11, _⟩ => ⟨S16x6x1024, .f32⟩
  | .hbm, ⟨12, _⟩ => ⟨S34x6x1024, .f32⟩
  | .hbm, ⟨13, _⟩ => ⟨S_, .i32⟩
  | .hbm, ⟨14, _⟩ => ⟨S_, .f32⟩
  | .hbm, ⟨15, _⟩ => ⟨S34x8x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S8704x1024, .f32⟩
  | .hbm, ⟨20, _⟩ => ⟨S8704x1024, .bf16⟩
  | .hbm, ⟨21, _⟩ => ⟨S8704x4096, .bf16⟩
  | .hbm, ⟨22, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S2x8x1024, .f32⟩
  | .local _ .vmem, ⟨3, _⟩ => ⟨S2x8x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .bf16⟩
  | .local _ .vmem, ⟨14, _⟩ => ⟨S512x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S2x4352x1024 : Shape := ⟨3, ![2, 4352, 1024]⟩
abbrev S3x6x1024 : Shape := ⟨3, ![3, 6, 1024]⟩
abbrev S1024 : Shape := ⟨1, ![1024]⟩
abbrev S1024x4096 : Shape := ⟨2, ![1024, 4096]⟩
abbrev S4096x1024 : Shape := ⟨2, ![4096, 1024]⟩
abbrev S1x6x1024 : Shape := ⟨3, ![1, 6, 1024]⟩
abbrev S6x1024 : Shape := ⟨2, ![6, 1024]⟩
abbrev S2x256x6x1024 : Shape := ⟨4, ![2, 256, 6, 1024]⟩
abbrev S2x6x1024 : Shape := ⟨3, ![2, 6, 1024]⟩
abbrev S2x1x6x1024 : Shape := ⟨4, ![2, 1, 6, 1024]⟩
abbrev S2x4096x6x1024 : Shape := ⟨4, ![2, 4096, 6, 1024]⟩
abbrev S2x4352x6x1024 : Shape := ⟨4, ![2, 4352, 6, 1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x4352x1x1024 : Shape := ⟨4, ![2, 4352, 1, 1024]⟩
abbrev S2x4352x4096 : Shape := ⟨3, ![2, 4352, 4096]⟩
abbrev S8704x1024 : Shape := ⟨2, ![8704, 1024]⟩
abbrev S8704x4096 : Shape := ⟨2, ![8704, 4096]⟩

abbrev nBuf : Space → Nat
  | .hbm => 54
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x6x1024, .f32⟩
  | .hbm, ⟨6, _⟩ => ⟨S6x1024, .f32⟩
  | .hbm, ⟨7, _⟩ => ⟨S2x256x6x1024, .f32⟩
  | .hbm, ⟨8, _⟩ => ⟨S2x6x1024, .f32⟩
  | .hbm, ⟨9, _⟩ => ⟨S2x1x6x1024, .f32⟩
  | .hbm, ⟨10, _⟩ => ⟨S2x4096x6x1024, .f32⟩
  | .hbm, ⟨11, _⟩ => ⟨S2x4352x6x1024, .f32⟩
  | .hbm, ⟨12, _⟩ => ⟨S2x4352x1024, .f32⟩
  | .hbm, ⟨13, _⟩ => ⟨S_, .f32⟩
  | .hbm, ⟨14, _⟩ => ⟨S2x4352, .f32⟩
  | .hbm, ⟨15, _⟩ => ⟨S2x4352x1, .f32⟩
  | .hbm, ⟨16, _⟩ => ⟨S_, .f32⟩
  | .hbm, ⟨17, _⟩ => ⟨S2x4352x1, .f32⟩
  | .hbm, ⟨18, _⟩ => ⟨S2x4352x1, .f32⟩
  | .hbm, ⟨19, _⟩ => ⟨S_, .f32⟩
  | .hbm, ⟨20, _⟩ => ⟨S2x4352x1, .f32⟩
  | .hbm, ⟨21, _⟩ => ⟨S2x4352x1, .f32⟩
  | .hbm, ⟨22, _⟩ => ⟨S2x4352x1, .f32⟩
  | .hbm, ⟨23, _⟩ => ⟨S2x4352x1024, .f32⟩
  | .hbm, ⟨24, _⟩ => ⟨S2x4352x1024, .f32⟩
  | .hbm, ⟨25, _⟩ => ⟨S1x1x1024, .f32⟩
  | .hbm, ⟨26, _⟩ => ⟨S2x4352x1024, .f32⟩
  | .hbm, ⟨27, _⟩ => ⟨S2x4352x1024, .f32⟩
  | .hbm, ⟨28, _⟩ => ⟨S2x4352x1x1024, .f32⟩
  | .hbm, ⟨29, _⟩ => ⟨S2x4352x1024, .f32⟩
  | .hbm, ⟨30, _⟩ => ⟨S2x4352x1x1024, .f32⟩
  | .hbm, ⟨31, _⟩ => ⟨S2x4352x1024, .f32⟩
  | .hbm, ⟨32, _⟩ => ⟨S_, .f32⟩
  | .hbm, ⟨33, _⟩ => ⟨S2x4352x1024, .f32⟩
  | .hbm, ⟨34, _⟩ => ⟨S2x4352x1024, .f32⟩
  | .hbm, ⟨35, _⟩ => ⟨S2x4352x1024, .f32⟩
  | .hbm, ⟨36, _⟩ => ⟨S2x4352x1024, .f32⟩
  | .hbm, ⟨37, _⟩ => ⟨S2x4352x4096, .f32⟩
  | .hbm, ⟨38, _⟩ => ⟨S_, .f32⟩
  | .hbm, ⟨39, _⟩ => ⟨S2x4352x4096, .f32⟩
  | .hbm, ⟨40, _⟩ => ⟨S2x4352x4096, .f32⟩
  | .hbm, ⟨41, _⟩ => ⟨S2x4352x4096, .f32⟩
  | .hbm, ⟨42, _⟩ => ⟨S2x4352x1024, .f32⟩
  | .hbm, ⟨43, _⟩ => ⟨S2x4352x1x1024, .f32⟩
  | .hbm, ⟨44, _⟩ => ⟨S2x4352x1024, .f32⟩
  | .hbm, ⟨45, _⟩ => ⟨S2x4352x1024, .f32⟩
  | .hbm, ⟨46, _⟩ => ⟨S2x4352x1024, .f32⟩
  | .hbm, ⟨47, _⟩ => ⟨S8704x1024, .f32⟩
  | .hbm, ⟨48, _⟩ => ⟨S8704x1024, .f32⟩
  | .hbm, ⟨49, _⟩ => ⟨S8704x1024, .bf16⟩
  | .hbm, ⟨50, _⟩ => ⟨S8704x4096, .f32⟩
  | .hbm, ⟨51, _⟩ => ⟨S8704x4096, .bf16⟩
  | .hbm, ⟨52, _⟩ => ⟨S8704x1024, .f32⟩
  | .hbm, ⟨53, _⟩ => ⟨S8704x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel6.lean ====
abbrev S2x4352x1024 : Shape := ⟨3, ![2, 4352, 1024]⟩
abbrev S3x6x1024 : Shape := ⟨3, ![3, 6, 1024]⟩
abbrev S1024 : Shape := ⟨1, ![1024]⟩
abbrev S1024x2176 : Shape := ⟨2, ![1024, 2176]⟩
abbrev S2x4352x384 : Shape := ⟨3, ![2, 4352, 384]⟩
abbrev S2x4352x896 : Shape := ⟨3, ![2, 4352, 896]⟩
abbrev S2x4352x256 : Shape := ⟨3, ![2, 4352, 256]⟩
abbrev S2x4352x128 : Shape := ⟨3, ![2, 4352, 128]⟩
abbrev S1x6x1024 : Shape := ⟨3, ![1, 6, 1024]⟩
abbrev S6x1024 : Shape := ⟨2, ![6, 1024]⟩
abbrev S2x256x6x1024 : Shape := ⟨4, ![2, 256, 6, 1024]⟩
abbrev S2x6x1024 : Shape := ⟨3, ![2, 6, 1024]⟩
abbrev S2x1x6x1024 : Shape := ⟨4, ![2, 1, 6, 1024]⟩
abbrev S2x4096x6x1024 : Shape := ⟨4, ![2, 4096, 6, 1024]⟩
abbrev S2x4352x6x1024 : Shape := ⟨4, ![2, 4352, 6, 1024]⟩
abbrev S_ : Shape := ⟨0, ![]⟩
abbrev S2x4352 : Shape := ⟨2, ![2, 4352]⟩
abbrev S2x4352x1 : Shape := ⟨3, ![2, 4352, 1]⟩
abbrev S1x1x1024 : Shape := ⟨3, ![1, 1, 1024]⟩
abbrev S2x4352x1x1024 : Shape := ⟨4, ![2, 4352, 1, 1024]⟩
abbrev S8704x1024 : Shape := ⟨2, ![8704, 1024]⟩
abbrev S8704x384 : Shape := ⟨2, ![8704, 384]⟩
abbrev S8704x896 : Shape := ⟨2, ![8704, 896]⟩
abbrev S8704x256 : Shape := ⟨2, ![8704, 256]⟩
abbrev S8704x128 : Shape := ⟨2, ![8704, 128]⟩
abbrev S16x6x1024 : Shape := ⟨3, ![16, 6, 1024]⟩
abbrev S34x6x1024 : Shape := ⟨3, ![34, 6, 1024]⟩
abbrev S34x8x1024 : Shape := ⟨3, ![34, 8, 1024]⟩
abbrev S1x1024 : Shape := ⟨2, ![1, 1024]⟩
abbrev S512x1024 : Shape := ⟨2, ![512, 1024]⟩
abbrev S512x384 : Shape := ⟨2, ![512, 384]⟩
abbrev S512x896 : Shape := ⟨2, ![512, 896]⟩
abbrev S512x256 : Shape := ⟨2, ![512, 256]⟩
abbrev S512x128 : Shape := ⟨2, ![512, 128]⟩
abbrev S2x8x1024 : Shape := ⟨3, ![2, 8, 1024]⟩
abbrev S512x2176 : Shape := ⟨2, ![512, 2176]⟩
abbrev S256x1024 : Shape := ⟨2, ![256, 1024]⟩
abbrev S256 : Shape := ⟨1, ![256]⟩
abbrev S256x1 : Shape := ⟨2, ![256, 1]⟩
abbrev S5x1024 : Shape := ⟨2, ![5, 1024]⟩
abbrev S8x1024 : Shape := ⟨2, ![8, 1024]⟩
abbrev S1x8x1024 : Shape := ⟨3, ![1, 8, 1024]⟩

abbrev nBuf : Space → Nat
  | .hbm => 77
  | .vmem => 30
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x2176, .f32⟩
  | .hbm, ⟨4, _⟩ => ⟨S2x4352x1024, .f32⟩
  | .hbm, ⟨5, _⟩ => ⟨S2x4352x384, .f32⟩
  | .hbm, ⟨6, _⟩ => ⟨S2x4352x896, .f32⟩
  | .hbm, ⟨7, _⟩ => ⟨S2x4352x256, .f32⟩
  | .hbm, ⟨8, _⟩ => ⟨S2x4352x256, .f32⟩
  | .hbm, ⟨9, _⟩ => ⟨S2x4352x256, .f32⟩
  | .hbm, ⟨10, _⟩ => ⟨S2x4352x128, .f32⟩
  | .hbm, ⟨11, _⟩ => ⟨S2x4352x128, .f32⟩
  | .hbm, ⟨12, _⟩ => ⟨S1x6x1024, .f32⟩
  | .hbm, ⟨13, _⟩ => ⟨S6x1024, .f32⟩
  | .hbm, ⟨14, _⟩ => ⟨S2x256x6x1024, .f32⟩
  | .hbm, ⟨15, _⟩ => ⟨S2x6x1024, .f32⟩
  | .hbm, ⟨16, _⟩ => ⟨S2x1x6x1024, .f32⟩
  | .hbm, ⟨17, _⟩ => ⟨S2x4096x6x1024, .f32⟩
  | .hbm, ⟨18, _⟩ => ⟨S2x4352x6x1024, .f32⟩
  | .hbm, ⟨19, _⟩ => ⟨S2x4352x1024, .f32⟩
  | .hbm, ⟨20, _⟩ => ⟨S_, .f32⟩
  | .hbm, ⟨21, _⟩ => ⟨S2x4352, .f32⟩
  | .hbm, ⟨22, _⟩ => ⟨S2x4352x1, .f32⟩
  | .hbm, ⟨23, _⟩ => ⟨S_, .f32⟩
  | .hbm, ⟨24, _⟩ => ⟨S2x4352x1, .f32⟩
  | .hbm, ⟨25, _⟩ => ⟨S2x4352x1, .f32⟩
  | .hbm, ⟨26, _⟩ => ⟨S_, .f32⟩
  | .hbm, ⟨27, _⟩ => ⟨S2x4352x1, .f32⟩
  | .hbm, ⟨28, _⟩ => ⟨S2x4352x1, .f32⟩
  | .hbm, ⟨29, _⟩ => ⟨S2x4352x1, .f32⟩
  | .hbm, ⟨30, _⟩ => ⟨S2x4352x1024, .f32⟩
  | .hbm, ⟨31, _⟩ => ⟨S2x4352x1024, .f32⟩
  | .hbm, ⟨32, _⟩ => ⟨S1x1x1024, .f32⟩
  | .hbm, ⟨33, _⟩ => ⟨S2x4352x1024, .f32⟩
  | .hbm, ⟨34, _⟩ => ⟨S2x4352x1024, .f32⟩
  | .hbm, ⟨35, _⟩ => ⟨S2x4352x1x1024, .f32⟩
  | .hbm, ⟨36, _⟩ => ⟨S2x4352x1024, .f32⟩
  | .hbm, ⟨37, _⟩ => ⟨S2x4352x1x1024, .f32⟩
  | .hbm, ⟨38, _⟩ => ⟨S2x4352x1024, .f32⟩
  | .hbm, ⟨39, _⟩ => ⟨S_, .f32⟩
  | .hbm, ⟨40, _⟩ => ⟨S2x4352x1024, .f32⟩
  | .hbm, ⟨41, _⟩ => ⟨S2x4352x1024, .f32⟩
  | .hbm, ⟨42, _⟩ => ⟨S2x4352x1024, .f32⟩
  | .hbm, ⟨43, _⟩ => ⟨S2x4352x1024, .f32⟩
  | .hbm, ⟨44, _⟩ => ⟨S2x4352x1024, .bf16⟩
  | .hbm, ⟨45, _⟩ => ⟨S8704x1024, .bf16⟩
  | .hbm, ⟨46, _⟩ => ⟨S2x4352x384, .bf16⟩
  | .hbm, ⟨47, _⟩ => ⟨S8704x384, .bf16⟩
  | .hbm, ⟨48, _⟩ => ⟨S2x4352x896, .bf16⟩
  | .hbm, ⟨49, _⟩ => ⟨S8704x896, .bf16⟩
  | .hbm, ⟨50, _⟩ => ⟨S2x4352x256, .bf16⟩
  | .hbm, ⟨51, _⟩ => ⟨S8704x256, .bf16⟩
  | .hbm, ⟨52, _⟩ => ⟨S2x4352x256, .bf16⟩
  | .hbm, ⟨53, _⟩ => ⟨S8704x256, .bf16⟩
  | .hbm, ⟨54, _⟩ => ⟨S2x4352x256, .bf16⟩
  | .hbm, ⟨55, _⟩ => ⟨S8704x256, .bf16⟩
  | .hbm, ⟨56, _⟩ => ⟨S2x4352x128, .bf16⟩
  | .hbm, ⟨57, _⟩ => ⟨S8704x128, .bf16⟩
  | .hbm, ⟨58, _⟩ => ⟨S2x4352x128, .bf16⟩
  | .hbm, ⟨59, _⟩ => ⟨S8704x128, .bf16⟩
  | .hbm, ⟨60, _⟩ => ⟨S8704x1024, .f32⟩
  | .hbm, ⟨61, _⟩ => ⟨S8704x1024, .f32⟩
  | .hbm, ⟨62, _⟩ => ⟨S1x6x1024, .f32⟩
  | .hbm, ⟨63, _⟩ => ⟨S1x6x1024, .f32⟩
  | .hbm, ⟨64, _⟩ => ⟨S16x6x1024, .f32⟩
  | .hbm, ⟨65, _⟩ => ⟨S1x6x1024, .f32⟩
  | .hbm, ⟨66, _⟩ => ⟨S1x6x1024, .f32⟩
  | .hbm, ⟨67, _⟩ => ⟨S16x6x1024, .f32⟩
  | .hbm, ⟨68, _⟩ => ⟨S34x6x1024, .f32⟩
  | .hbm, ⟨69, _⟩ => ⟨S_, .i32⟩
  | .hbm, ⟨70, _⟩ => ⟨S_, .f32⟩
  | .hbm, ⟨71, _⟩ => ⟨S34x8x1024, .f32⟩
  | .hbm, ⟨72, _⟩ => ⟨S1x1024, .f32⟩
  | .hbm, ⟨73, _⟩ => ⟨S1024x2176, .bf16⟩
  | .hbm, ⟨74, _⟩ => ⟨S8704x1024, .f32⟩
  | .hbm, ⟨75, _⟩ => ⟨S1024x2176, .f32⟩
  | .hbm, ⟨76, _⟩ => ⟨S34x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x384, .bf16⟩
  | .local _ .vmem, ⟨7, _⟩ => ⟨S512x384, .bf16⟩
  | .local _ .vmem, ⟨8, _⟩ => ⟨S512x896, .bf16⟩
  | .local _ .vmem, ⟨9, _⟩ => ⟨S512x896, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S2x8x1024, .f32⟩
  | .local _ .vmem, ⟨21, _⟩ => ⟨S2x8x1024, .f32⟩
  | .local _ .vmem, ⟨22, _⟩ => ⟨S1x1024, .f32⟩
  | .local _ .vmem, ⟨23, _⟩ => ⟨S1024x2176, .bf16⟩
  | .local _ .vmem, ⟨24, _⟩ => ⟨S512x1024, .f32⟩
  | .local _ .vmem, ⟨25, _⟩ => ⟨S512x1024, .f32⟩
  | .local _ .vmem, ⟨26, _⟩ => ⟨S1024x2176, .f32⟩
  | .local _ .vmem, ⟨27, _⟩ => ⟨S2x8x1024, .f32⟩
  | .local _ .vmem, ⟨28, _⟩ => ⟨S2x8x1024, .f32⟩
  | .local _ .vmem, ⟨29, _⟩ => ⟨S512x2176, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c : Ref sig .tc := ⟨.hbm, 69, rfl⟩
abbrev main_call0_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56_0 : Ref sig .tc := ⟨.hbm, 74, rfl⟩
abbrev main_v56_1 : Ref sig .tc := ⟨.hbm, 75, rfl⟩
abbrev main_v56_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2176 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2176 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S2x4352x1024 : Shape := ⟨3, ![2, 4352, 1024]⟩
abbrev S3x6x1024 : Shape := ⟨3, ![3, 6, 1024]⟩
abbrev S1024 : Shape := ⟨1, ![1024]⟩
abbrev S1024x2176 : Shape := ⟨2, ![1024, 2176]⟩
abbrev S2x4352x384 : Shape := ⟨3, ![2, 4352, 384]⟩
abbrev S2x4352x896 : Shape := ⟨3, ![2, 4352, 896]⟩
abbrev S2x4352x256 : Shape := ⟨3, ![2, 4352, 256]⟩
abbrev S2x4352x128 : Shape := ⟨3, ![2, 4352, 128]⟩
abbrev S1x6x1024 : Shape := ⟨3, ![1, 6, 1024]⟩
abbrev S6x1024 : Shape := ⟨2, ![6, 1024]⟩
abbrev S2x256x6x1024 : Shape := ⟨4, ![2, 256, 6, 1024]⟩
abbrev S2x6x1024 : Shape := ⟨3, ![2, 6, 1024]⟩
abbrev S2x1x6x1024 : Shape := ⟨4, ![2, 1, 6, 1024]⟩
abbrev S2x4096x6x1024 : Shape := ⟨4, ![2, 4096, 6, 1024]⟩
abbrev S2x4352x6x1024 : Shape := ⟨4, ![2, 4352, 6, 1024]⟩
abbrev S2x4352x1x1024 : Shape := ⟨4, ![2, 4352, 1, 1024]⟩
abbrev S_ : Shape := ⟨0, ![]⟩
abbrev S2x4352 : Shape := ⟨2, ![2, 4352]⟩
abbrev S2x4352x1 : Shape := ⟨3, ![2, 4352, 1]⟩
abbrev S2x4352x2176 : Shape := ⟨3, ![2, 4352, 2176]⟩
abbrev S2176x1024 : Shape := ⟨2, ![2176, 1024]⟩
abbrev S34x256x1024 : Shape := ⟨3, ![34, 256, 1024]⟩
abbrev S34x1024 : Shape := ⟨2, ![34, 1024]⟩
abbrev S34x1x1024 : Shape := ⟨3, ![34, 1, 1024]⟩
abbrev S34x3x1024 : Shape := ⟨3, ![34, 3, 1024]⟩
abbrev S8704x1024 : Shape := ⟨2, ![8704, 1024]⟩
abbrev S34x8x1024 : Shape := ⟨3, ![34, 8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S3x6x1024, .f32⟩
  | .hbm, ⟨2, _⟩ => ⟨S1024, .f32⟩
  | .hbm, ⟨3, _⟩ => ⟨S1024x2176, .f32⟩
  | .hbm, ⟨4, _⟩ => ⟨S2x4352x1024, .f32⟩
  | .hbm, ⟨5, _⟩ => ⟨S2x4352x384, .f32⟩
  | .hbm, ⟨6, _⟩ => ⟨S2x4352x896, .f32⟩
  | .hbm, ⟨7, _⟩ => ⟨S2x4352x256, .f32⟩
  | .hbm, ⟨8, _⟩ => ⟨S2x4352x256, .f32⟩
  | .hbm, ⟨9, _⟩ => ⟨S2x4352x256, .f32⟩
  | .hbm, ⟨10, _⟩ => ⟨S2x4352x128, .f32⟩
  | .hbm, ⟨11, _⟩ => ⟨S2x4352x128, .f32⟩
  | .hbm, ⟨12, _⟩ => ⟨S1x6x1024, .f32⟩
  | .hbm, ⟨13, _⟩ => ⟨S6x1024, .f32⟩
  | .hbm, ⟨14, _⟩ => ⟨S2x256x6x1024, .f32⟩
  | .hbm, ⟨15, _⟩ => ⟨S2x6x1024, .f32⟩
  | .hbm, ⟨16, _⟩ => ⟨S2x1x6x1024, .f32⟩
  | .hbm, ⟨17, _⟩ => ⟨S2x4096x6x1024, .f32⟩
  | .hbm, ⟨18, _⟩ => ⟨S2x4352x6x1024, .f32⟩
  | .hbm, ⟨19, _⟩ => ⟨S2x4352x1x1024, .f32⟩
  | .hbm, ⟨20, _⟩ => ⟨S2x4352x1024, .f32⟩
  | .hbm, ⟨21, _⟩ => ⟨S2x4352x1x1024, .f32⟩
  | .hbm, ⟨22, _⟩ => ⟨S2x4352x1024, .f32⟩
  | .hbm, ⟨23, _⟩ => ⟨S2x4352x1024, .f32⟩
  | .hbm, ⟨24, _⟩ => ⟨S2x4352x1024, .f32⟩
  | .hbm, ⟨25, _⟩ => ⟨S_, .f32⟩
  | .hbm, ⟨26, _⟩ => ⟨S2x4352, .f32⟩
  | .hbm, ⟨27, _⟩ => ⟨S2x4352x1, .f32⟩
  | .hbm, ⟨28, _⟩ => ⟨S_, .f32⟩
  | .hbm, ⟨29, _⟩ => ⟨S2x4352x1, .f32⟩
  | .hbm, ⟨30, _⟩ => ⟨S2x4352x1, .f32⟩
  | .hbm, ⟨31, _⟩ => ⟨S_, .f32⟩
  | .hbm, ⟨32, _⟩ => ⟨S2x4352x1, .f32⟩
  | .hbm, ⟨33, _⟩ => ⟨S2x4352x1, .f32⟩
  | .hbm, ⟨34, _⟩ => ⟨S2x4352x1, .f32⟩
  | .hbm, ⟨35, _⟩ => ⟨S2x4352x1, .f32⟩
  | .hbm, ⟨36, _⟩ => ⟨S_, .f32⟩
  | .hbm, ⟨37, _⟩ => ⟨S2x4352x1, .f32⟩
  | .hbm, ⟨38, _⟩ => ⟨S2x4352x1, .f32⟩
  | .hbm, ⟨39, _⟩ => ⟨S2x4352x1024, .f32⟩
  | .hbm, ⟨40, _⟩ => ⟨S2x4352x1024, .f32⟩
  | .hbm, ⟨41, _⟩ => ⟨S2x4352x1024, .f32⟩
  | .hbm, ⟨42, _⟩ => ⟨S_, .f32⟩
  | .hbm, ⟨43, _⟩ => ⟨S2x4352x1024, .f32⟩
  | .hbm, ⟨44, _⟩ => ⟨S2x4352x1024, .f32⟩
  | .hbm, ⟨45, _⟩ => ⟨S2x4352x1024, .f32⟩
  | .hbm, ⟨46, _⟩ => ⟨S2x4352x1024, .f32⟩
  | .hbm, ⟨47, _⟩ => ⟨S2x4352x2176, .f32⟩
  | .hbm, ⟨48, _⟩ => ⟨S2x4352x128, .f32⟩
  | .hbm, ⟨49, _⟩ => ⟨S2x4352x2176, .f32⟩
  | .hbm, ⟨50, _⟩ => ⟨S2176x1024, .f32⟩
  | .hbm, ⟨51, _⟩ => ⟨S1024x2176, .f32⟩
  | .hbm, ⟨52, _⟩ => ⟨S2x4352x1024, .f32⟩
  | .hbm, ⟨53, _⟩ => ⟨S2x4352x1024, .f32⟩
  | .hbm, ⟨54, _⟩ => ⟨S2x4352x1024, .f32⟩
  | .hbm, ⟨55, _⟩ => ⟨S2x4352x1024, .f32⟩
  | .hbm, ⟨56, _⟩ => ⟨S2x4352x1024, .f32⟩
  | .hbm, ⟨57, _⟩ => ⟨S2x4352x1024, .f32⟩
  | .hbm, ⟨58, _⟩ => ⟨S_, .f32⟩
  | .hbm, ⟨59, _⟩ => ⟨S2x4352, .f32⟩
  | .hbm, ⟨60, _⟩ => ⟨S2x4352x1, .f32⟩
  | .hbm, ⟨61, _⟩ => ⟨S2x4352x1024, .f32⟩
  | .hbm, ⟨62, _⟩ => ⟨S2x4352x1024, .f32⟩
  | .hbm, ⟨63, _⟩ => ⟨S2x4352x1, .f32⟩
  | .hbm, ⟨64, _⟩ => ⟨S_, .f32⟩
  | .hbm, ⟨65, _⟩ => ⟨S2x4352x1, .f32⟩
  | .hbm, ⟨66, _⟩ => ⟨S2x4352x1, .f32⟩
  | .hbm, ⟨67, _⟩ => ⟨S_, .f32⟩
  | .hbm, ⟨68, _⟩ => ⟨S2x4352, .f32⟩
  | .hbm, ⟨69, _⟩ => ⟨S2x4352x1024, .f32⟩
  | .hbm, ⟨70, _⟩ => ⟨S2x4352x1024, .f32⟩
  | .hbm, ⟨71, _⟩ => ⟨S2x4352x1024, .f32⟩
  | .hbm, ⟨72, _⟩ => ⟨S2x4352x1024, .f32⟩
  | .hbm, ⟨73, _⟩ => ⟨S2x4352x1024, .f32⟩
  | .hbm, ⟨74, _⟩ => ⟨S34x256x1024, .f32⟩
  | .hbm, ⟨75, _⟩ => ⟨S_, .f32⟩
  | .hbm, ⟨76, _⟩ => ⟨S34x1024, .f32⟩
  | .hbm, ⟨77, _⟩ => ⟨S34x256x1024, .f32⟩
  | .hbm, ⟨78, _⟩ => ⟨S_, .f32⟩
  | .hbm, ⟨79, _⟩ => ⟨S34x1024, .f32⟩
  | .hbm, ⟨80, _⟩ => ⟨S34x256x1024, .f32⟩
  | .hbm, ⟨81, _⟩ => ⟨S_, .f32⟩
  | .hbm, ⟨82, _⟩ => ⟨S34x1024, .f32⟩
  | .hbm, ⟨83, _⟩ => ⟨S34x1x1024, .f32⟩
  | .hbm, ⟨84, _⟩ => ⟨S34x1x1024, .f32⟩
  | .hbm, ⟨85, _⟩ => ⟨S34x1x1024, .f32⟩
  | .hbm, ⟨86, _⟩ => ⟨S34x3x1024, .f32⟩
  | .hbm, ⟨87, _⟩ => ⟨S2x4352x1024, .f32⟩
  | .hbm, ⟨88, _⟩ => ⟨S8704x1024, .f32⟩
  | .hbm, ⟨89, _⟩ => ⟨S_, .i32⟩
  | .hbm, ⟨90, _⟩ => ⟨S_, .f32⟩
  | .hbm, ⟨91, _⟩ => ⟨S34x8x1024, .f32⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c : Ref sig .tc := ⟨.hbm, 89, rfl⟩
abbrev main_call0_v0 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Proof.Soft.lean ====
module

public import Idealize.ShloMosaic.PureOps
public import Idealize.ShloMosaic.Lib.Pointwise

@[expose] public section

noncomputable section

namespace Cert.Attn

open Idealize.ShloMosaic

/-- The softmax of a row of scores. -/
def soft {n : ℕ} (s : Fin n → ℝ) (k : Fin n) : ℝ := Real.exp (s k) / ∑ j, Real.exp (s j)

/-- The gradient of a row of scores, from the gradient `g` of its softmax. -/
def dsoft {n : ℕ} (s g : Fin n → ℝ) (k : Fin n) : ℝ := soft s k * (g k - ∑ j, soft s j * g j)

/-- A finite sum of reals, read as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The quotient of two reals, the divisor not zero. -/
theorem div_real (x y : ℝ) (h : y ≠ 0) : Ideal.div (x : EReal) (y : EReal) = ((x / y : ℝ) : EReal) := by
  rw [Ideal.div_coe h, ← EReal.coe_mul]; congr 1; ring

/-- A shifted row's softmax is the row's. -/
theorem soft_shift {n : ℕ} (s : Fin n → ℝ) (M : ℝ) (k : Fin n) :
    Real.exp (s k - M) / ∑ j, Real.exp (s j - M) = soft s k := by
  unfold soft
  have h : ∀ j, Real.exp (s j - M) = Real.exp (s j) * Real.exp (-M) := fun j => by rw [sub_eq_add_neg, Real.exp_add]
  rw [h k, Finset.sum_congr rfl fun j _ => h j, ← Finset.sum_mul, mul_div_mul_right _ _ (Real.exp_pos _).ne']

/-- The sum of a row's exponentials is positive. -/
theorem sum_exp_pos {n : ℕ} (s : Fin n → ℝ) (k : Fin n) : 0 < ∑ j, Real.exp (s j) :=
  Finset.sum_pos (fun _ _ => Real.exp_pos _) ⟨k, Finset.mem_univ k⟩

/-- A row's exponentials, shifted by a real. -/
theorem exp_shift (s M : ℝ) : Ideal.exp ((s : EReal) - (M : EReal)) = ((Real.exp (s - M) : ℝ) : EReal) := by
  rw [← EReal.coe_sub, Ideal.exp_coe]

/-- The sum of a row's exponentials, shifted by a real. -/
theorem sum_exp_shift {n : ℕ} (s : Fin n → ℝ) (M : ℝ) :
    (∑ j, Ideal.exp ((s j : EReal) - (M : EReal))) = ((∑ j, Real.exp (s j - M) : ℝ) : EReal) := by
  rw [coe_sum]; exact Finset.sum_congr rfl fun j _ => exp_shift _ _

/-- The softmax of a row on the extended reals. -/
theorem soft_ereal {n : ℕ} (s : Fin n → ℝ) (M : ℝ) (k : Fin n) :
    Ideal.div ((Real.exp (s k - M) : ℝ) : EReal) ((∑ j, Real.exp (s j - M) : ℝ) : EReal) = ((soft s k : ℝ) : EReal) := by
  rw [div_real _ _ (sum_exp_pos (fun j => s j - M) k).ne', soft_shift]

/-- The gradient of a row's scores as a quotient rule writes it. -/
theorem dsoft_real {n : ℕ} (s g : Fin n → ℝ) (M : ℝ) (k : Fin n) :
    (g k / (∑ j, Real.exp (s j - M)) + -∑ j, g j * (1 / ((∑ j, Real.exp (s j - M)) * ∑ j, Real.exp (s j - M))) * Real.exp (s j - M))
      * Real.exp (s k - M) = dsoft s g k := by
  have hL := (sum_exp_pos (fun j => s j - M) k).ne'
  unfold dsoft
  simp only [← soft_shift s M]
  generalize (∑ j, Real.exp (s j - M)) = L at *
  have h : ∑ j, g j * (1 / (L * L)) * Real.exp (s j - M) = (∑ j, Real.exp (s j - M) / L * g j) / L := by
    rw [Finset.sum_div]; exact Finset.sum_congr rfl fun j _ => by field_simp
  rw [h]; field_simp; ring

/-- The gradient of a row's scores on the extended reals. -/
theorem dsoft_ereal {n : ℕ} (s g : Fin n → ℝ) (M : ℝ) (k : Fin n) :
    (Ideal.div (g k : EReal) ((∑ j, Real.exp (s j - M) : ℝ) : EReal)
        + (-∑ j, (g j : EReal) * Ideal.div 1 (((∑ j, Real.exp (s j - M) : ℝ) : EReal) * ((∑ j, Real.exp (s j - M) : ℝ) : EReal))
            * ((Real.exp (s j - M) : ℝ) : EReal)))
      * ((Real.exp (s k - M) : ℝ) : EReal) = ((dsoft s g k : ℝ) : EReal) := by
  have hL := (sum_exp_pos (fun j => s j - M) k).ne'
  rw [← dsoft_real s g M k, ← EReal.coe_mul, div_real _ _ hL, ← EReal.coe_one, div_real _ _ (mul_ne_zero hL hL)]
  simp only [← EReal.coe_mul, ← coe_sum, ← EReal.coe_neg, ← EReal.coe_add]

/-- The greatest of a nonempty row of reals is a real. -/
theorem fold_max_real {ι : Type*} (S : Finset ι) (f : ι → EReal) (hf : ∀ i, ∃ r : ℝ, f i = r) (hS : S.Nonempty) :
    ∃ r : ℝ, S.fold max ⊥ f = r := by
  classical
  induction hS using Finset.Nonempty.cons_induction with
  | singleton a => obtain ⟨r, hr⟩ := hf a; exact ⟨r, by simp [hr]⟩
  | cons a S ha hS ih =>
    obtain ⟨r, hr⟩ := hf a
    obtain ⟨q, hq⟩ := ih
    exact ⟨max r q, by rw [Finset.fold_cons, hr, hq]; exact (EReal.coe_strictMono.monotone.map_max).symm⟩

/-- The pattern of minus infinity. -/
theorem ofBits_bot : Ideal.ofBits .f32 0xFF800000#32 = ⊥ := by simp [Ideal.ofBits, Ideal.ieee]

/-- The pattern of two. -/
theorem ofBits_two : Ideal.ofBits .f32 0x40000000#32 = ((2 : ℝ) : EReal) := by
  simp [Ideal.ofBits, Ideal.ieee, -EReal.coe_mul]; norm_num

/-- The scale of the scores: what the f32 word of `96 ^ (-1/2)` denotes. -/
def scale : ℝ := 13698540 / 134217728

/-- The word of the scale. -/
theorem ofBits_scale : Ideal.ofBits .f32 0x3DD105EC#32 = ((scale : ℝ) : EReal) := by
  unfold scale; simp [Ideal.ofBits, Ideal.ieee, -EReal.coe_mul]; norm_num

/-- The scale is not zero. -/
theorem scale_ne : scale ≠ 0 := by unfold scale; norm_num

/-- The scaled scores of the query at token `t` against the keys at the tokens `tok k`. -/
def score (Q K : Fin 2 → Fin 4352 → Fin 6 → Fin 96 → ℝ) (b : Fin 2) (h : Fin 6) (t : Fin 4352) {n : ℕ} (tok : Fin n → Fin 4352)
    (k : Fin n) : ℝ := (∑ x, Q b t h x * K b (tok k) h x) * scale

/-- The gradient of the softmax of the query at token `t`, at the keys at the tokens `tok k`. -/
def dots (V D : Fin 2 → Fin 4352 → Fin 6 → Fin 64 → ℝ) (b : Fin 2) (h : Fin 6) (t : Fin 4352) {n : ℕ} (tok : Fin n → Fin 4352)
    (k : Fin n) : ℝ := ∑ x, D b t h x * V b (tok k) h x

/-- The token at position `k` of the context. -/
abbrev ctx (k : Fin 256) : Fin 4352 := ⟨k, by omega⟩

/-- The token at position `x` of the latents. -/
abbrev lat (x : Fin 4096) : Fin 4352 := ⟨256 + x, by omega⟩

/-- Every token. -/
abbrev tok (k : Fin 4352) : Fin 4352 := k

/-- The gradient of the queries, of a context token over the context and of a latent token over every token. -/
def gradQ (Q K : Fin 2 → Fin 4352 → Fin 6 → Fin 96 → ℝ) (V D : Fin 2 → Fin 4352 → Fin 6 → Fin 64 → ℝ)
    (b : Fin 2) (t : Fin 4352) (h : Fin 6) (d : Fin 96) : ℝ :=
  if (t : ℕ) < 256 then ∑ k, dsoft (score Q K b h t ctx) (dots V D b h t ctx) k * K b (ctx k) h d
  else ∑ k, dsoft (score Q K b h t tok) (dots V D b h t tok) k * K b (tok k) h d

/-- The gradient of the keys over the logarithm of two. -/
def gradK (Q K : Fin 2 → Fin 4352 → Fin 6 → Fin 96 → ℝ) (V D : Fin 2 → Fin 4352 → Fin 6 → Fin 64 → ℝ)
    (b : Fin 2) (k : Fin 4352) (h : Fin 6) (d : Fin 96) : ℝ :=
  ((∑ x, dsoft (score Q K b h (lat x) tok) (dots V D b h (lat x) tok) k * scale * Q b (lat x) h d)
    + if e : (k : ℕ) < 256 then ∑ x, dsoft (score Q K b h (ctx x) ctx) (dots V D b h (ctx x) ctx) ⟨k, e⟩ * scale * Q b (ctx x) h d else 0)
    / Real.log 2

/-- The gradient of the values. -/
def gradV (Q K : Fin 2 → Fin 4352 → Fin 6 → Fin 96 → ℝ) (D : Fin 2 → Fin 4352 → Fin 6 → Fin 64 → ℝ)
    (b : Fin 2) (k : Fin 4352) (h : Fin 6) (d : Fin 64) : ℝ :=
  (∑ x, D b (lat x) h d * soft (score Q K b h (lat x) tok) k)
    + if e : (k : ℕ) < 256 then ∑ x, D b (ctx x) h d * soft (score Q K b h (ctx x) ctx) ⟨k, e⟩ else 0

/-- A padded array of rows of six heads with 128 lanes each, of which the first `n` are used. -/
def lanes {n : ℕ} (G : Fin 2 → Fin 4352 → Fin 6 → Fin n → ℝ) (r : Fin 8704) (l : Fin 768) : ℝ :=
  if e : (l : ℕ) % 128 < n then G ⟨r / 4352, by omega⟩ ⟨r % 4352, by omega⟩ ⟨l / 128, by omega⟩ ⟨l % 128, e⟩ else 0

/-- The logarithm of two is not zero. -/
theorem log_two_ne : Real.log 2 ≠ 0 := (Real.log_pos (by norm_num)).ne'

/-- The host's logarithm of two. -/
theorem log_two : Ideal.log (Ideal.ofBits .f32 0x40000000#32) = ((Real.log 2 : ℝ) : EReal) := by
  rw [ofBits_two, Ideal.log_coe, if_neg (by norm_num)]

/-- A host maximum over the last of four axes, of reals, is a real. -/
theorem host_max_real {n0 n1 n2 n3 : ℕ} {u : Shape} (h : (⟨4, ![n0, n1, n2, n3]⟩ : Shape).ReducesTo [3] ⟨3, ![n0, n1, n2]⟩)
    (x : FVec Ideal ⟨4, ![n0, n1, n2, n3]⟩ .f32) (hx : ∀ i, ∃ r : ℝ, x i = r) (init : FVec Ideal u .f32) (hi : ∀ i, init i = ⊥)
    (hu : 0 < u.numel) (hn : 0 < n3) (j : Shape.Idx ⟨3, ![n0, n1, n2]⟩) :
    ∃ r : ℝ, Host.reduce FloatOps.maximumf x init h hu j = (r : EReal) := by
  rw [Host.reduce_eq_fold, h.fold_fiber_r4_a3, hi]
  exact fold_max_real _ _ (fun k => hx _) ⟨⟨0, hn⟩, Finset.mem_univ _⟩

/-- Likewise with the maximum against minus infinity that the host takes afterwards. -/
theorem host_max_real_bot {n0 n1 n2 n3 : ℕ} {u : Shape} (h : (⟨4, ![n0, n1, n2, n3]⟩ : Shape).ReducesTo [3] ⟨3, ![n0, n1, n2]⟩)
    (x : FVec Ideal ⟨4, ![n0, n1, n2, n3]⟩ .f32) (hx : ∀ i, ∃ r : ℝ, x i = r) (init : FVec Ideal u .f32) (hi : ∀ i, init i = ⊥)
    (hu : 0 < u.numel) (hn : 0 < n3) (y : FVec Ideal ⟨3, ![n0, n1, n2]⟩ .f32) (hy : ∀ i, y i = ⊥) (j : Shape.Idx ⟨3, ![n0, n1, n2]⟩) :
    ∃ r : ℝ, maximumf y (Host.reduce FloatOps.maximumf x init h hu) j = (r : EReal) := by
  obtain ⟨r, hr⟩ := host_max_real h x hx init hi hu hn j
  refine ⟨r, ?_⟩
  show max (y j) (Host.reduce FloatOps.maximumf x init h hu j) = _
  rw [hr, hy]
  exact max_eq_right bot_le

end Cert.Attn

end
-- ==== Proof.Finite.lean ====
module

public import proofs.«01_k».proof.Defs
public import proofs.«01_k».proof.Proof.Soft
public import Idealize.ShloMosaic.Lib.ReduceAll
public import Idealize.ShloMosaic.Lib.ValueIdx

@[expose] public section

set_option maxRecDepth 16384

noncomputable section

namespace Cert.Pre_finite

open Idealize.ShloMosaic Cert.Attn

/-- The shape relations the precondition's operations take. -/
instance facts : Facts where
  bcast_S_S2x4352x6x96 := by decide
  reducesTo_S2x4352x6x96_S_d0_1_2_3 := by decide
  h_S_ := by decide
  bcast_S_S2x4352x6x64 := by decide
  reducesTo_S2x4352x6x64_S_d0_1_2_3 := by decide

/-- The word the precondition compares with is infinity. -/
theorem ofBits_top : Ideal.ofBits .f32 0x7F800000#32 = ⊤ := by simp [Ideal.ofBits, Ideal.ieee]

/-- An extended real whose absolute value compares below infinity is a real. -/
theorem real_of_lt (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have h' : FloatOps.cmpf (F := Ideal) (φ := .f32) .olt (max x (-x)) (Ideal.ofBits .f32 0x7F800000#32) = 1#1 := h
  rw [ofBits_top] at h'
  induction x using EReal.rec with
  | bot => exact absurd h' (by simp [FloatOps.cmpf, Ideal.cmp])
  | coe r => rfl
  | top => exact absurd h' (by simp [FloatOps.cmpf, Ideal.cmp])

/-- A conjunction of two truth values that is 1 has both 1. -/
theorem and_one (a b : BitVec 1) (h : IntOp.andi a b = 1#1) : a = 1#1 ∧ b = 1#1 := by
  revert a b; decide

instance : Subsingleton S_.Idx := ⟨fun a b => funext fun i => i.elim0⟩

/-- Where the precondition holds every element of the four arrays is a real. -/
theorem reals (A0 A1 : FVec Ideal S2x4352x6x96 .f32) (A2 A3 : FVec Ideal S2x4352x6x64 .f32) (h : fn (F := Ideal) A0 A1 A2 A3 = fun _ => 1#1) :
    (∀ i, A0 i = (((A0 i : EReal).toReal : ℝ) : EReal)) ∧ (∀ i, A1 i = (((A1 i : EReal).toReal : ℝ) : EReal))
      ∧ (∀ i, A2 i = (((A2 i : EReal).toReal : ℝ) : EReal)) ∧ ∀ i, A3 i = (((A3 i : EReal).toReal : ℝ) : EReal) := by
  have h0 := congrFun h (fun a => a.elim0)
  unfold fn fn_part1 at h0
  obtain ⟨h012, h3⟩ := and_one _ _ h0
  obtain ⟨h01, h2⟩ := and_one _ _ h012
  obtain ⟨h0, h1⟩ := and_one _ _ h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Pre_finite

end
-- ==== Proof.Blocks.lean ====
module
public import proofs.«01_k».proof.Proof.Gen.KernelIdeal.Value
public import proofs.«01_k».proof.Proof.Soft
public import Idealize.ShloMosaic.Lib.Pipeline.ValueKit
public import Idealize.ShloMosaic.Lib.Pointwise
public import Idealize.ShloMosaic.Lib.Pipeline.ReadBack
@[expose] public section
set_option maxRecDepth 16384
noncomputable section
namespace Cert.KernelIdeal.Blocks
open Cert.KernelIdeal Cert.KernelIdeal.Gen Idealize.ShloMosaic Idealize.ShloMosaic.TcCoe Idealize.SL.Sem Cert.Attn
section
/-- What a store through a rectangle of a matrix leaves at an index. -/
theorem canon_unit2 {Val : EltTy → Type} [∀ e, Nonempty (Val e)] {ety : EltTy} {n0 n1 o0 o1 s0 s1 : ℕ}
    (inb : ∀ a, (![o0, o1] : Fin 2 → ℕ) a + (![s0, s1] : Fin 2 → ℕ) a ≤ (⟨2, ![n0, n1]⟩ : Shape).size a)
    (w : (⟨2, ![s0, s1]⟩ : Shape).Idx → Val ety) (L : List (View.Piece Val ⟨2, ![n0, n1]⟩ ety)) (r : Fin n0) (l : Fin n1) :
    View.canon ((⟨Rect.unit (s := ⟨2, ![n0, n1]⟩) ![o0, o1] ![s0, s1] inb, w⟩ : View.Piece Val ⟨2, ![n0, n1]⟩ ety) :: L) (ix2 r l)
      = if h : (o0 ≤ (r : ℕ) ∧ (r : ℕ) - o0 < s0) ∧ (o1 ≤ (l : ℕ) ∧ (l : ℕ) - o1 < s1) then w (ix2 ⟨r - o0, h.1.2⟩ ⟨l - o1, h.2.2⟩)
        else View.canon L (ix2 r l) := by
  by_cases h : (o0 ≤ (r : ℕ) ∧ (r : ℕ) - o0 < s0) ∧ (o1 ≤ (l : ℕ) ∧ (l : ℕ) - o1 < s1)
  · rw [dif_pos h]
    have e : (ix2 r l : (⟨2, ![n0, n1]⟩ : Shape).Idx)
        = (Rect.unit (s := ⟨2, ![n0, n1]⟩) ![o0, o1] ![s0, s1] inb).emb (ix2 ⟨r - o0, h.1.2⟩ ⟨l - o1, h.2.2⟩ : (⟨2, ![s0, s1]⟩ : Shape).Idx) := by
      funext a
      refine Fin.cases ?_ (fun a => ?_) a
      · exact Fin.ext (by show (r : ℕ) = o0 + 1 * ((r : ℕ) - o0); omega)
      · obtain rfl : a = 0 := Subsingleton.elim _ _
        exact Fin.ext (by show (l : ℕ) = o1 + 1 * ((l : ℕ) - o1); omega)
    conv_lhs => rw [e]
    exact View.canon_cons_emb (Rect.unit (s := ⟨2, ![n0, n1]⟩) ![o0, o1] ![s0, s1] inb) w L _
  · rw [dif_neg h]
    refine View.canon_cons_of_not_mem _ L fun hm => h ?_
    obtain ⟨x, hx⟩ := (Rect.unit (s := ⟨2, ![n0, n1]⟩) ![o0, o1] ![s0, s1] inb).exists_idx_of_mem hm
    have h0 : (r : ℕ) = o0 + 1 * (x 0 : ℕ) := congrArg (fun z : (⟨2, ![n0, n1]⟩ : Shape).Idx => (z 0 : ℕ)) hx.symm
    have h1 : (l : ℕ) = o1 + 1 * (x 1 : ℕ) := congrArg (fun z : (⟨2, ![n0, n1]⟩ : Shape).Idx => (z 1 : ℕ)) hx.symm
    have l0 : (x 0 : ℕ) < s0 := (x 0).isLt
    have l1 : (x 1 : ℕ) < s1 := (x 1).isLt
    omega

end

variable (m : (ℓ : Loc nD τ sig) → Buf (Elt Ideal) ℓ) (c : Dev nD)

/-- Lane `x` of the head whose lanes hold `l`. -/
abbrev hd (l : Fin 256) (x : Fin 128) : Fin 256 := ⟨l / 128 * 128 + x, by omega⟩

/-- The power of two of a block's scores less the row's saved logarithm, at the keys `f k`. -/
def kP {n : ℕ} (X0 : FVec Ideal S256x256 .bf16) (X1 : FVec Ideal S4352x256 .bf16) (X4 : FVec Ideal S256x256 .f32) (l : Fin 256)
    (f : Fin n → Fin 4352) (r : Fin 256) (k : Fin n) : EReal :=
  Ideal.exp2 ((∑ x, X0 (ix2 r (hd l x)) * X1 (ix2 (f k) (hd l x))) - X4 (ix2 r (hd l 0)))

/-- The gradient of a block's softmax less the row's sum, at the keys `f k`. -/
def kD {n : ℕ} (X2 : FVec Ideal S4352x256 .bf16) (X3 X5 : FVec Ideal S256x256 .f32) (l : Fin 256) (f : Fin n → Fin 4352)
    (r : Fin 256) (k : Fin n) : EReal :=
  (∑ x, X5 (ix2 r (hd l x)) * X2 (ix2 (f k) (hd l x))) - ∑ x, X5 (ix2 r (hd l x)) * X3 (ix2 r (hd l x))

/-- A latent point's tile of the query gradient. -/
theorem b6 (t : Fin cfg0.N) (h0 : ¬t.val % 17 = 0) (h1 : ¬t.val % 17 = 0) (h2 : 1 ≤ t.val % 17) (r : Fin 256) (l : Fin 256) :
    (outsAt0 m c t.val t.isLt).1 (ix2 r l) = (∑ k, kP (iblk m c 0 t) (iblk m c 1 t) (iblk m c 4 t) l tok r k * kD (iblk m c 2 t) (iblk m c 3 t) (iblk m c 5 t) l tok r k * (show FVec Ideal S4352x256 .bf16 from iblk m c 1 t) (ix2 k l) : EReal) := by
  rw [outsAt0_B m c t h0 h1 h2]
  frame_out
  clear h0 h1 h2
  canon_tiles x h
  all_goals idx_vars x
  case piece0 =>
    obtain rfl : r = x0 := Fin.ext (by simpa using h0)
    obtain rfl : l = ⟨128 + x1, Nat.add_lt_add_left x1.isLt 128⟩ := Fin.ext (by simpa using h1)
    have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
    open_payloads
    pointwise [kP, kD, e]
    rfl
  case piece1 =>
    obtain rfl : r = x0 := Fin.ext (by simpa using h0)
    obtain rfl : l = ⟨x1, Nat.lt_of_lt_of_le x1.isLt (by decide)⟩ := Fin.ext (by simpa using h1)
    have e : ∀ y : Fin 128, hd ⟨x1, Nat.lt_of_lt_of_le x1.isLt (by decide)⟩ y = ⟨y, by omega⟩ := fun y => Fin.ext (by show (x1 : ℕ) / 128 * 128 + (y : ℕ) = (y : ℕ); omega)
    open_payloads
    pointwise [kP, kD, e]
    rfl

/-- A latent point adds its rows' part to the key gradient. -/
theorem b7 (t : Fin cfg0.N) (h0 : ¬t.val % 17 = 0) (h1 : ¬t.val % 17 = 0) (h2 : 1 ≤ t.val % 17) (r : Fin 4352) (l : Fin 256) :
    (outsAt0 m c t.val t.isLt).2.1 (ix2 r l) = ((show FVec Ideal S4352x256 .f32 from (outsAt0 m c (t.val - 1) (Nat.lt_of_le_of_lt (Nat.sub_le _ _) t.isLt)).2.1) (ix2 r l) + ∑ k, kP (iblk m c 0 t) (iblk m c 1 t) (iblk m c 4 t) l tok k r * kD (iblk m c 2 t) (iblk m c 3 t) (iblk m c 5 t) l tok k r * (show FVec Ideal S256x256 .bf16 from iblk m c 0 t) (ix2 k l) : EReal) := by
  rw [outsAt0_B m c t h0 h1 h2]
  frame_out
  clear h0 h1 h2
  canon_tiles x h
  all_goals idx_vars x
  case piece0 =>
    obtain rfl : r = x0 := Fin.ext (by simpa using h0)
    obtain rfl : l = ⟨128 + x1, Nat.add_lt_add_left x1.isLt 128⟩ := Fin.ext (by simpa using h1)
    have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
    open_payloads
    pointwise [kP, kD, e]
    rfl
  case piece1 =>
    obtain rfl : r = x0 := Fin.ext (by simpa using h0)
    obtain rfl : l = ⟨x1, Nat.lt_of_lt_of_le x1.isLt (by decide)⟩ := Fin.ext (by simpa using h1)
    have e : ∀ y : Fin 128, hd ⟨x1, Nat.lt_of_lt_of_le x1.isLt (by decide)⟩ y = ⟨y, by omega⟩ := fun y => Fin.ext (by show (x1 : ℕ) / 128 * 128 + (y : ℕ) = (y : ℕ); omega)
    open_payloads
    pointwise [kP, kD, e]
    rfl

/-- A latent point adds its rows' part to the value gradient. -/
theorem b8 (t : Fin cfg0.N) (h0 : ¬t.val % 17 = 0) (h1 : ¬t.val % 17 = 0) (h2 : 1 ≤ t.val % 17) (r : Fin 4352) (l : Fin 256) :
    (outsAt0 m c t.val t.isLt).2.2 (ix2 r l) = ((show FVec Ideal S4352x256 .f32 from (outsAt0 m c (t.val - 1) (Nat.lt_of_le_of_lt (Nat.sub_le _ _) t.isLt)).2.2) (ix2 r l) + ∑ k, kP (iblk m c 0 t) (iblk m c 1 t) (iblk m c 4 t) l tok k r * (show FVec Ideal S256x256 .f32 from iblk m c 5 t) (ix2 k l) : EReal) := by
  rw [outsAt0_B m c t h0 h1 h2]
  frame_out
  clear h0 h1 h2
  canon_tiles x h
  all_goals idx_vars x
  case piece0 =>
    obtain rfl : r = x0 := Fin.ext (by simpa using h0)
    obtain rfl : l = ⟨128 + x1, Nat.add_lt_add_left x1.isLt 128⟩ := Fin.ext (by simpa using h1)
    have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
    open_payloads
    pointwise [kP, kD, e]
    rfl
  case piece1 =>
    obtain rfl : r = x0 := Fin.ext (by simpa using h0)
    obtain rfl : l = ⟨x1, Nat.lt_of_lt_of_le x1.isLt (by decide)⟩ := Fin.ext (by simpa using h1)
    have e : ∀ y : Fin 128, hd ⟨x1, Nat.lt_of_lt_of_le x1.isLt (by decide)⟩ y = ⟨y, by omega⟩ := fun y => Fin.ext (by show (x1 : ℕ) / 128 * 128 + (y : ℕ) = (y : ℕ); omega)
    open_payloads
    pointwise [kP, kD, e]
    rfl

/-- The context point's tile of the query gradient. -/
theorem a6 (t : Fin cfg0.N) (h0 : t.val % 17 = 0) (h1 : t.val % 17 = 0) (h2 : ¬1 ≤ t.val % 17) (r : Fin 256) (l : Fin 256) :
    (outsAt0 m c t.val t.isLt).1 (ix2 r l) = (∑ k, kP (iblk m c 0 t) (iblk m c 1 t) (iblk m c 4 t) l ctx r k * kD (iblk m c 2 t) (iblk m c 3 t) (iblk m c 5 t) l ctx r k * (show FVec Ideal S4352x256 .bf16 from iblk m c 1 t) (ix2 (ctx k) l) : EReal) := by
  rw [outsAt0_A m c t h0 h1 h2]
  frame_out
  clear h0 h1 h2
  canon_tiles x h
  all_goals idx_vars x
  case piece0 =>
    obtain rfl : r = x0 := Fin.ext (by simpa using h0)
    obtain rfl : l = ⟨128 + x1, Nat.add_lt_add_left x1.isLt 128⟩ := Fin.ext (by simpa using h1)
    have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
    open_payloads
    pointwise [kP, kD, e]
    rfl
  case piece1 =>
    obtain rfl : r = x0 := Fin.ext (by simpa using h0)
    obtain rfl : l = ⟨x1, Nat.lt_of_lt_of_le x1.isLt (by decide)⟩ := Fin.ext (by simpa using h1)
    have e : ∀ y : Fin 128, hd ⟨x1, Nat.lt_of_lt_of_le x1.isLt (by decide)⟩ y = ⟨y, by omega⟩ := fun y => Fin.ext (by show (x1 : ℕ) / 128 * 128 + (y : ℕ) = (y : ℕ); omega)
    open_payloads
    pointwise [kP, kD, e]
    rfl

/-- The context point starts the key gradient with the context's part. -/
theorem a7 (t : Fin cfg0.N) (h0 : t.val % 17 = 0) (h1 : t.val % 17 = 0) (h2 : ¬1 ≤ t.val % 17) (r : Fin 4352) (l : Fin 256) :
    (outsAt0 m c t.val t.isLt).2.1 (ix2 r l) = (if e : (r : ℕ) < 256 then ∑ k, kP (iblk m c 0 t) (iblk m c 1 t) (iblk m c 4 t) l ctx k ⟨r, e⟩ * kD (iblk m c 2 t) (iblk m c 3 t) (iblk m c 5 t) l ctx k ⟨r, e⟩ * (show FVec Ideal S256x256 .bf16 from iblk m c 0 t) (ix2 k l) else 0 : EReal) := by
  rw [outsAt0_A m c t h0 h1 h2]
  frame_out
  clear h0 h1 h2
  simp (disch := decide) only [↓View.readCov_skip, ↓View.readCov_fill]
  erw [canon_unit2, canon_unit2, canon_unit2]
  by_cases hr : (r : ℕ) < 256
  · by_cases hl : 128 ≤ (l : ℕ)
    · obtain ⟨x1, rfl⟩ : ∃ x1 : Fin 128, l = ⟨128 + x1, Nat.add_lt_add_left x1.isLt 128⟩ := ⟨⟨l - 128, by omega⟩, Fin.ext (by show (l : ℕ) = 128 + ((l : ℕ) - 128); omega)⟩
      have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
      rw [dif_pos hr, dif_pos (by show (0 ≤ (r : ℕ) ∧ (r : ℕ) - 0 < 256) ∧ 128 ≤ 128 + (x1 : ℕ) ∧ 128 + (x1 : ℕ) - 128 < 128; omega)]
      open_payloads
      pointwise [kP, kD, e, Nat.add_sub_cancel_left, Nat.sub_zero, zero_add]
      rfl
    · obtain ⟨x1, rfl⟩ : ∃ x1 : Fin 128, l = ⟨x1, Nat.lt_of_lt_of_le x1.isLt (by decide)⟩ := ⟨⟨l, by omega⟩, rfl⟩
      have e : ∀ y : Fin 128, hd ⟨x1, Nat.lt_of_lt_of_le x1.isLt (by decide)⟩ y = ⟨y, by omega⟩ := fun y => Fin.ext (by show (x1 : ℕ) / 128 * 128 + (y : ℕ) = (y : ℕ); omega)
      have hl' : ¬128 ≤ (x1 : ℕ) := hl
      rw [dif_pos hr, dif_neg (fun q => hl q.2.1), dif_pos (by show (0 ≤ (r : ℕ) ∧ (r : ℕ) - 0 < 256) ∧ 0 ≤ (x1 : ℕ) ∧ (x1 : ℕ) - 0 < 128; omega)]
      open_payloads
      pointwise [kP, kD, e, Nat.sub_zero, zero_add]
      rfl
  · rw [dif_neg hr, dif_neg (by omega), dif_neg (by omega), dif_pos (by omega)]
    open_payloads
    pointwise

/-- The context point starts the value gradient with the context's part. -/
theorem a8 (t : Fin cfg0.N) (h0 : t.val % 17 = 0) (h1 : t.val % 17 = 0) (h2 : ¬1 ≤ t.val % 17) (r : Fin 4352) (l : Fin 256) :
    (outsAt0 m c t.val t.isLt).2.2 (ix2 r l) = (if e : (r : ℕ) < 256 then ∑ k, kP (iblk m c 0 t) (iblk m c 1 t) (iblk m c 4 t) l ctx k ⟨r, e⟩ * (show FVec Ideal S256x256 .f32 from iblk m c 5 t) (ix2 k l) else 0 : EReal) := by
  rw [outsAt0_A m c t h0 h1 h2]
  frame_out
  clear h0 h1 h2
  simp (disch := decide) only [↓View.readCov_skip, ↓View.readCov_fill]
  erw [canon_unit2, canon_unit2, canon_unit2]
  by_cases hr : (r : ℕ) < 256
  · by_cases hl : 128 ≤ (l : ℕ)
    · obtain ⟨x1, rfl⟩ : ∃ x1 : Fin 128, l = ⟨128 + x1, Nat.add_lt_add_left x1.isLt 128⟩ := ⟨⟨l - 128, by omega⟩, Fin.ext (by show (l : ℕ) = 128 + ((l : ℕ) - 128); omega)⟩
      have e : ∀ y : Fin 128, hd ⟨128 + x1, Nat.add_lt_add_left x1.isLt 128⟩ y = ⟨128 + y, by omega⟩ := fun y => Fin.ext (by show (128 + (x1 : ℕ)) / 128 * 128 + (y : ℕ) = 128 + (y : ℕ); omega)
      rw [dif_pos hr, dif_pos (by show (0 ≤ (r : ℕ) ∧ (r : ℕ) - 0 < 256) ∧ 128 ≤ 128 + (x1 : ℕ) ∧ 128 + (x1 : ℕ) - 128 < 128; omega)]
      open_payloads
      pointwise [kP, kD, e, Nat.add_sub_cancel_left, Nat.sub_zero, zero_add]
      rfl
    · obtain ⟨x1, rfl⟩ : ∃ x1 : Fin 128, l = ⟨x1, Nat.lt_of_lt_of_le x1.isLt (by decide)⟩ := ⟨⟨l, by omega⟩, rfl⟩
      have e : ∀ y : Fin 128, hd ⟨x1, Nat.lt_of_lt_of_le x1.isLt (by decide)⟩ y = ⟨y, by omega⟩ := fun y => Fin.ext (by show (x1 : ℕ) / 128 * 128 + (y : ℕ) = (y : ℕ); omega)
      have hl' : ¬128 ≤ (x1 : ℕ) := hl
      rw [dif_pos hr, dif_neg (fun q => hl q.2.1), dif_pos (by show (0 ≤ (r : ℕ) ∧ (r : ℕ) - 0 < 256) ∧ 0 ≤ (x1 : ℕ) ∧ (x1 : ℕ) - 0 < 128; omega)]
      open_payloads
      pointwise [kP, kD, e, Nat.sub_zero, zero_add]
      rfl
  · rw [dif_neg hr, dif_neg (by omega), dif_neg (by omega), dif_pos (by omega)]
    open_payloads
    pointwise

end Cert.KernelIdeal.Blocks

end
-- ==== Proof.KerStages.lean ====
module

public import proofs.«01_k».proof.Proof.Blocks
public import proofs.«01_k».proof.Proof.Soft
public import Idealize.ShloMosaic.Lib.Pointwise
public import Idealize.ShloMosaic.Lib.Claim

@[expose] public section

set_option maxRecDepth 16384

noncomputable section

namespace Cert.KernelIdeal.Rows

open Cert.KernelIdeal Cert.KernelIdeal.Gen Idealize.ShloMosaic Idealize.ShloMosaic.TcCoe Idealize.SL.Sem Cert.Attn

/-- The latent rows of the queries. -/
def qL (A0 : FVec Ideal S2x4352x6x96 .f32) : FVec Ideal S2x4096x6x96 .f32 := extractStridedSlice S2x4096x6x96 ![0, 256, 0, 0] A0 slices_S2x4352x6x96_S2x4096x6x96_0_256_0_0
/-- The latent queries' scaled scores. -/
def sL (A0 A1 : FVec Ideal S2x4352x6x96 .f32) : FVec Ideal S2x6x4096x4352 .f32 := mulf (Host.dotGeneral dot_S2x4096x6x96_S2x4352x6x96_S2x6x4096x4352_3_3_1_1_02_02 none (qL A0) A1) (broadcastInDim S2x6x4096x4352 ![] bcast_S_S2x6x4096x4352 (constant S_ .f32 0x3DD105EC#32))
/-- The latent queries' greatest scores. -/
def mL (A0 A1 : FVec Ideal S2x4352x6x96 .f32) : FVec Ideal S2x6x4096 .f32 := maximumf (broadcastInDim S2x6x4096 ![] bcast_S_S2x6x4096 (constant S_ .f32 0xFF800000#32)) (Host.reduce FloatOps.maximumf (sL A0 A1) (constant S_ .f32 0xFF800000#32) reducesTo_S2x6x4096x4352_S2x6x4096_d3 h_S_)
/-- The latent queries' exponentials. -/
def eL (A0 A1 : FVec Ideal S2x4352x6x96 .f32) : FVec Ideal S2x6x4096x4352 .f32 := Host.exp (subf (sL A0 A1) (broadcastInDim S2x6x4096x4352 ![0, 1, 2, 3] bcast_S2x6x4096x1_S2x6x4096x4352_0_1_2_3 (broadcastInDim S2x6x4096x1 ![0, 1, 2] bcast_S2x6x4096_S2x6x4096x1_0_1_2 (mL A0 A1))))
/-- The latent queries' sums of exponentials. -/
def lL (A0 A1 : FVec Ideal S2x4352x6x96 .f32) : FVec Ideal S2x6x4096x1 .f32 := broadcastInDim S2x6x4096x1 ![0, 1, 2] bcast_S2x6x4096_S2x6x4096x1_0_1_2 (Host.reduceAdd (eL A0 A1) (constant S_ .f32 0x00000000#32) reducesTo_S2x6x4096x4352_S2x6x4096_d3 h_S_)
/-- The latent queries' softmax. -/
def pL (A0 A1 : FVec Ideal S2x4352x6x96 .f32) : FVec Ideal S2x6x4096x4352 .f32 := Host.divf (eL A0 A1) (broadcastInDim S2x6x4096x4352 ![0, 1, 2, 3] bcast_S2x6x4096x1_S2x6x4096x4352_0_1_2_3 (lL A0 A1))
/-- The latent queries' attention. -/
def oL (A0 A1 : FVec Ideal S2x4352x6x96 .f32) (A2 : FVec Ideal S2x4352x6x64 .f32) : FVec Ideal S2x4096x6x64 .f32 := transpose S2x4096x6x64 [0, 3, 1, 2] (Host.dotGeneral dot_S2x4352x6x64_S2x6x4096x4352_S2x6x64x4096_1_3_3_2_02_01 none A2 (pL A0 A1)) transposes_S2x6x64x4096_S2x4096x6x64_0_3_1_2
/-- The latent queries' scaled scores, the head after the query. -/
def tL (A0 A1 : FVec Ideal S2x4352x6x96 .f32) : FVec Ideal S2x4096x6x4352 .f32 := mulf (transpose S2x4096x6x4352 [0, 3, 1, 2] (Host.dotGeneral dot_S2x4352x6x96_S2x4096x6x96_S2x6x4352x4096_3_3_1_1_02_02 none A1 (qL A0)) transposes_S2x6x4352x4096_S2x4096x6x4352_0_3_1_2) (broadcastInDim S2x4096x6x4352 ![] bcast_S_S2x4096x6x4352 (constant S_ .f32 0x3DD105EC#32))
/-- Their greatest. -/
def nL (A0 A1 : FVec Ideal S2x4352x6x96 .f32) : FVec Ideal S2x4096x6 .f32 := Host.reduce FloatOps.maximumf (tL A0 A1) (constant S_ .f32 0xFF800000#32) reducesTo_S2x4096x6x4352_S2x4096x6_d3 h_S_
/-- Their exponentials. -/
def fL (A0 A1 : FVec Ideal S2x4352x6x96 .f32) : FVec Ideal S2x4096x6x4352 .f32 := Host.exp (subf (tL A0 A1) (broadcastInDim S2x4096x6x4352 ![0, 1, 2, 3] bcast_S2x4096x6x1_S2x4096x6x4352_0_1_2_3 (broadcastInDim S2x4096x6x1 ![0, 1, 2] bcast_S2x4096x6_S2x4096x6x1_0_1_2 (nL A0 A1))))
/-- Their sums. -/
def hL (A0 A1 : FVec Ideal S2x4352x6x96 .f32) : FVec Ideal S2x4096x6 .f32 := Host.reduceAdd (fL A0 A1) (constant S_ .f32 0x00000000#32) reducesTo_S2x4096x6x4352_S2x4096x6_d3 h_S_
/-- The logarithm of the latent queries' sums of exponentials. -/
def gL (A0 A1 : FVec Ideal S2x4352x6x96 .f32) : FVec Ideal S2x4096x6x1 .f32 := addf (broadcastInDim S2x4096x6x1 ![0, 1, 2] bcast_S2x4096x6_S2x4096x6x1_0_1_2 (nL A0 A1)) (Host.log (broadcastInDim S2x4096x6x1 ![0, 1, 2] bcast_S2x4096x6_S2x4096x6x1_0_1_2 (hL A0 A1)))
/-- The context rows of the queries. -/
def qC (A0 : FVec Ideal S2x4352x6x96 .f32) : FVec Ideal S2x256x6x96 .f32 := extractStridedSlice S2x256x6x96 ![0, 0, 0, 0] A0 slices_S2x4352x6x96_S2x256x6x96_0_0_0_0
/-- The context queries' scaled scores. -/
def sC (A0 A1 : FVec Ideal S2x4352x6x96 .f32) : FVec Ideal S2x6x256x256 .f32 := mulf (Host.dotGeneral dot_S2x256x6x96_S2x256x6x96_S2x6x256x256_3_3_1_1_02_02 none (qC A0) (extractStridedSlice S2x256x6x96 ![0, 0, 0, 0] A1 slices_S2x4352x6x96_S2x256x6x96_0_0_0_0)) (broadcastInDim S2x6x256x256 ![] bcast_S_S2x6x256x256 (constant S_ .f32 0x3DD105EC#32))
/-- The context queries' greatest scores. -/
def mC (A0 A1 : FVec Ideal S2x4352x6x96 .f32) : FVec Ideal S2x6x256 .f32 := maximumf (broadcastInDim S2x6x256 ![] bcast_S_S2x6x256 (constant S_ .f32 0xFF800000#32)) (Host.reduce FloatOps.maximumf (sC A0 A1) (constant S_ .f32 0xFF800000#32) reducesTo_S2x6x256x256_S2x6x256_d3 h_S_)
/-- The context queries' exponentials. -/
def eC (A0 A1 : FVec Ideal S2x4352x6x96 .f32) : FVec Ideal S2x6x256x256 .f32 := Host.exp (subf (sC A0 A1) (broadcastInDim S2x6x256x256 ![0, 1, 2, 3] bcast_S2x6x256x1_S2x6x256x256_0_1_2_3 (broadcastInDim S2x6x256x1 ![0, 1, 2] bcast_S2x6x256_S2x6x256x1_0_1_2 (mC A0 A1))))
/-- The context queries' sums of exponentials. -/
def lC (A0 A1 : FVec Ideal S2x4352x6x96 .f32) : FVec Ideal S2x6x256x1 .f32 := broadcastInDim S2x6x256x1 ![0, 1, 2] bcast_S2x6x256_S2x6x256x1_0_1_2 (Host.reduceAdd (eC A0 A1) (constant S_ .f32 0x00000000#32) reducesTo_S2x6x256x256_S2x6x256_d3 h_S_)
/-- The context queries' softmax. -/
def pC (A0 A1 : FVec Ideal S2x4352x6x96 .f32) : FVec Ideal S2x6x256x256 .f32 := Host.divf (eC A0 A1) (broadcastInDim S2x6x256x256 ![0, 1, 2, 3] bcast_S2x6x256x1_S2x6x256x256_0_1_2_3 (lC A0 A1))
/-- The context queries' attention. -/
def oC (A0 A1 : FVec Ideal S2x4352x6x96 .f32) (A2 : FVec Ideal S2x4352x6x64 .f32) : FVec Ideal S2x256x6x64 .f32 := transpose S2x256x6x64 [0, 3, 1, 2] (Host.dotGeneral dot_S2x256x6x64_S2x6x256x256_S2x6x64x256_1_3_3_2_02_01 none (extractStridedSlice S2x256x6x64 ![0, 0, 0, 0] A2 slices_S2x4352x6x64_S2x256x6x64_0_0_0_0) (pC A0 A1)) transposes_S2x6x64x256_S2x256x6x64_0_3_1_2
/-- The context queries' scaled scores, the head after the query. -/
def tC (A0 A1 : FVec Ideal S2x4352x6x96 .f32) : FVec Ideal S2x256x6x256 .f32 := mulf (transpose S2x256x6x256 [0, 3, 1, 2] (Host.dotGeneral dot_S2x256x6x96_S2x256x6x96_S2x6x256x256_3_3_1_1_02_02 none (extractStridedSlice S2x256x6x96 ![0, 0, 0, 0] A1 slices_S2x4352x6x96_S2x256x6x96_0_0_0_0) (qC A0)) transposes_S2x6x256x256_S2x256x6x256_0_3_1_2) (broadcastInDim S2x256x6x256 ![] bcast_S_S2x256x6x256 (constant S_ .f32 0x3DD105EC#32))
/-- Their greatest. -/
def nC (A0 A1 : FVec Ideal S2x4352x6x96 .f32) : FVec Ideal S2x256x6 .f32 := Host.reduce FloatOps.maximumf (tC A0 A1) (constant S_ .f32 0xFF800000#32) reducesTo_S2x256x6x256_S2x256x6_d3 h_S_
/-- Their exponentials. -/
def fC (A0 A1 : FVec Ideal S2x4352x6x96 .f32) : FVec Ideal S2x256x6x256 .f32 := Host.exp (subf (tC A0 A1) (broadcastInDim S2x256x6x256 ![0, 1, 2, 3] bcast_S2x256x6x1_S2x256x6x256_0_1_2_3 (broadcastInDim S2x256x6x1 ![0, 1, 2] bcast_S2x256x6_S2x256x6x1_0_1_2 (nC A0 A1))))
/-- Their sums. -/
def hC (A0 A1 : FVec Ideal S2x4352x6x96 .f32) : FVec Ideal S2x256x6 .f32 := Host.reduceAdd (fC A0 A1) (constant S_ .f32 0x00000000#32) reducesTo_S2x256x6x256_S2x256x6_d3 h_S_
/-- The logarithm of the context queries' sums of exponentials. -/
def gC (A0 A1 : FVec Ideal S2x4352x6x96 .f32) : FVec Ideal S2x256x6x1 .f32 := addf (broadcastInDim S2x256x6x1 ![0, 1, 2] bcast_S2x256x6_S2x256x6x1_0_1_2 (nC A0 A1)) (Host.log (broadcastInDim S2x256x6x1 ![0, 1, 2] bcast_S2x256x6_S2x256x6x1_0_1_2 (hC A0 A1)))
/-- Rows of 96 lanes to a head, padded to 128. -/
def pad96 (A : FVec Ideal S2x4352x6x96 .f32) : FVec Ideal S8704x768 .f32 := shapeCast S8704x768 (pad S2x4352x6x128 ![0, 0, 0, 0] ![0, 0, 0, 32] ![0, 0, 0, 0] A (sitofp .f32 (constantI S_ 32 0#32)) pads_S2x4352x6x96_S2x4352x6x128_000_000_000_0320 h_S_) shapeCasts_S2x4352x6x128_S8704x768
/-- Rows of 64 lanes to a head, padded to 128. -/
def pad64 (A : FVec Ideal S2x4352x6x64 .f32) : FVec Ideal S8704x768 .f32 := shapeCast S8704x768 (pad S2x4352x6x128 ![0, 0, 0, 0] ![0, 0, 0, 64] ![0, 0, 0, 0] A (sitofp .f32 (constantI S_ 32 0#32)) pads_S2x4352x6x64_S2x4352x6x128_000_000_000_0640 h_S_) shapeCasts_S2x4352x6x128_S8704x768
/-- The kernel's queries. -/
def inQ (A0 : FVec Ideal S2x4352x6x96 .f32) : FVec Ideal S8704x768 .bf16 := truncf .bf16 (mulf (pad96 A0) (broadcastInDim S8704x768 ![] bcast_S_S8704x768 (Host.divf (constant S_ .f32 0x3DD105EC#32) (Host.log (constant S_ .f32 0x40000000#32))))) bitsLt_bf16_f32
/-- The kernel's keys. -/
def inK (A1 : FVec Ideal S2x4352x6x96 .f32) : FVec Ideal S8704x768 .bf16 := truncf .bf16 (pad96 A1) bitsLt_bf16_f32
/-- The kernel's values. -/
def inV (A2 : FVec Ideal S2x4352x6x64 .f32) : FVec Ideal S8704x768 .bf16 := truncf .bf16 (pad64 A2) bitsLt_bf16_f32
/-- The context's and the latents' rows of 64 lanes, one after the other, padded. -/
def catO (a : FVec Ideal S2x256x6x64 .f32) (b : FVec Ideal S2x4096x6x64 .f32) : FVec Ideal S8704x768 .f32 := pad64 (concatenate S2x4352x6x64 1 [⟨S2x256x6x64, a⟩, ⟨S2x4096x6x64, b⟩] concatenates_S2x256x6x64_S2x4096x6x64_S2x4352x6x64_d1)
/-- The context's and the latents' row logarithms, to the base two, on every lane of their head. -/
def catL (a : FVec Ideal S2x256x6x1 .f32) (b : FVec Ideal S2x4096x6x1 .f32) : FVec Ideal S8704x768 .f32 := shapeCast S8704x768 (broadcastInDim S2x4352x6x128 ![0, 1, 2, 3] bcast_S2x4352x6x1_S2x4352x6x128_0_1_2_3 (Host.divf (concatenate S2x4352x6x1 1 [⟨S2x256x6x1, a⟩, ⟨S2x4096x6x1, b⟩] concatenates_S2x256x6x1_S2x4096x6x1_S2x4352x6x1_d1) (broadcastInDim S2x4352x6x1 ![] bcast_S_S2x4352x6x1 (Host.log (constant S_ .f32 0x40000000#32))))) shapeCasts_S2x4352x6x128_S8704x768

section
variable (m : (ℓ : Loc nD τ sig) → Buf (Elt Ideal) ℓ) (c : Dev nD)

set_option maxHeartbeats 4000000 in
/-- The queries when the kernel starts. -/
theorem ent0 : V m c main_v77 = inQ (m (c, Proc.tc.devRef main_arg0)) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

set_option maxHeartbeats 4000000 in
/-- The keys when the kernel starts. -/
theorem ent1 : V m c main_v80 = inK (m (c, Proc.tc.devRef main_arg1)) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

set_option maxHeartbeats 4000000 in
/-- The values when the kernel starts. -/
theorem ent2 : V m c main_v83 = inV (m (c, Proc.tc.devRef main_arg2)) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

set_option maxHeartbeats 4000000 in
/-- The output when the kernel starts. -/
theorem ent3 : V m c main_v85 = catO (oC (m (c, Proc.tc.devRef main_arg0)) (m (c, Proc.tc.devRef main_arg1)) (m (c, Proc.tc.devRef main_arg2))) (oL (m (c, Proc.tc.devRef main_arg0)) (m (c, Proc.tc.devRef main_arg1)) (m (c, Proc.tc.devRef main_arg2))) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  refine congrArg₂ catO ?_ ?_
  · after_results_simp; rfl
  · after_results_simp; rfl

set_option maxHeartbeats 4000000 in
/-- The row logarithms when the kernel starts. -/
theorem ent4 : V m c main_v71 = catL (gC (m (c, Proc.tc.devRef main_arg0)) (m (c, Proc.tc.devRef main_arg1))) (gL (m (c, Proc.tc.devRef main_arg0)) (m (c, Proc.tc.devRef main_arg1))) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  refine congrArg₂ catL ?_ ?_
  · after_results_simp; rfl
  · after_results_simp; rfl

set_option maxHeartbeats 4000000 in
/-- The output gradient when the kernel starts. -/
theorem ent5 : V m c main_v87 = pad64 (m (c, Proc.tc.devRef main_arg3)) := by
  unfold V
  simp only [List.flatten_cons, List.flatten_nil, List.append_nil, StableHlo.after_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

end

end Cert.KernelIdeal.Rows

end
-- ==== Proof.Row.lean ====
module

public import proofs.«01_k».proof.Proof.Soft

@[expose] public section

noncomputable section

namespace Cert.Attn

open Idealize.ShloMosaic

/-- The logarithm of a row's sum of exponentials. -/
def rowLog {n : ℕ} (s : Fin n → ℝ) : ℝ := Real.log (∑ j, Real.exp (s j))

/-- The logarithm of a row's sum of exponentials, taken after a shift. -/
theorem rowLog_shift {n : ℕ} (s : Fin n → ℝ) (M : ℝ) (k : Fin n) : M + Real.log (∑ j, Real.exp (s j - M)) = rowLog s := by
  have h : ∑ j, Real.exp (s j) = Real.exp M * ∑ j, Real.exp (s j - M) := by
    rw [Finset.mul_sum]; exact Finset.sum_congr rfl fun j _ => by rw [← Real.exp_add]; congr 1; ring
  rw [rowLog, h, Real.log_mul (Real.exp_pos _).ne' (sum_exp_pos (fun j => s j - M) k).ne', Real.log_exp]

/-- Likewise on the extended reals. -/
theorem rowLog_ereal {n : ℕ} (s : Fin n → ℝ) (M : ℝ) (k : Fin n) :
    (M : EReal) + Ideal.log ((∑ j, Real.exp (s j - M) : ℝ) : EReal) = ((rowLog s : ℝ) : EReal) := by
  rw [Ideal.log_coe, if_neg (not_le.mpr (sum_exp_pos (fun j => s j - M) k)), ← EReal.coe_add, rowLog_shift s M k]

/-- A power of two whose exponent is a row's score less the row's logarithm, both to the base two, is the row's softmax. -/
theorem soft_exp2 {n : ℕ} (s : Fin n → ℝ) (k : Fin n) :
    Ideal.exp2 (((s k / Real.log 2 - rowLog s / Real.log 2 : ℝ)) : EReal) = ((soft s k : ℝ) : EReal) := by
  rw [Ideal.exp2_coe]
  congr 1
  show (2 : ℝ) ^ (s k / Real.log 2 - rowLog s / Real.log 2) = _
  rw [Real.rpow_def_of_pos (by norm_num)]
  have h : Real.log 2 * (s k / Real.log 2 - rowLog s / Real.log 2) = s k - rowLog s := by
    have := log_two_ne; field_simp
  rw [h, Real.exp_sub, rowLog, Real.exp_log (sum_exp_pos s k), soft]

/-- The head of lane `l` of the pair of heads `p`. -/
abbrev hh (p : Fin 3) (l : Fin 256) : Fin 6 := ⟨2 * p + l / 128, by omega⟩

/-- A pair of heads of a padded array. -/
def lane {n : ℕ} (G : Fin 2 → Fin 4352 → Fin 6 → Fin n → ℝ) (b : Fin 2) (t : Fin 4352) (p : Fin 3) (l : Fin 256) : ℝ :=
  if e : (l : ℕ) % 128 < n then G b t (hh p l) ⟨l % 128, e⟩ else 0

/-- The 128 lanes of a head, summed: only the used ones count. -/
theorem sum_lanes {n k : ℕ} (f : Fin n → ℝ) : (∑ x : Fin (n + k), if e : (x : ℕ) < n then f ⟨x, e⟩ else 0) = ∑ x, f x := by
  rw [Fin.sum_univ_add]
  simp

/-- The attention's output. -/
def att (Q K : Fin 2 → Fin 4352 → Fin 6 → Fin 96 → ℝ) (V : Fin 2 → Fin 4352 → Fin 6 → Fin 64 → ℝ)
    (b : Fin 2) (t : Fin 4352) (h : Fin 6) (d : Fin 64) : ℝ :=
  if (t : ℕ) < 256 then ∑ k, V b (ctx k) h d * soft (score Q K b h t ctx) k
  else ∑ k, V b (tok k) h d * soft (score Q K b h t tok) k

/-- The rows' logarithms of their sums of exponentials. -/
def logs (Q K : Fin 2 → Fin 4352 → Fin 6 → Fin 96 → ℝ) (b : Fin 2) (t : Fin 4352) (h : Fin 6) : ℝ :=
  if (t : ℕ) < 256 then rowLog (score Q K b h t ctx) else rowLog (score Q K b h t tok)

/-- The output's product with its gradient is the softmax's with its own. -/
theorem dot_att {n : ℕ} (p : Fin n → ℝ) (V : Fin n → Fin 64 → ℝ) (D : Fin 64 → ℝ) :
    (∑ x, D x * ∑ k, V k x * p k) = ∑ k, p k * ∑ x, D x * V k x := by
  simp only [Finset.mul_sum]
  rw [Finset.sum_comm]
  exact Finset.sum_congr rfl fun k _ => Finset.sum_congr rfl fun x _ => by ring

end Cert.Attn

end
-- ==== Proof.KerRows.lean ====
module

public import proofs.«01_k».proof.Proof.KerStages
public import proofs.«01_k».proof.Proof.Row

@[expose] public section

set_option maxRecDepth 16384

noncomputable section

namespace Cert.KernelIdeal.Rows

open Cert.KernelIdeal Cert.KernelIdeal.Gen Idealize.ShloMosaic Idealize.ShloMosaic.TcCoe Idealize.SL.Sem Cert.Attn

section
variable (A0 A1 : FVec Ideal S2x4352x6x96 .f32) (A2 A3 : FVec Ideal S2x4352x6x64 .f32)
  (Q K : Fin 2 → Fin 4352 → Fin 6 → Fin 96 → ℝ) (V D : Fin 2 → Fin 4352 → Fin 6 → Fin 64 → ℝ)
  (hQ : ∀ b t h d, A0 (ix4 b t h d) = (Q b t h d : EReal)) (hK : ∀ b t h d, A1 (ix4 b t h d) = (K b t h d : EReal))
  (hV : ∀ b t h d, A2 (ix4 b t h d) = (V b t h d : EReal)) (hD : ∀ b t h d, A3 (ix4 b t h d) = (D b t h d : EReal))

include hQ hK in
/-- A latent query's scaled score is the real one. -/
theorem sL_at (b : Fin 2) (h : Fin 6) (t : Fin 4096) (k : Fin 4352) : sL A0 A1 (ix4 b h t k) = ((score Q K b h (lat t) tok) k : EReal) := by
  pointwise [sL, qL]
  simp only [hQ, hK, ofBits_scale, ← EReal.coe_mul, ← coe_sum]
  rfl

include hQ hK in
/-- A latent query's greatest score is a real. -/
theorem mL_at (b : Fin 2) (h : Fin 6) (t : Fin 4096) : ∃ M : ℝ, mL A0 A1 (ix3 b h t) = (M : EReal) := by
  unfold mL
  exact host_max_real_bot reducesTo_S2x6x4096x4352_S2x6x4096_d3 (sL A0 A1)
    (fun i => by rw [eq_ix4 i]; exact ⟨_, sL_at A0 A1 Q K hQ hK (i 0) (i 1) (i 2) (i 3)⟩)
    (constant S_ .f32 0xFF800000#32) (fun _ => ofBits_bot) h_S_ (by decide)
    (broadcastInDim S2x6x4096 ![] bcast_S_S2x6x4096 (constant S_ .f32 0xFF800000#32)) (fun _ => ofBits_bot) (ix3 b h t)

include hQ hK in
/-- A latent query's exponentials and their sum, with the shift that was taken. -/
theorem rowL (b : Fin 2) (h : Fin 6) (t : Fin 4096) : ∃ M : ℝ,
    (∀ k, eL A0 A1 (ix4 b h t k) = ((Real.exp ((score Q K b h (lat t) tok) k - M) : ℝ) : EReal))
    ∧ lL A0 A1 (ix4 b h t 0) = ((∑ k, Real.exp ((score Q K b h (lat t) tok) k - M) : ℝ) : EReal) := by
  obtain ⟨M, hM⟩ := mL_at A0 A1 Q K hQ hK b h t
  have he : ∀ k, eL A0 A1 (ix4 b h t k) = ((Real.exp ((score Q K b h (lat t) tok) k - M) : ℝ) : EReal) := fun k => by
    pointwise [eL]
    rw [hM, sL_at A0 A1 Q K hQ hK, exp_shift]
  refine ⟨M, he, ?_⟩
  pointwise [lL]
  simp only [he, ← coe_sum]

include hQ hK hV in
/-- A latent query's attention is the real one. -/
theorem oL_at (b : Fin 2) (t : Fin 4096) (h : Fin 6) (d : Fin 64) : oL A0 A1 A2 (ix4 b t h d)
    = ((∑ k, V b (tok k) h d * soft (score Q K b h (lat t) tok) k : ℝ) : EReal) := by
  have hp : ∀ k : Fin 4352, Ideal.div (eL A0 A1 (ix4 b h t k)) (lL A0 A1 (ix4 b h t 0)) = ((soft (score Q K b h (lat t) tok) k : ℝ) : EReal) := fun k => by
    obtain ⟨M, he, hl⟩ := rowL A0 A1 Q K hQ hK b h t
    rw [he, hl, soft_ereal]
  pointwise [oL, pL]
  simp only [hp, hV, ← EReal.coe_mul, ← coe_sum]

include hQ hK in
/-- A latent query's scaled score, the head after the query. -/
theorem tL_at (b : Fin 2) (t : Fin 4096) (h : Fin 6) (k : Fin 4352) : tL A0 A1 (ix4 b t h k) = ((score Q K b h (lat t) tok) k : EReal) := by
  pointwise [tL, qL]
  simp only [hQ, hK, ofBits_scale, ← EReal.coe_mul, ← coe_sum]
  congr 1
  exact congrArg (· * scale) (Finset.sum_congr rfl fun x _ => mul_comm _ _)

include hQ hK in
/-- A latent query's greatest score, the head after the query, is a real. -/
theorem nL_at (b : Fin 2) (t : Fin 4096) (h : Fin 6) : ∃ M : ℝ, nL A0 A1 (ix3 b t h) = (M : EReal) := by
  unfold nL
  exact host_max_real reducesTo_S2x4096x6x4352_S2x4096x6_d3 (tL A0 A1)
    (fun i => by rw [eq_ix4 i]; exact ⟨_, tL_at A0 A1 Q K hQ hK (i 0) (i 1) (i 2) (i 3)⟩)
    (constant S_ .f32 0xFF800000#32) (fun _ => ofBits_bot) h_S_ (by decide) (ix3 b t h)

include hQ hK in
/-- A latent query's exponentials, the head after the query. -/
theorem fL_at (b : Fin 2) (t : Fin 4096) (h : Fin 6) (k : Fin 4352) (M : ℝ) (hM : nL A0 A1 (ix3 b t h) = (M : EReal)) :
    fL A0 A1 (ix4 b t h k) = ((Real.exp ((score Q K b h (lat t) tok) k - M) : ℝ) : EReal) := by
  have hr : fL A0 A1 (ix4 b t h k) = Ideal.exp (tL A0 A1 (ix4 b t h k) - nL A0 A1 (ix3 b t h)) := by
    pointwise [fL]
  rw [hr, hM, tL_at A0 A1 Q K hQ hK, exp_shift]

include hQ hK in
/-- A latent query's sum of exponentials, the head after the query. -/
theorem hL_at (b : Fin 2) (t : Fin 4096) (h : Fin 6) (M : ℝ) (hM : nL A0 A1 (ix3 b t h) = (M : EReal)) :
    hL A0 A1 (ix3 b t h) = ((∑ k, Real.exp ((score Q K b h (lat t) tok) k - M) : ℝ) : EReal) := by
  have hr : hL A0 A1 (ix3 b t h) = ∑ k, fL A0 A1 (ix4 b t h k) := by
    pointwise [hL]
  rw [hr, coe_sum]
  exact Finset.sum_congr rfl fun k _ => fL_at A0 A1 Q K hQ hK b t h k M hM

/-- A row's logarithm, of what was subtracted and of the sum, at an entry. -/
theorem logL_read (x y : FVec Ideal S2x4096x6 .f32) (b : Fin 2) (t : Fin 4096) (h : Fin 6) :
    addf (broadcastInDim S2x4096x6x1 ![0, 1, 2] bcast_S2x4096x6_S2x4096x6x1_0_1_2 x) (Host.log (broadcastInDim S2x4096x6x1 ![0, 1, 2] bcast_S2x4096x6_S2x4096x6x1_0_1_2 y)) (ix4 b t h 0)
      = x (ix3 b t h) + Ideal.log (y (ix3 b t h)) := by
  pointwise []

include hQ hK in
/-- The logarithm of a latent query's sum of exponentials. -/
theorem gL_at (b : Fin 2) (t : Fin 4096) (h : Fin 6) : gL A0 A1 (ix4 b t h 0) = ((rowLog (score Q K b h (lat t) tok) : ℝ) : EReal) := by
  obtain ⟨M, hM⟩ := nL_at A0 A1 Q K hQ hK b t h
  have hr : gL A0 A1 (ix4 b t h 0) = nL A0 A1 (ix3 b t h) + Ideal.log (hL A0 A1 (ix3 b t h)) := by
    unfold gL
    exact logL_read (nL A0 A1) (hL A0 A1) b t h
  rw [hr, hM, hL_at A0 A1 Q K hQ hK b t h M hM]
  exact rowLog_ereal _ M ⟨0, by decide⟩

include hQ hK in
/-- A context query's scaled score is the real one. -/
theorem sC_at (b : Fin 2) (h : Fin 6) (t : Fin 256) (k : Fin 256) : sC A0 A1 (ix4 b h t k) = ((score Q K b h (ctx t) ctx) k : EReal) := by
  pointwise [sC, qC]
  simp only [hQ, hK, ofBits_scale, ← EReal.coe_mul, ← coe_sum]
  rfl

include hQ hK in
/-- A context query's greatest score is a real. -/
theorem mC_at (b : Fin 2) (h : Fin 6) (t : Fin 256) : ∃ M : ℝ, mC A0 A1 (ix3 b h t) = (M : EReal) := by
  unfold mC
  exact host_max_real_bot reducesTo_S2x6x256x256_S2x6x256_d3 (sC A0 A1)
    (fun i => by rw [eq_ix4 i]; exact ⟨_, sC_at A0 A1 Q K hQ hK (i 0) (i 1) (i 2) (i 3)⟩)
    (constant S_ .f32 0xFF800000#32) (fun _ => ofBits_bot) h_S_ (by decide)
    (broadcastInDim S2x6x256 ![] bcast_S_S2x6x256 (constant S_ .f32 0xFF800000#32)) (fun _ => ofBits_bot) (ix3 b h t)

include hQ hK in
/-- A context query's exponentials and their sum, with the shift that was taken. -/
theorem rowC (b : Fin 2) (h : Fin 6) (t : Fin 256) : ∃ M : ℝ,
    (∀ k, eC A0 A1 (ix4 b h t k) = ((Real.exp ((score Q K b h (ctx t) ctx) k - M) : ℝ) : EReal))
    ∧ lC A0 A1 (ix4 b h t 0) = ((∑ k, Real.exp ((score Q K b h (ctx t) ctx) k - M) : ℝ) : EReal) := by
  obtain ⟨M, hM⟩ := mC_at A0 A1 Q K hQ hK b h t
  have he : ∀ k, eC A0 A1 (ix4 b h t k) = ((Real.exp ((score Q K b h (ctx t) ctx) k - M) : ℝ) : EReal) := fun k => by
    pointwise [eC]
    rw [hM, sC_at A0 A1 Q K hQ hK, exp_shift]
  refine ⟨M, he, ?_⟩
  pointwise [lC]
  simp only [he, ← coe_sum]

include hQ hK hV in
/-- A context query's attention is the real one. -/
theorem oC_at (b : Fin 2) (t : Fin 256) (h : Fin 6) (d : Fin 64) : oC A0 A1 A2 (ix4 b t h d)
    = ((∑ k, V b (ctx k) h d * soft (score Q K b h (ctx t) ctx) k : ℝ) : EReal) := by
  have hp : ∀ k : Fin 256, Ideal.div (eC A0 A1 (ix4 b h t k)) (lC A0 A1 (ix4 b h t 0)) = ((soft (score Q K b h (ctx t) ctx) k : ℝ) : EReal) := fun k => by
    obtain ⟨M, he, hl⟩ := rowC A0 A1 Q K hQ hK b h t
    rw [he, hl, soft_ereal]
  pointwise [oC, pC]
  simp only [hp, hV, ← EReal.coe_mul, ← coe_sum]

include hQ hK in
/-- A context query's scaled score, the head after the query. -/
theorem tC_at (b : Fin 2) (t : Fin 256) (h : Fin 6) (k : Fin 256) : tC A0 A1 (ix4 b t h k) = ((score Q K b h (ctx t) ctx) k : EReal) := by
  pointwise [tC, qC]
  simp only [hQ, hK, ofBits_scale, ← EReal.coe_mul, ← coe_sum]
  congr 1
  exact congrArg (· * scale) (Finset.sum_congr rfl fun x _ => mul_comm _ _)

include hQ hK in
/-- A context query's greatest score, the head after the query, is a real. -/
theorem nC_at (b : Fin 2) (t : Fin 256) (h : Fin 6) : ∃ M : ℝ, nC A0 A1 (ix3 b t h) = (M : EReal) := by
  unfold nC
  exact host_max_real reducesTo_S2x256x6x256_S2x256x6_d3 (tC A0 A1)
    (fun i => by rw [eq_ix4 i]; exact ⟨_, tC_at A0 A1 Q K hQ hK (i 0) (i 1) (i 2) (i 3)⟩)
    (constant S_ .f32 0xFF800000#32) (fun _ => ofBits_bot) h_S_ (by decide) (ix3 b t h)

include hQ hK in
/-- A context query's exponentials, the head after the query. -/
theorem fC_at (b : Fin 2) (t : Fin 256) (h : Fin 6) (k : Fin 256) (M : ℝ) (hM : nC A0 A1 (ix3 b t h) = (M : EReal)) :
    fC A0 A1 (ix4 b t h k) = ((Real.exp ((score Q K b h (ctx t) ctx) k - M) : ℝ) : EReal) := by
  have hr : fC A0 A1 (ix4 b t h k) = Ideal.exp (tC A0 A1 (ix4 b t h k) - nC A0 A1 (ix3 b t h)) := by
    pointwise [fC]
  rw [hr, hM, tC_at A0 A1 Q K hQ hK, exp_shift]

include hQ hK in
/-- A context query's sum of exponentials, the head after the query. -/
theorem hC_at (b : Fin 2) (t : Fin 256) (h : Fin 6) (M : ℝ) (hM : nC A0 A1 (ix3 b t h) = (M : EReal)) :
    hC A0 A1 (ix3 b t h) = ((∑ k, Real.exp ((score Q K b h (ctx t) ctx) k - M) : ℝ) : EReal) := by
  have hr : hC A0 A1 (ix3 b t h) = ∑ k, fC A0 A1 (ix4 b t h k) := by
    pointwise [hC]
  rw [hr, coe_sum]
  exact Finset.sum_congr rfl fun k _ => fC_at A0 A1 Q K hQ hK b t h k M hM

/-- A row's logarithm, of what was subtracted and of the sum, at an entry. -/
theorem logC_read (x y : FVec Ideal S2x256x6 .f32) (b : Fin 2) (t : Fin 256) (h : Fin 6) :
    addf (broadcastInDim S2x256x6x1 ![0, 1, 2] bcast_S2x256x6_S2x256x6x1_0_1_2 x) (Host.log (broadcastInDim S2x256x6x1 ![0, 1, 2] bcast_S2x256x6_S2x256x6x1_0_1_2 y)) (ix4 b t h 0)
      = x (ix3 b t h) + Ideal.log (y (ix3 b t h)) := by
  pointwise []

include hQ hK in
/-- The logarithm of a context query's sum of exponentials. -/
theorem gC_at (b : Fin 2) (t : Fin 256) (h : Fin 6) : gC A0 A1 (ix4 b t h 0) = ((rowLog (score Q K b h (ctx t) ctx) : ℝ) : EReal) := by
  obtain ⟨M, hM⟩ := nC_at A0 A1 Q K hQ hK b t h
  have hr : gC A0 A1 (ix4 b t h 0) = nC A0 A1 (ix3 b t h) + Ideal.log (hC A0 A1 (ix3 b t h)) := by
    unfold gC
    exact logC_read (nC A0 A1) (hC A0 A1) b t h
  rw [hr, hM, hC_at A0 A1 Q K hQ hK b t h M hM]
  exact rowLog_ereal _ M ⟨0, by decide⟩

end

/-- Padded rows of 96 lanes to a head. -/
theorem pad96_at (A : FVec Ideal S2x4352x6x96 .f32) (G : Fin 2 → Fin 4352 → Fin 6 → Fin 96 → ℝ) (hG : ∀ b t h d, A (ix4 b t h d) = (G b t h d : EReal))
    (r : Fin 8704) (l : Fin 768) : pad96 A (ix2 r l) = ((lanes G r l : ℝ) : EReal) := by
  pointwise [pad96]
  have h1 : (r : ℕ) / 4352 < 2 := by omega
  have h2 : (r : ℕ) % 4352 < 4352 := by omega
  have h3 : (l : ℕ) / 128 < 6 := by omega
  have h0 : (FloatOps.sitofp (F := Ideal) .f32 (0#32 : BitVec 32)) = ((0 : ℝ) : EReal) := by simp [FloatOps.sitofp]
  simp only [h1, h2, h3, true_and, h0, lanes]
  by_cases e : (l : ℕ) % 128 < 96
  · simp only [e, and_true, dite_true, hG]
  · simp only [e, and_false, dite_false]

/-- Padded rows of 64 lanes to a head. -/
theorem pad64_at (A : FVec Ideal S2x4352x6x64 .f32) (G : Fin 2 → Fin 4352 → Fin 6 → Fin 64 → ℝ) (hG : ∀ b t h d, A (ix4 b t h d) = (G b t h d : EReal))
    (r : Fin 8704) (l : Fin 768) : pad64 A (ix2 r l) = ((lanes G r l : ℝ) : EReal) := by
  pointwise [pad64]
  have h1 : (r : ℕ) / 4352 < 2 := by omega
  have h2 : (r : ℕ) % 4352 < 4352 := by omega
  have h3 : (l : ℕ) / 128 < 6 := by omega
  have h0 : (FloatOps.sitofp (F := Ideal) .f32 (0#32 : BitVec 32)) = ((0 : ℝ) : EReal) := by simp [FloatOps.sitofp]
  simp only [h1, h2, h3, true_and, h0, lanes]
  by_cases e : (l : ℕ) % 128 < 64
  · simp only [e, and_true, dite_true, hG]
  · simp only [e, and_false, dite_false]

section
variable (A0 A1 : FVec Ideal S2x4352x6x96 .f32) (A2 A3 : FVec Ideal S2x4352x6x64 .f32)
  (Q K : Fin 2 → Fin 4352 → Fin 6 → Fin 96 → ℝ) (V D : Fin 2 → Fin 4352 → Fin 6 → Fin 64 → ℝ)
  (hQ : ∀ b t h d, A0 (ix4 b t h d) = (Q b t h d : EReal)) (hK : ∀ b t h d, A1 (ix4 b t h d) = (K b t h d : EReal))
  (hV : ∀ b t h d, A2 (ix4 b t h d) = (V b t h d : EReal)) (hD : ∀ b t h d, A3 (ix4 b t h d) = (D b t h d : EReal))

include hQ in
/-- The kernel's queries are the real ones, scaled to the base two. -/
theorem inQ_at (r : Fin 8704) (l : Fin 768) : inQ A0 (ix2 r l) = ((lanes Q r l * (scale / Real.log 2) : ℝ) : EReal) := by
  pointwise [inQ]
  rw [pad96_at A0 Q hQ, ofBits_scale, log_two, div_real _ _ log_two_ne, ← EReal.coe_mul]

include hQ hK hV in
/-- The forward's output is the real one. -/
theorem inO_at (r : Fin 8704) (l : Fin 768) : catO (oC A0 A1 A2) (oL A0 A1 A2) (ix2 r l) = ((lanes (att Q K V) r l : ℝ) : EReal) := by
  unfold catO
  refine pad64_at _ (att Q K V) (fun b t h d => ?_) r l
  unfold att
  by_cases u : (t : ℕ) < 256
  · rw [if_pos u]
    obtain ⟨t, ht⟩ := t
    pointwise []
    simp only [u, dite_true]
    exact oC_at A0 A1 A2 Q K V hQ hK hV b ⟨t, u⟩ h d
  · rw [if_neg u]
    have u'' : (t : ℕ) - 256 < 4096 := by omega
    have ut : lat ⟨(t : ℕ) - 256, u''⟩ = t := Fin.ext (by show 256 + ((t : ℕ) - 256) = (t : ℕ); omega)
    pointwise []
    simp only [u, dite_false]
    have := oL_at A0 A1 A2 Q K V hQ hK hV b ⟨(t : ℕ) - 256, u''⟩ h d
    rw [ut] at this
    exact this

include hQ hK in
/-- The rows' logarithms are the real ones, to the base two. -/
theorem inL_at (r : Fin 8704) (l : Fin 768) : catL (gC A0 A1) (gL A0 A1) (ix2 r l)
    = ((logs Q K ⟨r / 4352, by omega⟩ ⟨r % 4352, by omega⟩ ⟨l / 128, by omega⟩ / Real.log 2 : ℝ) : EReal) := by
  pointwise [catL]
  rw [log_two]
  unfold logs
  by_cases u : (r : ℕ) % 4352 < 256
  · simp only [u, dite_true, if_true]
    erw [gC_at A0 A1 Q K hQ hK]
    exact div_real _ _ log_two_ne
  · have u'' : (r : ℕ) % 4352 - 256 < 4096 := by omega
    have ut : lat ⟨(r : ℕ) % 4352 - 256, u''⟩ = ⟨(r : ℕ) % 4352, by omega⟩ := Fin.ext (by show 256 + ((r : ℕ) % 4352 - 256) = (r : ℕ) % 4352; omega)
    simp only [u, dite_false, if_false]
    have := gL_at A0 A1 Q K hQ hK ⟨r / 4352, by omega⟩ ⟨(r : ℕ) % 4352 - 256, u''⟩ ⟨l / 128, by omega⟩
    rw [ut] at this
    rw [← div_real _ _ log_two_ne, ← this]

end

end Cert.KernelIdeal.Rows

end
-- ==== Proof.Reads.lean ====
module

public import proofs.«01_k».proof.Proof.KerRows
public import Idealize.ShloMosaic.Lib.Pipeline.ValueKit

@[expose] public section

set_option maxRecDepth 16384

noncomputable section

namespace Cert.KernelIdeal.Reads

open Cert.KernelIdeal Cert.KernelIdeal.Gen Idealize.ShloMosaic Idealize.ShloMosaic.TcCoe Idealize.SL.Sem Cert.Attn

/-- The windows' block indices. -/
theorem idx : ∀ t : Fin cfg0.N,
    win0_0.index t = ![t.val / 51 * 17 + t.val % 17, t.val / 17 % 3] ∧ win0_1.index t = ![t.val / 51, t.val / 17 % 3]
    ∧ win0_2.index t = ![t.val / 51, t.val / 17 % 3] ∧ win0_3.index t = ![t.val / 51 * 17 + t.val % 17, t.val / 17 % 3]
    ∧ win0_4.index t = ![t.val / 51 * 17 + t.val % 17, t.val / 17 % 3] ∧ win0_5.index t = ![t.val / 51 * 17 + t.val % 17, t.val / 17 % 3]
    ∧ win0_6.index t = ![t.val / 51 * 17 + t.val % 17, t.val / 17 % 3] ∧ win0_7.index t = ![t.val / 51, t.val / 17 % 3]
    ∧ win0_8.index t = ![t.val / 51, t.val / 17 % 3] ∧ t.val < 102 :=
  (by decide +kernel : ∀ t : Fin grid0.N, _)

/-- The token of row `r` of the block of queries `i`. -/
abbrev tq (i : Fin 17) (r : Fin 256) : Fin 4352 := ⟨256 * i + r, by omega⟩

/-- The row of token `t` of the batch entry `b`. -/
abbrev rowOf (b : Fin 2) (t : Fin 4352) : Fin 8704 := ⟨4352 * b + t, by omega⟩

/-- The lane `l` of the pair of heads `p`. -/
abbrev laneOf (p : Fin 3) (l : Fin 256) : Fin 768 := ⟨256 * p + l, by omega⟩

/-- A padded array at a row and a lane. -/
theorem lanes_lane {n : ℕ} (G : Fin 2 → Fin 4352 → Fin 6 → Fin n → ℝ) (b : Fin 2) (t : Fin 4352) (p : Fin 3) (l : Fin 256) :
    lanes G (rowOf b t) (laneOf p l) = lane G b t p l := by
  unfold lanes lane
  have e0 : (⟨(rowOf b t : ℕ) / 4352, by omega⟩ : Fin 2) = b := Fin.ext (by show (4352 * (b : ℕ) + t) / 4352 = b; omega)
  have e1 : (⟨(rowOf b t : ℕ) % 4352, by omega⟩ : Fin 4352) = t := Fin.ext (by show (4352 * (b : ℕ) + t) % 4352 = t; omega)
  have e2 : (⟨(laneOf p l : ℕ) / 128, by omega⟩ : Fin 6) = hh p l := Fin.ext (by show (256 * (p : ℕ) + l) / 128 = 2 * p + l / 128; omega)
  have e3 : (laneOf p l : ℕ) % 128 = (l : ℕ) % 128 := by show (256 * (p : ℕ) + l) % 128 = _; omega
  rw [e0, e1, e2]
  simp only [e3]

variable (m : (ℓ : Loc nD τ sig) → Buf (Elt Ideal) ℓ) (c : Dev nD)

/-- Where block 0 sits. -/
theorem emb0 (t : Fin cfg0.N) (b : Fin 2) (p : Fin 3) (i : Fin 17) (ht : t.val = (b * 3 + p) * 17 + i) (r : Fin 256) (l : Fin 256) :
    ((cfg0.win 0).blk t).view.emb (ix2 r l) = ix2 (rowOf b (tq i r)) (laneOf p l) := by
  have h0 : t.val / 51 = b := by omega
  have h1 : t.val % 17 = i := by omega
  have h2 : t.val / 17 % 3 = p := by omega
  blk_ext [idx t, h0, h1, h2]

/-- Where block 3 sits. -/
theorem emb3 (t : Fin cfg0.N) (b : Fin 2) (p : Fin 3) (i : Fin 17) (ht : t.val = (b * 3 + p) * 17 + i) (r : Fin 256) (l : Fin 256) :
    ((cfg0.win 3).blk t).view.emb (ix2 r l) = ix2 (rowOf b (tq i r)) (laneOf p l) := by
  have h0 : t.val / 51 = b := by omega
  have h1 : t.val % 17 = i := by omega
  have h2 : t.val / 17 % 3 = p := by omega
  blk_ext [idx t, h0, h1, h2]

/-- Where block 4 sits. -/
theorem emb4 (t : Fin cfg0.N) (b : Fin 2) (p : Fin 3) (i : Fin 17) (ht : t.val = (b * 3 + p) * 17 + i) (r : Fin 256) (l : Fin 256) :
    ((cfg0.win 4).blk t).view.emb (ix2 r l) = ix2 (rowOf b (tq i r)) (laneOf p l) := by
  have h0 : t.val / 51 = b := by omega
  have h1 : t.val % 17 = i := by omega
  have h2 : t.val / 17 % 3 = p := by omega
  blk_ext [idx t, h0, h1, h2]

/-- Where block 5 sits. -/
theorem emb5 (t : Fin cfg0.N) (b : Fin 2) (p : Fin 3) (i : Fin 17) (ht : t.val = (b * 3 + p) * 17 + i) (r : Fin 256) (l : Fin 256) :
    ((cfg0.win 5).blk t).view.emb (ix2 r l) = ix2 (rowOf b (tq i r)) (laneOf p l) := by
  have h0 : t.val / 51 = b := by omega
  have h1 : t.val % 17 = i := by omega
  have h2 : t.val / 17 % 3 = p := by omega
  blk_ext [idx t, h0, h1, h2]

/-- Where block 6 sits. -/
theorem emb6 (t : Fin cfg0.N) (b : Fin 2) (p : Fin 3) (i : Fin 17) (ht : t.val = (b * 3 + p) * 17 + i) (r : Fin 256) (l : Fin 256) :
    ((cfg0.win 6).blk t).view.emb (ix2 r l) = ix2 (rowOf b (tq i r)) (laneOf p l) := by
  have h0 : t.val / 51 = b := by omega
  have h1 : t.val % 17 = i := by omega
  have h2 : t.val / 17 % 3 = p := by omega
  blk_ext [idx t, h0, h1, h2]

/-- Where block 1 sits. -/
theorem emb1 (t : Fin cfg0.N) (b : Fin 2) (p : Fin 3) (i : Fin 17) (ht : t.val = (b * 3 + p) * 17 + i) (r : Fin 4352) (l : Fin 256) :
    ((cfg0.win 1).blk t).view.emb (ix2 r l) = ix2 (rowOf b r) (laneOf p l) := by
  have h0 : t.val / 51 = b := by omega
  have h2 : t.val / 17 % 3 = p := by omega
  blk_ext [idx t, h0, h2]

/-- Where block 2 sits. -/
theorem emb2 (t : Fin cfg0.N) (b : Fin 2) (p : Fin 3) (i : Fin 17) (ht : t.val = (b * 3 + p) * 17 + i) (r : Fin 4352) (l : Fin 256) :
    ((cfg0.win 2).blk t).view.emb (ix2 r l) = ix2 (rowOf b r) (laneOf p l) := by
  have h0 : t.val / 51 = b := by omega
  have h2 : t.val / 17 % 3 = p := by omega
  blk_ext [idx t, h0, h2]

/-- Where block 7 sits. -/
theorem emb7 (t : Fin cfg0.N) (b : Fin 2) (p : Fin 3) (i : Fin 17) (ht : t.val = (b * 3 + p) * 17 + i) (r : Fin 4352) (l : Fin 256) :
    ((cfg0.win 7).blk t).view.emb (ix2 r l) = ix2 (rowOf b r) (laneOf p l) := by
  have h0 : t.val / 51 = b := by omega
  have h2 : t.val / 17 % 3 = p := by omega
  blk_ext [idx t, h0, h2]

/-- Where block 8 sits. -/
theorem emb8 (t : Fin cfg0.N) (b : Fin 2) (p : Fin 3) (i : Fin 17) (ht : t.val = (b * 3 + p) * 17 + i) (r : Fin 4352) (l : Fin 256) :
    ((cfg0.win 8).blk t).view.emb (ix2 r l) = ix2 (rowOf b r) (laneOf p l) := by
  have h0 : t.val / 51 = b := by omega
  have h2 : t.val / 17 % 3 = p := by omega
  blk_ext [idx t, h0, h2]

section
variable (Q K : Fin 2 → Fin 4352 → Fin 6 → Fin 96 → ℝ) (V' D : Fin 2 → Fin 4352 → Fin 6 → Fin 64 → ℝ)
  (hQ : ∀ b t h d, (show FVec Ideal S2x4352x6x96 .f32 from m (c, Proc.tc.devRef main_arg0)) (ix4 b t h d) = (Q b t h d : EReal))
  (hK : ∀ b t h d, (show FVec Ideal S2x4352x6x96 .f32 from m (c, Proc.tc.devRef main_arg1)) (ix4 b t h d) = (K b t h d : EReal))
  (hV : ∀ b t h d, (show FVec Ideal S2x4352x6x64 .f32 from m (c, Proc.tc.devRef main_arg2)) (ix4 b t h d) = (V' b t h d : EReal))
  (hD : ∀ b t h d, (show FVec Ideal S2x4352x6x64 .f32 from m (c, Proc.tc.devRef main_arg3)) (ix4 b t h d) = (D b t h d : EReal))
  (t : Fin cfg0.N) (b : Fin 2) (p : Fin 3) (i : Fin 17) (ht : t.val = (b * 3 + p) * 17 + i)

include hQ ht in
/-- A block of queries. -/
theorem rd0 (r l : Fin 256) : (show FVec Ideal S256x256 .bf16 from iblk m c 0 t) (ix2 r l)
    = ((lane Q b (tq i r) p l * (scale / Real.log 2) : ℝ) : EReal) := by
  show V m c main_v77 (((cfg0.win 0).blk t).view.emb (ix2 r l)) = _
  rw [emb0 t b p i ht, Rows.ent0, ← lanes_lane]
  exact Rows.inQ_at _ Q hQ _ _

include hK ht in
/-- A batch entry's keys. -/
theorem rd1 (r : Fin 4352) (l : Fin 256) : (show FVec Ideal S4352x256 .bf16 from iblk m c 1 t) (ix2 r l) = ((lane K b r p l : ℝ) : EReal) := by
  show V m c main_v80 (((cfg0.win 1).blk t).view.emb (ix2 r l)) = _
  rw [emb1 t b p i ht, Rows.ent1, ← lanes_lane]
  exact Rows.pad96_at _ K hK _ _

include hV ht in
/-- A batch entry's values. -/
theorem rd2 (r : Fin 4352) (l : Fin 256) : (show FVec Ideal S4352x256 .bf16 from iblk m c 2 t) (ix2 r l) = ((lane V' b r p l : ℝ) : EReal) := by
  show V m c main_v83 (((cfg0.win 2).blk t).view.emb (ix2 r l)) = _
  rw [emb2 t b p i ht, Rows.ent2, ← lanes_lane]
  exact Rows.pad64_at _ V' hV _ _

include hQ hK hV ht in
/-- A block of the forward's output. -/
theorem rd3 (r l : Fin 256) : (show FVec Ideal S256x256 .f32 from iblk m c 3 t) (ix2 r l) = ((lane (att Q K V') b (tq i r) p l : ℝ) : EReal) := by
  show V m c main_v85 (((cfg0.win 3).blk t).view.emb (ix2 r l)) = _
  rw [emb3 t b p i ht, Rows.ent3, ← lanes_lane]
  exact Rows.inO_at _ _ _ Q K V' hQ hK hV _ _

include hQ hK ht in
/-- A block of the rows' logarithms. -/
theorem rd4 (r l : Fin 256) : (show FVec Ideal S256x256 .f32 from iblk m c 4 t) (ix2 r l)
    = ((logs Q K b (tq i r) (hh p l) / Real.log 2 : ℝ) : EReal) := by
  show V m c main_v71 (((cfg0.win 4).blk t).view.emb (ix2 r l)) = _
  rw [emb4 t b p i ht, Rows.ent4, Rows.inL_at _ _ Q K hQ hK]
  have e0 : (⟨(rowOf b (tq i r) : ℕ) / 4352, by omega⟩ : Fin 2) = b := Fin.ext (by show (4352 * (b : ℕ) + (256 * i + r)) / 4352 = b; omega)
  have e1 : (⟨(rowOf b (tq i r) : ℕ) % 4352, by omega⟩ : Fin 4352) = tq i r := Fin.ext (by show (4352 * (b : ℕ) + (256 * i + r)) % 4352 = 256 * i + r; omega)
  have e2 : (⟨(laneOf p l : ℕ) / 128, by omega⟩ : Fin 6) = hh p l := Fin.ext (by show (256 * (p : ℕ) + l) / 128 = 2 * p + l / 128; omega)
  rw [e0, e1, e2]

include hD ht in
/-- A block of the output gradient. -/
theorem rd5 (r l : Fin 256) : (show FVec Ideal S256x256 .f32 from iblk m c 5 t) (ix2 r l) = ((lane D b (tq i r) p l : ℝ) : EReal) := by
  show V m c main_v87 (((cfg0.win 5).blk t).view.emb (ix2 r l)) = _
  rw [emb5 t b p i ht, Rows.ent5, ← lanes_lane]
  exact Rows.pad64_at _ D hD _ _

end

end Cert.KernelIdeal.Reads

end
-- ==== Proof.BlockReal.lean ====
module

public import proofs.«01_k».proof.Proof.Blocks
public import proofs.«01_k».proof.Proof.Row

@[expose] public section

set_option maxRecDepth 16384

noncomputable section

namespace Cert.KernelIdeal.BlockReal

open Cert.KernelIdeal Cert.KernelIdeal.Gen Cert.KernelIdeal.Blocks Idealize.ShloMosaic Cert.Attn

/-- A lane of the head that holds `l`. -/
theorem lane_hd {n : ℕ} (G : Fin 2 → Fin 4352 → Fin 6 → Fin n → ℝ) (b : Fin 2) (t : Fin 4352) (p : Fin 3) (l : Fin 256) (x : Fin 128) :
    lane G b t p (hd l x) = if e : (x : ℕ) < n then G b t (hh p l) ⟨x, e⟩ else 0 := by
  unfold lane
  have e1 : (hd l x : ℕ) % 128 = x := by show ((l : ℕ) / 128 * 128 + x) % 128 = x; omega
  have e2 : hh p (hd l x) = hh p l := Fin.ext (by show 2 * (p : ℕ) + ((l : ℕ) / 128 * 128 + x) / 128 = 2 * p + l / 128; omega)
  rw [e2]
  simp only [e1]

/-- The product of two heads of 96 lanes. -/
theorem sum96 (G H : Fin 2 → Fin 4352 → Fin 6 → Fin 96 → ℝ) (b : Fin 2) (t u : Fin 4352) (p : Fin 3) (l : Fin 256) :
    (∑ x : Fin 128, lane G b t p (hd l x) * lane H b u p (hd l x)) = ∑ x, G b t (hh p l) x * H b u (hh p l) x := by
  refine Eq.trans ?_ (sum_lanes (k := 32) (fun x => G b t (hh p l) x * H b u (hh p l) x))
  refine Finset.sum_congr rfl fun (x : Fin 128) _ => ?_
  rw [lane_hd, lane_hd]
  split_ifs <;> simp

/-- The product of two heads of 64 lanes. -/
theorem sum64 (G H : Fin 2 → Fin 4352 → Fin 6 → Fin 64 → ℝ) (b : Fin 2) (t u : Fin 4352) (p : Fin 3) (l : Fin 256) :
    (∑ x : Fin 128, lane G b t p (hd l x) * lane H b u p (hd l x)) = ∑ x, G b t (hh p l) x * H b u (hh p l) x := by
  refine Eq.trans ?_ (sum_lanes (k := 64) (fun x => G b t (hh p l) x * H b u (hh p l) x))
  refine Finset.sum_congr rfl fun (x : Fin 128) _ => ?_
  rw [lane_hd, lane_hd]
  split_ifs <;> simp

variable {n : ℕ} (X0 : FVec Ideal S256x256 .bf16) (X1 : FVec Ideal S4352x256 .bf16) (X2 : FVec Ideal S4352x256 .bf16)
  (X3 X4 X5 : FVec Ideal S256x256 .f32)
  (Q K : Fin 2 → Fin 4352 → Fin 6 → Fin 96 → ℝ) (V D : Fin 2 → Fin 4352 → Fin 6 → Fin 64 → ℝ) (b : Fin 2) (p : Fin 3)
  (g : Fin 256 → Fin 4352) (f : Fin n → Fin 4352) (l : Fin 256) (r : Fin 256)
  (h0 : ∀ r l, X0 (ix2 r l) = ((lane Q b (g r) p l * (scale / Real.log 2) : ℝ) : EReal))
  (h1 : ∀ k l, X1 (ix2 k l) = ((lane K b k p l : ℝ) : EReal))
  (h2 : ∀ k l, X2 (ix2 k l) = ((lane V b k p l : ℝ) : EReal))
  (h3 : ∀ r l, X3 (ix2 r l) = ((lane (att Q K V) b (g r) p l : ℝ) : EReal))
  (h4 : ∀ r l, X4 (ix2 r l) = ((logs Q K b (g r) (hh p l) / Real.log 2 : ℝ) : EReal))
  (h5 : ∀ r l, X5 (ix2 r l) = ((lane D b (g r) p l : ℝ) : EReal))
  (hl : logs Q K b (g r) (hh p l) = rowLog (score Q K b (hh p l) (g r) f))
  (ho : ∀ d, att Q K V b (g r) (hh p l) d = ∑ k, V b (f k) (hh p l) d * soft (score Q K b (hh p l) (g r) f) k)

include h0 h1 h4 hl in
/-- The power of two is the softmax. -/
theorem kP_real (k : Fin n) : kP X0 X1 X4 l f r k = ((soft (score Q K b (hh p l) (g r) f) k : ℝ) : EReal) := by
  unfold kP
  have e2 : hh p (hd l 0) = hh p l := Fin.ext (by show 2 * (p : ℕ) + ((l : ℕ) / 128 * 128 + 0) / 128 = 2 * p + l / 128; omega)
  simp only [h0, h1, h4, e2, hl, ← EReal.coe_mul, ← coe_sum, ← EReal.coe_sub]
  rw [← soft_exp2]
  congr 3
  have : (∑ x : Fin 128, lane Q b (g r) p (hd l x) * (scale / Real.log 2) * lane K b (f k) p (hd l x))
      = (∑ x : Fin 128, lane Q b (g r) p (hd l x) * lane K b (f k) p (hd l x)) * (scale / Real.log 2) := by
    rw [Finset.sum_mul]; exact Finset.sum_congr rfl fun x _ => by ring
  rw [this, sum96, score]
  ring

include h2 h3 h5 ho in
/-- The gradient of the softmax less the row's sum. -/
theorem kD_real (k : Fin n) : kD X2 X3 X5 l f r k
    = ((dots V D b (hh p l) (g r) f k - ∑ j, soft (score Q K b (hh p l) (g r) f) j * dots V D b (hh p l) (g r) f j : ℝ) : EReal) := by
  unfold kD
  simp only [h2, h3, h5, ← EReal.coe_mul, ← coe_sum, ← EReal.coe_sub]
  rw [sum64, sum64]
  simp only [ho]
  rw [dot_att]
  rfl

include h0 h1 h2 h3 h4 h5 hl ho in
/-- Their product is the gradient of the scores. -/
theorem ds_real (k : Fin n) : kP X0 X1 X4 l f r k * kD X2 X3 X5 l f r k
    = ((dsoft (score Q K b (hh p l) (g r) f) (dots V D b (hh p l) (g r) f) k : ℝ) : EReal) := by
  rw [kP_real X0 X1 X4 Q K b p g f l r h0 h1 h4 hl, kD_real X2 X3 X5 Q K V D b p g f l r h2 h3 h5 ho, ← EReal.coe_mul]
  rfl

end Cert.KernelIdeal.BlockReal

end
-- ==== Proof.Grad.lean ====
module

public import proofs.«01_k».proof.Proof.Reads
public import proofs.«01_k».proof.Proof.BlockReal

@[expose] public section

set_option maxRecDepth 16384

noncomputable section

namespace Cert.KernelIdeal.Grad

open Cert.KernelIdeal Cert.KernelIdeal.Gen Cert.KernelIdeal.Blocks Cert.KernelIdeal.BlockReal Cert.KernelIdeal.Reads
open Idealize.ShloMosaic Idealize.ShloMosaic.TcCoe Idealize.SL.Sem Cert.Attn

/-- A sum over a range, 256 summands more. -/
theorem sum_step (G : ℕ → ℝ) (a : ℕ) : (∑ n ∈ Finset.range (256 * a + 256), G n) = (∑ n ∈ Finset.range (256 * a), G n) + ∑ x : Fin 256, G (256 * a + x) := by
  rw [Finset.sum_range_add, Finset.sum_range (fun x => G (256 * a + x))]

/-- Row `r` of the block of queries after the `a`-th of the latents. -/
theorem tq_lat (a : ℕ) (ha : a + 1 < 17) (x : Fin 256) : tq ⟨a + 1, ha⟩ x = lat ⟨256 * a + x, by omega⟩ :=
  Fin.ext (by show 256 * (a + 1) + (x : ℕ) = 256 + (256 * a + x); omega)

/-- A function of the latents' positions, by their numbers. -/
def byNat (F : Fin 4096 → ℝ) (n : ℕ) : ℝ := if e : n < 4096 then F ⟨n, e⟩ else 0

/-- Every latent summed. -/
theorem sum_byNat (F : Fin 4096 → ℝ) : (∑ n ∈ Finset.range (256 * 16), byNat F n) = ∑ x, F x := by
  show (∑ n ∈ Finset.range 4096, byNat F n) = _
  rw [Finset.sum_range]
  exact Finset.sum_congr rfl fun x _ => by rw [byNat, dif_pos x.isLt]

section
variable (Q K : Fin 2 → Fin 4352 → Fin 6 → Fin 96 → ℝ) (V D : Fin 2 → Fin 4352 → Fin 6 → Fin 64 → ℝ) (b : Fin 2) (p : Fin 3) (l : Fin 256)

/-- What a latent query adds to a lane of the gradient of key `k`. -/
def latK (k : Fin 4352) (x : Fin 4096) : ℝ :=
  dsoft (score Q K b (hh p l) (lat x) tok) (dots V D b (hh p l) (lat x) tok) k * (lane Q b (lat x) p l * (scale / Real.log 2))

/-- What the context's queries add to a lane of the gradient of key `k`. -/
def ctxK (k : Fin 4352) : ℝ :=
  if e : (k : ℕ) < 256 then ∑ x, dsoft (score Q K b (hh p l) (ctx x) ctx) (dots V D b (hh p l) (ctx x) ctx) ⟨k, e⟩ * (lane Q b (ctx x) p l * (scale / Real.log 2)) else 0

/-- What a latent query adds to a lane of the gradient of value `k`. -/
def latV (k : Fin 4352) (x : Fin 4096) : ℝ := soft (score Q K b (hh p l) (lat x) tok) k * lane D b (lat x) p l

/-- What the context's queries add to a lane of the gradient of value `k`. -/
def ctxV (k : Fin 4352) : ℝ :=
  if e : (k : ℕ) < 256 then ∑ x, soft (score Q K b (hh p l) (ctx x) ctx) ⟨k, e⟩ * lane D b (ctx x) p l else 0

/-- Their sum is the gradient's lane. -/
theorem laneK (k : Fin 4352) : ctxK Q K V D b p l k + ∑ x, latK Q K V D b p l k x = lane (gradK Q K V D) b k p l := by
  unfold ctxK latK lane
  by_cases u : (l : ℕ) % 128 < 96
  · simp only [u, dite_true, gradK]
    rw [add_comm, add_div, Finset.sum_div]
    congr 1
    · exact Finset.sum_congr rfl fun x _ => by ring
    · split_ifs
      · rw [Finset.sum_div]; exact Finset.sum_congr rfl fun x _ => by ring
      · simp
  · simp [u]

/-- Their sum is the gradient's lane. -/
theorem laneV (k : Fin 4352) : ctxV Q K D b p l k + ∑ x, latV Q K D b p l k x = lane (gradV Q K D) b k p l := by
  unfold ctxV latV lane
  by_cases u : (l : ℕ) % 128 < 64
  · simp only [u, dite_true, gradV]
    rw [add_comm]
    congr 1
    · exact Finset.sum_congr rfl fun x _ => mul_comm _ _
    · split_ifs
      · exact Finset.sum_congr rfl fun x _ => mul_comm _ _
      · rfl
  · simp [u]

end

variable (m : (ℓ : Loc nD τ sig) → Buf (Elt Ideal) ℓ) (c : Dev nD)
  (Q K : Fin 2 → Fin 4352 → Fin 6 → Fin 96 → ℝ) (V' D : Fin 2 → Fin 4352 → Fin 6 → Fin 64 → ℝ)
  (hQ : ∀ b t h d, (show FVec Ideal S2x4352x6x96 .f32 from m (c, Proc.tc.devRef main_arg0)) (ix4 b t h d) = (Q b t h d : EReal))
  (hK : ∀ b t h d, (show FVec Ideal S2x4352x6x96 .f32 from m (c, Proc.tc.devRef main_arg1)) (ix4 b t h d) = (K b t h d : EReal))
  (hV : ∀ b t h d, (show FVec Ideal S2x4352x6x64 .f32 from m (c, Proc.tc.devRef main_arg2)) (ix4 b t h d) = (V' b t h d : EReal))
  (hD : ∀ b t h d, (show FVec Ideal S2x4352x6x64 .f32 from m (c, Proc.tc.devRef main_arg3)) (ix4 b t h d) = (D b t h d : EReal))
  (t : Fin cfg0.N) (b : Fin 2) (p : Fin 3) (i : Fin 17) (ht : t.val = (b * 3 + p) * 17 + i)

include hQ hK ht in
/-- The power of two at a block of context queries. -/
theorem pC (hi : (i : ℕ) = 0) (l r : Fin 256) (k : Fin 256) : kP (iblk m c 0 t) (iblk m c 1 t) (iblk m c 4 t) l ctx r k
    = ((soft (score Q K b (hh p l) (ctx r) ctx) k : ℝ) : EReal) := by
  have e : tq i r = ctx r := Fin.ext (by show 256 * (i : ℕ) + r = r; omega)
  rw [← e]
  exact kP_real _ _ _ Q K b p (tq i) ctx l r (rd0 m c Q hQ t b p i ht) (rd1 m c K hK t b p i ht) (rd4 m c Q K hQ hK t b p i ht)
    (if_pos (by show 256 * (i : ℕ) + r < 256; omega)) k

include hQ hK ht in
/-- The power of two at a block of latent queries. -/
theorem pL (hi : 1 ≤ (i : ℕ)) (l r : Fin 256) (k : Fin 4352) : kP (iblk m c 0 t) (iblk m c 1 t) (iblk m c 4 t) l tok r k
    = ((soft (score Q K b (hh p l) (tq i r) tok) k : ℝ) : EReal) :=
  kP_real _ _ _ Q K b p (tq i) tok l r (rd0 m c Q hQ t b p i ht) (rd1 m c K hK t b p i ht) (rd4 m c Q K hQ hK t b p i ht)
    (if_neg (by show ¬256 * (i : ℕ) + r < 256; omega)) k

include hQ hK hV hD ht in
/-- The gradient of the scores at a block of context queries. -/
theorem dC (hi : (i : ℕ) = 0) (l r : Fin 256) (k : Fin 256) :
    kP (iblk m c 0 t) (iblk m c 1 t) (iblk m c 4 t) l ctx r k * kD (iblk m c 2 t) (iblk m c 3 t) (iblk m c 5 t) l ctx r k
      = ((dsoft (score Q K b (hh p l) (ctx r) ctx) (dots V' D b (hh p l) (ctx r) ctx) k : ℝ) : EReal) := by
  have e : tq i r = ctx r := Fin.ext (by show 256 * (i : ℕ) + r = r; omega)
  rw [← e]
  exact ds_real _ _ _ _ _ _ Q K V' D b p (tq i) ctx l r (rd0 m c Q hQ t b p i ht) (rd1 m c K hK t b p i ht) (rd2 m c V' hV t b p i ht)
    (rd3 m c Q K V' hQ hK hV t b p i ht) (rd4 m c Q K hQ hK t b p i ht) (rd5 m c D hD t b p i ht)
    (if_pos (by show 256 * (i : ℕ) + r < 256; omega)) (fun d => if_pos (by show 256 * (i : ℕ) + r < 256; omega)) k

include hQ hK hV hD ht in
/-- The gradient of the scores at a block of latent queries. -/
theorem dL (hi : 1 ≤ (i : ℕ)) (l r : Fin 256) (k : Fin 4352) :
    kP (iblk m c 0 t) (iblk m c 1 t) (iblk m c 4 t) l tok r k * kD (iblk m c 2 t) (iblk m c 3 t) (iblk m c 5 t) l tok r k
      = ((dsoft (score Q K b (hh p l) (tq i r) tok) (dots V' D b (hh p l) (tq i r) tok) k : ℝ) : EReal) :=
  ds_real _ _ _ _ _ _ Q K V' D b p (tq i) tok l r (rd0 m c Q hQ t b p i ht) (rd1 m c K hK t b p i ht) (rd2 m c V' hV t b p i ht)
    (rd3 m c Q K V' hQ hK hV t b p i ht) (rd4 m c Q K hQ hK t b p i ht) (rd5 m c D hD t b p i ht)
    (if_neg (by show ¬256 * (i : ℕ) + r < 256; omega)) (fun d => if_neg (by show ¬256 * (i : ℕ) + r < 256; omega)) k

include hQ hK hV hD ht in
/-- What a point leaves for the gradient of its queries. -/
theorem o6 (r l : Fin 256) : (show FVec Ideal S256x256 .f32 from (outsAt0 m c t.val t.isLt).1) (ix2 r l)
    = ((lane (gradQ Q K V' D) b (tq i r) p l : ℝ) : EReal) := by
  by_cases hi : (i : ℕ) = 0
  · have hm : t.val % 17 = 0 := by omega
    refine (a6 m c t hm hm (by omega) r l).trans ?_
    simp only [dC m c Q K V' D hQ hK hV hD t b p i ht hi, rd1 m c K hK t b p i ht, ← EReal.coe_mul, ← coe_sum]
    congr 1
    have e : tq i r = ctx r := Fin.ext (by show 256 * (i : ℕ) + r = r; omega)
    rw [e]
    unfold lane
    by_cases u : (l : ℕ) % 128 < 96
    · simp only [u, dite_true, gradQ]
      rw [if_pos (by show (r : ℕ) < 256; omega)]
    · simp [u]
  · have hm : ¬t.val % 17 = 0 := by omega
    refine (b6 m c t hm hm (by omega) r l).trans ?_
    simp only [dL m c Q K V' D hQ hK hV hD t b p i ht (by omega), rd1 m c K hK t b p i ht, ← EReal.coe_mul, ← coe_sum]
    congr 1
    unfold lane
    by_cases u : (l : ℕ) % 128 < 96
    · simp only [u, dite_true, gradQ]
      rw [if_neg (by show ¬256 * (i : ℕ) + r < 256; omega)]
    · simp [u]

include hQ hK hV hD in
/-- What the points of a pair of heads have accumulated for the gradient of the keys. -/
theorem o7 (k : Fin 4352) (l : Fin 256) : ∀ (a : ℕ) (ha : a < 17) (t : Fin cfg0.N), t.val = (b * 3 + p) * 17 + a →
    (show FVec Ideal S4352x256 .f32 from (outsAt0 m c t.val t.isLt).2.1) (ix2 k l)
      = ((ctxK Q K V' D b p l k + ∑ n ∈ Finset.range (256 * a), byNat (latK Q K V' D b p l k) n : ℝ) : EReal)
  | 0, ha, t, ht => by
    have hm : t.val % 17 = 0 := by omega
    refine (a7 m c t hm hm (by omega) k l).trans ?_
    simp only [dC m c Q K V' D hQ hK hV hD t b p ⟨0, ha⟩ ht rfl, rd0 m c Q hQ t b p ⟨0, ha⟩ ht, ← EReal.coe_mul, ← coe_sum]
    have e : ∀ r, tq ⟨0, ha⟩ r = ctx r := fun r => Fin.ext (by show 256 * 0 + (r : ℕ) = r; omega)
    simp only [e, Nat.mul_zero, Finset.range_zero, Finset.sum_empty, add_zero, ctxK]
    split_ifs <;> rfl
  | a + 1, ha, t, ht => by
    have hm : ¬t.val % 17 = 0 := by omega
    refine (b7 m c t hm hm (by omega) k l).trans ?_
    have ih := o7 k l a (by omega) ⟨t.val - 1, Nat.lt_of_le_of_lt (Nat.sub_le _ _) t.isLt⟩ (by show t.val - 1 = _; omega)
    refine Eq.trans (congrArg (· + _) ih) ?_
    simp only [dL m c Q K V' D hQ hK hV hD t b p ⟨a + 1, ha⟩ ht (by show 1 ≤ a + 1; omega), rd0 m c Q hQ t b p ⟨a + 1, ha⟩ ht,
      ← EReal.coe_mul, ← coe_sum, ← EReal.coe_add]
    rw [show 256 * (a + 1) = 256 * a + 256 from rfl, sum_step, add_assoc]
    congr 3
    refine Finset.sum_congr rfl fun x _ => ?_
    rw [byNat, dif_pos (by omega), latK, tq_lat a ha x]

include hQ hK hD in
/-- What the points of a pair of heads have accumulated for the gradient of the values. -/
theorem o8 (k : Fin 4352) (l : Fin 256) : ∀ (a : ℕ) (ha : a < 17) (t : Fin cfg0.N), t.val = (b * 3 + p) * 17 + a →
    (show FVec Ideal S4352x256 .f32 from (outsAt0 m c t.val t.isLt).2.2) (ix2 k l)
      = ((ctxV Q K D b p l k + ∑ n ∈ Finset.range (256 * a), byNat (latV Q K D b p l k) n : ℝ) : EReal)
  | 0, ha, t, ht => by
    have hm : t.val % 17 = 0 := by omega
    refine (a8 m c t hm hm (by omega) k l).trans ?_
    simp only [pC m c Q K hQ hK t b p ⟨0, ha⟩ ht rfl, rd5 m c D hD t b p ⟨0, ha⟩ ht, ← EReal.coe_mul, ← coe_sum]
    have e : ∀ r, tq ⟨0, ha⟩ r = ctx r := fun r => Fin.ext (by show 256 * 0 + (r : ℕ) = r; omega)
    simp only [e, Nat.mul_zero, Finset.range_zero, Finset.sum_empty, add_zero, ctxV]
    split_ifs <;> rfl
  | a + 1, ha, t, ht => by
    have hm : ¬t.val % 17 = 0 := by omega
    refine (b8 m c t hm hm (by omega) k l).trans ?_
    have ih := o8 k l a (by omega) ⟨t.val - 1, Nat.lt_of_le_of_lt (Nat.sub_le _ _) t.isLt⟩ (by show t.val - 1 = _; omega)
    refine Eq.trans (congrArg (· + _) ih) ?_
    simp only [pL m c Q K hQ hK t b p ⟨a + 1, ha⟩ ht (by show 1 ≤ a + 1; omega), rd5 m c D hD t b p ⟨a + 1, ha⟩ ht,
      ← EReal.coe_mul, ← coe_sum, ← EReal.coe_add]
    rw [show 256 * (a + 1) = 256 * a + 256 from rfl, sum_step, add_assoc]
    congr 3
    refine Finset.sum_congr rfl fun x _ => ?_
    rw [byNat, dif_pos (by omega), latV, tq_lat a ha x]

/-- A real array of rows and lanes. -/
def asArr {n : ℕ} (G : Fin 2 → Fin 4352 → Fin 6 → Fin n → ℝ) : FVec Ideal S8704x768 .f32 := fun i => ((lanes G (i 0) (i 1) : ℝ) : EReal)

/-- A real array at a block's entry. -/
theorem asArr_at {n : ℕ} (G : Fin 2 → Fin 4352 → Fin 6 → Fin n → ℝ) (b : Fin 2) (t : Fin 4352) (p : Fin 3) (l : Fin 256) :
    asArr G (ix2 (rowOf b t) (laneOf p l)) = ((lane G b t p l : ℝ) : EReal) := by
  rw [← lanes_lane]; rfl

/-- A point's batch entry, pair of heads and block of queries. -/
theorem point_of (t : Fin cfg0.N) : ∃ (b : Fin 2) (p : Fin 3) (i : Fin 17), t.val = (b * 3 + p) * 17 + i := by
  have h := (idx t).2.2.2.2.2.2.2.2.2
  exact ⟨⟨t.val / 51, by omega⟩, ⟨t.val / 17 % 3, by omega⟩, ⟨t.val % 17, by omega⟩, by show t.val = (t.val / 51 * 3 + t.val / 17 % 3) * 17 + t.val % 17; omega⟩

include hQ hK hV hD in
/-- The kernel's first result is the gradient of the queries. -/
theorem final6 : (dats m 0 c).arrAt 6 (cfgs 0).N = asArr (gradQ Q K V' D) := by
  refine (dats m 0 c).arrAt_eq_of_covers 6 _ (by decide +kernel) fun t hf y => ?_
  obtain ⟨b, p, i, ht⟩ := point_of t
  blk_simp
  rw [after0_6]
  idx_vars y
  rw [emb6 t b p i ht, asArr_at]
  exact o6 m c Q K V' D hQ hK hV hD t b p i ht _ _

include hQ hK hV hD in
/-- The kernel's second result is the gradient of the keys. -/
theorem final7 : (dats m 0 c).arrAt 7 (cfgs 0).N = asArr (gradK Q K V' D) := by
  refine (dats m 0 c).arrAt_eq_of_covers 7 _ (by decide +kernel) fun t hf y => ?_
  obtain ⟨b, p, i, ht⟩ := point_of t
  have h16 := (flush0_7 t).mp hf
  have hi : (i : ℕ) = 16 := by omega
  blk_simp
  rw [after0_7]
  idx_vars y
  rw [emb7 t b p i ht, asArr_at, ← laneK, ← sum_byNat]
  exact o7 m c Q K V' D hQ hK hV hD b p _ _ 16 (by omega) t (by omega)

include hQ hK hD in
/-- The kernel's third result is the gradient of the values. -/
theorem final8 : (dats m 0 c).arrAt 8 (cfgs 0).N = asArr (gradV Q K D) := by
  refine (dats m 0 c).arrAt_eq_of_covers 8 _ (by decide +kernel) fun t hf y => ?_
  obtain ⟨b, p, i, ht⟩ := point_of t
  have h16 := (flush0_8 t).mp hf
  have hi : (i : ℕ) = 16 := by omega
  blk_simp
  rw [after0_8]
  idx_vars y
  rw [emb8 t b p i ht, asArr_at, ← laneV, ← sum_byNat]
  exact o8 m c Q K D hQ hK hD b p _ _ 16 (by omega) t (by omega)

end Cert.KernelIdeal.Grad

end
-- ==== Proof.RefStages.lean ====
module

public import proofs.«01_k».proof.Proof.Gen.ReferenceIdeal.Run
public import proofs.«01_k».proof.Proof.Soft
public import Idealize.ShloMosaic.Lib.Pointwise

@[expose] public section

set_option maxRecDepth 16384

noncomputable section

namespace Cert.ReferenceIdeal.Rows

open Cert.ReferenceIdeal Cert.ReferenceIdeal.Gen Idealize.ShloMosaic Idealize.ShloMosaic.TcCoe Idealize.SL.Sem Cert.Attn

/-- The latent rows of the queries. -/
def qL (A0 : FVec Ideal S2x4352x6x96 .f32) : FVec Ideal S2x4096x6x96 .f32 := extractStridedSlice S2x4096x6x96 ![0, 256, 0, 0] A0 slices_S2x4352x6x96_S2x4096x6x96_0_256_0_0
/-- The latent rows of the output gradient. -/
def dL (A3 : FVec Ideal S2x4352x6x64 .f32) : FVec Ideal S2x4096x6x64 .f32 := extractStridedSlice S2x4096x6x64 ![0, 256, 0, 0] A3 slices_S2x4352x6x64_S2x4096x6x64_0_256_0_0
/-- The latent queries' scaled scores. -/
def sL (A0 A1 : FVec Ideal S2x4352x6x96 .f32) : FVec Ideal S2x6x4096x4352 .f32 := mulf (Host.dotGeneral dot_S2x4096x6x96_S2x4352x6x96_S2x6x4096x4352_3_3_1_1_02_02 none (qL A0) A1) (broadcastInDim S2x6x4096x4352 ![] bcast_S_S2x6x4096x4352 (constant S_ .f32 0x3DD105EC#32))
/-- The latent queries' greatest scores. -/
def mL (A0 A1 : FVec Ideal S2x4352x6x96 .f32) : FVec Ideal S2x6x4096 .f32 := maximumf (broadcastInDim S2x6x4096 ![] bcast_S_S2x6x4096 (constant S_ .f32 0xFF800000#32)) (Host.reduce FloatOps.maximumf (sL A0 A1) (constant S_ .f32 0xFF800000#32) reducesTo_S2x6x4096x4352_S2x6x4096_d3 h_S_)
/-- The latent queries' exponentials. -/
def eL (A0 A1 : FVec Ideal S2x4352x6x96 .f32) : FVec Ideal S2x6x4096x4352 .f32 := Host.exp (subf (sL A0 A1) (broadcastInDim S2x6x4096x4352 ![0, 1, 2, 3] bcast_S2x6x4096x1_S2x6x4096x4352_0_1_2_3 (broadcastInDim S2x6x4096x1 ![0, 1, 2] bcast_S2x6x4096_S2x6x4096x1_0_1_2 (mL A0 A1))))
/-- The latent queries' sums of exponentials. -/
def lL (A0 A1 : FVec Ideal S2x4352x6x96 .f32) : FVec Ideal S2x6x4096x1 .f32 := broadcastInDim S2x6x4096x1 ![0, 1, 2] bcast_S2x6x4096_S2x6x4096x1_0_1_2 (Host.reduceAdd (eL A0 A1) (constant S_ .f32 0x00000000#32) reducesTo_S2x6x4096x4352_S2x6x4096_d3 h_S_)
/-- The latent queries' softmax. -/
def pL (A0 A1 : FVec Ideal S2x4352x6x96 .f32) : FVec Ideal S2x6x4096x4352 .f32 := Host.divf (eL A0 A1) (broadcastInDim S2x6x4096x4352 ![0, 1, 2, 3] bcast_S2x6x4096x1_S2x6x4096x4352_0_1_2_3 (lL A0 A1))
/-- The gradient of the latent queries' softmax. -/
def dpL (A2 A3 : FVec Ideal S2x4352x6x64 .f32) : FVec Ideal S2x6x4096x4352 .f32 := Host.dotGeneral dot_S2x6x64x4096_S2x4352x6x64_S2x6x4096x4352_2_3_3_1_01_02 none (transpose S2x6x64x4096 [0, 2, 3, 1] (dL A3) transposes_S2x4096x6x64_S2x6x64x4096_0_2_3_1) A2
/-- The latent queries' subtracted row sums. -/
def rL (A0 A1 : FVec Ideal S2x4352x6x96 .f32) (A2 A3 : FVec Ideal S2x4352x6x64 .f32) : FVec Ideal S2x6x4096 .f32 := Host.reduceAdd (Host.negf (shapeCast S2x6x4096x1 (Host.reduceAdd (mulf (mulf (dpL A2 A3) (broadcastInDim S2x6x4096x4352 ![0, 1, 2, 3] bcast_S2x6x4096x1_S2x6x4096x4352_0_1_2_3 (Host.divf (broadcastInDim S2x6x4096x1 ![] bcast_S_S2x6x4096x1 (constant S_ .f32 0x3F800000#32)) (mulf (lL A0 A1) (lL A0 A1))))) (eL A0 A1)) (constant S_ .f32 0x00000000#32) reducesTo_S2x6x4096x4352_S2x6x4096_d3 h_S_) shapeCasts_S2x6x4096_S2x6x4096x1)) (constant S_ .f32 0x00000000#32) reducesTo_S2x6x4096x1_S2x6x4096_d3 h_S_
/-- The gradient of the latent queries' unscaled scores, times the scale. -/
def dsL (A0 A1 : FVec Ideal S2x4352x6x96 .f32) (A2 A3 : FVec Ideal S2x4352x6x64 .f32) : FVec Ideal S2x6x4096x4352 .f32 := mulf (mulf (addf (Host.divf (dpL A2 A3) (broadcastInDim S2x6x4096x4352 ![0, 1, 2, 3] bcast_S2x6x4096x1_S2x6x4096x4352_0_1_2_3 (lL A0 A1))) (broadcastInDim S2x6x4096x4352 ![0, 1, 2] bcast_S2x6x4096_S2x6x4096x4352_0_1_2 (rL A0 A1 A2 A3))) (eL A0 A1)) (broadcastInDim S2x6x4096x4352 ![] bcast_S_S2x6x4096x4352 (constant S_ .f32 0x3DD105EC#32))
/-- The gradient of the latent queries. -/
def gqL (A0 A1 : FVec Ideal S2x4352x6x96 .f32) (A2 A3 : FVec Ideal S2x4352x6x64 .f32) : FVec Ideal S2x4096x6x96 .f32 := transpose S2x4096x6x96 [0, 2, 1, 3] (Host.dotGeneral dot_S2x6x4096x4352_S2x4352x6x96_S2x6x4096x96_3_1_2_3_01_02 none (dsL A0 A1 A2 A3) A1) transposes_S2x6x4096x96_S2x4096x6x96_0_2_1_3
/-- The latent queries' part of the gradient of the keys. -/
def gkL (A0 A1 : FVec Ideal S2x4352x6x96 .f32) (A2 A3 : FVec Ideal S2x4352x6x64 .f32) : FVec Ideal S2x4352x6x96 .f32 := transpose S2x4352x6x96 [0, 2, 1, 3] (Host.dotGeneral dot_S2x6x4096x4352_S2x4096x6x96_S2x6x4352x96_2_1_3_3_01_02 none (dsL A0 A1 A2 A3) (qL A0)) transposes_S2x6x4352x96_S2x4352x6x96_0_2_1_3
/-- The latent queries' part of the gradient of the values. -/
def gvL (A0 A1 : FVec Ideal S2x4352x6x96 .f32) (A3 : FVec Ideal S2x4352x6x64 .f32) : FVec Ideal S2x4352x6x64 .f32 := transpose S2x4352x6x64 [0, 3, 1, 2] (Host.dotGeneral dot_S2x6x64x4096_S2x6x4096x4352_S2x6x64x4352_3_2_2_3_01_01 none (transpose S2x6x64x4096 [0, 2, 3, 1] (dL A3) transposes_S2x4096x6x64_S2x6x64x4096_0_2_3_1) (pL A0 A1)) transposes_S2x6x64x4352_S2x4352x6x64_0_3_1_2

/-- The context rows of the queries. -/
def qC (A0 : FVec Ideal S2x4352x6x96 .f32) : FVec Ideal S2x256x6x96 .f32 := extractStridedSlice S2x256x6x96 ![0, 0, 0, 0] A0 slices_S2x4352x6x96_S2x256x6x96_0_0_0_0
/-- The context rows of the output gradient. -/
def dC (A3 : FVec Ideal S2x4352x6x64 .f32) : FVec Ideal S2x256x6x64 .f32 := extractStridedSlice S2x256x6x64 ![0, 0, 0, 0] A3 slices_S2x4352x6x64_S2x256x6x64_0_0_0_0
/-- The context queries' scaled scores. -/
def sC (A0 A1 : FVec Ideal S2x4352x6x96 .f32) : FVec Ideal S2x6x256x256 .f32 := mulf (Host.dotGeneral dot_S2x256x6x96_S2x256x6x96_S2x6x256x256_3_3_1_1_02_02 none (qC A0) (extractStridedSlice S2x256x6x96 ![0, 0, 0, 0] A1 slices_S2x4352x6x96_S2x256x6x96_0_0_0_0)) (broadcastInDim S2x6x256x256 ![] bcast_S_S2x6x256x256 (constant S_ .f32 0x3DD105EC#32))
/-- The context queries' greatest scores. -/
def mC (A0 A1 : FVec Ideal S2x4352x6x96 .f32) : FVec Ideal S2x6x256 .f32 := maximumf (broadcastInDim S2x6x256 ![] bcast_S_S2x6x256 (constant S_ .f32 0xFF800000#32)) (Host.reduce FloatOps.maximumf (sC A0 A1) (constant S_ .f32 0xFF800000#32) reducesTo_S2x6x256x256_S2x6x256_d3 h_S_)
/-- The context queries' exponentials. -/
def eC (A0 A1 : FVec Ideal S2x4352x6x96 .f32) : FVec Ideal S2x6x256x256 .f32 := Host.exp (subf (sC A0 A1) (broadcastInDim S2x6x256x256 ![0, 1, 2, 3] bcast_S2x6x256x1_S2x6x256x256_0_1_2_3 (broadcastInDim S2x6x256x1 ![0, 1, 2] bcast_S2x6x256_S2x6x256x1_0_1_2 (mC A0 A1))))
/-- The context queries' sums of exponentials. -/
def lC (A0 A1 : FVec Ideal S2x4352x6x96 .f32) : FVec Ideal S2x6x256x1 .f32 := broadcastInDim S2x6x256x1 ![0, 1, 2] bcast_S2x6x256_S2x6x256x1_0_1_2 (Host.reduceAdd (eC A0 A1) (constant S_ .f32 0x00000000#32) reducesTo_S2x6x256x256_S2x6x256_d3 h_S_)
/-- The context queries' softmax. -/
def pC (A0 A1 : FVec Ideal S2x4352x6x96 .f32) : FVec Ideal S2x6x256x256 .f32 := Host.divf (eC A0 A1) (broadcastInDim S2x6x256x256 ![0, 1, 2, 3] bcast_S2x6x256x1_S2x6x256x256_0_1_2_3 (lC A0 A1))
/-- The gradient of the context queries' softmax. -/
def dpC (A2 A3 : FVec Ideal S2x4352x6x64 .f32) : FVec Ideal S2x6x256x256 .f32 := Host.dotGeneral dot_S2x6x64x256_S2x256x6x64_S2x6x256x256_2_3_3_1_01_02 none (transpose S2x6x64x256 [0, 2, 3, 1] (dC A3) transposes_S2x256x6x64_S2x6x64x256_0_2_3_1) (extractStridedSlice S2x256x6x64 ![0, 0, 0, 0] A2 slices_S2x4352x6x64_S2x256x6x64_0_0_0_0)
/-- The context queries' subtracted row sums. -/
def rC (A0 A1 : FVec Ideal S2x4352x6x96 .f32) (A2 A3 : FVec Ideal S2x4352x6x64 .f32) : FVec Ideal S2x6x256 .f32 := Host.reduceAdd (Host.negf (shapeCast S2x6x256x1 (Host.reduceAdd (mulf (mulf (dpC A2 A3) (broadcastInDim S2x6x256x256 ![0, 1, 2, 3] bcast_S2x6x256x1_S2x6x256x256_0_1_2_3 (Host.divf (broadcastInDim S2x6x256x1 ![] bcast_S_S2x6x256x1 (constant S_ .f32 0x3F800000#32)) (mulf (lC A0 A1) (lC A0 A1))))) (eC A0 A1)) (constant S_ .f32 0x00000000#32) reducesTo_S2x6x256x256_S2x6x256_d3 h_S_) shapeCasts_S2x6x256_S2x6x256x1)) (constant S_ .f32 0x00000000#32) reducesTo_S2x6x256x1_S2x6x256_d3 h_S_
/-- The gradient of the context queries' unscaled scores, times the scale. -/
def dsC (A0 A1 : FVec Ideal S2x4352x6x96 .f32) (A2 A3 : FVec Ideal S2x4352x6x64 .f32) : FVec Ideal S2x6x256x256 .f32 := mulf (mulf (addf (Host.divf (dpC A2 A3) (broadcastInDim S2x6x256x256 ![0, 1, 2, 3] bcast_S2x6x256x1_S2x6x256x256_0_1_2_3 (lC A0 A1))) (broadcastInDim S2x6x256x256 ![0, 1, 2] bcast_S2x6x256_S2x6x256x256_0_1_2 (rC A0 A1 A2 A3))) (eC A0 A1)) (broadcastInDim S2x6x256x256 ![] bcast_S_S2x6x256x256 (constant S_ .f32 0x3DD105EC#32))
/-- The gradient of the context queries. -/
def gqC (A0 A1 : FVec Ideal S2x4352x6x96 .f32) (A2 A3 : FVec Ideal S2x4352x6x64 .f32) : FVec Ideal S2x256x6x96 .f32 := transpose S2x256x6x96 [0, 2, 1, 3] (Host.dotGeneral dot_S2x6x256x256_S2x256x6x96_S2x6x256x96_3_1_2_3_01_02 none (dsC A0 A1 A2 A3) (extractStridedSlice S2x256x6x96 ![0, 0, 0, 0] A1 slices_S2x4352x6x96_S2x256x6x96_0_0_0_0)) transposes_S2x6x256x96_S2x256x6x96_0_2_1_3
/-- The context queries' part of the gradient of the keys. -/
def gkC (A0 A1 : FVec Ideal S2x4352x6x96 .f32) (A2 A3 : FVec Ideal S2x4352x6x64 .f32) : FVec Ideal S2x256x6x96 .f32 := transpose S2x256x6x96 [0, 2, 1, 3] (Host.dotGeneral dot_S2x6x256x256_S2x256x6x96_S2x6x256x96_2_1_3_3_01_02 none (dsC A0 A1 A2 A3) (qC A0)) transposes_S2x6x256x96_S2x256x6x96_0_2_1_3
/-- The context queries' part of the gradient of the values. -/
def gvC (A0 A1 : FVec Ideal S2x4352x6x96 .f32) (A3 : FVec Ideal S2x4352x6x64 .f32) : FVec Ideal S2x256x6x64 .f32 := transpose S2x256x6x64 [0, 3, 1, 2] (Host.dotGeneral dot_S2x6x64x256_S2x6x256x256_S2x6x64x256_3_2_2_3_01_01 none (transpose S2x6x64x256 [0, 2, 3, 1] (dC A3) transposes_S2x256x6x64_S2x6x64x256_0_2_3_1) (pC A0 A1)) transposes_S2x6x64x256_S2x256x6x64_0_3_1_2

/-- The reference's first result. -/
def out0 (A0 A1 : FVec Ideal S2x4352x6x96 .f32) (A2 A3 : FVec Ideal S2x4352x6x64 .f32) : FVec Ideal S8704x768 .f32 := Host.divf (shapeCast S8704x768 (pad S2x4352x6x128 ![0, 0, 0, 0] ![0, 0, 0, 32] ![0, 0, 0, 0] (addf (pad S2x4352x6x96 ![0, 256, 0, 0] ![0, 0, 0, 0] ![0, 0, 0, 0] (gqL A0 A1 A2 A3) (constant S_ .f32 0x00000000#32) pads_S2x4096x6x96_S2x4352x6x96_000_25600_000_000 h_S_) (pad S2x4352x6x96 ![0, 0, 0, 0] ![0, 4096, 0, 0] ![0, 0, 0, 0] (gqC A0 A1 A2 A3) (constant S_ .f32 0x00000000#32) pads_S2x256x6x96_S2x4352x6x96_000_040960_000_000 h_S_)) (sitofp .f32 (constantI S_ 32 0#32)) pads_S2x4352x6x96_S2x4352x6x128_000_000_000_0320 h_S_) shapeCasts_S2x4352x6x128_S8704x768) (broadcastInDim S8704x768 ![] bcast_S_S8704x768 (constant S_ .f32 0x3DD105EC#32))
/-- The reference's second result. -/
def out1 (A0 A1 : FVec Ideal S2x4352x6x96 .f32) (A2 A3 : FVec Ideal S2x4352x6x64 .f32) : FVec Ideal S8704x768 .f32 := Host.divf (shapeCast S8704x768 (pad S2x4352x6x128 ![0, 0, 0, 0] ![0, 0, 0, 32] ![0, 0, 0, 0] (addf (gkL A0 A1 A2 A3) (pad S2x4352x6x96 ![0, 0, 0, 0] ![0, 4096, 0, 0] ![0, 0, 0, 0] (gkC A0 A1 A2 A3) (constant S_ .f32 0x00000000#32) pads_S2x256x6x96_S2x4352x6x96_000_040960_000_000 h_S_)) (sitofp .f32 (constantI S_ 32 0#32)) pads_S2x4352x6x96_S2x4352x6x128_000_000_000_0320 h_S_) shapeCasts_S2x4352x6x128_S8704x768) (broadcastInDim S8704x768 ![] bcast_S_S8704x768 (Host.log (constant S_ .f32 0x40000000#32)))
/-- The reference's third result. -/
def out2 (A0 A1 : FVec Ideal S2x4352x6x96 .f32) (A3 : FVec Ideal S2x4352x6x64 .f32) : FVec Ideal S8704x768 .f32 := shapeCast S8704x768 (pad S2x4352x6x128 ![0, 0, 0, 0] ![0, 0, 0, 64] ![0, 0, 0, 0] (addf (gvL A0 A1 A3) (pad S2x4352x6x64 ![0, 0, 0, 0] ![0, 4096, 0, 0] ![0, 0, 0, 0] (gvC A0 A1 A3) (constant S_ .f32 0x00000000#32) pads_S2x256x6x64_S2x4352x6x64_000_040960_000_000 h_S_)) (sitofp .f32 (constantI S_ 32 0#32)) pads_S2x4352x6x64_S2x4352x6x128_000_000_000_0640 h_S_) shapeCasts_S2x4352x6x128_S8704x768

variable (m : (ℓ : Loc nD τ sig) → Buf (Elt Ideal) ℓ) (c : Dev nD)
/-- The first result's composed term is `out0` of the arguments. -/
theorem res0 : Value.res_out0 m c = out0 (m ((c.tc : Thread nD τ).loc main_arg0)) (m ((c.tc : Thread nD τ).loc main_arg1)) (m ((c.tc : Thread nD τ).loc main_arg2)) (m ((c.tc : Thread nD τ).loc main_arg3)) := rfl
/-- The second result's composed term is `out1` of the arguments. -/
theorem res1 : Value.res_out1 m c = out1 (m ((c.tc : Thread nD τ).loc main_arg0)) (m ((c.tc : Thread nD τ).loc main_arg1)) (m ((c.tc : Thread nD τ).loc main_arg2)) (m ((c.tc : Thread nD τ).loc main_arg3)) := rfl
/-- The third result's composed term is `out2` of the arguments. -/
theorem res2 : Value.res_out2 m c = out2 (m ((c.tc : Thread nD τ).loc main_arg0)) (m ((c.tc : Thread nD τ).loc main_arg1)) (m ((c.tc : Thread nD τ).loc main_arg3)) := rfl

end Cert.ReferenceIdeal.Rows

end
-- ==== Proof.RefRows.lean ====
module

public import proofs.«01_k».proof.Proof.RefStages

@[expose] public section

set_option maxRecDepth 16384

noncomputable section

namespace Cert.ReferenceIdeal.Rows

open Cert.ReferenceIdeal Cert.ReferenceIdeal.Gen Idealize.ShloMosaic Idealize.ShloMosaic.TcCoe Idealize.SL.Sem Cert.Attn

section
variable (A0 A1 : FVec Ideal S2x4352x6x96 .f32) (A2 A3 : FVec Ideal S2x4352x6x64 .f32)
  (Q K : Fin 2 → Fin 4352 → Fin 6 → Fin 96 → ℝ) (V D : Fin 2 → Fin 4352 → Fin 6 → Fin 64 → ℝ)
  (hQ : ∀ b t h d, A0 (ix4 b t h d) = (Q b t h d : EReal)) (hK : ∀ b t h d, A1 (ix4 b t h d) = (K b t h d : EReal))
  (hV : ∀ b t h d, A2 (ix4 b t h d) = (V b t h d : EReal)) (hD : ∀ b t h d, A3 (ix4 b t h d) = (D b t h d : EReal))

include hQ hK in
/-- A latent query's scaled score is the real one. -/
theorem sL_at (b : Fin 2) (h : Fin 6) (t : Fin 4096) (k : Fin 4352) : sL A0 A1 (ix4 b h t k) = ((score Q K b h (lat t) tok) k : EReal) := by
  pointwise [sL, qL]
  simp only [hQ, hK, ofBits_scale, ← EReal.coe_mul, ← coe_sum]
  rfl

include hQ hK in
/-- A latent query's greatest score is a real. -/
theorem mL_at (b : Fin 2) (h : Fin 6) (t : Fin 4096) : ∃ M : ℝ, mL A0 A1 (ix3 b h t) = (M : EReal) := by
  unfold mL
  exact host_max_real_bot reducesTo_S2x6x4096x4352_S2x6x4096_d3 (sL A0 A1)
    (fun i => by rw [eq_ix4 i]; exact ⟨_, sL_at A0 A1 Q K hQ hK (i 0) (i 1) (i 2) (i 3)⟩)
    (constant S_ .f32 0xFF800000#32) (fun _ => ofBits_bot) h_S_ (by decide)
    (broadcastInDim S2x6x4096 ![] bcast_S_S2x6x4096 (constant S_ .f32 0xFF800000#32)) (fun _ => ofBits_bot) (ix3 b h t)

include hQ hK in
/-- A latent query's exponentials, their sum and its softmax, with the shift that was taken. -/
theorem rowL (b : Fin 2) (h : Fin 6) (t : Fin 4096) : ∃ M : ℝ,
    (∀ k, eL A0 A1 (ix4 b h t k) = ((Real.exp ((score Q K b h (lat t) tok) k - M) : ℝ) : EReal))
    ∧ lL A0 A1 (ix4 b h t 0) = ((∑ k, Real.exp ((score Q K b h (lat t) tok) k - M) : ℝ) : EReal) := by
  obtain ⟨M, hM⟩ := mL_at A0 A1 Q K hQ hK b h t
  have he : ∀ k, eL A0 A1 (ix4 b h t k) = ((Real.exp ((score Q K b h (lat t) tok) k - M) : ℝ) : EReal) := fun k => by
    pointwise [eL]
    rw [hM, sL_at A0 A1 Q K hQ hK, exp_shift]
  refine ⟨M, he, ?_⟩
  pointwise [lL]
  simp only [he, ← coe_sum]

include hV hD in
/-- The gradient of a latent query's softmax is the real one. -/
theorem dpL_at (b : Fin 2) (h : Fin 6) (t : Fin 4096) (k : Fin 4352) : dpL A2 A3 (ix4 b h t k) = ((dots V D b h (lat t) tok) k : EReal) := by
  pointwise [dpL, dL]
  simp only [hV, hD, ← EReal.coe_mul, ← coe_sum]
  rfl

include hQ hK hV hD in
/-- The gradient of a latent query's scores is the real one. -/
theorem dsL_at (b : Fin 2) (h : Fin 6) (t : Fin 4096) (k : Fin 4352) : dsL A0 A1 A2 A3 (ix4 b h t k)
    = ((dsoft (score Q K b h (lat t) tok) (dots V D b h (lat t) tok) k * scale : ℝ) : EReal) := by
  obtain ⟨M, he, hl⟩ := rowL A0 A1 Q K hQ hK b h t
  have hr : rL A0 A1 A2 A3 (ix3 b h t) = -∑ x, dpL A2 A3 (ix4 b h t x) * Ideal.div 1 (lL A0 A1 (ix4 b h t 0) * lL A0 A1 (ix4 b h t 0)) * eL A0 A1 (ix4 b h t x) := by
    pointwise [rL]
    exact Fin.sum_univ_one _
  pointwise [dsL]
  rw [hr]
  simp only [he, hl, dpL_at A2 A3 V D hV hD, ofBits_scale]
  rw [dsoft_ereal, ← EReal.coe_mul]

include hQ hK hV hD in
/-- The gradient of the latent queries is the real one. -/
theorem gqL_at (b : Fin 2) (t : Fin 4096) (h : Fin 6) (d : Fin 96) : gqL A0 A1 A2 A3 (ix4 b t h d)
    = ((∑ k, dsoft (score Q K b h (lat t) tok) (dots V D b h (lat t) tok) k * scale * K b (tok k) h d : ℝ) : EReal) := by
  pointwise [gqL]
  simp only [dsL_at A0 A1 A2 A3 Q K V D hQ hK hV hD, hK, ← EReal.coe_mul, ← coe_sum]

include hQ hK hV hD in
/-- The latent queries' part of the gradient of the keys is the real one. -/
theorem gkL_at (b : Fin 2) (k : Fin 4352) (h : Fin 6) (d : Fin 96) : gkL A0 A1 A2 A3 (ix4 b k h d)
    = ((∑ x : Fin 4096, dsoft (score Q K b h (lat x) tok) (dots V D b h (lat x) tok) k * scale * Q b (lat x) h d : ℝ) : EReal) := by
  pointwise [gkL, qL]
  simp only [dsL_at A0 A1 A2 A3 Q K V D hQ hK hV hD, hQ, ← EReal.coe_mul, ← coe_sum]

include hQ hK hD in
/-- The latent queries' part of the gradient of the values is the real one. -/
theorem gvL_at (b : Fin 2) (k : Fin 4352) (h : Fin 6) (d : Fin 64) : gvL A0 A1 A3 (ix4 b k h d)
    = ((∑ x : Fin 4096, D b (lat x) h d * soft (score Q K b h (lat x) tok) k : ℝ) : EReal) := by
  have hp : ∀ x : Fin 4096, Ideal.div (eL A0 A1 (ix4 b h x k)) (lL A0 A1 (ix4 b h x 0)) = ((soft (score Q K b h (lat x) tok) k : ℝ) : EReal) := fun x => by
    obtain ⟨M, he, hl⟩ := rowL A0 A1 Q K hQ hK b h x
    rw [he, hl, soft_ereal]
  pointwise [gvL, pL, dL]
  simp only [hp, hD, ← EReal.coe_mul, ← coe_sum]

include hQ hK in
/-- A context query's scaled score is the real one. -/
theorem sC_at (b : Fin 2) (h : Fin 6) (t : Fin 256) (k : Fin 256) : sC A0 A1 (ix4 b h t k) = ((score Q K b h (ctx t) ctx) k : EReal) := by
  pointwise [sC, qC]
  simp only [hQ, hK, ofBits_scale, ← EReal.coe_mul, ← coe_sum]
  rfl

include hQ hK in
/-- A context query's greatest score is a real. -/
theorem mC_at (b : Fin 2) (h : Fin 6) (t : Fin 256) : ∃ M : ℝ, mC A0 A1 (ix3 b h t) = (M : EReal) := by
  unfold mC
  exact host_max_real_bot reducesTo_S2x6x256x256_S2x6x256_d3 (sC A0 A1)
    (fun i => by rw [eq_ix4 i]; exact ⟨_, sC_at A0 A1 Q K hQ hK (i 0) (i 1) (i 2) (i 3)⟩)
    (constant S_ .f32 0xFF800000#32) (fun _ => ofBits_bot) h_S_ (by decide)
    (broadcastInDim S2x6x256 ![] bcast_S_S2x6x256 (constant S_ .f32 0xFF800000#32)) (fun _ => ofBits_bot) (ix3 b h t)

include hQ hK in
/-- A context query's exponentials, their sum and its softmax, with the shift that was taken. -/
theorem rowC (b : Fin 2) (h : Fin 6) (t : Fin 256) : ∃ M : ℝ,
    (∀ k, eC A0 A1 (ix4 b h t k) = ((Real.exp ((score Q K b h (ctx t) ctx) k - M) : ℝ) : EReal))
    ∧ lC A0 A1 (ix4 b h t 0) = ((∑ k, Real.exp ((score Q K b h (ctx t) ctx) k - M) : ℝ) : EReal) := by
  obtain ⟨M, hM⟩ := mC_at A0 A1 Q K hQ hK b h t
  have he : ∀ k, eC A0 A1 (ix4 b h t k) = ((Real.exp ((score Q K b h (ctx t) ctx) k - M) : ℝ) : EReal) := fun k => by
    pointwise [eC]
    rw [hM, sC_at A0 A1 Q K hQ hK, exp_shift]
  refine ⟨M, he, ?_⟩
  pointwise [lC]
  simp only [he, ← coe_sum]

include hV hD in
/-- The gradient of a context query's softmax is the real one. -/
theorem dpC_at (b : Fin 2) (h : Fin 6) (t : Fin 256) (k : Fin 256) : dpC A2 A3 (ix4 b h t k) = ((dots V D b h (ctx t) ctx) k : EReal) := by
  pointwise [dpC, dC]
  simp only [hV, hD, ← EReal.coe_mul, ← coe_sum]
  rfl

include hQ hK hV hD in
/-- The gradient of a context query's scores is the real one. -/
theorem dsC_at (b : Fin 2) (h : Fin 6) (t : Fin 256) (k : Fin 256) : dsC A0 A1 A2 A3 (ix4 b h t k)
    = ((dsoft (score Q K b h (ctx t) ctx) (dots V D b h (ctx t) ctx) k * scale : ℝ) : EReal) := by
  obtain ⟨M, he, hl⟩ := rowC A0 A1 Q K hQ hK b h t
  have hr : rC A0 A1 A2 A3 (ix3 b h t) = -∑ x, dpC A2 A3 (ix4 b h t x) * Ideal.div 1 (lC A0 A1 (ix4 b h t 0) * lC A0 A1 (ix4 b h t 0)) * eC A0 A1 (ix4 b h t x) := by
    pointwise [rC]
    exact Fin.sum_univ_one _
  pointwise [dsC]
  rw [hr]
  simp only [he, hl, dpC_at A2 A3 V D hV hD, ofBits_scale]
  rw [dsoft_ereal, ← EReal.coe_mul]

include hQ hK hV hD in
/-- The gradient of the context queries is the real one. -/
theorem gqC_at (b : Fin 2) (t : Fin 256) (h : Fin 6) (d : Fin 96) : gqC A0 A1 A2 A3 (ix4 b t h d)
    = ((∑ k, dsoft (score Q K b h (ctx t) ctx) (dots V D b h (ctx t) ctx) k * scale * K b (ctx k) h d : ℝ) : EReal) := by
  pointwise [gqC]
  simp only [dsC_at A0 A1 A2 A3 Q K V D hQ hK hV hD, hK, ← EReal.coe_mul, ← coe_sum]

include hQ hK hV hD in
/-- The context queries' part of the gradient of the keys is the real one. -/
theorem gkC_at (b : Fin 2) (k : Fin 256) (h : Fin 6) (d : Fin 96) : gkC A0 A1 A2 A3 (ix4 b k h d)
    = ((∑ x : Fin 256, dsoft (score Q K b h (ctx x) ctx) (dots V D b h (ctx x) ctx) k * scale * Q b (ctx x) h d : ℝ) : EReal) := by
  pointwise [gkC, qC]
  simp only [dsC_at A0 A1 A2 A3 Q K V D hQ hK hV hD, hQ, ← EReal.coe_mul, ← coe_sum]

include hQ hK hD in
/-- The context queries' part of the gradient of the values is the real one. -/
theorem gvC_at (b : Fin 2) (k : Fin 256) (h : Fin 6) (d : Fin 64) : gvC A0 A1 A3 (ix4 b k h d)
    = ((∑ x : Fin 256, D b (ctx x) h d * soft (score Q K b h (ctx x) ctx) k : ℝ) : EReal) := by
  have hp : ∀ x : Fin 256, Ideal.div (eC A0 A1 (ix4 b h x k)) (lC A0 A1 (ix4 b h x 0)) = ((soft (score Q K b h (ctx x) ctx) k : ℝ) : EReal) := fun x => by
    obtain ⟨M, he, hl⟩ := rowC A0 A1 Q K hQ hK b h x
    rw [he, hl, soft_ereal]
  pointwise [gvC, pC, dC]
  simp only [hp, hD, ← EReal.coe_mul, ← coe_sum]

include hQ hK hV hD in
/-- The reference's first result is the gradient of the queries. -/
theorem out0_at (r : Fin 8704) (l : Fin 768) : out0 A0 A1 A2 A3 (ix2 r l) = ((lanes (gradQ Q K V D) r l : ℝ) : EReal) := by
  pointwise [out0]
  have h1 : (r : ℕ) / 4352 < 2 := by omega
  have h2 : (r : ℕ) % 4352 < 4352 := by omega
  have h3 : (l : ℕ) / 128 < 6 := by omega
  have h0 : (FloatOps.sitofp (F := Ideal) .f32 (0#32 : BitVec 32)) = ((0 : ℝ) : EReal) := by simp [FloatOps.sitofp]
  simp only [h1, h2, h3, true_and, h0, lanes, ofBits_scale]
  by_cases e : (l : ℕ) % 128 < 96
  · simp only [e, and_true, dite_true, gradQ]
    by_cases u : (r : ℕ) % 4352 < 256
    · have u' : ¬ 256 ≤ (r : ℕ) % 4352 := by omega
      simp only [u, u', false_and, dite_true, dite_false, if_true, gqC_at A0 A1 A2 A3 Q K V D hQ hK hV hD, zero_add]
      rw [div_real _ _ scale_ne, Finset.sum_div]
      congr 1
      exact Finset.sum_congr rfl fun k _ => by field_simp [scale_ne]
    · have u' : 256 ≤ (r : ℕ) % 4352 := by omega
      have u'' : (r : ℕ) % 4352 - 256 < 4096 := by omega
      have ut : lat ⟨(r : ℕ) % 4352 - 256, u''⟩ = ⟨(r : ℕ) % 4352, h2⟩ := Fin.ext (by show 256 + ((r : ℕ) % 4352 - 256) = (r : ℕ) % 4352; omega)
      simp only [u, u', u'', and_self, dite_true, dite_false, if_false, gqL_at A0 A1 A2 A3 Q K V D hQ hK hV hD, add_zero, ut]
      rw [div_real _ _ scale_ne, Finset.sum_div]
      congr 1
      exact Finset.sum_congr rfl fun k _ => by field_simp [scale_ne]
  · simp only [e, and_false, dite_false]
    rw [div_real _ _ scale_ne, zero_div]

include hQ hK hV hD in
/-- The reference's second result is the gradient of the keys. -/
theorem out1_at (r : Fin 8704) (l : Fin 768) : out1 A0 A1 A2 A3 (ix2 r l) = ((lanes (gradK Q K V D) r l : ℝ) : EReal) := by
  pointwise [out1]
  have h1 : (r : ℕ) / 4352 < 2 := by omega
  have h2 : (r : ℕ) % 4352 < 4352 := by omega
  have h3 : (l : ℕ) / 128 < 6 := by omega
  have h0 : (FloatOps.sitofp (F := Ideal) .f32 (0#32 : BitVec 32)) = ((0 : ℝ) : EReal) := by simp [FloatOps.sitofp]
  simp only [h1, h2, h3, true_and, h0, lanes, log_two]
  by_cases e : (l : ℕ) % 128 < 96
  · simp only [e, and_true, dite_true, gradK, gkL_at A0 A1 A2 A3 Q K V D hQ hK hV hD]
    by_cases u : (r : ℕ) % 4352 < 256
    · simp only [u, dite_true, gkC_at A0 A1 A2 A3 Q K V D hQ hK hV hD]
      rw [← EReal.coe_add, div_real _ _ log_two_ne]
    · simp only [u, dite_false, add_zero]
      rw [div_real _ _ log_two_ne]
  · simp only [e, and_false, dite_false]
    rw [div_real _ _ log_two_ne, zero_div]

include hQ hK hD in
/-- The reference's third result is the gradient of the values. -/
theorem out2_at (r : Fin 8704) (l : Fin 768) : out2 A0 A1 A3 (ix2 r l) = ((lanes (gradV Q K D) r l : ℝ) : EReal) := by
  pointwise [out2]
  have h1 : (r : ℕ) / 4352 < 2 := by omega
  have h2 : (r : ℕ) % 4352 < 4352 := by omega
  have h3 : (l : ℕ) / 128 < 6 := by omega
  have h0 : (FloatOps.sitofp (F := Ideal) .f32 (0#32 : BitVec 32)) = ((0 : ℝ) : EReal) := by simp [FloatOps.sitofp]
  simp only [h1, h2, h3, true_and, h0, lanes]
  by_cases e : (l : ℕ) % 128 < 64
  · simp only [e, and_true, dite_true, gradV, gvL_at A0 A1 A3 Q K D hQ hK hD]
    by_cases u : (r : ℕ) % 4352 < 256
    · simp only [u, dite_true, gvC_at A0 A1 A3 Q K D hQ hK hD]
      rw [← EReal.coe_add]
    · simp only [u, dite_false, add_zero]
  · simp only [e, and_false, dite_false]

end

end Cert.ReferenceIdeal.Rows

end
-- ==== Proof.Sums.lean ====
module

public import Idealize.ShloMosaic.Lib.Pipeline.ValueKit

@[expose] public section

noncomputable section

namespace Cert.Sums

/-- A sum, cut into runs of the same length. -/
theorem cut {M : Type*} [AddCommMonoid M] (A B N : ℕ) (h : A * B = N) (f : Fin N → M) :
    ∑ k, f k = ∑ a : Fin A, ∑ b : Fin B, f ⟨B * a + b, by
      have h1 : B * a + B ≤ B * A := by rw [← Nat.mul_succ]; exact Nat.mul_le_mul_left _ a.isLt
      have h2 := b.isLt
      rw [← h, Nat.mul_comm A B]; omega⟩ := by
  subst h
  rw [← Fin.sum_univ_mul_divNat_modNat A B (fun a b => f ⟨B * a + b, _⟩)]
  exact Finset.sum_congr rfl fun k _ => congrArg f (Fin.ext (Nat.div_add_mod _ _).symm)

end Cert.Sums

end
-- ==== Proof.W1.lean ====
module

public import proofs.«01_k».proof.Proof.Gen.Kernel3Ideal.Value
public import proofs.«01_k».proof.Proof.Sums
public import Idealize.ShloMosaic.Lib.Pipeline.ValueKit
public import Idealize.ShloMosaic.Lib.Pointwise

@[expose] public section

set_option maxRecDepth 16384

noncomputable section

namespace Cert.Kernel3Ideal.W1

open Cert.Kernel3Ideal Cert.Kernel3Ideal.Gen Idealize.ShloMosaic Idealize.ShloMosaic.TcCoe Idealize.SL.Sem

/-- The windows' block indices. -/
theorem idx : ∀ t : Fin cfg0.N,
    win0_0.index t = ![t.val % 4, 0] ∧ win0_1.index t = ![t.val % 4, t.val / 4] ∧ t.val < 16 :=
  (by decide +kernel : ∀ t : Fin grid0.N, _)

variable (m : (ℓ : Loc nD τ sig) → Buf (Elt Ideal) ℓ) (c : Dev nD)

/-- The layer's input, at a row of both batch entries. -/
def rowH (k : Fin 8704) (p : Fin 1024) : EReal :=
  (show FVec Ideal S2x4352x1024 .f32 from m (c, Proc.tc.devRef main_arg0)) (ix3 ⟨k / 4352, by omega⟩ ⟨k % 4352, by omega⟩ p)

/-- The gradient of the layer's output, at a row of both batch entries. -/
def rowU (k : Fin 8704) (p : Fin 4096) : EReal :=
  (show FVec Ideal S2x4352x4096 .f32 from m (c, Proc.tc.devRef main_arg1)) (ix3 ⟨k / 4352, by omega⟩ ⟨k % 4352, by omega⟩ p)

/-- A block of rows of the input. -/
theorem rd0 (t : Fin cfg0.N) (k : Fin 2176) (p : Fin 1024) :
    (show FVec Ideal S2176x1024 .bf16 from iblk m c 0 t) (ix2 k p) = rowH m c ⟨2176 * (t.val % 4) + k, by omega⟩ p := by
  show V m c main_v1 (((cfg0.win 0).blk t).view.emb (ix2 k p)) = _
  have e : ((cfg0.win 0).blk t).view.emb (ix2 k p) = ix2 (⟨2176 * (t.val % 4) + k, by omega⟩ : Fin 8704) p := by
    blk_ext [idx t]
  rw [e]
  entry_read
  pointwise [rowH]

/-- A block of rows and columns of the output's gradient. -/
theorem rd1 (t : Fin cfg0.N) (k : Fin 2176) (n : Fin 1024) :
    (show FVec Ideal S2176x1024 .bf16 from iblk m c 1 t) (ix2 k n)
      = rowU m c ⟨2176 * (t.val % 4) + k, by omega⟩ ⟨1024 * (t.val / 4) + n, by have := (idx t).2.2; omega⟩ := by
  show V m c main_v3 (((cfg0.win 1).blk t).view.emb (ix2 k n)) = _
  have e : ((cfg0.win 1).blk t).view.emb (ix2 k n)
      = ix2 (⟨2176 * (t.val % 4) + k, by omega⟩ : Fin 8704) (⟨1024 * (t.val / 4) + n, by have := (idx t).2.2; omega⟩ : Fin 4096) := by
    blk_ext [idx t]
  rw [e]
  entry_read
  pointwise [rowU]

/-- What point `n` adds at a row and a column of its block. -/
def addAt (n : ℕ) (p q : Fin 1024) : EReal :=
  ∑ k : Fin 2176, rowH m c ⟨2176 * (n % 4) + k, by omega⟩ p
    * rowU m c ⟨2176 * (n % 4) + k, by omega⟩ ⟨1024 * (n / 4 % 4) + q, by omega⟩

/-- What point `n` adds at an index of its block. -/
def add (n : ℕ) (i : S1x1024x1024.Idx) : EReal := addAt m c n (show Fin 1024 from i 1) (show Fin 1024 from i 2)

/-- What a point adds to its block. -/
theorem pay (t : Fin cfg0.N) (acc : FVec Ideal S1x1024x1024 .f32) (i : S1x1024x1024.Idx) :
    k0_pay2 (F := Ideal) (iblk m c 0 t) (iblk m c 1 t) acc i = (acc i + add m c t.val i : EReal) := by
  obtain ⟨a, p, q, rfl⟩ : ∃ (a : Fin 1) (p q : Fin 1024), i = ix3 a p q := ⟨i 0, i 1, i 2, eq_ix3 i⟩
  obtain rfl : a = 0 := Subsingleton.elim _ _
  have e : t.val / 4 % 4 = t.val / 4 := by have := (idx t).2.2; omega
  show _ = acc (ix3 0 p q) + addAt m c t.val p q
  unfold addAt
  simp only [e]
  simp only [← rd0, ← rd1]
  pointwise [k0_pay2]

/-- The array at the end: every row's product summed. -/
theorem final (q : Fin 4) (p n : Fin 1024) :
    Value.G2 m c (ix3 q p n) = (∑ k : Fin 8704, rowH m c k p * rowU m c k ⟨1024 * q + n, by omega⟩ : EReal) := by
  unfold Value.G2
  have hr : Value.run2Of (ix3 q p n) = q := by
    show 1 * ((q : ℕ) / 1 - 0) + 1 * ((p : ℕ) / 1024 - 0) + 1 * ((n : ℕ) / 1024 - 0) = q
    omega
  have hl : Value.loc2Of (ix3 q p n) = ix3 0 p n := by
    funext a
    apply Fin.ext
    match a with
    | ⟨0, _⟩ => show (q : ℕ) % 1 = 0; omega
    | ⟨1, _⟩ => show (p : ℕ) % 1024 = p; omega
    | ⟨2, _⟩ => show (n : ℕ) % 1024 = n; omega
  have hN : cfg0.N = 16 := N_0
  rw [dif_pos (by rw [hr, hN]; omega), hl]
  refine (Pipeline.accAt_add_apply (β := EReal) (Value.reset2 m c) (Value.step2 m c) (fun _ => (0 : EReal)) (add m c) (4 * Value.run2Of (ix3 q p n)) 3
    (fun h i => (pay m c ⟨_, h⟩ _ i).trans (by congr 1; pointwise [k0_pay1]))
    (fun n h acc i _ _ => pay m c ⟨_, h⟩ _ i) 3 le_rfl _ _).trans ?_
  rw [hr, zero_add, Finset.sum_range, Sums.cut 4 2176 8704 rfl]
  refine Finset.sum_congr rfl fun s _ => ?_
  have e0 : (4 * (q : ℕ) + s) % 4 = s := by omega
  have e1 : (4 * (q : ℕ) + s) / 4 % 4 = q := by omega
  show addAt m c (4 * q + s) p n = _
  unfold addAt
  simp only [e0, e1]

end Cert.Kernel3Ideal.W1

end
-- ==== Proof.W2.lean ====
module

public import proofs.«01_k».proof.Proof.Gen.Kernel4Ideal.Value
public import proofs.«01_k».proof.Proof.Sums
public import Idealize.ShloMosaic.Lib.Pipeline.ValueKit
public import Idealize.ShloMosaic.Lib.Pointwise

@[expose] public section

set_option maxRecDepth 16384

noncomputable section

namespace Cert.Kernel4Ideal.W2

open Cert.Kernel4Ideal Cert.Kernel4Ideal.Gen Idealize.ShloMosaic Idealize.ShloMosaic.TcCoe Idealize.SL.Sem

/-- The windows' block indices. -/
theorem idx : ∀ t : Fin cfg0.N,
    win0_0.index t = ![t.val % 4, t.val / 4] ∧ win0_1.index t = ![t.val % 4, 0] ∧ t.val < 16 :=
  (by decide +kernel : ∀ t : Fin grid0.N, _)

variable (m : (ℓ : Loc nD τ sig) → Buf (Elt Ideal) ℓ) (c : Dev nD)

/-- The hidden layer, at a row of both batch entries. -/
def rowR (k : Fin 8704) (p : Fin 4096) : EReal :=
  (show FVec Ideal S2x4352x4096 .f32 from m (c, Proc.tc.devRef main_arg0)) (ix3 ⟨k / 4352, by omega⟩ ⟨k % 4352, by omega⟩ p)

/-- The gradient of the layer's output, at a row of both batch entries. -/
def rowD (k : Fin 8704) (p : Fin 1024) : EReal :=
  (show FVec Ideal S2x4352x1024 .f32 from m (c, Proc.tc.devRef main_arg1)) (ix3 ⟨k / 4352, by omega⟩ ⟨k % 4352, by omega⟩ p)

/-- A block of rows and columns of the hidden layer. -/
theorem rd0 (t : Fin cfg0.N) (k : Fin 2176) (p : Fin 1024) :
    (show FVec Ideal S2176x1024 .bf16 from iblk m c 0 t) (ix2 k p)
      = rowR m c ⟨2176 * (t.val % 4) + k, by omega⟩ ⟨1024 * (t.val / 4) + p, by have := (idx t).2.2; omega⟩ := by
  show V m c main_v1 (((cfg0.win 0).blk t).view.emb (ix2 k p)) = _
  have e : ((cfg0.win 0).blk t).view.emb (ix2 k p)
      = ix2 (⟨2176 * (t.val % 4) + k, by omega⟩ : Fin 8704) (⟨1024 * (t.val / 4) + p, by have := (idx t).2.2; omega⟩ : Fin 4096) := by
    blk_ext [idx t]
  rw [e]
  entry_read
  pointwise [rowR]

/-- A block of rows of the output's gradient. -/
theorem rd1 (t : Fin cfg0.N) (k : Fin 2176) (n : Fin 1024) :
    (show FVec Ideal S2176x1024 .bf16 from iblk m c 1 t) (ix2 k n) = rowD m c ⟨2176 * (t.val % 4) + k, by omega⟩ n := by
  show V m c main_v3 (((cfg0.win 1).blk t).view.emb (ix2 k n)) = _
  have e : ((cfg0.win 1).blk t).view.emb (ix2 k n) = ix2 (⟨2176 * (t.val % 4) + k, by omega⟩ : Fin 8704) n := by
    blk_ext [idx t]
  rw [e]
  entry_read
  pointwise [rowD]

/-- What point `n` adds at a row and a column of its block. -/
def addAt (n : ℕ) (p q : Fin 1024) : EReal :=
  ∑ k : Fin 2176, (rowR m c ⟨2176 * (n % 4) + k, by omega⟩ ⟨1024 * (n / 4 % 4) + p, by omega⟩
    * rowR m c ⟨2176 * (n % 4) + k, by omega⟩ ⟨1024 * (n / 4 % 4) + p, by omega⟩) * rowD m c ⟨2176 * (n % 4) + k, by omega⟩ q

/-- What point `n` adds at an index of its block. -/
def add (n : ℕ) (i : S1024x1024.Idx) : EReal := addAt m c n (show Fin 1024 from i 0) (show Fin 1024 from i 1)

/-- What a point adds to its block. -/
theorem pay (t : Fin cfg0.N) (acc : FVec Ideal S1024x1024 .f32) (i : S1024x1024.Idx) :
    k0_pay2 (F := Ideal) (iblk m c 0 t) (iblk m c 1 t) acc i = (acc i + add m c t.val i : EReal) := by
  obtain ⟨p, q, rfl⟩ : ∃ (p q : Fin 1024), i = ix2 p q := ⟨i 0, i 1, eq_ix2 i⟩
  have e : t.val / 4 % 4 = t.val / 4 := by have := (idx t).2.2; omega
  show _ = acc (ix2 p q) + addAt m c t.val p q
  unfold addAt
  simp only [e]
  simp only [← rd0, ← rd1]
  pointwise [k0_pay2]

/-- The array at the end: every row's product summed. -/
theorem final (p : Fin 4096) (n : Fin 1024) :
    Value.G2 m c (ix2 p n) = (∑ k : Fin 8704, (rowR m c k p * rowR m c k p) * rowD m c k n : EReal) := by
  unfold Value.G2
  have hr : Value.run2Of (ix2 p n) = p / 1024 := by
    show 1 * ((p : ℕ) / 1024 - 0) + 1 * ((n : ℕ) / 1024 - 0) = p / 1024
    omega
  have hl : Value.loc2Of (ix2 p n) = ix2 ⟨p % 1024, by omega⟩ n := by
    funext a
    apply Fin.ext
    match a with
    | ⟨0, _⟩ => rfl
    | ⟨1, _⟩ => show (n : ℕ) % 1024 = n; omega
  have hN : cfg0.N = 16 := N_0
  rw [dif_pos (by rw [hr, hN]; omega), hl]
  refine (Pipeline.accAt_add_apply (β := EReal) (Value.reset2 m c) (Value.step2 m c) (fun _ => (0 : EReal)) (add m c) (4 * Value.run2Of (ix2 p n)) 3
    (fun h i => (pay m c ⟨_, h⟩ _ i).trans (by congr 1; pointwise [k0_pay1]))
    (fun n h acc i _ _ => pay m c ⟨_, h⟩ _ i) 3 le_rfl _ _).trans ?_
  rw [hr, zero_add, Finset.sum_range, Sums.cut 4 2176 8704 rfl]
  refine Finset.sum_congr rfl fun s _ => ?_
  have e0 : (4 * ((p : ℕ) / 1024) + s) % 4 = s := by omega
  have e1 : (4 * ((p : ℕ) / 1024) + s) / 4 % 4 = p / 1024 := by omega
  have e2 : (⟨1024 * ((p : ℕ) / 1024) + p % 1024, by omega⟩ : Fin 4096) = p := Fin.ext (Nat.div_add_mod _ _)
  show addAt m c (4 * (p / 1024) + s) ⟨p % 1024, _⟩ n = _
  unfold addAt
  simp only [e0, e1, e2]

end Cert.Kernel4Ideal.W2

end
-- ==== Proof.WRef.lean ====
module

public import proofs.«01_k».proof.Proof.Gen.Reference3Ideal.Run
public import proofs.«01_k».proof.Proof.Gen.Reference4Ideal.Run
public import proofs.«01_k».proof.Proof.Sums
public import Idealize.ShloMosaic.Lib.Pointwise

@[expose] public section

set_option maxRecDepth 16384

noncomputable section

namespace Cert.WRef

open Idealize.ShloMosaic

/-- A sum over the rows of both batch entries. -/
theorem rows (f : Fin 2 → Fin 4352 → EReal) :
    ∑ k : Fin 8704, f ⟨k / 4352, by omega⟩ ⟨k % 4352, by omega⟩ = ∑ a, ∑ b, f a b := by
  rw [Sums.cut 2 4352 8704 rfl]
  refine Finset.sum_congr rfl fun a _ => Finset.sum_congr rfl fun b _ => ?_
  have e0 : (⟨(4352 * (a : ℕ) + b) / 4352, by omega⟩ : Fin 2) = a := Fin.ext (by show (4352 * (a : ℕ) + b) / 4352 = a; omega)
  have e1 : (⟨(4352 * (a : ℕ) + b) % 4352, by omega⟩ : Fin 4352) = b := Fin.ext (by show (4352 * (a : ℕ) + b) % 4352 = b; omega)
  rw [e0, e1]

section
open Cert.Reference3Ideal Cert.Reference3Ideal.Gen

/-- The gradient of the first weight, at an index of its blocks of columns. -/
theorem at3 (H : FVec Ideal S2x4352x1024 .f32) (U : FVec Ideal S2x4352x4096 .f32) (q : Fin 4) (p n : Fin 1024) :
    transpose S4x1024x1024 [1, 0, 2] (shapeCast S1024x4x1024 (transpose S1024x4096 [1, 0] (Host.dotGeneral dot_S2x4352x4096_S2x4352x1024_S4096x1024_01_01_2_2_n_n none U H) transposes_S4096x1024_S1024x4096_1_0) shapeCasts_S1024x4096_S1024x4x1024) transposes_S1024x4x1024_S4x1024x1024_1_0_2 (ix3 q p n)
      = (∑ k : Fin 8704, H (ix3 ⟨k / 4352, by omega⟩ ⟨k % 4352, by omega⟩ p) * U (ix3 ⟨k / 4352, by omega⟩ ⟨k % 4352, by omega⟩ ⟨1024 * q + n, by omega⟩) : EReal) := by
  rw [rows fun a b => (H (ix3 a b p) * U (ix3 a b ⟨1024 * q + n, by omega⟩) : EReal)]
  pointwise
  refine Finset.sum_congr rfl fun a _ => Finset.sum_congr rfl fun b _ => ?_
  rw [mul_comm]
  congr 3
  exact Fin.ext (by simp only []; omega)

end

section
open Cert.Reference4Ideal Cert.Reference4Ideal.Gen

/-- The gradient of the second weight at an index. -/
theorem at4 (R : FVec Ideal S2x4352x4096 .f32) (D : FVec Ideal S2x4352x1024 .f32) (p : Fin 4096) (n : Fin 1024) :
    transpose S4096x1024 [1, 0] (Host.dotGeneral dot_S2x4352x1024_S2x4352x4096_S1024x4096_01_01_2_2_n_n none D (mulf R R)) transposes_S1024x4096_S4096x1024_1_0 (ix2 p n)
      = (∑ k : Fin 8704, (R (ix3 ⟨k / 4352, by omega⟩ ⟨k % 4352, by omega⟩ p) * R (ix3 ⟨k / 4352, by omega⟩ ⟨k % 4352, by omega⟩ p)) * D (ix3 ⟨k / 4352, by omega⟩ ⟨k % 4352, by omega⟩ n) : EReal) := by
  rw [rows fun a b => (R (ix3 a b p) * R (ix3 a b p) * D (ix3 a b n) : EReal)]
  pointwise
  exact Finset.sum_congr rfl fun a _ => Finset.sum_congr rfl fun b _ => mul_comm _ _

end

end Cert.WRef

end
-- ==== Proof.MlpMath.lean ====
module

public import Idealize.ShloMosaic.Lib.Pointwise
public import Idealize.ShloMosaic.Lib.Claim

@[expose] public section

set_option maxRecDepth 16384

noncomputable section

namespace Cert.Mlp

open Idealize.ShloMosaic

/-- What the layer's backward pass is given: the rows, their gradient, the modulations (the third one is the context's), the norm's weight and the two matrices. -/
structure In where
  /-- the rows -/
  x : Fin 2 → Fin 4352 → Fin 1024 → EReal
  /-- the gradient of the layer's output -/
  d : Fin 2 → Fin 4352 → Fin 1024 → EReal
  /-- the modulations -/
  m : Fin 3 → Fin 6 → Fin 1024 → EReal
  /-- the norm's weight -/
  w : Fin 1024 → EReal
  /-- the first matrix -/
  w1 : Fin 1024 → Fin 4096 → EReal
  /-- the second matrix -/
  w2 : Fin 4096 → Fin 1024 → EReal

variable (P : In)

/-- A token's modulation: the context's on the first 256 tokens, the batch entry's after. -/
def md (j : Fin 6) (b : Fin 2) (t : Fin 4352) (l : Fin 1024) : EReal := if (t : ℕ) < 256 then P.m 2 j l else P.m ⟨b, by omega⟩ j l

/-- A row's mean square. -/
def ms (b : Fin 2) (t : Fin 4352) : EReal :=
  Ideal.div (∑ k, P.x b t k * P.x b t k) (Ideal.ofBits .f32 0x44800000#32) + Ideal.ofBits .f32 0x358637BD#32

/-- Its reciprocal root. -/
def rs (b : Fin 2) (t : Fin 4352) : EReal := Ideal.rsqrt (ms P b t)

/-- A normalised row. -/
def xh (b : Fin 2) (t : Fin 4352) (l : Fin 1024) : EReal := P.x b t l * rs P b t

/-- The layer's input. -/
def inp (b : Fin 2) (t : Fin 4352) (l : Fin 1024) : EReal := xh P b t l * P.w l * (1 + md P 4 b t l) + md P 3 b t l

/-- The hidden layer before the rectifier. -/
def u (b : Fin 2) (t : Fin 4352) (n : Fin 4096) : EReal := ∑ l, inp P b t l * P.w1 l n

/-- The rectified hidden layer. -/
def rl (b : Fin 2) (t : Fin 4352) (n : Fin 4096) : EReal := max (u P b t n) 0

/-- The layer's output. -/
def mo (b : Fin 2) (t : Fin 4352) (l : Fin 1024) : EReal := ∑ n, rl P b t n * rl P b t n * P.w2 n l

/-- The gated gradient. -/
def ob (b : Fin 2) (t : Fin 4352) (l : Fin 1024) : EReal := P.d b t l * md P 5 b t l

/-- The hidden layer's gradient. -/
def du (b : Fin 2) (t : Fin 4352) (n : Fin 4096) : EReal :=
  (∑ k, ob P b t k * P.w2 n k) * (Ideal.ofBits .f32 0x40000000#32 * rl P b t n)

/-- The gradient of the layer's input. -/
def dh (b : Fin 2) (t : Fin 4352) (l : Fin 1024) : EReal := ∑ n, du P b t n * P.w1 l n

/-- … through the scale. -/
def sc (b : Fin 2) (t : Fin 4352) (l : Fin 1024) : EReal := dh P b t l * (1 + md P 4 b t l)

/-- … through the norm's weight. -/
def dn (b : Fin 2) (t : Fin 4352) (l : Fin 1024) : EReal := sc P b t l * P.w l

/-- The rows' gradient, with the norm's backward pass written on normalised rows. -/
def dx (b : Fin 2) (t : Fin 4352) (l : Fin 1024) : EReal :=
  P.d b t l + rs P b t * (dn P b t l - xh P b t l * Ideal.div (∑ k, dn P b t k * xh P b t k) (Ideal.ofBits .f32 0x44800000#32))

/-- What the mean square's gradient gives every entry of a row, as a chain of the norm's operations. -/
def gm (b : Fin 2) (t : Fin 4352) : EReal :=
  Ideal.div ((∑ k, P.x b t k * dn P b t k) * (Ideal.ofBits .f32 0xBF000000#32 * Ideal.div (rs P b t) (ms P b t))) (Ideal.ofBits .f32 0x44800000#32)

/-- The rows' gradient, with the norm's backward pass as a chain of its operations. -/
def dxR (b : Fin 2) (t : Fin 4352) (l : Fin 1024) : EReal :=
  P.d b t l + (dn P b t l * rs P b t + P.x b t l * gm P b t + gm P b t * P.x b t l)

/-- The batch entry of a block of 256 rows. -/
abbrev bB (i : Fin 34) : Fin 2 := ⟨i / 17, by omega⟩

/-- The token of a row of a block of 256 rows. -/
abbrev bT (i : Fin 34) (r : Fin 256) : Fin 4352 := ⟨256 * (i % 17) + r, by omega⟩

/-- The sums over a block's rows that the modulations' and the norm weight's gradients are made of. -/
def part (i : Fin 34) (k : Fin 8) (l : Fin 1024) : EReal :=
  if (k : ℕ) = 0 then ∑ r, dh P (bB i) (bT i r) l
  else if (k : ℕ) = 1 then ∑ r, dh P (bB i) (bT i r) l * xh P (bB i) (bT i r) l * P.w l
  else if (k : ℕ) = 2 then ∑ r, P.d (bB i) (bT i r) l * mo P (bB i) (bT i r) l
  else if (k : ℕ) = 3 then ∑ r, sc P (bB i) (bT i r) l * xh P (bB i) (bT i r) l
  else 0

/-- The batch entry of a row of both. -/
abbrev rB (R : Fin 8704) : Fin 2 := ⟨R / 4352, by omega⟩

/-- The token of a row of both batch entries. -/
abbrev rT (R : Fin 8704) : Fin 4352 := ⟨R % 4352, by omega⟩

end Cert.Mlp

end
-- ==== Proof.MlpKer.lean ====
module

public import proofs.«01_k».proof.Proof.Gen.Kernel2Ideal.Value
public import proofs.«01_k».proof.Proof.MlpMath
public import Idealize.ShloMosaic.Lib.Pipeline.ValueKit

@[expose] public section

set_option maxRecDepth 16384

noncomputable section

namespace Cert.Kernel2Ideal.Rows

open Cert.Kernel2Ideal Cert.Kernel2Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32) (A5 : FVec Ideal S2x4352x1024 .f32)

/-- The arguments, by their indices. -/
def args : In where
  x b t l := A0 (ix3 b t l)
  d b t l := A5 (ix3 b t l)
  m b j l := A1 (ix3 b j l)
  w l := A2 (ix1 l)
  w1 l n := A3 (ix2 l n)
  w2 n l := A4 (ix2 n l)

/-- The context's rows and the batch entries', one after the other. -/
def catR (a : FVec Ideal S2x256x6x1024 .f32) (b : FVec Ideal S2x4096x6x1024 .f32) : FVec Ideal S2x4352x6x1024 .f32 := concatenate S2x4352x6x1024 1 [⟨S2x256x6x1024, a⟩, ⟨S2x4096x6x1024, b⟩] concatenates_S2x256x6x1024_S2x4096x6x1024_S2x4352x6x1024_d1
/-- The tokens' modulations. -/
def byRow : FVec Ideal S2x4352x6x1024 .f32 := catR (broadcastInDim S2x256x6x1024 ![2, 3] bcast_S6x1024_S2x256x6x1024_2_3 (shapeCast S6x1024 (extractStridedSlice S1x6x1024 ![2, 0, 0] A1 slices_S3x6x1024_S1x6x1024_2_0_0) shapeCasts_S1x6x1024_S6x1024)) (broadcastInDim S2x4096x6x1024 ![0, 1, 2, 3] bcast_S2x1x6x1024_S2x4096x6x1024_0_1_2_3 (broadcastInDim S2x1x6x1024 ![0, 2, 3] bcast_S2x6x1024_S2x1x6x1024_0_2_3 (extractStridedSlice S2x6x1024 ![0, 0, 0] A1 slices_S3x6x1024_S2x6x1024_0_0_0)))
/-- The shift. -/
def shift : FVec Ideal S2x4352x1024 .f32 := shapeCast S2x4352x1024 (extractStridedSlice S2x4352x1x1024 ![0, 0, 3, 0] (byRow A1) slices_S2x4352x6x1024_S2x4352x1x1024_0_0_3_0) shapeCasts_S2x4352x1x1024_S2x4352x1024
/-- The scale. -/
def scl : FVec Ideal S2x4352x1024 .f32 := shapeCast S2x4352x1024 (extractStridedSlice S2x4352x1x1024 ![0, 0, 4, 0] (byRow A1) slices_S2x4352x6x1024_S2x4352x1x1024_0_0_4_0) shapeCasts_S2x4352x1x1024_S2x4352x1024
/-- One and the scale. -/
def scale1 : FVec Ideal S2x4352x1024 .f32 := addf (broadcastInDim S2x4352x1024 ![] bcast_S_S2x4352x1024 (constant S_ .f32 0x3F800000#32)) (scl A1)
/-- The rows' mean squares. -/
def msq : FVec Ideal S2x4352x1 .f32 := addf (Host.divf (broadcastInDim S2x4352x1 ![0, 1] bcast_S2x4352_S2x4352x1_0_1 (Host.reduceAdd (mulf A0 A0) (constant S_ .f32 0x00000000#32) reducesTo_S2x4352x1024_S2x4352_d2 h_S_)) (broadcastInDim S2x4352x1 ![] bcast_S_S2x4352x1 (constant S_ .f32 0x44800000#32))) (broadcastInDim S2x4352x1 ![] bcast_S_S2x4352x1 (constant S_ .f32 0x358637BD#32))
/-- Their reciprocal roots. -/
def rsq : FVec Ideal S2x4352x1 .f32 := Host.rsqrt (msq A0)
/-- The normalised rows. -/
def nrm : FVec Ideal S2x4352x1024 .f32 := mulf A0 (broadcastInDim S2x4352x1024 ![0, 1, 2] bcast_S2x4352x1_S2x4352x1024_0_1_2 (rsq A0))
/-- … with the weight. -/
def nrmW : FVec Ideal S2x4352x1024 .f32 := mulf (nrm A0) (broadcastInDim S2x4352x1024 ![0, 1, 2] bcast_S1x1x1024_S2x4352x1024_0_1_2 (broadcastInDim S1x1x1024 ![2] bcast_S1024_S1x1x1024_2 A2))
/-- The layer's input. -/
def hin : FVec Ideal S2x4352x1024 .f32 := addf (mulf (nrmW A0 A2) (scale1 A1)) (shift A1)
/-- The hidden layer. -/
def hid : FVec Ideal S2x4352x4096 .f32 := Host.dotGeneral dot_S2x4352x1024_S1024x4096_S2x4352x4096_2_0_01_1_n_n none (hin A0 A1 A2) A3
/-- The rectified hidden layer. -/
def rel : FVec Ideal S2x4352x4096 .f32 := maximumf (hid A0 A1 A2 A3) (broadcastInDim S2x4352x4096 ![] bcast_S_S2x4352x4096 (constant S_ .f32 0x00000000#32))
/-- The layer's output. -/
def out : FVec Ideal S2x4352x1024 .f32 := Host.dotGeneral dot_S2x4352x4096_S4096x1024_S2x4352x1024_2_0_01_1_n_n none (mulf (rel A0 A1 A2 A3) (rel A0 A1 A2 A3)) A4
/-- A batch entry's rows, in one list. -/
def flat (A : FVec Ideal S2x4352x1024 .f32) : FVec Ideal S8704x1024 .f32 := shapeCast S8704x1024 A shapeCasts_S2x4352x1024_S8704x1024
/-- … at the narrower format. -/
def flatB (A : FVec Ideal S2x4352x1024 .f32) : FVec Ideal S8704x1024 .bf16 := shapeCast S8704x1024 (truncf .bf16 A bitsLt_bf16_f32) shapeCasts_S2x4352x1024_S8704x1024
/-- A batch entry's hidden rows, in one list. -/
def flatH (A : FVec Ideal S2x4352x4096 .f32) : FVec Ideal S8704x4096 .bf16 := shapeCast S8704x4096 (truncf .bf16 A bitsLt_bf16_f32) shapeCasts_S2x4352x4096_S8704x4096
/-- A context block and sixteen others, for two batch entries. -/
def catM (a : FVec Ideal S1x6x1024 .f32) (b : FVec Ideal S16x6x1024 .f32) (c : FVec Ideal S1x6x1024 .f32) (d : FVec Ideal S16x6x1024 .f32) : FVec Ideal S34x8x1024 .f32 := pad S34x8x1024 ![0, 0, 0] ![0, 2, 0] ![0, 0, 0] (concatenate S34x6x1024 0 [⟨S1x6x1024, a⟩, ⟨S16x6x1024, b⟩, ⟨S1x6x1024, c⟩, ⟨S16x6x1024, d⟩] concatenates_S1x6x1024_S16x6x1024_S1x6x1024_S16x6x1024_S34x6x1024_d0) (sitofp .f32 (constantI S_ 32 0#32)) pads_S34x6x1024_S34x8x1024_000_020_000 h_S_
/-- The blocks' modulations. -/
def mods : FVec Ideal S34x8x1024 .f32 := catM (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![0, 0, 0] A1 slices_S3x6x1024_S1x6x1024_0_0_0)) (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![1, 0, 0] A1 slices_S3x6x1024_S1x6x1024_1_0_0))

/-- The second matrix, at the narrower format. -/
def w2B (A : FVec Ideal S4096x1024 .f32) : FVec Ideal S4096x1024 .bf16 := truncf .bf16 A bitsLt_bf16_f32
/-- The first matrix, at the narrower format. -/
def w1B (A : FVec Ideal S1024x4096 .f32) : FVec Ideal S1024x4096 .bf16 := truncf .bf16 A bitsLt_bf16_f32
/-- The weight, in a row. -/
def wR (A : FVec Ideal S1024 .f32) : FVec Ideal S1x1024 .f32 := broadcastInDim S1x1024 ![1] bcast_S1024_S1x1024_1 A

/-- A product of arrays, at an index. -/
theorem mul_at {s : Shape} (a b : FVec Ideal s .f32) (i : s.Idx) : mulf a b i = (a i * b i : EReal) := rfl

/-- A sum of arrays, at an index. -/
theorem add_at {s : Shape} (a b : FVec Ideal s .f32) (i : s.Idx) : addf a b i = (a i + b i : EReal) := rfl

/-- An array of ones. -/
theorem one_at (i : S2x4352x1024.Idx) : broadcastInDim S2x4352x1024 ![] bcast_S_S2x4352x1024 (constant (F := Ideal) S_ .f32 0x3F800000#32) i = (1 : EReal) :=
  Ideal.ofBits_one_f32

/-- A token's modulation. -/
theorem byRow_at (b : Fin 2) (t : Fin 4352) (j : Fin 6) (l : Fin 1024) : byRow A1 (ix4 b t j l) = md (args A0 A1 A2 A3 A4 A5) j b t l := by
  unfold md args
  pointwise [byRow, catR]
  split_ifs <;> rfl

/-- The shift. -/
theorem shift_at (b : Fin 2) (t : Fin 4352) (l : Fin 1024) : shift A1 (ix3 b t l) = md (args A0 A1 A2 A3 A4 A5) 3 b t l := by
  rw [← byRow_at]
  pointwise [shift]

/-- The scale. -/
theorem scl_at (b : Fin 2) (t : Fin 4352) (l : Fin 1024) : scl A1 (ix3 b t l) = md (args A0 A1 A2 A3 A4 A5) 4 b t l := by
  rw [← byRow_at]
  pointwise [scl]

/-- One and the scale. -/
theorem scale1_at (b : Fin 2) (t : Fin 4352) (l : Fin 1024) : scale1 A1 (ix3 b t l) = 1 + md (args A0 A1 A2 A3 A4 A5) 4 b t l := by
  unfold scale1
  refine (add_at _ _ _).trans ?_
  rw [one_at, scl_at A0 A1 A2 A3 A4 A5]

/-- A row's mean square. -/
theorem msq_at (b : Fin 2) (t : Fin 4352) : msq A0 (ix3 b t 0) = ms (args A0 A1 A2 A3 A4 A5) b t := by
  unfold ms
  pointwise [msq, args]

/-- Its reciprocal root. -/
theorem rsq_at (b : Fin 2) (t : Fin 4352) : rsq A0 (ix3 b t 0) = rs (args A0 A1 A2 A3 A4 A5) b t := by
  unfold rs
  rw [← msq_at]
  pointwise [rsq]

/-- A row's reciprocal root, on all its lanes. -/
theorem rsqB_at (b : Fin 2) (t : Fin 4352) (l : Fin 1024) : broadcastInDim S2x4352x1024 ![0, 1, 2] bcast_S2x4352x1_S2x4352x1024_0_1_2 (rsq A0) (ix3 b t l) = rs (args A0 A1 A2 A3 A4 A5) b t := by
  rw [← rsq_at]
  generalize rsq A0 = v
  pointwise []

/-- A normalised row. -/
theorem nrm_at (b : Fin 2) (t : Fin 4352) (l : Fin 1024) : nrm A0 (ix3 b t l) = xh (args A0 A1 A2 A3 A4 A5) b t l := by
  unfold nrm xh
  refine (mul_at _ _ _).trans ?_
  rw [rsqB_at A0 A1 A2 A3 A4 A5]
  rfl

/-- The weight, on all rows. -/
theorem wB_at (b : Fin 2) (t : Fin 4352) (l : Fin 1024) : broadcastInDim S2x4352x1024 ![0, 1, 2] bcast_S1x1x1024_S2x4352x1024_0_1_2 (broadcastInDim S1x1x1024 ![2] bcast_S1024_S1x1x1024_2 A2) (ix3 b t l) = (args A0 A1 A2 A3 A4 A5).w l := by
  pointwise [args]

/-- A normalised row with the weight. -/
theorem nrmW_at (b : Fin 2) (t : Fin 4352) (l : Fin 1024) : nrmW A0 A2 (ix3 b t l) = xh (args A0 A1 A2 A3 A4 A5) b t l * (args A0 A1 A2 A3 A4 A5).w l := by
  unfold nrmW
  refine (mul_at _ _ _).trans ?_
  rw [wB_at A0 A1 A2 A3 A4 A5, nrm_at A0 A1 A2 A3 A4 A5]

/-- The layer's input. -/
theorem hin_at (b : Fin 2) (t : Fin 4352) (l : Fin 1024) : hin A0 A1 A2 (ix3 b t l) = inp (args A0 A1 A2 A3 A4 A5) b t l := by
  unfold hin inp
  refine (add_at _ _ _).trans ?_
  rw [mul_at, nrmW_at A0 A1 A2 A3 A4 A5, scale1_at A0 A1 A2 A3 A4 A5, shift_at A0 A1 A2 A3 A4 A5]

/-- The hidden layer. -/
theorem hid_at (b : Fin 2) (t : Fin 4352) (n : Fin 4096) : hid A0 A1 A2 A3 (ix3 b t n) = u (args A0 A1 A2 A3 A4 A5) b t n := by
  unfold u
  simp only [← hin_at]
  pointwise [hid, args]

/-- An array of zeros. -/
theorem zero_at (i : S2x4352x4096.Idx) : broadcastInDim S2x4352x4096 ![] bcast_S_S2x4352x4096 (constant (F := Ideal) S_ .f32 0x00000000#32) i = (0 : EReal) := by
  pointwise []

/-- The rectified hidden layer. -/
theorem rel_at (b : Fin 2) (t : Fin 4352) (n : Fin 4096) : rel A0 A1 A2 A3 (ix3 b t n) = rl (args A0 A1 A2 A3 A4 A5) b t n := by
  unfold rel rl
  rw [← hid_at]
  generalize hid A0 A1 A2 A3 = v
  refine (show maximumf v _ (ix3 b t n) = max (v (ix3 b t n)) (broadcastInDim S2x4352x4096 ![] bcast_S_S2x4352x4096 (constant (F := Ideal) S_ .f32 0x00000000#32) (ix3 b t n)) from rfl).trans ?_
  rw [zero_at]

/-- The layer's output. -/
theorem out_at (b : Fin 2) (t : Fin 4352) (l : Fin 1024) : out A0 A1 A2 A3 A4 (ix3 b t l) = mo (args A0 A1 A2 A3 A4 A5) b t l := by
  unfold mo out
  simp only [← rel_at]
  generalize rel A0 A1 A2 A3 = v
  pointwise [args]

/-- The second matrix, at an index. -/
theorem w2B_at (A : FVec Ideal S4096x1024 .f32) (n : Fin 4096) (l : Fin 1024) : w2B A (ix2 n l) = A (ix2 n l) := rfl

/-- The first matrix, at an index. -/
theorem w1B_at (A : FVec Ideal S1024x4096 .f32) (l : Fin 1024) (n : Fin 4096) : w1B A (ix2 l n) = A (ix2 l n) := rfl

/-- The weight, at an index. -/
theorem wR_at (A : FVec Ideal S1024 .f32) (l : Fin 1024) : wR A (ix2 0 l) = A (ix1 l) := by
  pointwise [wR]

/-- The rows in one list, at an index. -/
theorem flat_at (v : FVec Ideal S2x4352x1024 .f32) (R : Fin 8704) (l : Fin 1024) : flat v (ix2 R l) = v (ix3 (rB R) (rT R) l) := by
  pointwise [flat]

/-- … at the narrower format. -/
theorem flatB_at (v : FVec Ideal S2x4352x1024 .f32) (R : Fin 8704) (l : Fin 1024) : flatB v (ix2 R l) = v (ix3 (rB R) (rT R) l) := by
  pointwise [flatB]

/-- The hidden rows in one list, at an index. -/
theorem flatH_at (v : FVec Ideal S2x4352x4096 .f32) (R : Fin 8704) (n : Fin 4096) : flatH v (ix2 R n) = v (ix3 (rB R) (rT R) n) := by
  pointwise [flatH]

/-- A block's modulation is that of its tokens. -/
theorem mods_at (i : Fin 34) (j : Fin 6) (l : Fin 1024) (r : Fin 256) : mods A1 (ix3 i ⟨j, by omega⟩ l) = md (args A0 A1 A2 A3 A4 A5) j (bB i) (bT i r) l := by
  unfold md args
  pointwise [mods, catM]
  have key : ∀ a b : Fin 3, (a : ℕ) = b → A1 (ix3 a j l) = A1 (ix3 b j l) := fun a b h => by rw [Fin.ext h]
  have hi : (i : ℕ) < 34 := i.isLt
  have hr : (r : ℕ) < 256 := r.isLt
  by_cases h0 : (i : ℕ) < 1
  · refine (dif_pos h0).trans (Eq.trans ?_ (if_pos (by omega)).symm)
    exact key _ _ (by show 2 + (i : ℕ) = 2; omega)
  refine (dif_neg h0).trans ?_
  by_cases h1 : (i : ℕ) - 1 < 16
  · refine (dif_pos h1).trans (Eq.trans ?_ (if_neg (by omega)).symm)
    exact key _ _ (by show 0 = (i : ℕ) / 17; omega)
  refine (dif_neg h1).trans ?_
  by_cases h2 : (i : ℕ) - 1 - 16 < 1
  · refine (dif_pos h2).trans (Eq.trans ?_ (if_pos (by omega)).symm)
    exact key _ _ (by show 2 + ((i : ℕ) - 1 - 16) = 2; omega)
  · refine (dif_neg h2).trans (Eq.trans ?_ (if_neg (by omega)).symm)
    exact key _ _ (by show 1 = (i : ℕ) / 17; omega)

end Cert.Kernel2Ideal.Rows

end
-- ==== Proof.MlpEnt.lean ====
module

public import proofs.«01_k».proof.Proof.Gen.Kernel2Ideal.Value
public import proofs.«01_k».proof.Proof.MlpKer
public import Idealize.ShloMosaic.Lib.Pipeline.ValueKit

@[expose] public section

set_option maxRecDepth 16384

noncomputable section

namespace Cert.Kernel2Ideal.Rows

open Cert.Kernel2Ideal Cert.Kernel2Ideal.Gen Idealize.ShloMosaic Idealize.ShloMosaic.TcCoe Idealize.SL.Sem Cert.Mlp

section
variable (m : (ℓ : Loc nD τ sig) → Buf (Elt Ideal) ℓ) (c : Dev nD)

set_option maxHeartbeats 4000000 in
/-- The output's gradient when the kernel starts. -/
theorem ent0 : V m c main_v32 = flat (m (c, Proc.tc.devRef main_arg5)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The rows when the kernel starts. -/
theorem ent1 : V m c main_v33 = flat (m (c, Proc.tc.devRef main_arg0)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The layer's output when the kernel starts. -/
theorem ent2 : V m c main_v35 = flatB (out (m (c, Proc.tc.devRef main_arg0)) (m (c, Proc.tc.devRef main_arg1)) (m (c, Proc.tc.devRef main_arg2)) (m (c, Proc.tc.devRef main_arg3)) (m (c, Proc.tc.devRef main_arg4))) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The rectified hidden layer when the kernel starts. -/
theorem ent3 : V m c main_v37 = flatH (rel (m (c, Proc.tc.devRef main_arg0)) (m (c, Proc.tc.devRef main_arg1)) (m (c, Proc.tc.devRef main_arg2)) (m (c, Proc.tc.devRef main_arg3))) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The blocks' modulations when the kernel starts. -/
theorem ent4 : V m c main_v45 = mods (m (c, Proc.tc.devRef main_arg1)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The weight when the kernel starts. -/
theorem ent5 : V m c main_v46 = wR (m (c, Proc.tc.devRef main_arg2)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The second matrix when the kernel starts. -/
theorem ent6 : V m c main_v47 = w2B (m (c, Proc.tc.devRef main_arg4)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

set_option maxHeartbeats 4000000 in
/-- The first matrix when the kernel starts. -/
theorem ent7 : V m c main_v48 = w1B (m (c, Proc.tc.devRef main_arg3)) := by
  unfold V
  simp only [List.flatten_cons, List.flatten_nil, List.append_nil, StableHlo.after_append, hostOps0, hostOps0_1, hostOps0_2, hostOps0_3, hostOps0_4, StableHlo.TRef.nullary, StableHlo.TRef.binary, StableHlo.TRef.unary, StableHlo.TRef.toBuf, StableHlo.TRef.ofBuf, cast_eq]
  after_results_simp
  rfl

end

end Cert.Kernel2Ideal.Rows

end
-- ==== Proof.MlpPieces.lean ====
module
public import proofs.«01_k».proof.Proof.Gen.Kernel2Ideal.Value
public import Idealize.ShloMosaic.Lib.Pipeline.ValueKit
public import Idealize.ShloMosaic.Lib.Pointwise
public import Idealize.ShloMosaic.Lib.Pipeline.ReadBack
@[expose] public section
set_option maxRecDepth 16384
noncomputable section
namespace Cert.Kernel2Ideal.Pieces
open Cert.Kernel2Ideal Cert.Kernel2Ideal.Gen Idealize.ShloMosaic Idealize.ShloMosaic.TcCoe Idealize.SL.Sem

/-- What a store through a rectangle of a matrix leaves at an index. -/
theorem canon_unit2 {Val : EltTy → Type} [∀ e, Nonempty (Val e)] {ety : EltTy} {n0 n1 o0 o1 s0 s1 : ℕ}
    (inb : ∀ a, (![o0, o1] : Fin 2 → ℕ) a + (![s0, s1] : Fin 2 → ℕ) a ≤ (⟨2, ![n0, n1]⟩ : Shape).size a)
    (w : (⟨2, ![s0, s1]⟩ : Shape).Idx → Val ety) (L : List (View.Piece Val ⟨2, ![n0, n1]⟩ ety)) (r : Fin n0) (l : Fin n1) :
    View.canon ((⟨Rect.unit (s := ⟨2, ![n0, n1]⟩) ![o0, o1] ![s0, s1] inb, w⟩ : View.Piece Val ⟨2, ![n0, n1]⟩ ety) :: L) (ix2 r l)
      = if h : (o0 ≤ (r : ℕ) ∧ (r : ℕ) - o0 < s0) ∧ (o1 ≤ (l : ℕ) ∧ (l : ℕ) - o1 < s1) then w (ix2 ⟨r - o0, h.1.2⟩ ⟨l - o1, h.2.2⟩)
        else View.canon L (ix2 r l) := by
  by_cases h : (o0 ≤ (r : ℕ) ∧ (r : ℕ) - o0 < s0) ∧ (o1 ≤ (l : ℕ) ∧ (l : ℕ) - o1 < s1)
  · rw [dif_pos h]
    have e : (ix2 r l : (⟨2, ![n0, n1]⟩ : Shape).Idx)
        = (Rect.unit (s := ⟨2, ![n0, n1]⟩) ![o0, o1] ![s0, s1] inb).emb (ix2 ⟨r - o0, h.1.2⟩ ⟨l - o1, h.2.2⟩ : (⟨2, ![s0, s1]⟩ : Shape).Idx) := by
      funext a
      refine Fin.cases ?_ (fun a => ?_) a
      · exact Fin.ext (by show (r : ℕ) = o0 + 1 * ((r : ℕ) - o0); omega)
      · obtain rfl : a = 0 := Subsingleton.elim _ _
        exact Fin.ext (by show (l : ℕ) = o1 + 1 * ((l : ℕ) - o1); omega)
    conv_lhs => rw [e]
    exact View.canon_cons_emb (Rect.unit (s := ⟨2, ![n0, n1]⟩) ![o0, o1] ![s0, s1] inb) w L _
  · rw [dif_neg h]
    refine View.canon_cons_of_not_mem _ L fun hm => h ?_
    obtain ⟨x, hx⟩ := (Rect.unit (s := ⟨2, ![n0, n1]⟩) ![o0, o1] ![s0, s1] inb).exists_idx_of_mem hm
    have h0 : (r : ℕ) = o0 + 1 * (x 0 : ℕ) := congrArg (fun z : (⟨2, ![n0, n1]⟩ : Shape).Idx => (z 0 : ℕ)) hx.symm
    have h1 : (l : ℕ) = o1 + 1 * (x 1 : ℕ) := congrArg (fun z : (⟨2, ![n0, n1]⟩ : Shape).Idx => (z 1 : ℕ)) hx.symm
    have l0 : (x 0 : ℕ) < s0 := (x 0).isLt
    have l1 : (x 1 : ℕ) < s1 := (x 1).isLt
    omega

/-- The canonical array of a list of rectangles, at an index: the first rectangle, if the index is in it (rank 3). -/
theorem canon_unit3 {Val : EltTy → Type} [∀ e, Nonempty (Val e)] {ety : EltTy} {n0 n1 n2 o0 : ℕ}
    (inb : ∀ a, (![o0, 0, 0] : Fin 3 → ℕ) a + (![1, n1, n2] : Fin 3 → ℕ) a ≤ (⟨3, ![n0, n1, n2]⟩ : Shape).size a)
    (w : (⟨3, ![1, n1, n2]⟩ : Shape).Idx → Val ety) (L : List (View.Piece Val ⟨3, ![n0, n1, n2]⟩ ety)) (s : Fin n0) (r : Fin n1) (l : Fin n2) :
    View.canon ((⟨Rect.unit (s := ⟨3, ![n0, n1, n2]⟩) ![o0, 0, 0] ![1, n1, n2] inb, w⟩ : View.Piece Val ⟨3, ![n0, n1, n2]⟩ ety) :: L) (ix3 s r l)
      = if (s : ℕ) = o0 then w (ix3 0 r l) else View.canon L (ix3 s r l) := by
  by_cases h : (s : ℕ) = o0
  · rw [if_pos h]
    have e : (ix3 s r l : (⟨3, ![n0, n1, n2]⟩ : Shape).Idx)
        = (Rect.unit (s := ⟨3, ![n0, n1, n2]⟩) ![o0, 0, 0] ![1, n1, n2] inb).emb (ix3 0 r l : (⟨3, ![1, n1, n2]⟩ : Shape).Idx) := by
      funext a
      match a with
      | ⟨0, _⟩ => exact Fin.ext (by show (s : ℕ) = o0 + 1 * 0; omega)
      | ⟨1, _⟩ => exact Fin.ext (by show (r : ℕ) = 0 + 1 * (r : ℕ); omega)
      | ⟨2, _⟩ => exact Fin.ext (by show (l : ℕ) = 0 + 1 * (l : ℕ); omega)
    conv_lhs => rw [e]
    exact View.canon_cons_emb (Rect.unit (s := ⟨3, ![n0, n1, n2]⟩) ![o0, 0, 0] ![1, n1, n2] inb) w L _
  · rw [if_neg h]
    refine View.canon_cons_of_not_mem _ L fun hm => h ?_
    obtain ⟨x, hx⟩ := (Rect.unit (s := ⟨3, ![n0, n1, n2]⟩) ![o0, 0, 0] ![1, n1, n2] inb).exists_idx_of_mem hm
    have h0 : (s : ℕ) = o0 + 1 * (x 0 : ℕ) := congrArg (fun z : (⟨3, ![n0, n1, n2]⟩ : Shape).Idx => (z 0 : ℕ)) hx.symm
    have l0 : (x 0 : ℕ) < 1 := (x 0).isLt
    omega

/-- The number two as the kernel spells it. -/
abbrev two : EReal := Ideal.ofBits .f32 0x40000000#32

section
variable (X0 : FVec Ideal S512x1024 .f32) (X3 : FVec Ideal S512x4096 .bf16) (X4 : FVec Ideal S2x8x1024 .f32)
  (X6 : FVec Ideal S4096x1024 .bf16) (X7 : FVec Ideal S1024x4096 .bf16)

/-- The gradient of the perceptron's output. -/
def obAt (r : Fin 512) (l : Fin 1024) : EReal := X0 (ix2 r l) * X4 (ix3 ⟨r / 256, by omega⟩ 5 l)

/-- The same as an array. -/
def ob : FVec Ideal S512x1024 .bf16 := fun i => obAt X0 X4 (show Fin 512 from i 0) (show Fin 1024 from i 1)

/-- The gradient of the hidden layer before its relu. -/
def uAt (r : Fin 512) (n : Fin 4096) : EReal := (∑ k, obAt X0 X4 r k * X6 (ix2 n k)) * (two * X3 (ix2 r n))

/-- A quarter of its columns as an array. -/
def uq (q : Fin 4) : FVec Ideal S512x1024 .bf16 := fun i => uAt X0 X3 X4 X6 (show Fin 512 from i 0) ⟨1024 * q + (show Fin 1024 from i 1), by omega⟩

/-- What a quarter of the columns adds to the gradient of the layer's input. -/
def hq (q : Fin 4) (r : Fin 512) (l : Fin 1024) : EReal :=
  ∑ k : Fin 1024, uAt X0 X3 X4 X6 r ⟨1024 * q + k, by omega⟩ * X7 (ix2 l ⟨1024 * q + k, by omega⟩)

/-- The gradient of the layer's input after the first quarter. -/
def h0 : FVec Ideal S512x1024 .f32 := fun i => hq X0 X3 X4 X6 X7 0 (show Fin 512 from i 0) (show Fin 1024 from i 1)
/-- … after the second quarter. -/
def h1 : FVec Ideal S512x1024 .f32 := fun i => h0 X0 X3 X4 X6 X7 i + hq X0 X3 X4 X6 X7 1 (show Fin 512 from i 0) (show Fin 1024 from i 1)
/-- … after the third quarter. -/
def h2 : FVec Ideal S512x1024 .f32 := fun i => h1 X0 X3 X4 X6 X7 i + hq X0 X3 X4 X6 X7 2 (show Fin 512 from i 0) (show Fin 1024 from i 1)
/-- … after the last quarter. -/
def h3 : FVec Ideal S512x1024 .f32 := fun i => h2 X0 X3 X4 X6 X7 i + hq X0 X3 X4 X6 X7 3 (show Fin 512 from i 0) (show Fin 1024 from i 1)

/-- The output's gradient is stored in two halves. -/
theorem ob_canon (r : Fin 512) (l : Fin 1024) :
    View.canon (Val := Elt Ideal) (s := S512x1024) (e := .bf16) [⟨Rect.unit ![256, 0] ![256, 1024] inb_S512x1024_S256x1024_256_0, k0_pay3 (F := Ideal) (View.ld (Val := Elt Ideal) (S := S512x1024) (e' := .f32) X0 (Rect.unit (s := S512x1024) ![256, 0] ![256, 1024] inb_S512x1024_S256x1024_256_0)) (View.ld (Val := Elt Ideal) (S := S2x8x1024) (e' := .f32) X4 (Rect.unit (s := S2x8x1024) ![1, 5, 0] ![1, 1, 1024] inb_S2x8x1024_S1x1x1024_1_5_0))⟩, ⟨Rect.unit ![0, 0] ![256, 1024] inb_S512x1024_S256x1024_0_0, k0_pay2 (F := Ideal) (View.ld (Val := Elt Ideal) (S := S512x1024) (e' := .f32) X0 (Rect.unit (s := S512x1024) ![0, 0] ![256, 1024] inb_S512x1024_S256x1024_0_0)) (View.ld (Val := Elt Ideal) (S := S2x8x1024) (e' := .f32) X4 (Rect.unit (s := S2x8x1024) ![0, 5, 0] ![1, 1, 1024] inb_S2x8x1024_S1x1x1024_0_5_0))⟩] (ix2 r l)
      = obAt X0 X4 r l := by
  erw [canon_unit2, canon_unit2]
  by_cases h : 256 ≤ (r : ℕ)
  · rw [dif_pos (by omega)]
    have e : (⟨(r : ℕ) / 256, by omega⟩ : Fin 2) = 1 := Fin.ext (by show (r : ℕ) / 256 = 1; omega)
    have e2 : 256 + ((r : ℕ) - 256) = r := by omega
    unfold obAt
    rw [e]
    pointwise [k0_pay3, e2]
  · rw [dif_neg (by omega), dif_pos (by omega)]
    have e : (⟨(r : ℕ) / 256, by omega⟩ : Fin 2) = 0 := Fin.ext (by show (r : ℕ) / 256 = 0; omega)
    unfold obAt
    rw [e]
    pointwise [k0_pay2]

/-- So it is read back. -/
theorem ob_read {sig' : RefSig} {κ : Kind} {sp : Space} (v : View sig' κ sp S512x1024 .bf16) :
    v.readCov (Val := Elt Ideal) [⟨Rect.unit ![256, 0] ![256, 1024] inb_S512x1024_S256x1024_256_0, k0_pay3 (F := Ideal) (View.ld (Val := Elt Ideal) (S := S512x1024) (e' := .f32) X0 (Rect.unit (s := S512x1024) ![256, 0] ![256, 1024] inb_S512x1024_S256x1024_256_0)) (View.ld (Val := Elt Ideal) (S := S2x8x1024) (e' := .f32) X4 (Rect.unit (s := S2x8x1024) ![1, 5, 0] ![1, 1, 1024] inb_S2x8x1024_S1x1x1024_1_5_0))⟩, ⟨Rect.unit ![0, 0] ![256, 1024] inb_S512x1024_S256x1024_0_0, k0_pay2 (F := Ideal) (View.ld (Val := Elt Ideal) (S := S512x1024) (e' := .f32) X0 (Rect.unit (s := S512x1024) ![0, 0] ![256, 1024] inb_S512x1024_S256x1024_0_0)) (View.ld (Val := Elt Ideal) (S := S2x8x1024) (e' := .f32) X4 (Rect.unit (s := S2x8x1024) ![0, 5, 0] ![1, 1, 1024] inb_S2x8x1024_S1x1x1024_0_5_0))⟩] (Rect.unit ![0, 0] ![512, 1024] inb_S512x1024_S512x1024_0_0).toLoadRect
      = ob X0 X4 := by
  rw [View.readCov_eq_canon']
  funext j
  obtain ⟨r, l, rfl⟩ : ∃ (r : Fin 512) (l : Fin 1024), j = ix2 r l := ⟨j 0, j 1, eq_ix2 j⟩
  have e : (Rect.unit (s := S512x1024) ![0, 0] ![512, 1024] inb_S512x1024_S512x1024_0_0).toLoadRect.idx (ix2 r l) = ix2 r l := by
    funext a
    refine Fin.cases ?_ (fun a => ?_) a
    · exact Fin.ext (by show 0 + 1 * (r : ℕ) = r; omega)
    · obtain rfl : a = 0 := Subsingleton.elim _ _
      exact Fin.ext (by show 0 + 1 * (l : ℕ) = l; omega)
  show View.canon _ ((Rect.unit (s := S512x1024) ![0, 0] ![512, 1024] inb_S512x1024_S512x1024_0_0).toLoadRect.idx (ix2 r l)) = _
  rw [e]
  exact ob_canon X0 X4 r l

/-- The first quarter of the hidden layer's gradient. -/
theorem u0 : k0_pay4 (F := Ideal) (ob X0 X4) (View.ld (Val := Elt Ideal) (S := S4096x1024) (e' := .bf16) X6 (Rect.unit (s := S4096x1024) ![0, 0] ![1024, 1024] inb_S4096x1024_S1024x1024_0_0)) (View.ld (Val := Elt Ideal) (S := S512x4096) (e' := .bf16) X3 (Rect.unit (s := S512x4096) ![0, 0] ![512, 1024] inb_S512x4096_S512x1024_0_0)) = uq X0 X3 X4 X6 0 := by
  funext i
  obtain ⟨r, l, rfl⟩ : ∃ (r : Fin 512) (l : Fin 1024), i = ix2 r l := ⟨i 0, i 1, eq_ix2 i⟩
  show _ = uAt X0 X3 X4 X6 r ⟨1024 * 0 + (l : ℕ), by omega⟩
  pointwise [k0_pay4, uAt, ob]

/-- The second quarter. -/
theorem u1 : k0_pay6 (F := Ideal) (ob X0 X4) (View.ld (Val := Elt Ideal) (S := S4096x1024) (e' := .bf16) X6 (Rect.unit (s := S4096x1024) ![1024, 0] ![1024, 1024] inb_S4096x1024_S1024x1024_1024_0)) (View.ld (Val := Elt Ideal) (S := S512x4096) (e' := .bf16) X3 (Rect.unit (s := S512x4096) ![0, 1024] ![512, 1024] inb_S512x4096_S512x1024_0_1024)) = uq X0 X3 X4 X6 1 := by
  funext i
  obtain ⟨r, l, rfl⟩ : ∃ (r : Fin 512) (l : Fin 1024), i = ix2 r l := ⟨i 0, i 1, eq_ix2 i⟩
  show _ = uAt X0 X3 X4 X6 r ⟨1024 * 1 + (l : ℕ), by omega⟩
  pointwise [k0_pay6, uAt, ob]

/-- The third quarter. -/
theorem u2 : k0_pay8 (F := Ideal) (ob X0 X4) (View.ld (Val := Elt Ideal) (S := S4096x1024) (e' := .bf16) X6 (Rect.unit (s := S4096x1024) ![2048, 0] ![1024, 1024] inb_S4096x1024_S1024x1024_2048_0)) (View.ld (Val := Elt Ideal) (S := S512x4096) (e' := .bf16) X3 (Rect.unit (s := S512x4096) ![0, 2048] ![512, 1024] inb_S512x4096_S512x1024_0_2048)) = uq X0 X3 X4 X6 2 := by
  funext i
  obtain ⟨r, l, rfl⟩ : ∃ (r : Fin 512) (l : Fin 1024), i = ix2 r l := ⟨i 0, i 1, eq_ix2 i⟩
  show _ = uAt X0 X3 X4 X6 r ⟨1024 * 2 + (l : ℕ), by omega⟩
  pointwise [k0_pay8, uAt, ob]

/-- The last quarter. -/
theorem u3 : k0_pay11 (F := Ideal) (k0_pay10 (F := Ideal) (ob X0 X4) (View.ld (Val := Elt Ideal) (S := S4096x1024) (e' := .bf16) X6 (Rect.unit (s := S4096x1024) ![3072, 0] ![1024, 1024] inb_S4096x1024_S1024x1024_3072_0)) (View.ld (Val := Elt Ideal) (S := S512x4096) (e' := .bf16) X3 (Rect.unit (s := S512x4096) ![0, 3072] ![512, 1024] inb_S512x4096_S512x1024_0_3072))) = uq X0 X3 X4 X6 3 := by
  funext i
  obtain ⟨r, l, rfl⟩ : ∃ (r : Fin 512) (l : Fin 1024), i = ix2 r l := ⟨i 0, i 1, eq_ix2 i⟩
  show _ = uAt X0 X3 X4 X6 r ⟨1024 * 3 + (l : ℕ), by omega⟩
  pointwise [k0_pay11, k0_pay10, uAt, ob]

/-- The input's gradient after a quarter. -/
theorem p0 : k0_pay5 (F := Ideal) (uq X0 X3 X4 X6 0) (View.ld (Val := Elt Ideal) (S := S1024x4096) (e' := .bf16) X7 (Rect.unit (s := S1024x4096) ![0, 0] ![1024, 1024] inb_S1024x4096_S1024x1024_0_0)) = h0 X0 X3 X4 X6 X7 := by
  funext i
  obtain ⟨r, l, rfl⟩ : ∃ (r : Fin 512) (l : Fin 1024), i = ix2 r l := ⟨i 0, i 1, eq_ix2 i⟩
  show _ = ∑ k : Fin 1024, uAt X0 X3 X4 X6 r ⟨1024 * 0 + (k : ℕ), by omega⟩ * X7 (ix2 l ⟨1024 * 0 + (k : ℕ), by omega⟩)
  pointwise [k0_pay5, uq]

/-- … after two. -/
theorem p1 : k0_pay7 (F := Ideal) (uq X0 X3 X4 X6 1) (View.ld (Val := Elt Ideal) (S := S1024x4096) (e' := .bf16) X7 (Rect.unit (s := S1024x4096) ![0, 1024] ![1024, 1024] inb_S1024x4096_S1024x1024_0_1024)) (h0 X0 X3 X4 X6 X7) = h1 X0 X3 X4 X6 X7 := by
  funext i
  obtain ⟨r, l, rfl⟩ : ∃ (r : Fin 512) (l : Fin 1024), i = ix2 r l := ⟨i 0, i 1, eq_ix2 i⟩
  show _ = h0 X0 X3 X4 X6 X7 (ix2 r l) + ∑ k : Fin 1024, uAt X0 X3 X4 X6 r ⟨1024 * 1 + (k : ℕ), by omega⟩ * X7 (ix2 l ⟨1024 * 1 + (k : ℕ), by omega⟩)
  pointwise [k0_pay7, uq]

/-- … after three. -/
theorem p2 : k0_pay9 (F := Ideal) (uq X0 X3 X4 X6 2) (View.ld (Val := Elt Ideal) (S := S1024x4096) (e' := .bf16) X7 (Rect.unit (s := S1024x4096) ![0, 2048] ![1024, 1024] inb_S1024x4096_S1024x1024_0_2048)) (h1 X0 X3 X4 X6 X7) = h2 X0 X3 X4 X6 X7 := by
  funext i
  obtain ⟨r, l, rfl⟩ : ∃ (r : Fin 512) (l : Fin 1024), i = ix2 r l := ⟨i 0, i 1, eq_ix2 i⟩
  show _ = h1 X0 X3 X4 X6 X7 (ix2 r l) + ∑ k : Fin 1024, uAt X0 X3 X4 X6 r ⟨1024 * 2 + (k : ℕ), by omega⟩ * X7 (ix2 l ⟨1024 * 2 + (k : ℕ), by omega⟩)
  pointwise [k0_pay9, uq]

/-- … after all four. -/
theorem p3 : k0_pay12 (F := Ideal) (uq X0 X3 X4 X6 3) (View.ld (Val := Elt Ideal) (S := S1024x4096) (e' := .bf16) X7 (Rect.unit (s := S1024x4096) ![0, 3072] ![1024, 1024] inb_S1024x4096_S1024x1024_0_3072)) (h2 X0 X3 X4 X6 X7) = h3 X0 X3 X4 X6 X7 := by
  funext i
  obtain ⟨r, l, rfl⟩ : ∃ (r : Fin 512) (l : Fin 1024), i = ix2 r l := ⟨i 0, i 1, eq_ix2 i⟩
  show _ = h2 X0 X3 X4 X6 X7 (ix2 r l) + ∑ k : Fin 1024, uAt X0 X3 X4 X6 r ⟨1024 * 3 + (k : ℕ), by omega⟩ * X7 (ix2 l ⟨1024 * 3 + (k : ℕ), by omega⟩)
  pointwise [k0_pay12, uq]

end

/-- The half of a block's rows that starts at row 256 s. -/
def half (H : FVec Ideal S512x1024 .f32) (s : Fin 2) : FVec Ideal S256x1024 .f32 :=
  fun i => H (ix2 ⟨256 * s + (show Fin 256 from i 0), by omega⟩ (show Fin 1024 from i 1))

/-- The first half is read back from a whole store. -/
theorem half0 {sig' : RefSig} {κ : Kind} {sp : Space} (v : View sig' κ sp S512x1024 .f32) (H : FVec Ideal S512x1024 .f32) (L : List (View.Piece (Elt Ideal) S512x1024 .f32)) :
    v.readCov (Val := Elt Ideal) (⟨Rect.unit ![0, 0] ![512, 1024] inb_S512x1024_S512x1024_0_0, H⟩ :: L) (Rect.unit ![0, 0] ![256, 1024] inb_S512x1024_S256x1024_0_0).toLoadRect = half H 0 := by
  rw [View.readCov_eq_canon']
  funext j
  obtain ⟨r, l, rfl⟩ : ∃ (r : Fin 256) (l : Fin 1024), j = ix2 r l := ⟨j 0, j 1, eq_ix2 j⟩
  have e : (Rect.unit (s := S512x1024) ![0, 0] ![256, 1024] inb_S512x1024_S256x1024_0_0).toLoadRect.idx (ix2 r l) = ix2 (⟨256 * 0 + (r : ℕ), by omega⟩ : Fin 512) l := by
    funext a
    refine Fin.cases ?_ (fun a => ?_) a
    · exact Fin.ext (by show 0 + 1 * (r : ℕ) = 256 * 0 + r; omega)
    · obtain rfl : a = 0 := Subsingleton.elim _ _
      exact Fin.ext (by show 0 + 1 * (l : ℕ) = l; omega)
  show View.canon _ ((Rect.unit (s := S512x1024) ![0, 0] ![256, 1024] inb_S512x1024_S256x1024_0_0).toLoadRect.idx (ix2 r l)) = _
  rw [e]
  erw [canon_unit2]
  rw [dif_pos (by show (0 ≤ 256 * 0 + (r : ℕ) ∧ 256 * 0 + (r : ℕ) - 0 < 512) ∧ 0 ≤ (l : ℕ) ∧ (l : ℕ) - 0 < 1024; omega)]
  rfl

/-- The second half is read back from a whole store. -/
theorem half1 {sig' : RefSig} {κ : Kind} {sp : Space} (v : View sig' κ sp S512x1024 .f32) (H : FVec Ideal S512x1024 .f32) (L : List (View.Piece (Elt Ideal) S512x1024 .f32)) :
    v.readCov (Val := Elt Ideal) (⟨Rect.unit ![0, 0] ![512, 1024] inb_S512x1024_S512x1024_0_0, H⟩ :: L) (Rect.unit ![256, 0] ![256, 1024] inb_S512x1024_S256x1024_256_0).toLoadRect = half H 1 := by
  rw [View.readCov_eq_canon']
  funext j
  obtain ⟨r, l, rfl⟩ : ∃ (r : Fin 256) (l : Fin 1024), j = ix2 r l := ⟨j 0, j 1, eq_ix2 j⟩
  have e : (Rect.unit (s := S512x1024) ![256, 0] ![256, 1024] inb_S512x1024_S256x1024_256_0).toLoadRect.idx (ix2 r l) = ix2 (⟨256 * 1 + (r : ℕ), by omega⟩ : Fin 512) l := by
    funext a
    refine Fin.cases ?_ (fun a => ?_) a
    · exact Fin.ext (by show 256 + 1 * (r : ℕ) = 256 * 1 + r; omega)
    · obtain rfl : a = 0 := Subsingleton.elim _ _
      exact Fin.ext (by show 0 + 1 * (l : ℕ) = l; omega)
  show View.canon _ ((Rect.unit (s := S512x1024) ![256, 0] ![256, 1024] inb_S512x1024_S256x1024_256_0).toLoadRect.idx (ix2 r l)) = _
  rw [e]
  erw [canon_unit2]
  rw [dif_pos (by show (0 ≤ 256 * 1 + (r : ℕ) ∧ 256 * 1 + (r : ℕ) - 0 < 512) ∧ 0 ≤ (l : ℕ) ∧ (l : ℕ) - 0 < 1024; omega)]
  rfl

section
variable (X0 X1 : FVec Ideal S512x1024 .f32) (X2 : FVec Ideal S512x1024 .bf16) (X4 : FVec Ideal S2x8x1024 .f32)
  (X5 : FVec Ideal S1x1024 .f32) (H : FVec Ideal S512x1024 .f32)

/-- A row's reciprocal root of its mean square. -/
def rsAt (r : Fin 512) : EReal :=
  Ideal.rsqrt (Ideal.div (∑ k, X1 (ix2 r k) * X1 (ix2 r k)) (Ideal.ofBits .f32 0x44800000#32) + Ideal.ofBits .f32 0x358637BD#32)

/-- A normalised row. -/
def xhAt (r : Fin 512) (l : Fin 1024) : EReal := X1 (ix2 r l) * rsAt X1 r

/-- The input's gradient through the modulation. -/
def scAt (r : Fin 512) (l : Fin 1024) : EReal := H (ix2 r l) * (Ideal.ofBits .f32 0x3F800000#32 + X4 (ix3 ⟨r / 256, by omega⟩ 4 l))

/-- … and through the norm's weight. -/
def dnAt (r : Fin 512) (l : Fin 1024) : EReal := scAt X4 H r l * X5 (ix2 0 l)

/-- The gradient of the rows. -/
def dxAt (r : Fin 512) (l : Fin 1024) : EReal :=
  X0 (ix2 r l) + rsAt X1 r * (dnAt X4 X5 H r l - xhAt X1 r l * Ideal.div (∑ k, dnAt X4 X5 H r k * xhAt X1 r k) (Ideal.ofBits .f32 0x44800000#32))

/-- The sums over a half's rows. -/
def ptAt (s : Fin 2) (k : Fin 8) (l : Fin 1024) : EReal :=
  if (k : ℕ) = 0 then ∑ r : Fin 256, H (ix2 ⟨256 * s + r, by omega⟩ l)
  else if (k : ℕ) = 1 then ∑ r : Fin 256, H (ix2 ⟨256 * s + r, by omega⟩ l) * xhAt X1 ⟨256 * s + r, by omega⟩ l * X5 (ix2 0 l)
  else if (k : ℕ) = 2 then ∑ r : Fin 256, X0 (ix2 ⟨256 * s + r, by omega⟩ l) * X2 (ix2 ⟨256 * s + r, by omega⟩ l)
  else if (k : ℕ) = 3 then ∑ r : Fin 256, H (ix2 ⟨256 * s + r, by omega⟩ l) * (Ideal.ofBits .f32 0x3F800000#32 + X4 (ix3 s 4 l)) * xhAt X1 ⟨256 * s + r, by omega⟩ l
  else 0

/-- The first half's rows. -/
theorem dx0 (r : Fin 256) (l : Fin 1024) : k0_pay20 (F := Ideal) (k0_pay15 (View.ld (Val := Elt Ideal) (S := S512x1024) (e' := .f32) X1 (Rect.unit (s := S512x1024) ![0, 0] ![256, 1024] inb_S512x1024_S256x1024_0_0))) (k0_pay16 (View.ld (Val := Elt Ideal) (S := S512x1024) (e' := .f32) X1 (Rect.unit (s := S512x1024) ![0, 0] ![256, 1024] inb_S512x1024_S256x1024_0_0))) (k0_pay17 (half H 0) (View.ld (Val := Elt Ideal) (S := S2x8x1024) (e' := .f32) X4 (Rect.unit (s := S2x8x1024) ![0, 4, 0] ![1, 1, 1024] inb_S2x8x1024_S1x1x1024_0_4_0))) (k0_pay18 X5) (View.ld (Val := Elt Ideal) (S := S512x1024) (e' := .f32) X0 (Rect.unit (s := S512x1024) ![0, 0] ![256, 1024] inb_S512x1024_S256x1024_0_0)) (ix2 r l)
      = dxAt X0 X1 X4 X5 H ⟨256 * 0 + r, by omega⟩ l := by
  have e : (⟨(256 * 0 + (r : ℕ)) / 256, by omega⟩ : Fin 2) = 0 := Fin.ext (by show (256 * 0 + (r : ℕ)) / 256 = 0; omega)
  unfold dxAt dnAt scAt xhAt rsAt
  simp only [e]
  pointwise [k0_pay20, k0_pay15, k0_pay16, k0_pay17, k0_pay18, k0_pay19, k0_pay13, k0_pay14, half]

/-- The second half's rows. -/
theorem dx1 (r : Fin 256) (l : Fin 1024) : k0_pay29 (F := Ideal) (k0_pay13 X5) (k0_pay22 (View.ld (Val := Elt Ideal) (S := S512x1024) (e' := .f32) X1 (Rect.unit (s := S512x1024) ![256, 0] ![256, 1024] inb_S512x1024_S256x1024_256_0))) (k0_pay23 (View.ld (Val := Elt Ideal) (S := S512x1024) (e' := .f32) X1 (Rect.unit (s := S512x1024) ![256, 0] ![256, 1024] inb_S512x1024_S256x1024_256_0))) (half H 1) (View.ld (Val := Elt Ideal) (S := S2x8x1024) (e' := .f32) X4 (Rect.unit (s := S2x8x1024) ![1, 4, 0] ![1, 1, 1024] inb_S2x8x1024_S1x1x1024_1_4_0)) (View.ld (Val := Elt Ideal) (S := S512x1024) (e' := .f32) X0 (Rect.unit (s := S512x1024) ![256, 0] ![256, 1024] inb_S512x1024_S256x1024_256_0)) (ix2 r l)
      = dxAt X0 X1 X4 X5 H ⟨256 * 1 + r, by omega⟩ l := by
  have e : (⟨(256 * 1 + (r : ℕ)) / 256, by omega⟩ : Fin 2) = 1 := Fin.ext (by show (256 * 1 + (r : ℕ)) / 256 = 1; omega)
  unfold dxAt dnAt scAt xhAt rsAt
  simp only [e]
  pointwise [k0_pay29, k0_pay22, k0_pay23, k0_pay24, k0_pay25, k0_pay26, k0_pay28, k0_pay13, half]

/-- The first half's sums. -/
theorem pt0 (k : Fin 8) (l : Fin 1024) : k0_pay21 (F := Ideal) (k0_pay13 X5) (k0_pay16 (View.ld (Val := Elt Ideal) (S := S512x1024) (e' := .f32) X1 (Rect.unit (s := S512x1024) ![0, 0] ![256, 1024] inb_S512x1024_S256x1024_0_0))) (half H 0) (k0_pay17 (half H 0) (View.ld (Val := Elt Ideal) (S := S2x8x1024) (e' := .f32) X4 (Rect.unit (s := S2x8x1024) ![0, 4, 0] ![1, 1, 1024] inb_S2x8x1024_S1x1x1024_0_4_0))) (View.ld (Val := Elt Ideal) (S := S512x1024) (e' := .f32) X0 (Rect.unit (s := S512x1024) ![0, 0] ![256, 1024] inb_S512x1024_S256x1024_0_0)) (View.ld (Val := Elt Ideal) (S := S512x1024) (e' := .bf16) X2 (Rect.unit (s := S512x1024) ![0, 0] ![256, 1024] inb_S512x1024_S256x1024_0_0)) (ix3 0 k l)
      = ptAt X0 X1 X2 X4 X5 H 0 k l := by
  unfold ptAt xhAt rsAt
  pointwise [k0_pay21, k0_pay15, k0_pay16, k0_pay17, k0_pay18, k0_pay19, k0_pay13, k0_pay14, half]
  split_ifs <;> first | rfl | omega

/-- The second half's sums. -/
theorem pt1 (k : Fin 8) (l : Fin 1024) : k0_pay1 (F := Ideal) (k0_pay27 (k0_pay22 (View.ld (Val := Elt Ideal) (S := S512x1024) (e' := .f32) X1 (Rect.unit (s := S512x1024) ![256, 0] ![256, 1024] inb_S512x1024_S256x1024_256_0))) (k0_pay23 (View.ld (Val := Elt Ideal) (S := S512x1024) (e' := .f32) X1 (Rect.unit (s := S512x1024) ![256, 0] ![256, 1024] inb_S512x1024_S256x1024_256_0))) (half H 1) (View.ld (Val := Elt Ideal) (S := S2x8x1024) (e' := .f32) X4 (Rect.unit (s := S2x8x1024) ![1, 4, 0] ![1, 1, 1024] inb_S2x8x1024_S1x1x1024_1_4_0))) (k0_pay28 (View.ld (Val := Elt Ideal) (S := S512x1024) (e' := .f32) X0 (Rect.unit (s := S512x1024) ![256, 0] ![256, 1024] inb_S512x1024_S256x1024_256_0))) (k0_pay30 (half H 1)) (k0_pay31 (k0_pay13 X5) (k0_pay22 (View.ld (Val := Elt Ideal) (S := S512x1024) (e' := .f32) X1 (Rect.unit (s := S512x1024) ![256, 0] ![256, 1024] inb_S512x1024_S256x1024_256_0))) (k0_pay23 (View.ld (Val := Elt Ideal) (S := S512x1024) (e' := .f32) X1 (Rect.unit (s := S512x1024) ![256, 0] ![256, 1024] inb_S512x1024_S256x1024_256_0))) (half H 1)) (View.ld (Val := Elt Ideal) (S := S512x1024) (e' := .bf16) X2 (Rect.unit (s := S512x1024) ![256, 0] ![256, 1024] inb_S512x1024_S256x1024_256_0)) (ix3 0 k l)
      = ptAt X0 X1 X2 X4 X5 H 1 k l := by
  unfold ptAt xhAt rsAt
  pointwise [k0_pay1, k0_pay27, k0_pay30, k0_pay31, k0_pay22, k0_pay23, k0_pay24, k0_pay25, k0_pay26, k0_pay28, k0_pay13, half]
  split_ifs <;> first | rfl | omega

end

end Cert.Kernel2Ideal.Pieces
end
-- ==== Proof.MlpBlocks.lean ====
module

public import proofs.«01_k».proof.Proof.MlpPieces

@[expose] public section

set_option maxRecDepth 16384

noncomputable section

namespace Cert.Kernel2Ideal.Blocks

open Cert.Kernel2Ideal Cert.Kernel2Ideal.Gen Cert.Kernel2Ideal.Pieces Idealize.ShloMosaic Idealize.ShloMosaic.TcCoe Idealize.SL.Sem

variable (m : (ℓ : Loc nD τ sig) → Buf (Elt Ideal) ℓ) (c : Dev nD)

/-- The gradient of the hidden layer's input a grid point gathers, before the modulation. -/
def H (t : Fin cfg0.N) : FVec Ideal S512x1024 .f32 := h3 (iblk m c 0 t) (iblk m c 3 t) (iblk m c 4 t) (iblk m c 6 t) (iblk m c 7 t)

/-- A grid point's block of the gated gradient. -/
theorem b10 (t : Fin cfg0.N) (r : Fin 512) (l : Fin 1024) :
    (outsAt0 m c t).2.2.1 (ix2 r l) = obAt (iblk m c 0 t) (iblk m c 4 t) r l := by
  unfold outsAt0
  frame_out
  exact ob_canon _ _ r l

/-- A grid point's block of the hidden layer's gradient. -/
theorem b9 (t : Fin cfg0.N) (r : Fin 512) (l : Fin 4096) :
    (outsAt0 m c t).2.1 (ix2 r l) = uAt (iblk m c 0 t) (iblk m c 3 t) (iblk m c 4 t) (iblk m c 6 t) r l := by
  unfold outsAt0
  frame_out
  simp only [ob_read, u0, u1, u2, u3]
  erw [canon_unit2, canon_unit2, canon_unit2, canon_unit2]
  by_cases h3 : 3072 ≤ (l : ℕ)
  · rw [dif_pos (by omega)]
    unfold uq
    exact congrArg₂ (uAt _ _ _ _) (Fin.ext (by show (r : ℕ) - 0 = r; omega)) (Fin.ext (by show 1024 * 3 + ((l : ℕ) - 3072) = l; omega))
  rw [dif_neg (by omega)]
  by_cases h2 : 2048 ≤ (l : ℕ)
  · rw [dif_pos (by omega)]
    unfold uq
    exact congrArg₂ (uAt _ _ _ _) (Fin.ext (by show (r : ℕ) - 0 = r; omega)) (Fin.ext (by show 1024 * 2 + ((l : ℕ) - 2048) = l; omega))
  rw [dif_neg (by omega)]
  by_cases h1 : 1024 ≤ (l : ℕ)
  · rw [dif_pos (by omega)]
    unfold uq
    exact congrArg₂ (uAt _ _ _ _) (Fin.ext (by show (r : ℕ) - 0 = r; omega)) (Fin.ext (by show 1024 * 1 + ((l : ℕ) - 1024) = l; omega))
  rw [dif_neg (by omega), dif_pos (by omega)]
  unfold uq
  exact congrArg₂ (uAt _ _ _ _) (Fin.ext (by show (r : ℕ) - 0 = r; omega)) (Fin.ext (by show 1024 * 0 + ((l : ℕ) - 0) = l; omega))

/-- A grid point's block of the rows' gradient. -/
theorem b8 (t : Fin cfg0.N) (r : Fin 512) (l : Fin 1024) :
    (outsAt0 m c t).1 (ix2 r l) = dxAt (iblk m c 0 t) (iblk m c 1 t) (iblk m c 4 t) (iblk m c 5 t) (H m c t) r l := by
  unfold outsAt0
  frame_out
  simp only [ob_read, u0, u1, u2, u3, View.readCov_cons_toLoadRect, p0, p1, p2, p3, half0, half1]
  erw [canon_unit2, canon_unit2]
  by_cases h : 256 ≤ (r : ℕ)
  · rw [dif_pos (by omega)]
    refine (dx1 _ _ _ _ _ _ _).trans ?_
    exact congrArg₂ (dxAt _ _ _ _ _) (Fin.ext (by show 256 * 1 + ((r : ℕ) - 256) = r; omega)) (Fin.ext (by show (l : ℕ) - 0 = l; omega))
  · rw [dif_neg (by omega), dif_pos (by omega)]
    refine (dx0 _ _ _ _ _ _ _).trans ?_
    exact congrArg₂ (dxAt _ _ _ _ _) (Fin.ext (by show 256 * 0 + ((r : ℕ) - 0) = r; omega)) (Fin.ext (by show (l : ℕ) - 0 = l; omega))

/-- A grid point's sums over its halves' rows. -/
theorem b11 (t : Fin cfg0.N) (s : Fin 2) (k : Fin 8) (l : Fin 1024) :
    (outsAt0 m c t).2.2.2 (ix3 s k l)
      = ptAt (iblk m c 0 t) (iblk m c 1 t) (iblk m c 2 t) (iblk m c 4 t) (iblk m c 5 t) (H m c t) s k l := by
  unfold outsAt0
  frame_out
  simp only [ob_read, u0, u1, u2, u3, View.readCov_cons_toLoadRect, p0, p1, p2, p3, half0, half1]
  erw [canon_unit3, canon_unit3]
  by_cases h : (s : ℕ) = 1
  · rw [if_pos h]
    obtain rfl : s = 1 := Fin.ext h
    exact pt1 _ _ _ _ _ _ _ _
  · rw [if_neg h, if_pos (by omega)]
    obtain rfl : s = 0 := Fin.ext (by show (s : ℕ) = 0; omega)
    exact pt0 _ _ _ _ _ _ _ _

end Cert.Kernel2Ideal.Blocks

end
-- ==== Proof.MlpReads.lean ====
module

public import proofs.«01_k».proof.Proof.MlpEnt
public import proofs.«01_k».proof.Proof.MlpBlocks
public import proofs.«01_k».proof.Proof.Sums

@[expose] public section

set_option maxRecDepth 16384

noncomputable section

namespace Cert.Kernel2Ideal.MlpReads

open Cert.Kernel2Ideal Cert.Kernel2Ideal.Gen Cert.Kernel2Ideal.Pieces Cert.Kernel2Ideal.Blocks Cert.Kernel2Ideal.Rows Idealize.ShloMosaic Idealize.ShloMosaic.TcCoe Idealize.SL.Sem Cert.Mlp

/-- The windows' block indices. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0, 0] ∧ t.val < 17 :=
  (by decide +kernel : ∀ t : Fin grid0.N, _)

/-- The row of both batch entries at a row of a grid point's block. -/
abbrev rowR (t : Fin cfg0.N) (r : Fin 512) : Fin 8704 := ⟨512 * t.val + r, by have h : cfg0.N = 17 := N_0; have := t.isLt; omega⟩

/-- A half of a grid point's block. -/
abbrev blkR (t : Fin cfg0.N) (s : Fin 2) : Fin 34 := ⟨2 * t.val + s, by have h : cfg0.N = 17 := N_0; have := t.isLt; omega⟩

/-- Where block 0 sits. -/
theorem emb0 (t : Fin cfg0.N) (r : Fin 512) (l : Fin 1024) : ((cfg0.win 0).blk t).view.emb (ix2 r l) = ix2 (rowR t r) l := by
  have hN : cfg0.N = 17 := N_0
  have ht := t.isLt
  blk_ext [idx t]

/-- Where block 1 sits. -/
theorem emb1 (t : Fin cfg0.N) (r : Fin 512) (l : Fin 1024) : ((cfg0.win 1).blk t).view.emb (ix2 r l) = ix2 (rowR t r) l := by
  have hN : cfg0.N = 17 := N_0
  have ht := t.isLt
  blk_ext [idx t]

/-- Where block 2 sits. -/
theorem emb2 (t : Fin cfg0.N) (r : Fin 512) (l : Fin 1024) : ((cfg0.win 2).blk t).view.emb (ix2 r l) = ix2 (rowR t r) l := by
  have hN : cfg0.N = 17 := N_0
  have ht := t.isLt
  blk_ext [idx t]

/-- Where block 8 sits. -/
theorem emb8 (t : Fin cfg0.N) (r : Fin 512) (l : Fin 1024) : ((cfg0.win 8).blk t).view.emb (ix2 r l) = ix2 (rowR t r) l := by
  have hN : cfg0.N = 17 := N_0
  have ht := t.isLt
  blk_ext [idx t]

/-- Where block 10 sits. -/
theorem emb10 (t : Fin cfg0.N) (r : Fin 512) (l : Fin 1024) : ((cfg0.win 10).blk t).view.emb (ix2 r l) = ix2 (rowR t r) l := by
  have hN : cfg0.N = 17 := N_0
  have ht := t.isLt
  blk_ext [idx t]

/-- Where block 3 sits. -/
theorem emb3 (t : Fin cfg0.N) (r : Fin 512) (n : Fin 4096) : ((cfg0.win 3).blk t).view.emb (ix2 r n) = ix2 (rowR t r) n := by
  have hN : cfg0.N = 17 := N_0
  have ht := t.isLt
  blk_ext [idx t]

/-- Where block 9 sits. -/
theorem emb9 (t : Fin cfg0.N) (r : Fin 512) (n : Fin 4096) : ((cfg0.win 9).blk t).view.emb (ix2 r n) = ix2 (rowR t r) n := by
  have hN : cfg0.N = 17 := N_0
  have ht := t.isLt
  blk_ext [idx t]

/-- Where block 4 sits. -/
theorem emb4 (t : Fin cfg0.N) (s : Fin 2) (j : Fin 8) (l : Fin 1024) : ((cfg0.win 4).blk t).view.emb (ix3 s j l) = ix3 (blkR t s) j l := by
  have hN : cfg0.N = 17 := N_0
  have ht := t.isLt
  blk_ext [idx t]

/-- Where block 11 sits. -/
theorem emb11 (t : Fin cfg0.N) (s : Fin 2) (j : Fin 8) (l : Fin 1024) : ((cfg0.win 11).blk t).view.emb (ix3 s j l) = ix3 (blkR t s) j l := by
  have hN : cfg0.N = 17 := N_0
  have ht := t.isLt
  blk_ext [idx t]

/-- Where block 5 sits. -/
theorem emb5 (t : Fin cfg0.N) (r : Fin 1) (l : Fin 1024) : ((cfg0.win 5).blk t).view.emb (ix2 r l) = ix2 r l := by
  have hN : cfg0.N = 17 := N_0
  have ht := t.isLt
  blk_ext [idx t]

/-- Where block 6 sits. -/
theorem emb6 (t : Fin cfg0.N) (n : Fin 4096) (l : Fin 1024) : ((cfg0.win 6).blk t).view.emb (ix2 n l) = ix2 n l := by
  have hN : cfg0.N = 17 := N_0
  have ht := t.isLt
  blk_ext [idx t]

/-- Where block 7 sits. -/
theorem emb7 (t : Fin cfg0.N) (l : Fin 1024) (n : Fin 4096) : ((cfg0.win 7).blk t).view.emb (ix2 l n) = ix2 l n := by
  have hN : cfg0.N = 17 := N_0
  have ht := t.isLt
  blk_ext [idx t]

variable (m : (ℓ : Loc nD τ sig) → Buf (Elt Ideal) ℓ) (c : Dev nD)

/-- The arguments on a device. -/
def inOf : In := args (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5))

variable (t : Fin cfg0.N)

/-- A block of the output's gradient. -/
theorem rd0 (r : Fin 512) (l : Fin 1024) : (show FVec Ideal S512x1024 .f32 from iblk m c 0 t) (ix2 r l) = (inOf m c).d (rB (rowR t r)) (rT (rowR t r)) l := by
  show V m c main_v32 (((cfg0.win 0).blk t).view.emb (ix2 r l)) = _
  rw [emb0, ent0]
  exact flat_at _ _ _

/-- A block of rows. -/
theorem rd1 (r : Fin 512) (l : Fin 1024) : (show FVec Ideal S512x1024 .f32 from iblk m c 1 t) (ix2 r l) = (inOf m c).x (rB (rowR t r)) (rT (rowR t r)) l := by
  show V m c main_v33 (((cfg0.win 1).blk t).view.emb (ix2 r l)) = _
  rw [emb1, ent1]
  exact flat_at _ _ _

/-- A block of the layer's output. -/
theorem rd2 (r : Fin 512) (l : Fin 1024) : (show FVec Ideal S512x1024 .bf16 from iblk m c 2 t) (ix2 r l) = mo (inOf m c) (rB (rowR t r)) (rT (rowR t r)) l := by
  show V m c main_v35 (((cfg0.win 2).blk t).view.emb (ix2 r l)) = _
  rw [emb2, ent2]
  exact (flatB_at _ _ _).trans (out_at _ _ _ _ _ _ _ _ _)

/-- A block of the rectified hidden layer. -/
theorem rd3 (r : Fin 512) (n : Fin 4096) : (show FVec Ideal S512x4096 .bf16 from iblk m c 3 t) (ix2 r n) = rl (inOf m c) (rB (rowR t r)) (rT (rowR t r)) n := by
  show V m c main_v37 (((cfg0.win 3).blk t).view.emb (ix2 r n)) = _
  rw [emb3, ent3]
  exact (flatH_at _ _ _).trans (rel_at _ _ _ _ _ _ _ _ _)

/-- A block's modulations. -/
theorem rd4 (s : Fin 2) (j : Fin 6) (l : Fin 1024) (r : Fin 256) : (show FVec Ideal S2x8x1024 .f32 from iblk m c 4 t) (ix3 s ⟨j, by omega⟩ l) = md (inOf m c) j (bB (blkR t s)) (bT (blkR t s) r) l := by
  show V m c main_v45 (((cfg0.win 4).blk t).view.emb (ix3 s ⟨j, by omega⟩ l)) = _
  rw [emb4, ent4]
  exact mods_at _ _ _ _ _ _ _ _ _ _

/-- The weight. -/
theorem rd5 (l : Fin 1024) : (show FVec Ideal S1x1024 .f32 from iblk m c 5 t) (ix2 0 l) = (inOf m c).w l := by
  show V m c main_v46 (((cfg0.win 5).blk t).view.emb (ix2 0 l)) = _
  rw [emb5, ent5]
  exact wR_at _ _

/-- The second matrix. -/
theorem rd6 (n : Fin 4096) (l : Fin 1024) : (show FVec Ideal S4096x1024 .bf16 from iblk m c 6 t) (ix2 n l) = (inOf m c).w2 n l := by
  show V m c main_v47 (((cfg0.win 6).blk t).view.emb (ix2 n l)) = _
  rw [emb6, ent6]
  rfl

/-- The first matrix. -/
theorem rd7 (l : Fin 1024) (n : Fin 4096) : (show FVec Ideal S1024x4096 .bf16 from iblk m c 7 t) (ix2 l n) = (inOf m c).w1 l n := by
  show V m c main_v48 (((cfg0.win 7).blk t).view.emb (ix2 l n)) = _
  rw [emb7, ent7]
  rfl

end Cert.Kernel2Ideal.MlpReads

end
-- ==== Proof.MlpVals.lean ====
module

public import proofs.«01_k».proof.Proof.MlpReads

@[expose] public section

set_option maxRecDepth 16384

noncomputable section

namespace Cert.Kernel2Ideal.MlpVals

open Cert.Kernel2Ideal Cert.Kernel2Ideal.Gen Cert.Kernel2Ideal.Pieces Cert.Kernel2Ideal.Blocks Cert.Kernel2Ideal.Rows Cert.Kernel2Ideal.MlpReads Idealize.ShloMosaic Idealize.ShloMosaic.TcCoe Idealize.SL.Sem Cert.Mlp

variable (m : (ℓ : Loc nD τ sig) → Buf (Elt Ideal) ℓ) (c : Dev nD) (t : Fin cfg0.N)

/-- The batch entry of a row of a grid point's block. -/
abbrev bt (r : Fin 512) : Fin 2 := rB (rowR t r)

/-- The token of a row of a grid point's block. -/
abbrev tt (r : Fin 512) : Fin 4352 := rT (rowR t r)

/-- A row's half of its block has its batch entry. -/
theorem eB (s : Fin 2) (r : Fin 256) : bt t ⟨256 * s + r, by omega⟩ = bB (blkR t s) := by
  have hN : cfg0.N = 17 := N_0
  have ht := t.isLt
  exact Fin.ext (by show (512 * t.val + (256 * (s : ℕ) + r)) / 4352 = (2 * t.val + s) / 17; omega)

/-- A row's token, by its half of its block. -/
theorem eT (s : Fin 2) (r : Fin 256) : tt t ⟨256 * s + r, by omega⟩ = bT (blkR t s) r := by
  have hN : cfg0.N = 17 := N_0
  have ht := t.isLt
  exact Fin.ext (by show (512 * t.val + (256 * (s : ℕ) + r)) % 4352 = 256 * ((2 * t.val + s) % 17) + r; omega)

/-- A row's modulation, from its block's. -/
theorem rdM (r : Fin 512) (j : Fin 6) (l : Fin 1024) :
    (show FVec Ideal S2x8x1024 .f32 from iblk m c 4 t) (ix3 ⟨r / 256, by omega⟩ ⟨j, by omega⟩ l) = md (inOf m c) j (bt t r) (tt t r) l := by
  have e : (⟨256 * ((⟨(r : ℕ) / 256, by omega⟩ : Fin 2) : ℕ) + (⟨(r : ℕ) % 256, by omega⟩ : Fin 256), by
      show 256 * ((r : ℕ) / 256) + (r : ℕ) % 256 < 512; omega⟩ : Fin 512) = r := Fin.ext (by show 256 * ((r : ℕ) / 256) + (r : ℕ) % 256 = r; omega)
  have h := rd4 m c t ⟨r / 256, by omega⟩ j l ⟨r % 256, by omega⟩
  rw [← eB t, ← eT t, e] at h
  exact h

/-- A block of the gated gradient. -/
theorem obV (r : Fin 512) (l : Fin 1024) : obAt (iblk m c 0 t) (iblk m c 4 t) r l = ob (inOf m c) (bt t r) (tt t r) l :=
  congrArg₂ (· * · : EReal → EReal → EReal) (rd0 m c t r l) (rdM m c t r 5 l)

/-- A block of the hidden layer's gradient. -/
theorem uV (r : Fin 512) (n : Fin 4096) : uAt (iblk m c 0 t) (iblk m c 3 t) (iblk m c 4 t) (iblk m c 6 t) r n = du (inOf m c) (bt t r) (tt t r) n :=
  congrArg₂ (· * · : EReal → EReal → EReal)
    (Finset.sum_congr rfl fun k _ => congrArg₂ (· * · : EReal → EReal → EReal) (obV m c t r k) (rd6 m c t n k))
    (congrArg (two * · : EReal → EReal) (rd3 m c t r n))

/-- A quarter of the gradient of the layer's input. -/
theorem hqV (q : Fin 4) (r : Fin 512) (l : Fin 1024) : hq (iblk m c 0 t) (iblk m c 3 t) (iblk m c 4 t) (iblk m c 6 t) (iblk m c 7 t) q r l
    = ∑ k : Fin 1024, du (inOf m c) (bt t r) (tt t r) ⟨1024 * q + k, by omega⟩ * (inOf m c).w1 l ⟨1024 * q + k, by omega⟩ :=
  Finset.sum_congr rfl fun k _ => congrArg₂ (· * · : EReal → EReal → EReal) (uV m c t r _) (rd7 m c t l _)

/-- The gradient of the layer's input. -/
theorem HV (r : Fin 512) (l : Fin 1024) : H m c t (ix2 r l) = dh (inOf m c) (bt t r) (tt t r) l := by
  unfold dh
  rw [Sums.cut 4 1024 4096 rfl, Fin.sum_univ_four]
  have e : H m c t (ix2 r l) = (hq (iblk m c 0 t) (iblk m c 3 t) (iblk m c 4 t) (iblk m c 6 t) (iblk m c 7 t) 0 r l
    + hq (iblk m c 0 t) (iblk m c 3 t) (iblk m c 4 t) (iblk m c 6 t) (iblk m c 7 t) 1 r l
    + hq (iblk m c 0 t) (iblk m c 3 t) (iblk m c 4 t) (iblk m c 6 t) (iblk m c 7 t) 2 r l
    + hq (iblk m c 0 t) (iblk m c 3 t) (iblk m c 4 t) (iblk m c 6 t) (iblk m c 7 t) 3 r l : EReal) := rfl
  rw [e, hqV, hqV, hqV, hqV]

/-- A row's reciprocal root of its mean square. -/
theorem rsV (r : Fin 512) : rsAt (iblk m c 1 t) r = rs (inOf m c) (bt t r) (tt t r) := by
  unfold rsAt rs ms
  have h : ∀ k, (show FVec Ideal S512x1024 .f32 from iblk m c 1 t) (ix2 r k) = (inOf m c).x (bt t r) (tt t r) k := fun k => rd1 m c t r k
  exact congrArg (fun f : Fin 1024 → EReal => Ideal.rsqrt (Ideal.div (∑ k, f k * f k) (Ideal.ofBits .f32 0x44800000#32) + Ideal.ofBits .f32 0x358637BD#32)) (funext h)

/-- A normalised row. -/
theorem xhV (r : Fin 512) (l : Fin 1024) : xhAt (iblk m c 1 t) r l = xh (inOf m c) (bt t r) (tt t r) l :=
  congrArg₂ (· * · : EReal → EReal → EReal) (rd1 m c t r l) (rsV m c t r)

/-- The gradient through the scale. -/
theorem scV (r : Fin 512) (l : Fin 1024) : scAt (iblk m c 4 t) (H m c t) r l = sc (inOf m c) (bt t r) (tt t r) l :=
  congrArg₂ (· * · : EReal → EReal → EReal) (HV m c t r l)
    (congrArg₂ (· + · : EReal → EReal → EReal) Ideal.ofBits_one_f32 (rdM m c t r 4 l))

/-- The gradient through the weight. -/
theorem dnV (r : Fin 512) (l : Fin 1024) : dnAt (iblk m c 4 t) (iblk m c 5 t) (H m c t) r l = dn (inOf m c) (bt t r) (tt t r) l :=
  congrArg₂ (· * · : EReal → EReal → EReal) (scV m c t r l) (rd5 m c t l)

/-- A block of the rows' gradient. -/
theorem dxV (r : Fin 512) (l : Fin 1024) : dxAt (iblk m c 0 t) (iblk m c 1 t) (iblk m c 4 t) (iblk m c 5 t) (H m c t) r l = dx (inOf m c) (bt t r) (tt t r) l := by
  unfold dxAt dx
  simp only [rsV, xhV, dnV]
  exact congrArg (· + _ : EReal → EReal) (rd0 m c t r l)

/-- A block of the sums. -/
theorem ptV (s : Fin 2) (k : Fin 8) (l : Fin 1024) :
    ptAt (iblk m c 0 t) (iblk m c 1 t) (iblk m c 2 t) (iblk m c 4 t) (iblk m c 5 t) (H m c t) s k l = part (inOf m c) (blkR t s) k l := by
  have h : ∀ r : Fin 256, H m c t (ix2 ⟨256 * s + r, by omega⟩ l) = dh (inOf m c) (bB (blkR t s)) (bT (blkR t s) r) l := fun r => by
    rw [HV, eB, eT]
  have hx : ∀ r : Fin 256, xhAt (iblk m c 1 t) ⟨256 * s + r, by omega⟩ l = xh (inOf m c) (bB (blkR t s)) (bT (blkR t s) r) l := fun r => by
    rw [xhV, eB, eT]
  have h0 : ∀ r : Fin 256, (show FVec Ideal S512x1024 .f32 from iblk m c 0 t) (ix2 ⟨256 * s + r, by omega⟩ l) = (inOf m c).d (bB (blkR t s)) (bT (blkR t s) r) l := fun r =>
    (rd0 m c t _ l).trans (congrArg₂ (fun b j => (inOf m c).d b j l) (eB t s r) (eT t s r))
  have h2 : ∀ r : Fin 256, (show FVec Ideal S512x1024 .bf16 from iblk m c 2 t) (ix2 ⟨256 * s + r, by omega⟩ l) = mo (inOf m c) (bB (blkR t s)) (bT (blkR t s) r) l := fun r =>
    (rd2 m c t _ l).trans (congrArg₂ (fun b j => mo (inOf m c) b j l) (eB t s r) (eT t s r))
  have h5 : (show FVec Ideal S1x1024 .f32 from iblk m c 5 t) (ix2 0 l) = (inOf m c).w l := rd5 m c t l
  have h4 : ∀ r : Fin 256, (show FVec Ideal S2x8x1024 .f32 from iblk m c 4 t) (ix3 s 4 l) = md (inOf m c) 4 (bB (blkR t s)) (bT (blkR t s) r) l := fun r => rd4 m c t s 4 l r
  unfold ptAt part sc
  refine if_congr Iff.rfl (Finset.sum_congr rfl fun r _ => h r) ?_
  refine if_congr Iff.rfl (Finset.sum_congr rfl fun r _ => ?_) ?_
  · exact congrArg₂ (· * · : EReal → EReal → EReal) (congrArg₂ (· * · : EReal → EReal → EReal) (h r) (hx r)) h5
  refine if_congr Iff.rfl (Finset.sum_congr rfl fun r _ => ?_) ?_
  · exact congrArg₂ (· * · : EReal → EReal → EReal) (h0 r) (h2 r)
  refine if_congr Iff.rfl (Finset.sum_congr rfl fun r _ => ?_) rfl
  exact congrArg₂ (· * · : EReal → EReal → EReal) (congrArg₂ (· * · : EReal → EReal → EReal) (h r) (congrArg₂ (· + · : EReal → EReal → EReal) Ideal.ofBits_one_f32 (h4 r))) (hx r)

end Cert.Kernel2Ideal.MlpVals

end
-- ==== Proof.MlpFinal.lean ====
module

public import proofs.«01_k».proof.Proof.MlpVals

@[expose] public section

set_option maxRecDepth 16384

noncomputable section

namespace Cert.Kernel2Ideal.MlpFinal

open Cert.Kernel2Ideal Cert.Kernel2Ideal.Gen Cert.Kernel2Ideal.Blocks Cert.Kernel2Ideal.MlpReads Cert.Kernel2Ideal.MlpVals Idealize.ShloMosaic Idealize.ShloMosaic.TcCoe Idealize.SL.Sem Cert.Mlp

variable (m : (ℓ : Loc nD τ sig) → Buf (Elt Ideal) ℓ) (c : Dev nD)

/-- Rows as an array. -/
def rows {n : ℕ} {φ : FTy} (f : Fin 2 → Fin 4352 → Fin n → EReal) : FVec Ideal ⟨2, ![8704, n]⟩ φ :=
  fun i => f (rB (show Fin 8704 from i 0)) (rT (show Fin 8704 from i 0)) (show Fin n from i 1)

/-- The blocks' sums as an array. -/
def sums (f : Fin 34 → Fin 8 → Fin 1024 → EReal) : FVec Ideal S34x8x1024 .f32 :=
  fun i => f (show Fin 34 from i 0) (show Fin 8 from i 1) (show Fin 1024 from i 2)

/-- The kernel's first result is the rows' gradient. -/
theorem final8 : (dats m 0 c).arrAt 8 (cfgs 0).N = rows (φ := .f32) (dx (inOf m c)) := by
  refine (dats m 0 c).arrAt_eq_of_covers 8 _ (by decide +kernel) fun t hf y => ?_
  blk_simp
  rw [after0_8]
  idx_vars y
  rw [emb8 t]
  exact (b8 m c t _ _).trans (dxV m c t _ _)

/-- The kernel's second result is the hidden layer's gradient. -/
theorem final9 : (dats m 0 c).arrAt 9 (cfgs 0).N = rows (φ := .bf16) (du (inOf m c)) := by
  refine (dats m 0 c).arrAt_eq_of_covers 9 _ (by decide +kernel) fun t hf y => ?_
  blk_simp
  rw [after0_9]
  idx_vars y
  rw [emb9 t]
  exact (b9 m c t _ _).trans (uV m c t _ _)

/-- The kernel's third result is the gated gradient. -/
theorem final10 : (dats m 0 c).arrAt 10 (cfgs 0).N = rows (φ := .bf16) (ob (inOf m c)) := by
  refine (dats m 0 c).arrAt_eq_of_covers 10 _ (by decide +kernel) fun t hf y => ?_
  blk_simp
  rw [after0_10]
  idx_vars y
  rw [emb10 t]
  exact (b10 m c t _ _).trans (obV m c t _ _)

/-- The kernel's fourth result is the blocks' sums. -/
theorem final11 : (dats m 0 c).arrAt 11 (cfgs 0).N = sums (part (inOf m c)) := by
  refine (dats m 0 c).arrAt_eq_of_covers 11 _ (by decide +kernel) fun t hf y => ?_
  blk_simp
  rw [after0_11]
  idx_vars y
  rw [emb11 t]
  exact (b11 m c t _ _ _).trans (ptV m c t _ _ _)

end Cert.Kernel2Ideal.MlpFinal

end
-- ==== Proof.MlpReal.lean ====
module

public import proofs.«01_k».proof.Proof.MlpMath
public import proofs.«01_k».proof.Proof.Soft

@[expose] public section

set_option maxRecDepth 16384

noncomputable section

namespace Cert.Mlp

open Idealize.ShloMosaic

/-- A nonnegative real factor goes into a sum. -/
theorem mul_sum_real {ι : Type*} (S : Finset ι) (R : ℝ) (hR : 0 ≤ R) (f : ι → EReal) : (R : EReal) * ∑ i ∈ S, f i = ∑ i ∈ S, (R : EReal) * f i := by
  induction S using Finset.cons_induction with
  | empty => simp
  | cons a S ha ih =>
    rw [Finset.sum_cons, Finset.sum_cons, EReal.left_distrib_of_nonneg_of_ne_top (EReal.coe_nonneg.mpr hR) (EReal.coe_ne_top R), ih]

/-- An extended real twice is twice it. -/
theorem add_self (y : EReal) : y + y = ((2 : ℝ) : EReal) * y := by
  have h := EReal.right_distrib_of_nonneg (a := 1) (b := 1) (c := y) zero_le_one zero_le_one
  rw [one_mul] at h
  rw [← h]
  congr 1
  norm_cast

/-- Division by a real other than zero is multiplication by its inverse. -/
theorem div_at (y : EReal) (r : ℝ) (h : r ≠ 0) : Ideal.div y (r : EReal) = y * ((r⁻¹ : ℝ) : EReal) := by
  have h' : (r : EReal) ≠ 0 := by exact_mod_cast h
  simp only [Ideal.div, h', if_false, EReal.coe_inv]

/-- Minus a real times a real times an extended real. -/
theorem sub_real (a : EReal) (r : ℝ) (T : EReal) : a - (r : EReal) * T = a + ((-r : ℝ) : EReal) * T := by
  rw [sub_eq_add_neg, EReal.coe_neg, neg_mul]

/-- A square is not negative. -/
theorem sq_nonneg' (y : EReal) : 0 ≤ y * y := by
  rcases le_total 0 y with h | h
  · exact mul_nonneg h h
  · rw [← neg_mul_neg]; exact mul_nonneg (by simpa using h) (by simpa using h)

/-- The norm's backward pass on normalised rows is the chain of its operations: for a row of reals by the field's laws, since a positive real
    distributes over every sum of extended reals; for a row with an infinite entry the mean square is infinite, its reciprocal root zero, and
    both are the incoming gradient. -/
theorem norm_bwd {n : ℕ} (x y : Fin n → EReal) (D : EReal) (l : Fin n) (N e : ℝ) (hN : 0 < N) (he : 0 < e) (M R : EReal)
    (hM : M = Ideal.div (∑ k, x k * x k) (N : EReal) + (e : EReal)) (hR : R = Ideal.rsqrt M) :
    D + R * (y l - x l * R * Ideal.div (∑ k, y k * (x k * R)) (N : EReal))
    = D + (y l * R + x l * Ideal.div ((∑ k, x k * y k) * ((((-1 / 2 : ℝ)) : EReal) * Ideal.div R M)) (N : EReal)
      + Ideal.div ((∑ k, x k * y k) * ((((-1 / 2 : ℝ)) : EReal) * Ideal.div R M)) (N : EReal) * x l) := by
  rw [div_at _ N hN.ne'] at hM
  rw [div_at _ N hN.ne', div_at _ N hN.ne']
  by_cases hx : ∀ k, ∃ r : ℝ, x k = r
  · choose q hq using hx
    obtain rfl : x = fun k => (q k : EReal) := funext hq
    have hM' : M = (((∑ k, q k * q k) * N⁻¹ + e : ℝ) : EReal) := by
      rw [hM, EReal.coe_add, EReal.coe_mul, Cert.Attn.coe_sum]
      simp only [EReal.coe_mul]
    have hpos : 0 < (∑ k, q k * q k) * N⁻¹ + e :=
      add_pos_of_nonneg_of_pos (mul_nonneg (Finset.sum_nonneg fun k _ => mul_self_nonneg _) (inv_nonneg.mpr hN.le)) he
    generalize (∑ k, q k * q k) * N⁻¹ + e = s at hM' hpos
    have hs : 0 < Real.sqrt s := Real.sqrt_pos.mpr hpos
    have hR' : R = (((Real.sqrt s)⁻¹ : ℝ) : EReal) := by
      rw [hR, hM', Ideal.rsqrt_coe, if_neg (not_lt.mpr hpos.le), if_neg hpos.ne']
    have hss : Real.sqrt s * Real.sqrt s = s := Real.mul_self_sqrt hpos.le
    rw [hM', div_at _ s hpos.ne']
    rw [← hss]
    generalize Real.sqrt s = v at hs hR'
    subst hR'
    have hT : (∑ k, y k * ((q k : EReal) * ((v⁻¹ : ℝ) : EReal))) = ((v⁻¹ : ℝ) : EReal) * ∑ k, (q k : EReal) * y k := by
      rw [mul_sum_real _ _ (inv_nonneg.mpr hs.le)]
      exact Finset.sum_congr rfl fun k _ => by rw [mul_comm, mul_comm (q k : EReal) _, mul_assoc]
    beta_reduce
    rw [hT]
    generalize (∑ k, (q k : EReal) * y k) = T
    generalize q l = p
    generalize y l = z
    have e1 : (p : EReal) * ((v⁻¹ : ℝ) : EReal) * (((v⁻¹ : ℝ) : EReal) * T * ((N⁻¹ : ℝ) : EReal)) = ((p * v⁻¹ * (v⁻¹ * N⁻¹) : ℝ) : EReal) * T := by
      simp only [EReal.coe_mul]; ac_rfl
    have e2 : (p : EReal) * (T * ((((-1 / 2 : ℝ)) : EReal) * (((v⁻¹ : ℝ) : EReal) * (((v * v)⁻¹ : ℝ) : EReal))) * ((N⁻¹ : ℝ) : EReal))
        = ((p * ((-1 / 2) * (v⁻¹ * (v * v)⁻¹)) * N⁻¹ : ℝ) : EReal) * T := by
      rw [EReal.coe_mul, EReal.coe_mul, EReal.coe_mul, EReal.coe_mul]; ac_rfl
    rw [mul_comm (T * _ * _) (p : EReal), e1, e2, sub_real, EReal.left_distrib_of_nonneg_of_ne_top (EReal.coe_nonneg.mpr (inv_nonneg.mpr hs.le)) (EReal.coe_ne_top _),
      add_assoc (z * _), add_self, ← mul_assoc ((v⁻¹ : ℝ) : EReal) _ T, ← mul_assoc ((2 : ℝ) : EReal) _ T, ← EReal.coe_mul, ← EReal.coe_mul, mul_comm z]
    congr 4
    field_simp
  · push Not at hx
    obtain ⟨k, hk⟩ := hx
    have hk' : x k * x k = ⊤ := by
      cases h : x k with
      | bot => rfl
      | coe r => exact absurd h (hk r)
      | top => rfl
    have hsum : (∑ k, x k * x k) = ⊤ := by
      refine top_le_iff.mp (hk' ▸ ?_)
      exact Finset.single_le_sum (f := fun k => x k * x k) (fun i _ => sq_nonneg' (x i)) (Finset.mem_univ k)
    have hMt : M = ⊤ := by
      rw [hM, hsum, EReal.top_mul_coe_of_pos (inv_pos.mpr hN), EReal.top_add_coe]
    have hR0 : R = 0 := by rw [hR, hMt]; rfl
    have hd : Ideal.div (0 : EReal) ⊤ = 0 := by simp [Ideal.div]
    rw [hMt, hR0, hd]
    simp

/-- The pattern of 1024. -/
theorem ofBits_1024 : Ideal.ofBits .f32 0x44800000#32 = ((1024 : ℝ) : EReal) := by
  simp [Ideal.ofBits, Ideal.ieee, -EReal.coe_mul]; norm_num

/-- The pattern of minus a half. -/
theorem ofBits_half : Ideal.ofBits .f32 0xBF000000#32 = ((-1 / 2 : ℝ) : EReal) := by
  simp [Ideal.ofBits, Ideal.ieee, -EReal.coe_mul]; norm_num

/-- The norm's offset is a positive real. -/
theorem ofBits_eps : ∃ e : ℝ, 0 < e ∧ Ideal.ofBits .f32 0x358637BD#32 = (e : EReal) :=
  ⟨8796093 / 8796093022208, by norm_num, by simp [Ideal.ofBits, Ideal.ieee, -EReal.coe_mul]; norm_num⟩

/-- The rows' gradient, written on normalised rows, is the chain of the norm's operations. -/
theorem dx_eq (P : In) (b : Fin 2) (t : Fin 4352) (l : Fin 1024) : dx P b t l = dxR P b t l := by
  obtain ⟨e, he, h⟩ := ofBits_eps
  have hM : ms P b t = Ideal.div (∑ k, P.x b t k * P.x b t k) ((1024 : ℝ) : EReal) + (e : EReal) := by unfold ms; rw [h, ofBits_1024]
  have hn := norm_bwd (P.x b t) (dn P b t) (P.d b t l) l 1024 e (by norm_num) he (ms P b t) (rs P b t) hM rfl
  unfold dx dxR gm xh
  rw [ofBits_1024, ofBits_half]
  exact hn

end Cert.Mlp

end
-- ==== Proof.MlpStages.lean ====
module

public import proofs.«01_k».proof.Proof.Gen.Reference2Ideal.Run
public import proofs.«01_k».proof.Proof.MlpMath

@[expose] public section

set_option maxRecDepth 16384

noncomputable section

namespace Cert.Reference2Ideal.Rows

open Cert.Reference2Ideal Cert.Reference2Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32) (A5 : FVec Ideal S2x4352x1024 .f32)

/-- The arguments, by their indices. -/
def args : In where
  x b t l := A0 (ix3 b t l)
  d b t l := A5 (ix3 b t l)
  m b j l := A1 (ix3 b j l)
  w l := A2 (ix1 l)
  w1 l n := A3 (ix2 l n)
  w2 n l := A4 (ix2 n l)

/-- The tokens' modulations. -/
def byRow : FVec Ideal S2x4352x6x1024 .f32 := concatenate S2x4352x6x1024 1 [⟨S2x256x6x1024, (broadcastInDim S2x256x6x1024 ![2, 3] bcast_S6x1024_S2x256x6x1024_2_3 (shapeCast _ (extractStridedSlice S1x6x1024 ![2, 0, 0] A1 slices_S3x6x1024_S1x6x1024_2_0_0) shapeCasts_S1x6x1024_S6x1024))⟩, ⟨S2x4096x6x1024, (broadcastInDim S2x4096x6x1024 ![0, 1, 2, 3] bcast_S2x1x6x1024_S2x4096x6x1024_0_1_2_3 (broadcastInDim S2x1x6x1024 ![0, 2, 3] bcast_S2x6x1024_S2x1x6x1024_0_2_3 (extractStridedSlice S2x6x1024 ![0, 0, 0] A1 slices_S3x6x1024_S2x6x1024_0_0_0)))⟩] concatenates_S2x256x6x1024_S2x4096x6x1024_S2x4352x6x1024_d1
/-- The shift. -/
def shift : FVec Ideal S2x4352x1024 .f32 := shapeCast _ (extractStridedSlice S2x4352x1x1024 ![0, 0, 3, 0] (byRow A1) slices_S2x4352x6x1024_S2x4352x1x1024_0_0_3_0) shapeCasts_S2x4352x1x1024_S2x4352x1024
/-- The scale. -/
def scl : FVec Ideal S2x4352x1024 .f32 := shapeCast _ (extractStridedSlice S2x4352x1x1024 ![0, 0, 4, 0] (byRow A1) slices_S2x4352x6x1024_S2x4352x1x1024_0_0_4_0) shapeCasts_S2x4352x1x1024_S2x4352x1024
/-- The gate. -/
def gate : FVec Ideal S2x4352x1024 .f32 := shapeCast _ (extractStridedSlice S2x4352x1x1024 ![0, 0, 5, 0] (byRow A1) slices_S2x4352x6x1024_S2x4352x1x1024_0_0_5_0) shapeCasts_S2x4352x1x1024_S2x4352x1024
/-- The gradient of the layer's output. -/
def dy : FVec Ideal S2x4352x1024 .f32 := shapeCast _ A5 shapeCasts_S2x4352x1024_S2x4352x1024
/-- One and the scale. -/
def scale1 : FVec Ideal S2x4352x1024 .f32 := addf (broadcastInDim S2x4352x1024 ![] bcast_S_S2x4352x1024 (constant S_ .f32 0x3F800000#32)) (scl A1)
/-- The gated gradient. -/
def gd : FVec Ideal S2x4352x1024 .f32 := mulf (gate A1) (dy A5)
/-- The rows' mean squares. -/
def msq : FVec Ideal S2x4352x1 .f32 := addf (Host.divf (broadcastInDim S2x4352x1 ![0, 1] bcast_S2x4352_S2x4352x1_0_1 (Host.reduceAdd (mulf A0 A0) (constant S_ .f32 0x00000000#32) reducesTo_S2x4352x1024_S2x4352_d2 h_S_)) (broadcastInDim S2x4352x1 ![] bcast_S_S2x4352x1 (constant S_ .f32 0x44800000#32))) (broadcastInDim S2x4352x1 ![] bcast_S_S2x4352x1 (constant S_ .f32 0x358637BD#32))
/-- Their reciprocal roots. -/
def rsq : FVec Ideal S2x4352x1 .f32 := Host.rsqrt (msq A0)
/-- The normalised rows. -/
def nrm : FVec Ideal S2x4352x1024 .f32 := mulf A0 (broadcastInDim S2x4352x1024 ![0, 1, 2] bcast_S2x4352x1_S2x4352x1024_0_1_2 (rsq A0))
/-- … with the weight. -/
def nrmW : FVec Ideal S2x4352x1024 .f32 := mulf (nrm A0) (broadcastInDim S2x4352x1024 ![2] bcast_S1024_S2x4352x1024_2 A2)
/-- The layer's input. -/
def hin : FVec Ideal S2x4352x1024 .f32 := addf (mulf (nrmW A0 A2) (scale1 A1)) (shift A1)
/-- The hidden layer. -/
def hid : FVec Ideal S2x4352x4096 .f32 := Host.dotGeneral dot_S2x4352x1024_S1024x4096_S2x4352x4096_2_0_01_1_n_n none (hin A0 A1 A2) A3
/-- The rectified hidden layer. -/
def rel : FVec Ideal S2x4352x4096 .f32 := maximumf (hid A0 A1 A2 A3) (broadcastInDim S2x4352x4096 ![] bcast_S_S2x4352x4096 (constant S_ .f32 0x00000000#32))
/-- The layer's output. -/
def out : FVec Ideal S2x4352x1024 .f32 := Host.dotGeneral dot_S2x4352x4096_S4096x1024_S2x4352x1024_2_0_01_1_n_n none (mulf (rel A0 A1 A2 A3) (rel A0 A1 A2 A3)) A4
/-- The hidden layer's gradient. -/
def ghid : FVec Ideal S2x4352x4096 .f32 := select (cmpf .ogt (hid A0 A1 A2 A3) (broadcastInDim S2x4352x4096 ![] bcast_S_S2x4352x4096 (constant S_ .f32 0x00000000#32))) (mulf (Host.dotGeneral dot_S2x4352x1024_S4096x1024_S2x4352x4096_2_1_01_0_n_n none (gd A1 A5) A4) (mulf (broadcastInDim S2x4352x4096 ![] bcast_S_S2x4352x4096 (constant S_ .f32 0x40000000#32)) (rel A0 A1 A2 A3))) (broadcastInDim S2x4352x4096 ![] bcast_S_S2x4352x4096 (constant S_ .f32 0x00000000#32))
/-- The gradient of the layer's input. -/
def gin : FVec Ideal S2x4352x1024 .f32 := Host.dotGeneral dot_S2x4352x4096_S1024x4096_S2x4352x1024_2_1_01_0_n_n none (ghid A0 A1 A2 A3 A4 A5) A3
/-- … through the scale. -/
def gsc : FVec Ideal S2x4352x1024 .f32 := mulf (gin A0 A1 A2 A3 A4 A5) (scale1 A1)
/-- … through the weight. -/
def gnw : FVec Ideal S2x4352x1024 .f32 := mulf (gsc A0 A1 A2 A3 A4 A5) (broadcastInDim S2x4352x1024 ![2] bcast_S1024_S2x4352x1024_2 A2)
/-- What the mean square's gradient gives a row. -/
def gms : FVec Ideal S2x4352x1024 .f32 := broadcastInDim S2x4352x1024 ![0, 1] bcast_S2x4352_S2x4352x1024_0_1 (Host.reduceAdd (Host.divf (mulf (shapeCast _ (Host.reduceAdd (mulf A0 (gnw A0 A1 A2 A3 A4 A5)) (constant S_ .f32 0x00000000#32) reducesTo_S2x4352x1024_S2x4352_d2 h_S_) shapeCasts_S2x4352_S2x4352x1) (mulf (broadcastInDim S2x4352x1 ![] bcast_S_S2x4352x1 (constant S_ .f32 0xBF000000#32)) (Host.divf (rsq A0) (msq A0)))) (broadcastInDim S2x4352x1 ![] bcast_S_S2x4352x1 (constant S_ .f32 0x44800000#32))) (constant S_ .f32 0x00000000#32) reducesTo_S2x4352x1_S2x4352_d2 h_S_)
/-- The rows' gradient. -/
def grow : FVec Ideal S8704x1024 .f32 := shapeCast _ (addf A5 (addf (addf (mulf (gnw A0 A1 A2 A3 A4 A5) (broadcastInDim S2x4352x1024 ![0, 1, 2] bcast_S2x4352x1_S2x4352x1024_0_1_2 (rsq A0))) (mulf A0 (gms A0 A1 A2 A3 A4 A5))) (mulf (gms A0 A1 A2 A3 A4 A5) A0))) shapeCasts_S2x4352x1024_S8704x1024
/-- Sums over blocks of 256 rows. -/
def bsum (v : FVec Ideal S2x4352x1024 .f32) : FVec Ideal S34x1x1024 .f32 := broadcastInDim S34x1x1024 ![0, 2] bcast_S34x1024_S34x1x1024_0_2 (Host.reduceAdd (shapeCast S34x256x1024 v shapeCasts_S2x4352x1024_S34x256x1024) (constant S_ .f32 0x00000000#32) reducesTo_S34x256x1024_S34x1024_d1 h_S_)
/-- Four of them and four rows of zeros. -/
def cat4 (a b c d : FVec Ideal S34x1x1024 .f32) : FVec Ideal S34x8x1024 .f32 := pad S34x8x1024 ![0, 0, 0] ![0, 4, 0] ![0, 0, 0] (concatenate S34x4x1024 1 [⟨S34x1x1024, a⟩, ⟨S34x1x1024, b⟩, ⟨S34x1x1024, c⟩, ⟨S34x1x1024, d⟩] concatenates_S34x1x1024_S34x1x1024_S34x1x1024_S34x1x1024_S34x4x1024_d1) (sitofp .f32 (constantI S_ 32 0#32)) pads_S34x4x1024_S34x8x1024_000_040_000 h_S_
/-- The sums. -/
def parts : FVec Ideal S34x8x1024 .f32 := cat4 (bsum (gin A0 A1 A2 A3 A4 A5)) (bsum (mulf (nrmW A0 A2) (gin A0 A1 A2 A3 A4 A5))) (bsum (mulf (dy A5) (out A0 A1 A2 A3 A4))) (bsum (mulf (nrm A0) (gsc A0 A1 A2 A3 A4 A5)))
/-- The hidden layer's gradient, as it is returned. -/
def ghidB : FVec Ideal S8704x4096 .bf16 := truncf .bf16 (shapeCast S8704x4096 (ghid A0 A1 A2 A3 A4 A5) shapeCasts_S2x4352x4096_S8704x4096) bitsLt_bf16_f32
/-- The gated gradient, as it is returned. -/
def gdB : FVec Ideal S8704x1024 .bf16 := truncf .bf16 (shapeCast S8704x1024 (gd A1 A5) shapeCasts_S2x4352x1024_S8704x1024) bitsLt_bf16_f32

end Cert.Reference2Ideal.Rows

end
-- ==== Proof.MlpRef.lean ====
module

public import proofs.«01_k».proof.Proof.MlpStages

@[expose] public section

set_option maxRecDepth 16384

noncomputable section

namespace Cert.Reference2Ideal.Rows

open Cert.Reference2Ideal Cert.Reference2Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32) (A5 : FVec Ideal S2x4352x1024 .f32)

/-- A product of arrays, at an index. -/
theorem mul_at {s : Shape} (a b : FVec Ideal s .f32) (i : s.Idx) : mulf a b i = (a i * b i : EReal) := rfl

/-- A sum of arrays, at an index. -/
theorem add_at {s : Shape} (a b : FVec Ideal s .f32) (i : s.Idx) : addf a b i = (a i + b i : EReal) := rfl

/-- An array of ones. -/
theorem one_at (i : S2x4352x1024.Idx) : broadcastInDim S2x4352x1024 ![] bcast_S_S2x4352x1024 (constant (F := Ideal) S_ .f32 0x3F800000#32) i = (1 : EReal) :=
  Ideal.ofBits_one_f32

/-- A token's modulation. -/
theorem byRow_at (b : Fin 2) (t : Fin 4352) (j : Fin 6) (l : Fin 1024) : byRow A1 (ix4 b t j l) = md (args A0 A1 A2 A3 A4 A5) j b t l := by
  unfold md args
  pointwise [byRow]
  split_ifs <;> rfl

/-- The shift. -/
theorem shift_at (b : Fin 2) (t : Fin 4352) (l : Fin 1024) : shift A1 (ix3 b t l) = md (args A0 A1 A2 A3 A4 A5) 3 b t l := by
  rw [← byRow_at]
  pointwise [shift]

/-- The scale. -/
theorem scl_at (b : Fin 2) (t : Fin 4352) (l : Fin 1024) : scl A1 (ix3 b t l) = md (args A0 A1 A2 A3 A4 A5) 4 b t l := by
  rw [← byRow_at]
  pointwise [scl]

/-- The gate. -/
theorem gate_at (b : Fin 2) (t : Fin 4352) (l : Fin 1024) : gate A1 (ix3 b t l) = md (args A0 A1 A2 A3 A4 A5) 5 b t l := by
  rw [← byRow_at]
  pointwise [gate]

/-- One and the scale. -/
theorem scale1_at (b : Fin 2) (t : Fin 4352) (l : Fin 1024) : scale1 A1 (ix3 b t l) = 1 + md (args A0 A1 A2 A3 A4 A5) 4 b t l := by
  unfold scale1
  refine (add_at _ _ _).trans ?_
  rw [one_at, scl_at A0 A1 A2 A3 A4 A5]

/-- The gated gradient. -/
theorem gd_at (b : Fin 2) (t : Fin 4352) (l : Fin 1024) : gd A1 A5 (ix3 b t l) = ob (args A0 A1 A2 A3 A4 A5) b t l := by
  unfold gd ob dy
  refine (mul_at _ _ _).trans ?_
  rw [gate_at A0 A1 A2 A3 A4 A5, shapeCast_self]
  exact mul_comm _ _

/-- A row's mean square. -/
theorem msq_at (b : Fin 2) (t : Fin 4352) : msq A0 (ix3 b t 0) = ms (args A0 A1 A2 A3 A4 A5) b t := by
  unfold ms
  pointwise [msq, args]

/-- Its reciprocal root. -/
theorem rsq_at (b : Fin 2) (t : Fin 4352) : rsq A0 (ix3 b t 0) = rs (args A0 A1 A2 A3 A4 A5) b t := by
  unfold rs
  rw [← msq_at]
  pointwise [rsq]

/-- A row's reciprocal root, on all its lanes. -/
theorem rsqB_at (b : Fin 2) (t : Fin 4352) (l : Fin 1024) : broadcastInDim S2x4352x1024 ![0, 1, 2] bcast_S2x4352x1_S2x4352x1024_0_1_2 (rsq A0) (ix3 b t l) = rs (args A0 A1 A2 A3 A4 A5) b t := by
  rw [← rsq_at]
  generalize rsq A0 = v
  pointwise []

/-- A normalised row. -/
theorem nrm_at (b : Fin 2) (t : Fin 4352) (l : Fin 1024) : nrm A0 (ix3 b t l) = xh (args A0 A1 A2 A3 A4 A5) b t l := by
  unfold nrm xh
  refine (mul_at _ _ _).trans ?_
  rw [rsqB_at A0 A1 A2 A3 A4 A5]
  rfl

/-- The weight, on all rows. -/
theorem wB_at (b : Fin 2) (t : Fin 4352) (l : Fin 1024) : broadcastInDim S2x4352x1024 ![2] bcast_S1024_S2x4352x1024_2 A2 (ix3 b t l) = (args A0 A1 A2 A3 A4 A5).w l := by
  pointwise [args]

/-- A normalised row with the weight. -/
theorem nrmW_at (b : Fin 2) (t : Fin 4352) (l : Fin 1024) : nrmW A0 A2 (ix3 b t l) = xh (args A0 A1 A2 A3 A4 A5) b t l * (args A0 A1 A2 A3 A4 A5).w l := by
  unfold nrmW
  refine (mul_at _ _ _).trans ?_
  rw [wB_at A0 A1 A2 A3 A4 A5, nrm_at A0 A1 A2 A3 A4 A5]

/-- The layer's input. -/
theorem hin_at (b : Fin 2) (t : Fin 4352) (l : Fin 1024) : hin A0 A1 A2 (ix3 b t l) = inp (args A0 A1 A2 A3 A4 A5) b t l := by
  unfold hin inp
  refine (add_at _ _ _).trans ?_
  rw [mul_at, nrmW_at A0 A1 A2 A3 A4 A5, scale1_at A0 A1 A2 A3 A4 A5, shift_at A0 A1 A2 A3 A4 A5]

/-- The hidden layer. -/
theorem hid_at (b : Fin 2) (t : Fin 4352) (n : Fin 4096) : hid A0 A1 A2 A3 (ix3 b t n) = u (args A0 A1 A2 A3 A4 A5) b t n := by
  unfold u
  simp only [← hin_at]
  pointwise [hid, args]

/-- An array of zeros. -/
theorem zero_at (i : S2x4352x4096.Idx) : broadcastInDim S2x4352x4096 ![] bcast_S_S2x4352x4096 (constant (F := Ideal) S_ .f32 0x00000000#32) i = (0 : EReal) := by
  pointwise []

/-- The rectified hidden layer. -/
theorem rel_at (b : Fin 2) (t : Fin 4352) (n : Fin 4096) : rel A0 A1 A2 A3 (ix3 b t n) = rl (args A0 A1 A2 A3 A4 A5) b t n := by
  unfold rel rl
  rw [← hid_at]
  generalize hid A0 A1 A2 A3 = v
  refine (show maximumf v _ (ix3 b t n) = max (v (ix3 b t n)) (broadcastInDim S2x4352x4096 ![] bcast_S_S2x4352x4096 (constant (F := Ideal) S_ .f32 0x00000000#32) (ix3 b t n)) from rfl).trans ?_
  rw [zero_at]

/-- The layer's output. -/
theorem out_at (b : Fin 2) (t : Fin 4352) (l : Fin 1024) : out A0 A1 A2 A3 A4 (ix3 b t l) = mo (args A0 A1 A2 A3 A4 A5) b t l := by
  unfold mo out
  simp only [← rel_at]
  generalize rel A0 A1 A2 A3 = v
  pointwise [args]

end Cert.Reference2Ideal.Rows

end
-- ==== Proof.MlpRefOps.lean ====
module

public import proofs.«01_k».proof.Proof.MlpStages

@[expose] public section

set_option maxRecDepth 16384

noncomputable section

namespace Cert.Reference2Ideal.Rows

open Cert.Reference2Ideal Cert.Reference2Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32) (A5 : FVec Ideal S2x4352x1024 .f32)

/-- The gated gradient through the second matrix. -/
theorem gw2_at (v : FVec Ideal S2x4352x1024 .f32) (b : Fin 2) (t : Fin 4352) (n : Fin 4096) :
    Host.dotGeneral dot_S2x4352x1024_S4096x1024_S2x4352x4096_2_1_01_0_n_n none v A4 (ix3 b t n) = (∑ k, v (ix3 b t k) * A4 (ix2 n k) : EReal) := by
  pointwise []

/-- A gradient through the first matrix. -/
theorem gw1_at (v : FVec Ideal S2x4352x4096 .f32) (b : Fin 2) (t : Fin 4352) (l : Fin 1024) :
    Host.dotGeneral dot_S2x4352x4096_S1024x4096_S2x4352x1024_2_1_01_0_n_n none v A3 (ix3 b t l) = (∑ n, v (ix3 b t n) * A3 (ix2 l n) : EReal) := by
  pointwise []

/-- A sum of a row. -/
theorem rowsum_at (v : FVec Ideal S2x4352x1024 .f32) (b : Fin 2) (t : Fin 4352) :
    shapeCast S2x4352x1 (Host.reduceAdd v (constant S_ .f32 0x00000000#32) reducesTo_S2x4352x1024_S2x4352_d2 h_S_) shapeCasts_S2x4352_S2x4352x1 (ix3 b t 0) = (∑ k, v (ix3 b t k) : EReal) := by
  pointwise []

/-- A row's number, on all its lanes. -/
theorem colsum_at (v : FVec Ideal S2x4352x1 .f32) (b : Fin 2) (t : Fin 4352) (l : Fin 1024) :
    broadcastInDim S2x4352x1024 ![0, 1] bcast_S2x4352_S2x4352x1024_0_1 (Host.reduceAdd v (constant S_ .f32 0x00000000#32) reducesTo_S2x4352x1_S2x4352_d2 h_S_) (ix3 b t l) = v (ix3 b t 0) := by
  pointwise []
  exact Fin.sum_univ_one _

/-- What the mean square's gradient gives, from the row's sum. -/
theorem gmv_at (v p q : FVec Ideal S2x4352x1 .f32) (b : Fin 2) (t : Fin 4352) :
    Host.divf (mulf v (mulf (broadcastInDim S2x4352x1 ![] bcast_S_S2x4352x1 (constant S_ .f32 0xBF000000#32)) (Host.divf p q))) (broadcastInDim S2x4352x1 ![] bcast_S_S2x4352x1 (constant S_ .f32 0x44800000#32)) (ix3 b t 0)
      = (Ideal.div (v (ix3 b t 0) * (Ideal.ofBits .f32 0xBF000000#32 * Ideal.div (p (ix3 b t 0)) (q (ix3 b t 0)))) (Ideal.ofBits .f32 0x44800000#32) : EReal) := by
  pointwise []

/-- A sum over a block's rows. -/
theorem bsum_at (v : FVec Ideal S2x4352x1024 .f32) (i : Fin 34) (l : Fin 1024) : bsum v (ix3 i 0 l) = (∑ r, v (ix3 (bB i) (bT i r) l) : EReal) := by
  pointwise [bsum]
  refine Finset.sum_congr rfl fun r _ => ?_
  have e : (⟨(i : ℕ) % 17 * 256 + r, by omega⟩ : Fin 4352) = bT i r := Fin.ext (by show (i : ℕ) % 17 * 256 + r = 256 * (i % 17) + r; omega)
  exact congrArg (fun t => v (ix3 (bB i) t l)) e

/-- Four rows of sums and four of zeros. -/
theorem cat4_at (a b c d : FVec Ideal S34x1x1024 .f32) (i : Fin 34) (k : Fin 8) (l : Fin 1024) :
    cat4 a b c d (ix3 i k l) = (if (k : ℕ) = 0 then a (ix3 i 0 l) else if (k : ℕ) = 1 then b (ix3 i 0 l) else if (k : ℕ) = 2 then c (ix3 i 0 l) else if (k : ℕ) = 3 then d (ix3 i 0 l) else (0 : EReal)) := by
  pointwise [cat4]
  have z : FloatOps.sitofp (F := Ideal) .f32 0#32 = (0 : EReal) := by
    show (((BitVec.toInt (0#32) : ℤ) : ℝ) : EReal) = 0
    simp
  match k with
  | 0 => rfl
  | 1 => rfl
  | 2 => rfl
  | 3 => rfl
  | 4 => exact z
  | 5 => exact z
  | 6 => exact z
  | 7 => exact z

/-- A batch entry's rows, in one list. -/
theorem flat_at (v : FVec Ideal S2x4352x1024 .f32) (R : Fin 8704) (l : Fin 1024) : shapeCast S8704x1024 v shapeCasts_S2x4352x1024_S8704x1024 (ix2 R l) = v (ix3 (rB R) (rT R) l) := by
  pointwise []

/-- A batch entry's hidden rows, in one list. -/
theorem flatH_at (v : FVec Ideal S2x4352x4096 .f32) (R : Fin 8704) (n : Fin 4096) : truncf .bf16 (shapeCast S8704x4096 v shapeCasts_S2x4352x4096_S8704x4096) bitsLt_bf16_f32 (ix2 R n) = v (ix3 (rB R) (rT R) n) := by
  pointwise []

/-- … at the narrower format. -/
theorem flatB_at (v : FVec Ideal S2x4352x1024 .f32) (R : Fin 8704) (l : Fin 1024) : truncf .bf16 (shapeCast S8704x1024 v shapeCasts_S2x4352x1024_S8704x1024) bitsLt_bf16_f32 (ix2 R l) = v (ix3 (rB R) (rT R) l) := by
  pointwise []

/-- A choice by sign. -/
theorem sel_at (h g z : FVec Ideal S2x4352x4096 .f32) (i : S2x4352x4096.Idx) (hz : z i = (0 : EReal)) : select (cmpf .ogt h z) g z i = (if (0 : EReal) < h i then g i else 0 : EReal) := by
  show (if Ideal.cmp .ogt (h i) (z i) = 1#1 then g i else z i) = _
  rw [hz]
  by_cases h0 : (0 : EReal) < h i
  · simp [Ideal.cmp, h0]
  · simp [Ideal.cmp, h0]

end Cert.Reference2Ideal.Rows

end
-- ==== Proof.MlpRefRows.lean ====
module

public import proofs.«01_k».proof.Proof.MlpRef
public import proofs.«01_k».proof.Proof.MlpRefOps

@[expose] public section

set_option maxRecDepth 16384

noncomputable section

namespace Cert.Reference2Ideal.Rows

open Cert.Reference2Ideal Cert.Reference2Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32) (A5 : FVec Ideal S2x4352x1024 .f32)

/-- The hidden layer's gradient. -/
theorem ghid_at (b : Fin 2) (t : Fin 4352) (n : Fin 4096) : ghid A0 A1 A2 A3 A4 A5 (ix3 b t n) = du (args A0 A1 A2 A3 A4 A5) b t n := by
  unfold ghid du
  refine (sel_at _ _ _ _ (zero_at _)).trans ?_
  rw [mul_at, gw2_at, mul_at, rel_at A0 A1 A2 A3 A4 A5, hid_at A0 A1 A2 A3 A4 A5]
  simp only [gd_at A0 A1 A2 A3 A4 A5]
  by_cases h : (0 : EReal) < u (args A0 A1 A2 A3 A4 A5) b t n
  · rw [if_pos h]
    rfl
  · rw [if_neg h]
    have hr : rl (args A0 A1 A2 A3 A4 A5) b t n = 0 := max_eq_right (not_lt.1 h)
    rw [hr, mul_zero, mul_zero]

/-- The gradient of the layer's input. -/
theorem gin_at (b : Fin 2) (t : Fin 4352) (l : Fin 1024) : gin A0 A1 A2 A3 A4 A5 (ix3 b t l) = dh (args A0 A1 A2 A3 A4 A5) b t l := by
  unfold gin dh
  refine (gw1_at _ _ _ _ _).trans ?_
  simp only [ghid_at A0 A1 A2 A3 A4 A5]
  rfl

/-- … through the scale. -/
theorem gsc_at (b : Fin 2) (t : Fin 4352) (l : Fin 1024) : gsc A0 A1 A2 A3 A4 A5 (ix3 b t l) = sc (args A0 A1 A2 A3 A4 A5) b t l := by
  unfold gsc sc
  refine (mul_at _ _ _).trans ?_
  rw [gin_at, scale1_at A0 A1 A2 A3 A4 A5]

/-- … through the weight. -/
theorem gnw_at (b : Fin 2) (t : Fin 4352) (l : Fin 1024) : gnw A0 A1 A2 A3 A4 A5 (ix3 b t l) = dn (args A0 A1 A2 A3 A4 A5) b t l := by
  unfold gnw dn
  refine (mul_at _ _ _).trans ?_
  rw [gsc_at, wB_at A0 A1 A2 A3 A4 A5]

/-- What the mean square's gradient gives a row. -/
theorem gms_at (b : Fin 2) (t : Fin 4352) (l : Fin 1024) : gms A0 A1 A2 A3 A4 A5 (ix3 b t l) = gm (args A0 A1 A2 A3 A4 A5) b t := by
  unfold gms gm
  refine (colsum_at _ _ _ _).trans ?_
  refine (gmv_at _ _ _ _ _).trans ?_
  rw [rowsum_at, rsq_at A0 A1 A2 A3 A4 A5, msq_at A0 A1 A2 A3 A4 A5]
  simp only [mul_at, gnw_at A0 A1 A2 A3 A4 A5]
  rfl

/-- The rows' gradient. -/
theorem grow_at (R : Fin 8704) (l : Fin 1024) : grow A0 A1 A2 A3 A4 A5 (ix2 R l) = dxR (args A0 A1 A2 A3 A4 A5) (rB R) (rT R) l := by
  unfold grow dxR
  refine (flat_at _ _ _).trans ?_
  rw [add_at, add_at, add_at, mul_at, mul_at, mul_at, gnw_at, gms_at, rsqB_at A0 A1 A2 A3 A4 A5]
  rfl

/-- The sums. -/
theorem parts_at (i : Fin 34) (k : Fin 8) (l : Fin 1024) : parts A0 A1 A2 A3 A4 A5 (ix3 i k l) = part (args A0 A1 A2 A3 A4 A5) i k l := by
  unfold parts part
  refine (cat4_at _ _ _ _ _ _ _).trans ?_
  rw [bsum_at, bsum_at, bsum_at, bsum_at]
  simp only [mul_at, gin_at, gsc_at, nrmW_at A0 A1 A2 A3 A4 A5, nrm_at A0 A1 A2 A3 A4 A5, out_at A0 A1 A2 A3 A4 A5, dy, shapeCast_self]
  have e1 : ∀ r, xh (args A0 A1 A2 A3 A4 A5) (bB i) (bT i r) l * (args A0 A1 A2 A3 A4 A5).w l * dh (args A0 A1 A2 A3 A4 A5) (bB i) (bT i r) l
      = dh (args A0 A1 A2 A3 A4 A5) (bB i) (bT i r) l * xh (args A0 A1 A2 A3 A4 A5) (bB i) (bT i r) l * (args A0 A1 A2 A3 A4 A5).w l := fun r => by
    rw [mul_comm, mul_assoc]
  have e3 : ∀ r, xh (args A0 A1 A2 A3 A4 A5) (bB i) (bT i r) l * sc (args A0 A1 A2 A3 A4 A5) (bB i) (bT i r) l
      = sc (args A0 A1 A2 A3 A4 A5) (bB i) (bT i r) l * xh (args A0 A1 A2 A3 A4 A5) (bB i) (bT i r) l := fun r => mul_comm _ _
  simp only [e1, e3]
  rfl

/-- The hidden layer's gradient, as it is returned. -/
theorem ghidB_at (R : Fin 8704) (n : Fin 4096) : ghidB A0 A1 A2 A3 A4 A5 (ix2 R n) = du (args A0 A1 A2 A3 A4 A5) (rB R) (rT R) n := by
  unfold ghidB
  refine (flatH_at _ _ _).trans ?_
  rw [ghid_at]

/-- The gated gradient, as it is returned. -/
theorem gdB_at (R : Fin 8704) (l : Fin 1024) : gdB A1 A5 (ix2 R l) = ob (args A0 A1 A2 A3 A4 A5) (rB R) (rT R) l := by
  unfold gdB
  refine (flatB_at _ _ _).trans ?_
  rw [gd_at A0 A1 A2 A3 A4 A5]

section
variable (m : (ℓ : Loc nD τ sig) → Buf (Elt Ideal) ℓ) (c : Dev nD)

/-- The arguments on a device. -/
def at_ : In := args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The first result is the rows' gradient. -/
theorem res83 : Value.res_main_v83 m c = grow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The second is the hidden layer's gradient. -/
theorem res85 : Value.res_main_v85 m c = ghidB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The fourth is the sums. -/
theorem res88 : Value.res_main_v88 m c = parts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end

end Cert.Reference2Ideal.Rows

end
-- ==== Proof.FwdKer.lean ====
module

public import proofs.«01_k».proof.Proof.Gen.Kernel5Ideal.Value
public import proofs.«01_k».proof.Proof.MlpMath
public import Idealize.ShloMosaic.Lib.Pipeline.ValueKit

@[expose] public section

set_option maxRecDepth 16384

noncomputable section

namespace Cert.Kernel5Ideal.Rows

open Cert.Kernel5Ideal Cert.Kernel5Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32)

/-- The arguments, by their indices. -/
def args : In where
  x b t l := A0 (ix3 b t l)
  d b t l := 0
  m b j l := A1 (ix3 b j l)
  w l := A2 (ix1 l)
  w1 l n := A3 (ix2 l n)
  w2 n l := A4 (ix2 n l)

/-- A batch entry's rows, in one list. -/
def flat (A : FVec Ideal S2x4352x1024 .f32) : FVec Ideal S8704x1024 .f32 := shapeCast S8704x1024 A shapeCasts_S2x4352x1024_S8704x1024

/-- A context block and sixteen others, for two batch entries. -/
def catM (a : FVec Ideal S1x6x1024 .f32) (b : FVec Ideal S16x6x1024 .f32) (c : FVec Ideal S1x6x1024 .f32) (d : FVec Ideal S16x6x1024 .f32) : FVec Ideal S34x8x1024 .f32 := pad S34x8x1024 ![0, 0, 0] ![0, 2, 0] ![0, 0, 0] (concatenate S34x6x1024 0 [⟨S1x6x1024, a⟩, ⟨S16x6x1024, b⟩, ⟨S1x6x1024, c⟩, ⟨S16x6x1024, d⟩] concatenates_S1x6x1024_S16x6x1024_S1x6x1024_S16x6x1024_S34x6x1024_d0) (sitofp .f32 (constantI S_ 32 0#32)) pads_S34x6x1024_S34x8x1024_000_020_000 h_S_

/-- The blocks' modulations. -/
def mods : FVec Ideal S34x8x1024 .f32 := catM (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![0, 0, 0] A1 slices_S3x6x1024_S1x6x1024_0_0_0)) (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![1, 0, 0] A1 slices_S3x6x1024_S1x6x1024_1_0_0))

/-- The second matrix, at the narrower format. -/
def w2B (A : FVec Ideal S4096x1024 .f32) : FVec Ideal S4096x1024 .bf16 := truncf .bf16 A bitsLt_bf16_f32

/-- The first matrix, at the narrower format. -/
def w1B (A : FVec Ideal S1024x4096 .f32) : FVec Ideal S1024x4096 .bf16 := truncf .bf16 A bitsLt_bf16_f32

/-- The weight, in a row. -/
def wR (A : FVec Ideal S1024 .f32) : FVec Ideal S1x1024 .f32 := broadcastInDim S1x1024 ![1] bcast_S1024_S1x1024_1 A

/-- The second matrix, at an index. -/
theorem w2B_at (A : FVec Ideal S4096x1024 .f32) (n : Fin 4096) (l : Fin 1024) : w2B A (ix2 n l) = A (ix2 n l) := rfl

/-- The first matrix, at an index. -/
theorem w1B_at (A : FVec Ideal S1024x4096 .f32) (l : Fin 1024) (n : Fin 4096) : w1B A (ix2 l n) = A (ix2 l n) := rfl

/-- The weight, at an index. -/
theorem wR_at (A : FVec Ideal S1024 .f32) (l : Fin 1024) : wR A (ix2 0 l) = A (ix1 l) := by
  pointwise [wR]

/-- The rows in one list, at an index. -/
theorem flat_at (v : FVec Ideal S2x4352x1024 .f32) (R : Fin 8704) (l : Fin 1024) : flat v (ix2 R l) = v (ix3 (rB R) (rT R) l) := by
  pointwise [flat]

/-- A block's modulation is that of its tokens. -/
theorem mods_at (i : Fin 34) (j : Fin 6) (l : Fin 1024) (r : Fin 256) : mods A1 (ix3 i ⟨j, by omega⟩ l) = md (args A0 A1 A2 A3 A4) j (bB i) (bT i r) l := by
  unfold md args
  pointwise [mods, catM]
  have key : ∀ a b : Fin 3, (a : ℕ) = b → A1 (ix3 a j l) = A1 (ix3 b j l) := fun a b h => by rw [Fin.ext h]
  have hi : (i : ℕ) < 34 := i.isLt
  have hr : (r : ℕ) < 256 := r.isLt
  by_cases h0 : (i : ℕ) < 1
  · refine (dif_pos h0).trans (Eq.trans ?_ (if_pos (by omega)).symm)
    exact key _ _ (by show 2 + (i : ℕ) = 2; omega)
  refine (dif_neg h0).trans ?_
  by_cases h1 : (i : ℕ) - 1 < 16
  · refine (dif_pos h1).trans (Eq.trans ?_ (if_neg (by omega)).symm)
    exact key _ _ (by show 0 = (i : ℕ) / 17; omega)
  refine (dif_neg h1).trans ?_
  by_cases h2 : (i : ℕ) - 1 - 16 < 1
  · refine (dif_pos h2).trans (Eq.trans ?_ (if_pos (by omega)).symm)
    exact key _ _ (by show 2 + ((i : ℕ) - 1 - 16) = 2; omega)
  · refine (dif_neg h2).trans (Eq.trans ?_ (if_neg (by omega)).symm)
    exact key _ _ (by show 1 = (i : ℕ) / 17; omega)

end Cert.Kernel5Ideal.Rows

end
-- ==== Proof.FwdPieces.lean ====
module
public import proofs.«01_k».proof.Proof.Gen.Kernel5Ideal.Value
public import proofs.«01_k».proof.Proof.MlpPieces
@[expose] public section
set_option maxRecDepth 16384
noncomputable section
namespace Cert.Kernel5Ideal.Pieces
open Cert.Kernel5Ideal Cert.Kernel5Ideal.Gen Idealize.ShloMosaic Idealize.ShloMosaic.TcCoe Idealize.SL.Sem
open Cert.Kernel2Ideal.Pieces (canon_unit2)

section
variable (X0 : FVec Ideal S512x1024 .f32) (X1 : FVec Ideal S2x8x1024 .f32) (X2 : FVec Ideal S1x1024 .f32)
  (X3 : FVec Ideal S1024x4096 .bf16) (X4 : FVec Ideal S4096x1024 .bf16)

/-- A row's reciprocal root of its mean square. -/
def rsAt (r : Fin 512) : EReal :=
  Ideal.rsqrt (Ideal.div (∑ k, X0 (ix2 r k) * X0 (ix2 r k)) (Ideal.ofBits .f32 0x44800000#32) + Ideal.ofBits .f32 0x358637BD#32)

/-- A normalised, weighted and modulated row. -/
def hAt (r : Fin 512) (l : Fin 1024) : EReal :=
  X0 (ix2 r l) * rsAt X0 r * X2 (ix2 0 l) * (Ideal.ofBits .f32 0x3F800000#32 + X1 (ix3 ⟨r / 256, by omega⟩ 4 l)) + X1 (ix3 ⟨r / 256, by omega⟩ 3 l)

/-- The same as an array. -/
def hA : FVec Ideal S512x1024 .bf16 := fun i => hAt X0 X1 X2 (show Fin 512 from i 0) (show Fin 1024 from i 1)

/-- The hidden layer after its relu. -/
def rAt (r : Fin 512) (n : Fin 4096) : EReal := max (∑ k, hAt X0 X1 X2 r k * X3 (ix2 k n)) (Ideal.ofBits .f32 0x00000000#32)

/-- A quarter of its columns as an array. -/
def rq (q : Fin 4) : FVec Ideal S512x1024 .bf16 := fun i => rAt X0 X1 X2 X3 (show Fin 512 from i 0) ⟨1024 * q + (show Fin 1024 from i 1), by omega⟩

/-- What a quarter of the columns adds to the output. -/
def mq (q : Fin 4) (r : Fin 512) (l : Fin 1024) : EReal :=
  ∑ k : Fin 1024, (rAt X0 X1 X2 X3 r ⟨1024 * q + k, by omega⟩ * rAt X0 X1 X2 X3 r ⟨1024 * q + k, by omega⟩) * X4 (ix2 ⟨1024 * q + k, by omega⟩ l)

/-- The output after the first quarter. -/
def m0 : FVec Ideal S512x1024 .f32 := fun i => mq X0 X1 X2 X3 X4 0 (show Fin 512 from i 0) (show Fin 1024 from i 1)
/-- … after the second quarter. -/
def m1 : FVec Ideal S512x1024 .f32 := fun i => m0 X0 X1 X2 X3 X4 i + mq X0 X1 X2 X3 X4 1 (show Fin 512 from i 0) (show Fin 1024 from i 1)
/-- … after the third quarter. -/
def m2 : FVec Ideal S512x1024 .f32 := fun i => m1 X0 X1 X2 X3 X4 i + mq X0 X1 X2 X3 X4 2 (show Fin 512 from i 0) (show Fin 1024 from i 1)
/-- … after the last quarter. -/
def m3 : FVec Ideal S512x1024 .f32 := fun i => m2 X0 X1 X2 X3 X4 i + mq X0 X1 X2 X3 X4 3 (show Fin 512 from i 0) (show Fin 1024 from i 1)

/-- The modulated rows are stored in two halves. -/
theorem h_canon (r : Fin 512) (l : Fin 1024) :
    View.canon (Val := Elt Ideal) (s := S512x1024) (e := .bf16) [⟨Rect.unit ![256, 0] ![256, 1024] inb_S512x1024_S256x1024_256_0, k0_pay6 (F := Ideal) (k0_pay4 (View.ld (Val := Elt Ideal) (S := S512x1024) (e' := .f32) X0 (Rect.unit (s := S512x1024) ![256, 0] ![256, 1024] inb_S512x1024_S256x1024_256_0))) (k0_pay5 (View.ld (Val := Elt Ideal) (S := S512x1024) (e' := .f32) X0 (Rect.unit (s := S512x1024) ![256, 0] ![256, 1024] inb_S512x1024_S256x1024_256_0))) X2 (View.ld (Val := Elt Ideal) (S := S2x8x1024) (e' := .f32) X1 (Rect.unit (s := S2x8x1024) ![1, 4, 0] ![1, 1, 1024] inb_S2x8x1024_S1x1x1024_1_4_0)) (View.ld (Val := Elt Ideal) (S := S2x8x1024) (e' := .f32) X1 (Rect.unit (s := S2x8x1024) ![1, 3, 0] ![1, 1, 1024] inb_S2x8x1024_S1x1x1024_1_3_0))⟩, ⟨Rect.unit ![0, 0] ![256, 1024] inb_S512x1024_S256x1024_0_0, k0_pay3 (F := Ideal) (View.ld (Val := Elt Ideal) (S := S512x1024) (e' := .f32) X0 (Rect.unit (s := S512x1024) ![0, 0] ![256, 1024] inb_S512x1024_S256x1024_0_0)) X2 (View.ld (Val := Elt Ideal) (S := S2x8x1024) (e' := .f32) X1 (Rect.unit (s := S2x8x1024) ![0, 4, 0] ![1, 1, 1024] inb_S2x8x1024_S1x1x1024_0_4_0)) (View.ld (Val := Elt Ideal) (S := S2x8x1024) (e' := .f32) X1 (Rect.unit (s := S2x8x1024) ![0, 3, 0] ![1, 1, 1024] inb_S2x8x1024_S1x1x1024_0_3_0))⟩] (ix2 r l)
      = hAt X0 X1 X2 r l := by
  erw [canon_unit2, canon_unit2]
  by_cases h : 256 ≤ (r : ℕ)
  · rw [dif_pos (by omega)]
    have e : (⟨(r : ℕ) / 256, by omega⟩ : Fin 2) = 1 := Fin.ext (by show (r : ℕ) / 256 = 1; omega)
    have e2 : 256 + ((r : ℕ) - 256) = r := by omega
    unfold hAt rsAt
    rw [e]
    pointwise [k0_pay6, k0_pay4, k0_pay5, e2]
  · rw [dif_neg (by omega), dif_pos (by omega)]
    have e : (⟨(r : ℕ) / 256, by omega⟩ : Fin 2) = 0 := Fin.ext (by show (r : ℕ) / 256 = 0; omega)
    unfold hAt rsAt
    rw [e]
    pointwise [k0_pay3]

/-- So they are read back. -/
theorem h_read {sig' : RefSig} {κ : Kind} {sp : Space} (v : View sig' κ sp S512x1024 .bf16) :
    v.readCov (Val := Elt Ideal) [⟨Rect.unit ![256, 0] ![256, 1024] inb_S512x1024_S256x1024_256_0, k0_pay6 (F := Ideal) (k0_pay4 (View.ld (Val := Elt Ideal) (S := S512x1024) (e' := .f32) X0 (Rect.unit (s := S512x1024) ![256, 0] ![256, 1024] inb_S512x1024_S256x1024_256_0))) (k0_pay5 (View.ld (Val := Elt Ideal) (S := S512x1024) (e' := .f32) X0 (Rect.unit (s := S512x1024) ![256, 0] ![256, 1024] inb_S512x1024_S256x1024_256_0))) X2 (View.ld (Val := Elt Ideal) (S := S2x8x1024) (e' := .f32) X1 (Rect.unit (s := S2x8x1024) ![1, 4, 0] ![1, 1, 1024] inb_S2x8x1024_S1x1x1024_1_4_0)) (View.ld (Val := Elt Ideal) (S := S2x8x1024) (e' := .f32) X1 (Rect.unit (s := S2x8x1024) ![1, 3, 0] ![1, 1, 1024] inb_S2x8x1024_S1x1x1024_1_3_0))⟩, ⟨Rect.unit ![0, 0] ![256, 1024] inb_S512x1024_S256x1024_0_0, k0_pay3 (F := Ideal) (View.ld (Val := Elt Ideal) (S := S512x1024) (e' := .f32) X0 (Rect.unit (s := S512x1024) ![0, 0] ![256, 1024] inb_S512x1024_S256x1024_0_0)) X2 (View.ld (Val := Elt Ideal) (S := S2x8x1024) (e' := .f32) X1 (Rect.unit (s := S2x8x1024) ![0, 4, 0] ![1, 1, 1024] inb_S2x8x1024_S1x1x1024_0_4_0)) (View.ld (Val := Elt Ideal) (S := S2x8x1024) (e' := .f32) X1 (Rect.unit (s := S2x8x1024) ![0, 3, 0] ![1, 1, 1024] inb_S2x8x1024_S1x1x1024_0_3_0))⟩] (Rect.unit ![0, 0] ![512, 1024] inb_S512x1024_S512x1024_0_0).toLoadRect
      = hA X0 X1 X2 := by
  rw [View.readCov_eq_canon']
  funext j
  obtain ⟨r, l, rfl⟩ : ∃ (r : Fin 512) (l : Fin 1024), j = ix2 r l := ⟨j 0, j 1, eq_ix2 j⟩
  have e : (Rect.unit (s := S512x1024) ![0, 0] ![512, 1024] inb_S512x1024_S512x1024_0_0).toLoadRect.idx (ix2 r l) = ix2 r l := by
    funext a
    refine Fin.cases ?_ (fun a => ?_) a
    · exact Fin.ext (by show 0 + 1 * (r : ℕ) = r; omega)
    · obtain rfl : a = 0 := Subsingleton.elim _ _
      exact Fin.ext (by show 0 + 1 * (l : ℕ) = l; omega)
  show View.canon _ ((Rect.unit (s := S512x1024) ![0, 0] ![512, 1024] inb_S512x1024_S512x1024_0_0).toLoadRect.idx (ix2 r l)) = _
  rw [e]
  exact h_canon X0 X1 X2 r l

/-- The first quarter of the hidden layer. -/
theorem r0 : k0_pay8 (F := Ideal) (hA X0 X1 X2) (View.ld (Val := Elt Ideal) (S := S1024x4096) (e' := .bf16) X3 (Rect.unit (s := S1024x4096) ![0, 0] ![1024, 1024] inb_S1024x4096_S1024x1024_0_0)) = rq X0 X1 X2 X3 0 := by
  funext i
  obtain ⟨r, l, rfl⟩ : ∃ (r : Fin 512) (l : Fin 1024), i = ix2 r l := ⟨i 0, i 1, eq_ix2 i⟩
  show _ = rAt X0 X1 X2 X3 r ⟨1024 * 0 + (l : ℕ), by omega⟩
  pointwise [k0_pay8, k0_pay7, rAt, hA]

/-- The second quarter of the hidden layer. -/
theorem r1 : k0_pay11 (F := Ideal) (hA X0 X1 X2) (View.ld (Val := Elt Ideal) (S := S1024x4096) (e' := .bf16) X3 (Rect.unit (s := S1024x4096) ![0, 1024] ![1024, 1024] inb_S1024x4096_S1024x1024_0_1024)) = rq X0 X1 X2 X3 1 := by
  funext i
  obtain ⟨r, l, rfl⟩ : ∃ (r : Fin 512) (l : Fin 1024), i = ix2 r l := ⟨i 0, i 1, eq_ix2 i⟩
  show _ = rAt X0 X1 X2 X3 r ⟨1024 * 1 + (l : ℕ), by omega⟩
  pointwise [k0_pay11, k0_pay10, rAt, hA]

/-- The third quarter of the hidden layer. -/
theorem r2 : k0_pay14 (F := Ideal) (hA X0 X1 X2) (View.ld (Val := Elt Ideal) (S := S1024x4096) (e' := .bf16) X3 (Rect.unit (s := S1024x4096) ![0, 2048] ![1024, 1024] inb_S1024x4096_S1024x1024_0_2048)) = rq X0 X1 X2 X3 2 := by
  funext i
  obtain ⟨r, l, rfl⟩ : ∃ (r : Fin 512) (l : Fin 1024), i = ix2 r l := ⟨i 0, i 1, eq_ix2 i⟩
  show _ = rAt X0 X1 X2 X3 r ⟨1024 * 2 + (l : ℕ), by omega⟩
  pointwise [k0_pay14, k0_pay13, rAt, hA]

/-- The last quarter of the hidden layer. -/
theorem r3 : k0_pay19 (F := Ideal) (hA X0 X1 X2) (View.ld (Val := Elt Ideal) (S := S1024x4096) (e' := .bf16) X3 (Rect.unit (s := S1024x4096) ![0, 3072] ![1024, 1024] inb_S1024x4096_S1024x1024_0_3072)) = rq X0 X1 X2 X3 3 := by
  funext i
  obtain ⟨r, l, rfl⟩ : ∃ (r : Fin 512) (l : Fin 1024), i = ix2 r l := ⟨i 0, i 1, eq_ix2 i⟩
  show _ = rAt X0 X1 X2 X3 r ⟨1024 * 3 + (l : ℕ), by omega⟩
  pointwise [k0_pay19, k0_pay18, rAt, hA]

/-- The output with the first quarter. -/
theorem p0 : k0_pay9 (F := Ideal) (hA X0 X1 X2) (View.ld (Val := Elt Ideal) (S := S1024x4096) (e' := .bf16) X3 (Rect.unit (s := S1024x4096) ![0, 0] ![1024, 1024] inb_S1024x4096_S1024x1024_0_0)) (View.ld (Val := Elt Ideal) (S := S4096x1024) (e' := .bf16) X4 (Rect.unit (s := S4096x1024) ![0, 0] ![1024, 1024] inb_S4096x1024_S1024x1024_0_0)) = m0 X0 X1 X2 X3 X4 := by
  funext i
  obtain ⟨r, l, rfl⟩ : ∃ (r : Fin 512) (l : Fin 1024), i = ix2 r l := ⟨i 0, i 1, eq_ix2 i⟩
  show _ = ∑ k : Fin 1024, (rAt X0 X1 X2 X3 r ⟨1024 * 0 + (k : ℕ), by omega⟩ * rAt X0 X1 X2 X3 r ⟨1024 * 0 + (k : ℕ), by omega⟩) * X4 (ix2 ⟨1024 * 0 + (k : ℕ), by omega⟩ l)
  pointwise [k0_pay9, k0_pay7, rAt, hA]

/-- The output with the second quarter. -/
theorem p1 : k0_pay12 (F := Ideal) (hA X0 X1 X2) (View.ld (Val := Elt Ideal) (S := S1024x4096) (e' := .bf16) X3 (Rect.unit (s := S1024x4096) ![0, 1024] ![1024, 1024] inb_S1024x4096_S1024x1024_0_1024)) (View.ld (Val := Elt Ideal) (S := S4096x1024) (e' := .bf16) X4 (Rect.unit (s := S4096x1024) ![1024, 0] ![1024, 1024] inb_S4096x1024_S1024x1024_1024_0)) (m0 X0 X1 X2 X3 X4) = m1 X0 X1 X2 X3 X4 := by
  funext i
  obtain ⟨r, l, rfl⟩ : ∃ (r : Fin 512) (l : Fin 1024), i = ix2 r l := ⟨i 0, i 1, eq_ix2 i⟩
  show _ = m0 X0 X1 X2 X3 X4 (ix2 r l) + ∑ k : Fin 1024, (rAt X0 X1 X2 X3 r ⟨1024 * 1 + (k : ℕ), by omega⟩ * rAt X0 X1 X2 X3 r ⟨1024 * 1 + (k : ℕ), by omega⟩) * X4 (ix2 ⟨1024 * 1 + (k : ℕ), by omega⟩ l)
  pointwise [k0_pay12, k0_pay10, rAt, hA]

/-- The output with the third quarter. -/
theorem p2 : k0_pay17 (F := Ideal) (k0_pay15 (hA X0 X1 X2) (View.ld (Val := Elt Ideal) (S := S1024x4096) (e' := .bf16) X3 (Rect.unit (s := S1024x4096) ![0, 2048] ![1024, 1024] inb_S1024x4096_S1024x1024_0_2048))) (k0_pay16 (View.ld (Val := Elt Ideal) (S := S4096x1024) (e' := .bf16) X4 (Rect.unit (s := S4096x1024) ![2048, 0] ![1024, 1024] inb_S4096x1024_S1024x1024_2048_0))) (m1 X0 X1 X2 X3 X4) = m2 X0 X1 X2 X3 X4 := by
  funext i
  obtain ⟨r, l, rfl⟩ : ∃ (r : Fin 512) (l : Fin 1024), i = ix2 r l := ⟨i 0, i 1, eq_ix2 i⟩
  show _ = m1 X0 X1 X2 X3 X4 (ix2 r l) + ∑ k : Fin 1024, (rAt X0 X1 X2 X3 r ⟨1024 * 2 + (k : ℕ), by omega⟩ * rAt X0 X1 X2 X3 r ⟨1024 * 2 + (k : ℕ), by omega⟩) * X4 (ix2 ⟨1024 * 2 + (k : ℕ), by omega⟩ l)
  pointwise [k0_pay17, k0_pay15, k0_pay16, k0_pay13, rAt, hA]

/-- The output with the last quarter. -/
theorem p3 : k0_pay20 (F := Ideal) (hA X0 X1 X2) (View.ld (Val := Elt Ideal) (S := S1024x4096) (e' := .bf16) X3 (Rect.unit (s := S1024x4096) ![0, 3072] ![1024, 1024] inb_S1024x4096_S1024x1024_0_3072)) (View.ld (Val := Elt Ideal) (S := S4096x1024) (e' := .bf16) X4 (Rect.unit (s := S4096x1024) ![3072, 0] ![1024, 1024] inb_S4096x1024_S1024x1024_3072_0)) (m2 X0 X1 X2 X3 X4) = m3 X0 X1 X2 X3 X4 := by
  funext i
  obtain ⟨r, l, rfl⟩ : ∃ (r : Fin 512) (l : Fin 1024), i = ix2 r l := ⟨i 0, i 1, eq_ix2 i⟩
  show _ = m2 X0 X1 X2 X3 X4 (ix2 r l) + ∑ k : Fin 1024, (rAt X0 X1 X2 X3 r ⟨1024 * 3 + (k : ℕ), by omega⟩ * rAt X0 X1 X2 X3 r ⟨1024 * 3 + (k : ℕ), by omega⟩) * X4 (ix2 ⟨1024 * 3 + (k : ℕ), by omega⟩ l)
  pointwise [k0_pay20, k0_pay18, rAt, hA]

end

/-- The half of a block's rows that starts at row 256 s. -/
def half (H : FVec Ideal S512x1024 .f32) (s : Fin 2) : FVec Ideal S256x1024 .f32 :=
  fun i => H (ix2 ⟨256 * s + (show Fin 256 from i 0), by omega⟩ (show Fin 1024 from i 1))

/-- The first half is read back from a whole store. -/
theorem half0 {sig' : RefSig} {κ : Kind} {sp : Space} (v : View sig' κ sp S512x1024 .f32) (H : FVec Ideal S512x1024 .f32) (L : List (View.Piece (Elt Ideal) S512x1024 .f32)) :
    v.readCov (Val := Elt Ideal) (⟨Rect.unit ![0, 0] ![512, 1024] inb_S512x1024_S512x1024_0_0, H⟩ :: L) (Rect.unit ![0, 0] ![256, 1024] inb_S512x1024_S256x1024_0_0).toLoadRect = half H 0 := by
  rw [View.readCov_eq_canon']
  funext j
  obtain ⟨r, l, rfl⟩ : ∃ (r : Fin 256) (l : Fin 1024), j = ix2 r l := ⟨j 0, j 1, eq_ix2 j⟩
  have e : (Rect.unit (s := S512x1024) ![0, 0] ![256, 1024] inb_S512x1024_S256x1024_0_0).toLoadRect.idx (ix2 r l) = ix2 (⟨256 * 0 + (r : ℕ), by omega⟩ : Fin 512) l := by
    funext a
    refine Fin.cases ?_ (fun a => ?_) a
    · exact Fin.ext (by show 0 + 1 * (r : ℕ) = 256 * 0 + r; omega)
    · obtain rfl : a = 0 := Subsingleton.elim _ _
      exact Fin.ext (by show 0 + 1 * (l : ℕ) = l; omega)
  show View.canon _ ((Rect.unit (s := S512x1024) ![0, 0] ![256, 1024] inb_S512x1024_S256x1024_0_0).toLoadRect.idx (ix2 r l)) = _
  rw [e]
  erw [canon_unit2]
  rw [dif_pos (by show (0 ≤ 256 * 0 + (r : ℕ) ∧ 256 * 0 + (r : ℕ) - 0 < 512) ∧ 0 ≤ (l : ℕ) ∧ (l : ℕ) - 0 < 1024; omega)]
  rfl

/-- The second half is read back from a whole store under a store of the first half. -/
theorem half1 {sig' : RefSig} {κ : Kind} {sp : Space} (v : View sig' κ sp S512x1024 .f32) (H : FVec Ideal S512x1024 .f32) (w : FVec Ideal S256x1024 .f32) (L : List (View.Piece (Elt Ideal) S512x1024 .f32)) :
    v.readCov (Val := Elt Ideal) (⟨Rect.unit ![0, 0] ![256, 1024] inb_S512x1024_S256x1024_0_0, w⟩ :: ⟨Rect.unit ![0, 0] ![512, 1024] inb_S512x1024_S512x1024_0_0, H⟩ :: L) (Rect.unit ![256, 0] ![256, 1024] inb_S512x1024_S256x1024_256_0).toLoadRect = half H 1 := by
  rw [View.readCov_eq_canon']
  funext j
  obtain ⟨r, l, rfl⟩ : ∃ (r : Fin 256) (l : Fin 1024), j = ix2 r l := ⟨j 0, j 1, eq_ix2 j⟩
  have e : (Rect.unit (s := S512x1024) ![256, 0] ![256, 1024] inb_S512x1024_S256x1024_256_0).toLoadRect.idx (ix2 r l) = ix2 (⟨256 * 1 + (r : ℕ), by omega⟩ : Fin 512) l := by
    funext a
    refine Fin.cases ?_ (fun a => ?_) a
    · exact Fin.ext (by show 256 + 1 * (r : ℕ) = 256 * 1 + r; omega)
    · obtain rfl : a = 0 := Subsingleton.elim _ _
      exact Fin.ext (by show 0 + 1 * (l : ℕ) = l; omega)
  show View.canon _ ((Rect.unit (s := S512x1024) ![256, 0] ![256, 1024] inb_S512x1024_S256x1024_256_0).toLoadRect.idx (ix2 r l)) = _
  rw [e]
  erw [canon_unit2]
  rw [dif_neg (by show ¬ ((0 ≤ 256 * 1 + (r : ℕ) ∧ 256 * 1 + (r : ℕ) - 0 < 256) ∧ 0 ≤ (l : ℕ) ∧ (l : ℕ) - 0 < 1024); omega)]
  erw [canon_unit2]
  rw [dif_pos (by show (0 ≤ 256 * 1 + (r : ℕ) ∧ 256 * 1 + (r : ℕ) - 0 < 512) ∧ 0 ≤ (l : ℕ) ∧ (l : ℕ) - 0 < 1024; omega)]
  rfl

section
variable (X0 : FVec Ideal S512x1024 .f32) (X1 : FVec Ideal S2x8x1024 .f32) (H : FVec Ideal S512x1024 .f32)

/-- The rows with the gated output added. -/
def xAt (r : Fin 512) (l : Fin 1024) : EReal := X0 (ix2 r l) + X1 (ix3 ⟨r / 256, by omega⟩ 5 l) * H (ix2 r l)

/-- The first half of them. -/
theorem x0 (r : Fin 256) (l : Fin 1024) : k0_pay1 (F := Ideal) (k0_pay22 (View.ld (Val := Elt Ideal) (S := S512x1024) (e' := .f32) X0 (Rect.unit (s := S512x1024) ![0, 0] ![256, 1024] inb_S512x1024_S256x1024_0_0))) (View.ld (Val := Elt Ideal) (S := S2x8x1024) (e' := .f32) X1 (Rect.unit (s := S2x8x1024) ![0, 5, 0] ![1, 1, 1024] inb_S2x8x1024_S1x1x1024_0_5_0)) (half H 0) (ix2 r l) = xAt X0 X1 H ⟨256 * 0 + r, by omega⟩ l := by
  have e : (⟨(256 * 0 + (r : ℕ)) / 256, by omega⟩ : Fin 2) = 0 := Fin.ext (by show (256 * 0 + (r : ℕ)) / 256 = 0; omega)
  unfold xAt
  simp only [e]
  pointwise [k0_pay1, k0_pay22, half]

/-- The second half of them. -/
theorem x1 (r : Fin 256) (l : Fin 1024) : k0_pay2 (F := Ideal) (View.ld (Val := Elt Ideal) (S := S512x1024) (e' := .f32) X0 (Rect.unit (s := S512x1024) ![256, 0] ![256, 1024] inb_S512x1024_S256x1024_256_0)) (View.ld (Val := Elt Ideal) (S := S2x8x1024) (e' := .f32) X1 (Rect.unit (s := S2x8x1024) ![1, 5, 0] ![1, 1, 1024] inb_S2x8x1024_S1x1x1024_1_5_0)) (half H 1) (ix2 r l) = xAt X0 X1 H ⟨256 * 1 + r, by omega⟩ l := by
  have e : (⟨(256 * 1 + (r : ℕ)) / 256, by omega⟩ : Fin 2) = 1 := Fin.ext (by show (256 * 1 + (r : ℕ)) / 256 = 1; omega)
  unfold xAt
  simp only [e]
  pointwise [k0_pay2, half]

end

end Cert.Kernel5Ideal.Pieces
end
-- ==== Proof.FwdBlocks.lean ====
module

public import proofs.«01_k».proof.Proof.FwdPieces

@[expose] public section

set_option maxRecDepth 16384

noncomputable section

namespace Cert.Kernel5Ideal.Blocks

open Cert.Kernel2Ideal.Pieces (canon_unit2)
open Cert.Kernel5Ideal Cert.Kernel5Ideal.Gen Cert.Kernel5Ideal.Pieces Idealize.ShloMosaic Idealize.ShloMosaic.TcCoe Idealize.SL.Sem

variable (m : (ℓ : Loc nD τ sig) → Buf (Elt Ideal) ℓ) (c : Dev nD)

/-- The output a grid point gathers, before the gate. -/
def H (t : Fin cfg0.N) : FVec Ideal S512x1024 .f32 := m3 (iblk m c 0 t) (iblk m c 1 t) (iblk m c 2 t) (iblk m c 3 t) (iblk m c 4 t)

/-- A grid point's block of the modulated rows. -/
theorem b8 (t : Fin cfg0.N) (r : Fin 512) (l : Fin 1024) :
    (outsAt0 m c t).2.2.2 (ix2 r l) = hAt (iblk m c 0 t) (iblk m c 1 t) (iblk m c 2 t) r l := by
  unfold outsAt0
  frame_out
  exact h_canon _ _ _ r l

/-- A grid point's block of the hidden layer. -/
theorem b7 (t : Fin cfg0.N) (r : Fin 512) (l : Fin 4096) :
    (outsAt0 m c t).2.2.1 (ix2 r l) = rAt (iblk m c 0 t) (iblk m c 1 t) (iblk m c 2 t) (iblk m c 3 t) r l := by
  unfold outsAt0
  frame_out
  simp only [h_read, r0, r1, r2, r3]
  erw [canon_unit2, canon_unit2, canon_unit2, canon_unit2]
  by_cases h3 : 3072 ≤ (l : ℕ)
  · rw [dif_pos (by omega)]
    unfold rq
    exact congrArg₂ (rAt _ _ _ _) (Fin.ext (by show (r : ℕ) - 0 = r; omega)) (Fin.ext (by show 1024 * 3 + ((l : ℕ) - 3072) = l; omega))
  rw [dif_neg (by omega)]
  by_cases h2 : 2048 ≤ (l : ℕ)
  · rw [dif_pos (by omega)]
    unfold rq
    exact congrArg₂ (rAt _ _ _ _) (Fin.ext (by show (r : ℕ) - 0 = r; omega)) (Fin.ext (by show 1024 * 2 + ((l : ℕ) - 2048) = l; omega))
  rw [dif_neg (by omega)]
  by_cases h1 : 1024 ≤ (l : ℕ)
  · rw [dif_pos (by omega)]
    unfold rq
    exact congrArg₂ (rAt _ _ _ _) (Fin.ext (by show (r : ℕ) - 0 = r; omega)) (Fin.ext (by show 1024 * 1 + ((l : ℕ) - 1024) = l; omega))
  rw [dif_neg (by omega), dif_pos (by omega)]
  unfold rq
  exact congrArg₂ (rAt _ _ _ _) (Fin.ext (by show (r : ℕ) - 0 = r; omega)) (Fin.ext (by show 1024 * 0 + ((l : ℕ) - 0) = l; omega))

/-- A grid point's block of the output. -/
theorem b6 (t : Fin cfg0.N) (r : Fin 512) (l : Fin 1024) :
    (outsAt0 m c t).2.1 (ix2 r l) = H m c t (ix2 r l) := by
  unfold outsAt0
  frame_out
  simp only [h_read, p0, p1, p2, p3]
  unfold H
  generalize m3 _ _ _ _ _ = v
  pointwise [k0_pay21]

/-- A grid point's block of the rows with the gated output added. -/
theorem b5 (t : Fin cfg0.N) (r : Fin 512) (l : Fin 1024) :
    (outsAt0 m c t).1 (ix2 r l) = xAt (iblk m c 0 t) (iblk m c 1 t) (H m c t) r l := by
  unfold outsAt0
  frame_out
  simp only [h_read, p0, p1, p2, p3, View.readCov_cons_toLoadRect, half0, half1]
  erw [canon_unit2, canon_unit2]
  by_cases h : 256 ≤ (r : ℕ)
  · rw [dif_pos (by omega)]
    refine (x1 _ _ _ _ _).trans ?_
    exact congrArg₂ (xAt _ _ _) (Fin.ext (by show 256 * 1 + ((r : ℕ) - 256) = r; omega)) (Fin.ext (by show (l : ℕ) - 0 = l; omega))
  · rw [dif_neg (by omega), dif_pos (by omega)]
    refine (x0 _ _ _ _ _).trans ?_
    exact congrArg₂ (xAt _ _ _) (Fin.ext (by show 256 * 0 + ((r : ℕ) - 0) = r; omega)) (Fin.ext (by show (l : ℕ) - 0 = l; omega))

end Cert.Kernel5Ideal.Blocks

end
-- ==== Proof.FwdReads.lean ====
module

public import proofs.«01_k».proof.Proof.FwdKer
public import proofs.«01_k».proof.Proof.FwdBlocks
public import proofs.«01_k».proof.Proof.Sums

@[expose] public section

set_option maxRecDepth 16384

noncomputable section

namespace Cert.Kernel5Ideal.FwdReads

open Cert.Kernel5Ideal Cert.Kernel5Ideal.Gen Cert.Kernel5Ideal.Pieces Cert.Kernel5Ideal.Blocks Cert.Kernel5Ideal.Rows Idealize.ShloMosaic Idealize.ShloMosaic.TcCoe Idealize.SL.Sem Cert.Mlp

/-- The windows' block indices. -/
theorem idx : ∀ t : Fin cfg0.N,
    win0_0.index t = ![t.val, 0] ∧ win0_1.index t = ![t.val, 0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ t.val < 17 :=
  (by decide +kernel : ∀ t : Fin grid0.N, _)

/-- The row of both batch entries at a row of a grid point's block. -/
abbrev rowR (t : Fin cfg0.N) (r : Fin 512) : Fin 8704 := ⟨512 * t.val + r, by have h : cfg0.N = 17 := N_0; have := t.isLt; omega⟩

/-- A half of a grid point's block. -/
abbrev blkR (t : Fin cfg0.N) (s : Fin 2) : Fin 34 := ⟨2 * t.val + s, by have h : cfg0.N = 17 := N_0; have := t.isLt; omega⟩

/-- Where block 0 sits. -/
theorem emb0 (t : Fin cfg0.N) (r : Fin 512) (l : Fin 1024) : ((cfg0.win 0).blk t).view.emb (ix2 r l) = ix2 (rowR t r) l := by
  have hN : cfg0.N = 17 := N_0
  have ht := t.isLt
  blk_ext [idx t]

/-- Where block 5 sits. -/
theorem emb5 (t : Fin cfg0.N) (r : Fin 512) (l : Fin 1024) : ((cfg0.win 5).blk t).view.emb (ix2 r l) = ix2 (rowR t r) l := by
  have hN : cfg0.N = 17 := N_0
  have ht := t.isLt
  blk_ext [idx t]

/-- Where block 6 sits. -/
theorem emb6 (t : Fin cfg0.N) (r : Fin 512) (l : Fin 1024) : ((cfg0.win 6).blk t).view.emb (ix2 r l) = ix2 (rowR t r) l := by
  have hN : cfg0.N = 17 := N_0
  have ht := t.isLt
  blk_ext [idx t]

/-- Where block 8 sits. -/
theorem emb8 (t : Fin cfg0.N) (r : Fin 512) (l : Fin 1024) : ((cfg0.win 8).blk t).view.emb (ix2 r l) = ix2 (rowR t r) l := by
  have hN : cfg0.N = 17 := N_0
  have ht := t.isLt
  blk_ext [idx t]

/-- Where block 7 sits. -/
theorem emb7 (t : Fin cfg0.N) (r : Fin 512) (n : Fin 4096) : ((cfg0.win 7).blk t).view.emb (ix2 r n) = ix2 (rowR t r) n := by
  have hN : cfg0.N = 17 := N_0
  have ht := t.isLt
  blk_ext [idx t]

/-- Where block 1 sits. -/
theorem emb1 (t : Fin cfg0.N) (s : Fin 2) (j : Fin 8) (l : Fin 1024) : ((cfg0.win 1).blk t).view.emb (ix3 s j l) = ix3 (blkR t s) j l := by
  have hN : cfg0.N = 17 := N_0
  have ht := t.isLt
  blk_ext [idx t]

/-- Where block 2 sits. -/
theorem emb2 (t : Fin cfg0.N) (r : Fin 1) (l : Fin 1024) : ((cfg0.win 2).blk t).view.emb (ix2 r l) = ix2 r l := by
  have hN : cfg0.N = 17 := N_0
  have ht := t.isLt
  blk_ext [idx t]

/-- Where block 3 sits. -/
theorem emb3 (t : Fin cfg0.N) (l : Fin 1024) (n : Fin 4096) : ((cfg0.win 3).blk t).view.emb (ix2 l n) = ix2 l n := by
  have hN : cfg0.N = 17 := N_0
  have ht := t.isLt
  blk_ext [idx t]

/-- Where block 4 sits. -/
theorem emb4 (t : Fin cfg0.N) (n : Fin 4096) (l : Fin 1024) : ((cfg0.win 4).blk t).view.emb (ix2 n l) = ix2 n l := by
  have hN : cfg0.N = 17 := N_0
  have ht := t.isLt
  blk_ext [idx t]

section
variable (m : (ℓ : Loc nD τ sig) → Buf (Elt Ideal) ℓ) (c : Dev nD)

set_option maxHeartbeats 4000000 in
/-- The rows when the kernel starts. -/
theorem ent0 : V m c main_v0 = flat (m (c, Proc.tc.devRef main_arg0)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- The blocks' modulations when the kernel starts. -/
theorem ent1 : V m c main_v8 = mods (m (c, Proc.tc.devRef main_arg1)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- The weight when the kernel starts. -/
theorem ent2 : V m c main_v9 = wR (m (c, Proc.tc.devRef main_arg2)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- The first matrix when the kernel starts. -/
theorem ent3 : V m c main_v10 = w1B (m (c, Proc.tc.devRef main_arg3)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- The second matrix when the kernel starts. -/
theorem ent4 : V m c main_v11 = w2B (m (c, Proc.tc.devRef main_arg4)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

/-- The arguments on a device. -/
def inOf : In := args (m (c, Proc.tc.devRef main_arg0)) (m (c, Proc.tc.devRef main_arg1)) (m (c, Proc.tc.devRef main_arg2)) (m (c, Proc.tc.devRef main_arg3)) (m (c, Proc.tc.devRef main_arg4))

variable (t : Fin cfg0.N)

/-- A block of rows. -/
theorem rd0 (r : Fin 512) (l : Fin 1024) : (show FVec Ideal S512x1024 .f32 from iblk m c 0 t) (ix2 r l) = (inOf m c).x (rB (rowR t r)) (rT (rowR t r)) l := by
  show V m c main_v0 (((cfg0.win 0).blk t).view.emb (ix2 r l)) = _
  rw [emb0, ent0]
  exact flat_at _ _ _

/-- A block's modulations. -/
theorem rd1 (s : Fin 2) (j : Fin 6) (l : Fin 1024) (r : Fin 256) : (show FVec Ideal S2x8x1024 .f32 from iblk m c 1 t) (ix3 s ⟨j, by omega⟩ l) = md (inOf m c) j (bB (blkR t s)) (bT (blkR t s) r) l := by
  show V m c main_v8 (((cfg0.win 1).blk t).view.emb (ix3 s ⟨j, by omega⟩ l)) = _
  rw [emb1, ent1]
  exact mods_at _ _ _ _ _ _ _ _ _

/-- The weight. -/
theorem rd2 (l : Fin 1024) : (show FVec Ideal S1x1024 .f32 from iblk m c 2 t) (ix2 0 l) = (inOf m c).w l := by
  show V m c main_v9 (((cfg0.win 2).blk t).view.emb (ix2 0 l)) = _
  rw [emb2, ent2]
  exact wR_at _ _

/-- The first matrix. -/
theorem rd3 (l : Fin 1024) (n : Fin 4096) : (show FVec Ideal S1024x4096 .bf16 from iblk m c 3 t) (ix2 l n) = (inOf m c).w1 l n := by
  show V m c main_v10 (((cfg0.win 3).blk t).view.emb (ix2 l n)) = _
  rw [emb3, ent3]
  rfl

/-- The second matrix. -/
theorem rd4 (n : Fin 4096) (l : Fin 1024) : (show FVec Ideal S4096x1024 .bf16 from iblk m c 4 t) (ix2 n l) = (inOf m c).w2 n l := by
  show V m c main_v11 (((cfg0.win 4).blk t).view.emb (ix2 n l)) = _
  rw [emb4, ent4]
  rfl

end

end Cert.Kernel5Ideal.FwdReads

end
-- ==== Proof.FwdFinal.lean ====
module

public import proofs.«01_k».proof.Proof.FwdReads

@[expose] public section

set_option maxRecDepth 16384

noncomputable section

namespace Cert.Kernel5Ideal.FwdFinal

open Cert.Kernel5Ideal Cert.Kernel5Ideal.Gen Cert.Kernel5Ideal.Pieces Cert.Kernel5Ideal.Blocks Cert.Kernel5Ideal.Rows Cert.Kernel5Ideal.FwdReads Idealize.ShloMosaic Idealize.ShloMosaic.TcCoe Idealize.SL.Sem Cert.Mlp

variable (m : (ℓ : Loc nD τ sig) → Buf (Elt Ideal) ℓ) (c : Dev nD)

section
variable (t : Fin cfg0.N)

/-- The batch entry of a row of a grid point's block. -/
abbrev bt (r : Fin 512) : Fin 2 := rB (rowR t r)

/-- The token of a row of a grid point's block. -/
abbrev tt (r : Fin 512) : Fin 4352 := rT (rowR t r)

/-- A row's half of its block has its batch entry. -/
theorem eB (s : Fin 2) (r : Fin 256) : bt t ⟨256 * s + r, by omega⟩ = bB (blkR t s) := by
  have hN : cfg0.N = 17 := N_0
  have ht := t.isLt
  exact Fin.ext (by show (512 * t.val + (256 * (s : ℕ) + r)) / 4352 = (2 * t.val + s) / 17; omega)

/-- A row's token, by its half of its block. -/
theorem eT (s : Fin 2) (r : Fin 256) : tt t ⟨256 * s + r, by omega⟩ = bT (blkR t s) r := by
  have hN : cfg0.N = 17 := N_0
  have ht := t.isLt
  exact Fin.ext (by show (512 * t.val + (256 * (s : ℕ) + r)) % 4352 = 256 * ((2 * t.val + s) % 17) + r; omega)

/-- A row's modulation, from its block's. -/
theorem rdM (r : Fin 512) (j : Fin 6) (l : Fin 1024) :
    (show FVec Ideal S2x8x1024 .f32 from iblk m c 1 t) (ix3 ⟨r / 256, by omega⟩ ⟨j, by omega⟩ l) = md (inOf m c) j (bt t r) (tt t r) l := by
  have e : (⟨256 * ((⟨(r : ℕ) / 256, by omega⟩ : Fin 2) : ℕ) + (⟨(r : ℕ) % 256, by omega⟩ : Fin 256), by
      show 256 * ((r : ℕ) / 256) + (r : ℕ) % 256 < 512; omega⟩ : Fin 512) = r := Fin.ext (by show 256 * ((r : ℕ) / 256) + (r : ℕ) % 256 = r; omega)
  have h := rd1 m c t ⟨r / 256, by omega⟩ j l ⟨r % 256, by omega⟩
  rw [← eB t, ← eT t, e] at h
  exact h

/-- A row's reciprocal root of its mean square. -/
theorem rsV (r : Fin 512) : rsAt (iblk m c 0 t) r = rs (inOf m c) (bt t r) (tt t r) := by
  unfold rsAt rs ms
  have h : ∀ k, (show FVec Ideal S512x1024 .f32 from iblk m c 0 t) (ix2 r k) = (inOf m c).x (bt t r) (tt t r) k := fun k => rd0 m c t r k
  exact congrArg (fun f : Fin 1024 → EReal => Ideal.rsqrt (Ideal.div (∑ k, f k * f k) (Ideal.ofBits .f32 0x44800000#32) + Ideal.ofBits .f32 0x358637BD#32)) (funext h)

/-- A block of the modulated rows. -/
theorem hV (r : Fin 512) (l : Fin 1024) : hAt (iblk m c 0 t) (iblk m c 1 t) (iblk m c 2 t) r l = inp (inOf m c) (bt t r) (tt t r) l :=
  congrArg₂ (· + · : EReal → EReal → EReal)
    (congrArg₂ (· * · : EReal → EReal → EReal)
      (congrArg₂ (· * · : EReal → EReal → EReal) (congrArg₂ (· * · : EReal → EReal → EReal) (rd0 m c t r l) (rsV m c t r)) (rd2 m c t l))
      (congrArg₂ (· + · : EReal → EReal → EReal) Ideal.ofBits_one_f32 (rdM m c t r 4 l)))
    (rdM m c t r 3 l)

/-- A block of the hidden layer. -/
theorem rV (r : Fin 512) (n : Fin 4096) : rAt (iblk m c 0 t) (iblk m c 1 t) (iblk m c 2 t) (iblk m c 3 t) r n = rl (inOf m c) (bt t r) (tt t r) n :=
  congrArg₂ (max : EReal → EReal → EReal)
    (Finset.sum_congr rfl fun k _ => congrArg₂ (· * · : EReal → EReal → EReal) (hV m c t r k) (rd3 m c t k n))
    (by pointwise [])

/-- A quarter of the output. -/
theorem mqV (q : Fin 4) (r : Fin 512) (l : Fin 1024) : mq (iblk m c 0 t) (iblk m c 1 t) (iblk m c 2 t) (iblk m c 3 t) (iblk m c 4 t) q r l
    = ∑ k : Fin 1024, rl (inOf m c) (bt t r) (tt t r) ⟨1024 * q + k, by omega⟩ * rl (inOf m c) (bt t r) (tt t r) ⟨1024 * q + k, by omega⟩ * (inOf m c).w2 ⟨1024 * q + k, by omega⟩ l :=
  Finset.sum_congr rfl fun k _ => congrArg₂ (· * · : EReal → EReal → EReal)
    (congrArg₂ (· * · : EReal → EReal → EReal) (rV m c t r _) (rV m c t r _)) (rd4 m c t _ l)

/-- The output. -/
theorem HV (r : Fin 512) (l : Fin 1024) : H m c t (ix2 r l) = mo (inOf m c) (bt t r) (tt t r) l := by
  unfold mo
  rw [Sums.cut 4 1024 4096 rfl, Fin.sum_univ_four]
  have e : H m c t (ix2 r l) = (mq (iblk m c 0 t) (iblk m c 1 t) (iblk m c 2 t) (iblk m c 3 t) (iblk m c 4 t) 0 r l
    + mq (iblk m c 0 t) (iblk m c 1 t) (iblk m c 2 t) (iblk m c 3 t) (iblk m c 4 t) 1 r l
    + mq (iblk m c 0 t) (iblk m c 1 t) (iblk m c 2 t) (iblk m c 3 t) (iblk m c 4 t) 2 r l
    + mq (iblk m c 0 t) (iblk m c 1 t) (iblk m c 2 t) (iblk m c 3 t) (iblk m c 4 t) 3 r l : EReal) := rfl
  rw [e, mqV, mqV, mqV, mqV]

/-- A block of the rows with the gated output added. -/
theorem xV (r : Fin 512) (l : Fin 1024) : xAt (iblk m c 0 t) (iblk m c 1 t) (H m c t) r l
    = (inOf m c).x (bt t r) (tt t r) l + md (inOf m c) 5 (bt t r) (tt t r) l * mo (inOf m c) (bt t r) (tt t r) l :=
  congrArg₂ (· + · : EReal → EReal → EReal) (rd0 m c t r l)
    (congrArg₂ (· * · : EReal → EReal → EReal) (rdM m c t r 5 l) (HV m c t r l))

end

/-- Rows as an array. -/
def rows {n : ℕ} {φ : FTy} (f : Fin 2 → Fin 4352 → Fin n → EReal) : FVec Ideal ⟨2, ![8704, n]⟩ φ :=
  fun i => f (rB (show Fin 8704 from i 0)) (rT (show Fin 8704 from i 0)) (show Fin n from i 1)

/-- The kernel's first result is the rows with the gated output added. -/
theorem final5 : (dats m 0 c).arrAt 5 (cfgs 0).N = rows (φ := .f32) (fun b j l => (inOf m c).x b j l + md (inOf m c) 5 b j l * mo (inOf m c) b j l) := by
  refine (dats m 0 c).arrAt_eq_of_covers 5 _ (by decide +kernel) fun t hf y => ?_
  blk_simp
  rw [after0_5]
  idx_vars y
  rw [emb5 t]
  exact (b5 m c t _ _).trans (xV m c t _ _)

/-- The kernel's second result is the output. -/
theorem final6 : (dats m 0 c).arrAt 6 (cfgs 0).N = rows (φ := .bf16) (mo (inOf m c)) := by
  refine (dats m 0 c).arrAt_eq_of_covers 6 _ (by decide +kernel) fun t hf y => ?_
  blk_simp
  rw [after0_6]
  idx_vars y
  rw [emb6 t]
  exact (b6 m c t _ _).trans (HV m c t _ _)

/-- The kernel's third result is the hidden layer. -/
theorem final7 : (dats m 0 c).arrAt 7 (cfgs 0).N = rows (φ := .bf16) (rl (inOf m c)) := by
  refine (dats m 0 c).arrAt_eq_of_covers 7 _ (by decide +kernel) fun t hf y => ?_
  blk_simp
  rw [after0_7]
  idx_vars y
  rw [emb7 t]
  exact (b7 m c t _ _).trans (rV m c t _ _)

/-- The kernel's fourth result is the modulated rows. -/
theorem final8 : (dats m 0 c).arrAt 8 (cfgs 0).N = rows (φ := .bf16) (inp (inOf m c)) := by
  refine (dats m 0 c).arrAt_eq_of_covers 8 _ (by decide +kernel) fun t hf y => ?_
  blk_simp
  rw [after0_8]
  idx_vars y
  rw [emb8 t]
  exact (b8 m c t _ _).trans (hV m c t _ _)

end Cert.Kernel5Ideal.FwdFinal

end
-- ==== Proof.FwdRef.lean ====
module

public import proofs.«01_k».proof.Proof.Gen.Reference5Ideal.Run
public import proofs.«01_k».proof.Proof.MlpMath

@[expose] public section

set_option maxRecDepth 16384

noncomputable section

namespace Cert.Reference5Ideal.Rows

open Cert.Reference5Ideal Cert.Reference5Ideal.Gen Idealize.ShloMosaic Idealize.ShloMosaic.TcCoe Idealize.SL.Sem Cert.Mlp

variable (A0 : FVec Ideal S2x4352x1024 .f32) (A1 : FVec Ideal S3x6x1024 .f32) (A2 : FVec Ideal S1024 .f32)
  (A3 : FVec Ideal S1024x4096 .f32) (A4 : FVec Ideal S4096x1024 .f32)

/-- The arguments, by their indices. -/
def args : In where
  x b t l := A0 (ix3 b t l)
  d b t l := 0
  m b j l := A1 (ix3 b j l)
  w l := A2 (ix1 l)
  w1 l n := A3 (ix2 l n)
  w2 n l := A4 (ix2 n l)

/-- The context's rows and the batch entries', one after the other. -/
def catR (a : FVec Ideal S2x256x6x1024 .f32) (b : FVec Ideal S2x4096x6x1024 .f32) : FVec Ideal S2x4352x6x1024 .f32 := concatenate S2x4352x6x1024 1 [⟨S2x256x6x1024, a⟩, ⟨S2x4096x6x1024, b⟩] concatenates_S2x256x6x1024_S2x4096x6x1024_S2x4352x6x1024_d1

/-- The tokens' modulations. -/
def byRow : FVec Ideal S2x4352x6x1024 .f32 := catR (broadcastInDim S2x256x6x1024 ![2, 3] bcast_S6x1024_S2x256x6x1024_2_3 (shapeCast S6x1024 (extractStridedSlice S1x6x1024 ![2, 0, 0] A1 slices_S3x6x1024_S1x6x1024_2_0_0) shapeCasts_S1x6x1024_S6x1024)) (broadcastInDim S2x4096x6x1024 ![0, 1, 2, 3] bcast_S2x1x6x1024_S2x4096x6x1024_0_1_2_3 (broadcastInDim S2x1x6x1024 ![0, 2, 3] bcast_S2x6x1024_S2x1x6x1024_0_2_3 (extractStridedSlice S2x6x1024 ![0, 0, 0] A1 slices_S3x6x1024_S2x6x1024_0_0_0)))

/-- The shift. -/
def shift : FVec Ideal S2x4352x1024 .f32 := shapeCast S2x4352x1024 (extractStridedSlice S2x4352x1x1024 ![0, 0, 3, 0] (byRow A1) slices_S2x4352x6x1024_S2x4352x1x1024_0_0_3_0) shapeCasts_S2x4352x1x1024_S2x4352x1024

/-- The scale. -/
def scl : FVec Ideal S2x4352x1024 .f32 := shapeCast S2x4352x1024 (extractStridedSlice S2x4352x1x1024 ![0, 0, 4, 0] (byRow A1) slices_S2x4352x6x1024_S2x4352x1x1024_0_0_4_0) shapeCasts_S2x4352x1x1024_S2x4352x1024

/-- The gate. -/
def gate : FVec Ideal S2x4352x1024 .f32 := shapeCast S2x4352x1024 (extractStridedSlice S2x4352x1x1024 ![0, 0, 5, 0] (byRow A1) slices_S2x4352x6x1024_S2x4352x1x1024_0_0_5_0) shapeCasts_S2x4352x1x1024_S2x4352x1024

/-- One and the scale. -/
def scale1 : FVec Ideal S2x4352x1024 .f32 := addf (broadcastInDim S2x4352x1024 ![] bcast_S_S2x4352x1024 (constant S_ .f32 0x3F800000#32)) (scl A1)

/-- The rows' mean squares. -/
def msq : FVec Ideal S2x4352x1 .f32 := addf (Host.divf (broadcastInDim S2x4352x1 ![0, 1] bcast_S2x4352_S2x4352x1_0_1 (Host.reduceAdd (mulf A0 A0) (constant S_ .f32 0x00000000#32) reducesTo_S2x4352x1024_S2x4352_d2 h_S_)) (broadcastInDim S2x4352x1 ![] bcast_S_S2x4352x1 (constant S_ .f32 0x44800000#32))) (broadcastInDim S2x4352x1 ![] bcast_S_S2x4352x1 (constant S_ .f32 0x358637BD#32))

/-- Their reciprocal roots. -/
def rsq : FVec Ideal S2x4352x1 .f32 := Host.rsqrt (msq A0)

/-- The normalised rows. -/
def nrm : FVec Ideal S2x4352x1024 .f32 := mulf A0 (broadcastInDim S2x4352x1024 ![0, 1, 2] bcast_S2x4352x1_S2x4352x1024_0_1_2 (rsq A0))

/-- … with the weight. -/
def nrmW : FVec Ideal S2x4352x1024 .f32 := mulf (nrm A0) (broadcastInDim S2x4352x1024 ![0, 1, 2] bcast_S1x1x1024_S2x4352x1024_0_1_2 (broadcastInDim S1x1x1024 ![2] bcast_S1024_S1x1x1024_2 A2))

/-- The layer's input. -/
def hin : FVec Ideal S2x4352x1024 .f32 := addf (mulf (nrmW A0 A2) (scale1 A1)) (shift A1)

/-- The hidden layer. -/
def hid : FVec Ideal S2x4352x4096 .f32 := Host.dotGeneral dot_S2x4352x1024_S1024x4096_S2x4352x4096_2_0_01_1_n_n none (hin A0 A1 A2) A3

/-- The rectified hidden layer. -/
def rel : FVec Ideal S2x4352x4096 .f32 := maximumf (hid A0 A1 A2 A3) (broadcastInDim S2x4352x4096 ![] bcast_S_S2x4352x4096 (constant S_ .f32 0x00000000#32))

/-- The layer's output. -/
def out : FVec Ideal S2x4352x1024 .f32 := Host.dotGeneral dot_S2x4352x4096_S4096x1024_S2x4352x1024_2_0_01_1_n_n none (mulf (rel A0 A1 A2 A3) (rel A0 A1 A2 A3)) A4

/-- The rows with the gated output added. -/
def next : FVec Ideal S2x4352x1024 .f32 := addf A0 (mulf (gate A1) (out A0 A1 A2 A3 A4))

/-- A batch entry's rows, in one list. -/
def flat (A : FVec Ideal S2x4352x1024 .f32) : FVec Ideal S8704x1024 .f32 := shapeCast S8704x1024 A shapeCasts_S2x4352x1024_S8704x1024

/-- … at the narrower format. -/
def flatB (A : FVec Ideal S2x4352x1024 .f32) : FVec Ideal S8704x1024 .bf16 := truncf .bf16 (shapeCast S8704x1024 A shapeCasts_S2x4352x1024_S8704x1024) bitsLt_bf16_f32

/-- A batch entry's hidden rows, in one list. -/
def flatH (A : FVec Ideal S2x4352x4096 .f32) : FVec Ideal S8704x4096 .bf16 := truncf .bf16 (shapeCast S8704x4096 A shapeCasts_S2x4352x4096_S8704x4096) bitsLt_bf16_f32

/-- A product of arrays, at an index. -/
theorem mul_at {s : Shape} (a b : FVec Ideal s .f32) (i : s.Idx) : mulf a b i = (a i * b i : EReal) := rfl

/-- A sum of arrays, at an index. -/
theorem add_at {s : Shape} (a b : FVec Ideal s .f32) (i : s.Idx) : addf a b i = (a i + b i : EReal) := rfl

/-- An array of ones. -/
theorem one_at (i : S2x4352x1024.Idx) : broadcastInDim S2x4352x1024 ![] bcast_S_S2x4352x1024 (constant (F := Ideal) S_ .f32 0x3F800000#32) i = (1 : EReal) :=
  Ideal.ofBits_one_f32

/-- A token's modulation. -/
theorem byRow_at (b : Fin 2) (t : Fin 4352) (j : Fin 6) (l : Fin 1024) : byRow A1 (ix4 b t j l) = md (args A0 A1 A2 A3 A4) j b t l := by
  unfold md args
  pointwise [byRow, catR]
  split_ifs <;> rfl

/-- The shift. -/
theorem shift_at (b : Fin 2) (t : Fin 4352) (l : Fin 1024) : shift A1 (ix3 b t l) = md (args A0 A1 A2 A3 A4) 3 b t l := by
  rw [← byRow_at]
  pointwise [shift]

/-- The scale. -/
theorem scl_at (b : Fin 2) (t : Fin 4352) (l : Fin 1024) : scl A1 (ix3 b t l) = md (args A0 A1 A2 A3 A4) 4 b t l := by
  rw [← byRow_at]
  pointwise [scl]

/-- The gate, at an index. -/
theorem gate_at (b : Fin 2) (t : Fin 4352) (l : Fin 1024) : gate A1 (ix3 b t l) = md (args A0 A1 A2 A3 A4) 5 b t l := by
  rw [← byRow_at]
  pointwise [gate]

/-- One and the scale. -/
theorem scale1_at (b : Fin 2) (t : Fin 4352) (l : Fin 1024) : scale1 A1 (ix3 b t l) = 1 + md (args A0 A1 A2 A3 A4) 4 b t l := by
  unfold scale1
  refine (add_at _ _ _).trans ?_
  rw [one_at, scl_at A0 A1 A2 A3 A4]

/-- A row's mean square. -/
theorem msq_at (b : Fin 2) (t : Fin 4352) : msq A0 (ix3 b t 0) = ms (args A0 A1 A2 A3 A4) b t := by
  unfold ms
  pointwise [msq, args]

/-- Its reciprocal root. -/
theorem rsq_at (b : Fin 2) (t : Fin 4352) : rsq A0 (ix3 b t 0) = rs (args A0 A1 A2 A3 A4) b t := by
  unfold rs
  rw [← msq_at]
  pointwise [rsq]

/-- A row's reciprocal root, on all its lanes. -/
theorem rsqB_at (b : Fin 2) (t : Fin 4352) (l : Fin 1024) : broadcastInDim S2x4352x1024 ![0, 1, 2] bcast_S2x4352x1_S2x4352x1024_0_1_2 (rsq A0) (ix3 b t l) = rs (args A0 A1 A2 A3 A4) b t := by
  rw [← rsq_at]
  generalize rsq A0 = v
  pointwise []

/-- A normalised row. -/
theorem nrm_at (b : Fin 2) (t : Fin 4352) (l : Fin 1024) : nrm A0 (ix3 b t l) = xh (args A0 A1 A2 A3 A4) b t l := by
  unfold nrm xh
  refine (mul_at _ _ _).trans ?_
  rw [rsqB_at A0 A1 A2 A3 A4]
  rfl

/-- The weight, on all rows. -/
theorem wB_at (b : Fin 2) (t : Fin 4352) (l : Fin 1024) : broadcastInDim S2x4352x1024 ![0, 1, 2] bcast_S1x1x1024_S2x4352x1024_0_1_2 (broadcastInDim S1x1x1024 ![2] bcast_S1024_S1x1x1024_2 A2) (ix3 b t l) = (args A0 A1 A2 A3 A4).w l := by
  pointwise [args]

/-- A normalised row with the weight. -/
theorem nrmW_at (b : Fin 2) (t : Fin 4352) (l : Fin 1024) : nrmW A0 A2 (ix3 b t l) = xh (args A0 A1 A2 A3 A4) b t l * (args A0 A1 A2 A3 A4).w l := by
  unfold nrmW
  refine (mul_at _ _ _).trans ?_
  rw [wB_at A0 A1 A2 A3 A4, nrm_at A0 A1 A2 A3 A4]

/-- The layer's input. -/
theorem hin_at (b : Fin 2) (t : Fin 4352) (l : Fin 1024) : hin A0 A1 A2 (ix3 b t l) = inp (args A0 A1 A2 A3 A4) b t l := by
  unfold hin inp
  refine (add_at _ _ _).trans ?_
  rw [mul_at, nrmW_at A0 A1 A2 A3 A4, scale1_at A0 A1 A2 A3 A4, shift_at A0 A1 A2 A3 A4]

/-- The hidden layer. -/
theorem hid_at (b : Fin 2) (t : Fin 4352) (n : Fin 4096) : hid A0 A1 A2 A3 (ix3 b t n) = u (args A0 A1 A2 A3 A4) b t n := by
  unfold u
  simp only [← hin_at]
  pointwise [hid, args]

/-- An array of zeros. -/
theorem zero_at (i : S2x4352x4096.Idx) : broadcastInDim S2x4352x4096 ![] bcast_S_S2x4352x4096 (constant (F := Ideal) S_ .f32 0x00000000#32) i = (0 : EReal) := by
  pointwise []

/-- The rectified hidden layer. -/
theorem rel_at (b : Fin 2) (t : Fin 4352) (n : Fin 4096) : rel A0 A1 A2 A3 (ix3 b t n) = rl (args A0 A1 A2 A3 A4) b t n := by
  unfold rel rl
  rw [← hid_at]
  generalize hid A0 A1 A2 A3 = v
  refine (show maximumf v _ (ix3 b t n) = max (v (ix3 b t n)) (broadcastInDim S2x4352x4096 ![] bcast_S_S2x4352x4096 (constant (F := Ideal) S_ .f32 0x00000000#32) (ix3 b t n)) from rfl).trans ?_
  rw [zero_at]

/-- The layer's output. -/
theorem out_at (b : Fin 2) (t : Fin 4352) (l : Fin 1024) : out A0 A1 A2 A3 A4 (ix3 b t l) = mo (args A0 A1 A2 A3 A4) b t l := by
  unfold mo out
  simp only [← rel_at]
  generalize rel A0 A1 A2 A3 = v
  pointwise [args]

/-- The rows with the gated output added, at an index. -/
theorem next_at (b : Fin 2) (t : Fin 4352) (l : Fin 1024) : next A0 A1 A2 A3 A4 (ix3 b t l) = (args A0 A1 A2 A3 A4).x b t l + md (args A0 A1 A2 A3 A4) 5 b t l * mo (args A0 A1 A2 A3 A4) b t l := by
  unfold next
  refine (add_at _ _ _).trans ?_
  rw [mul_at, gate_at A0 A1 A2 A3 A4, out_at A0 A1 A2 A3 A4]
  rfl

/-- The rows in one list, at an index. -/
theorem flat_at (v : FVec Ideal S2x4352x1024 .f32) (R : Fin 8704) (l : Fin 1024) : flat v (ix2 R l) = v (ix3 (rB R) (rT R) l) := by
  pointwise [flat]

/-- … at the narrower format. -/
theorem flatB_at (v : FVec Ideal S2x4352x1024 .f32) (R : Fin 8704) (l : Fin 1024) : flatB v (ix2 R l) = v (ix3 (rB R) (rT R) l) := by
  pointwise [flatB]

/-- The hidden rows in one list, at an index. -/
theorem flatH_at (v : FVec Ideal S2x4352x4096 .f32) (R : Fin 8704) (n : Fin 4096) : flatH v (ix2 R n) = v (ix3 (rB R) (rT R) n) := by
  pointwise [flatH]

/-- The reference's first result is the rows with the gated output added, in one list. -/
theorem res36 (m : (ℓ : Loc nD τ sig) → Buf (Elt Ideal) ℓ) (c : Dev nD) : Value.res_main_v36 m c = flat (next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

/-- The reference's second result is the output, in one list. -/
theorem res38 (m : (ℓ : Loc nD τ sig) → Buf (Elt Ideal) ℓ) (c : Dev nD) : Value.res_main_v38 m c = flatB (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

end Cert.Reference5Ideal.Rows

end
-- ==== Proof.ProjMath.lean ====
module

public import proofs.«01_k».proof.Proof.MlpReal

@[expose] public section

set_option maxRecDepth 16384

noncomputable section

namespace Cert.Proj

open Idealize.ShloMosaic

/-- Six runs of columns, one after the other. -/
def cat (a : Fin 384 → EReal) (b : Fin 896 → EReal) (c d e : Fin 256 → EReal) (f : Fin 128 → EReal) (n : Fin 2176) : EReal :=
  if h : (n : ℕ) < 384 then a ⟨n, h⟩
  else if h : (n : ℕ) - 384 < 896 then b ⟨n - 384, h⟩
  else if h : (n : ℕ) - 384 - 896 < 256 then c ⟨n - 384 - 896, h⟩
  else if h : (n : ℕ) - 384 - 896 - 256 < 256 then d ⟨n - 384 - 896 - 256, h⟩
  else if h : (n : ℕ) - 384 - 896 - 256 - 256 < 256 then e ⟨n - 384 - 896 - 256 - 256, h⟩
  else f ⟨n - 384 - 896 - 256 - 256 - 256, by omega⟩

/-- What the projection's backward pass is given: the rows, the gradient that goes past the projection, the modulations (the third one is the context's), the norm's weight, the matrix and the gradient of the projection's output. -/
structure In where
  /-- the rows -/
  x : Fin 2 → Fin 4352 → Fin 1024 → EReal
  /-- the gradient past the projection -/
  d : Fin 2 → Fin 4352 → Fin 1024 → EReal
  /-- the modulations -/
  m : Fin 3 → Fin 6 → Fin 1024 → EReal
  /-- the norm's weight -/
  w : Fin 1024 → EReal
  /-- the matrix -/
  W : Fin 1024 → Fin 2176 → EReal
  /-- the gradient of the projection's output -/
  q : Fin 2 → Fin 4352 → Fin 2176 → EReal

variable (P : In)

/-- A token's modulation: the context's on the first 256 tokens, the batch entry's after. -/
def md (j : Fin 6) (b : Fin 2) (t : Fin 4352) (l : Fin 1024) : EReal := if (t : ℕ) < 256 then P.m 2 j l else P.m ⟨b, by omega⟩ j l

/-- A row's mean square. -/
def ms (b : Fin 2) (t : Fin 4352) : EReal :=
  Ideal.div (∑ k, P.x b t k * P.x b t k) (Ideal.ofBits .f32 0x44800000#32) + Ideal.ofBits .f32 0x358637BD#32

/-- Its reciprocal root. -/
def rs (b : Fin 2) (t : Fin 4352) : EReal := Ideal.rsqrt (ms P b t)

/-- A normalised row. -/
def xh (b : Fin 2) (t : Fin 4352) (l : Fin 1024) : EReal := P.x b t l * rs P b t

/-- The projection's input. -/
def inp (b : Fin 2) (t : Fin 4352) (l : Fin 1024) : EReal := xh P b t l * P.w l * (1 + md P 1 b t l) + md P 0 b t l

/-- The gradient of the projection's input. -/
def dh (b : Fin 2) (t : Fin 4352) (l : Fin 1024) : EReal := ∑ n, P.q b t n * P.W l n

/-- … through the scale. -/
def sc (b : Fin 2) (t : Fin 4352) (l : Fin 1024) : EReal := dh P b t l * (1 + md P 1 b t l)

/-- … through the norm's weight. -/
def dn (b : Fin 2) (t : Fin 4352) (l : Fin 1024) : EReal := sc P b t l * P.w l

/-- The rows' gradient, with the norm's backward pass written on normalised rows. -/
def dx (b : Fin 2) (t : Fin 4352) (l : Fin 1024) : EReal :=
  P.d b t l + rs P b t * (dn P b t l - xh P b t l * Ideal.div (∑ k, dn P b t k * xh P b t k) (Ideal.ofBits .f32 0x44800000#32))

/-- What the mean square's gradient gives every entry of a row, as a chain of the norm's operations. -/
def gm (b : Fin 2) (t : Fin 4352) : EReal :=
  Ideal.div ((∑ k, P.x b t k * dn P b t k) * (Ideal.ofBits .f32 0xBF000000#32 * Ideal.div (rs P b t) (ms P b t))) (Ideal.ofBits .f32 0x44800000#32)

/-- The rows' gradient, with the norm's backward pass as a chain of its operations. -/
def dxR (b : Fin 2) (t : Fin 4352) (l : Fin 1024) : EReal :=
  P.d b t l + (dn P b t l * rs P b t + P.x b t l * gm P b t + gm P b t * P.x b t l)

/-- The batch entry of a block of 256 rows. -/
abbrev bB (i : Fin 34) : Fin 2 := ⟨i / 17, by omega⟩

/-- The token of a row of a block of 256 rows. -/
abbrev bT (i : Fin 34) (r : Fin 256) : Fin 4352 := ⟨256 * (i % 17) + r, by omega⟩

/-- The sums over a block's rows that the modulations' and the norm weight's gradients are made of. -/
def part (i : Fin 34) (k : Fin 8) (l : Fin 1024) : EReal :=
  if (k : ℕ) = 0 then ∑ r, dh P (bB i) (bT i r) l
  else if (k : ℕ) = 1 then ∑ r, dh P (bB i) (bT i r) l * xh P (bB i) (bT i r) l * P.w l
  else if (k : ℕ) = 2 then ∑ r, sc P (bB i) (bT i r) l * xh P (bB i) (bT i r) l
  else 0

/-- The batch entry of a row of both. -/
abbrev rB (R : Fin 8704) : Fin 2 := ⟨R / 4352, by omega⟩

/-- The token of a row of both batch entries. -/
abbrev rT (R : Fin 8704) : Fin 4352 := ⟨R % 4352, by omega⟩

/-- The matrix's gradient. -/
def dw (p : Fin 1024) (n : Fin 2176) : EReal := ∑ k : Fin 8704, inp P (rB k) (rT k) p * P.q (rB k) (rT k) n

/-- The rows' gradient, written on normalised rows, is the chain of the norm's operations. -/
theorem dx_eq (P : In) (b : Fin 2) (t : Fin 4352) (l : Fin 1024) : dx P b t l = dxR P b t l := by
  obtain ⟨e, he, h⟩ := Mlp.ofBits_eps
  have hM : ms P b t = Ideal.div (∑ k, P.x b t k * P.x b t k) ((1024 : ℝ) : EReal) + (e : EReal) := by unfold ms; rw [h, Mlp.ofBits_1024]
  have hn := Mlp.norm_bwd (P.x b t) (dn P b t) (P.d b t l) l 1024 e (by norm_num) he (ms P b t) (rs P b t) hM rfl
  unfold dx dxR gm xh
  rw [Mlp.ofBits_1024, Mlp.ofBits_half]
  exact hn

end Cert.Proj

end
-- ==== Proof.ProjKer.lean ====
module

public import proofs.«01_k».proof.Proof.Gen.Kernel6Ideal.Launch
public import proofs.«01_k».proof.Proof.ProjMath

@[expose] public section

set_option maxRecDepth 16384

noncomputable section

namespace Cert.Kernel6Ideal.Rows

open Cert.Kernel6Ideal Cert.Kernel6Ideal.Gen Idealize.ShloMosaic Idealize.ShloMosaic.TcCoe Idealize.SL.Sem Cert.Proj

variable (A0 : FVec Ideal S2x4352x1024 .f32) (A1 : FVec Ideal S3x6x1024 .f32) (A2 : FVec Ideal S1024 .f32)
  (A3 : FVec Ideal S1024x2176 .f32) (A4 : FVec Ideal S2x4352x1024 .f32) (A5 : FVec Ideal S2x4352x384 .f32)
  (A6 : FVec Ideal S2x4352x896 .f32) (A7 A8 A9 : FVec Ideal S2x4352x256 .f32) (A10 A11 : FVec Ideal S2x4352x128 .f32)

/-- The arguments, by their indices. -/
def args : In where
  x b t l := A0 (ix3 b t l)
  d b t l := A4 (ix3 b t l)
  m b j l := A1 (ix3 b j l)
  w l := A2 (ix1 l)
  W l n := A3 (ix2 l n)
  q b t n := cat (fun k => A5 (ix3 b t k)) (fun k => A6 (ix3 b t k)) (fun k => A7 (ix3 b t k)) (fun k => A8 (ix3 b t k)) (fun k => A9 (ix3 b t k)) (fun k => A10 (ix3 b t k) + A11 (ix3 b t k)) n

/-- The context's rows and the batch entries', one after the other. -/
def catR (a : FVec Ideal S2x256x6x1024 .f32) (b : FVec Ideal S2x4096x6x1024 .f32) : FVec Ideal S2x4352x6x1024 .f32 := concatenate S2x4352x6x1024 1 [⟨S2x256x6x1024, a⟩, ⟨S2x4096x6x1024, b⟩] concatenates_S2x256x6x1024_S2x4096x6x1024_S2x4352x6x1024_d1
/-- The tokens' modulations. -/
def byRow : FVec Ideal S2x4352x6x1024 .f32 := catR (broadcastInDim S2x256x6x1024 ![2, 3] bcast_S6x1024_S2x256x6x1024_2_3 (shapeCast S6x1024 (extractStridedSlice S1x6x1024 ![2, 0, 0] A1 slices_S3x6x1024_S1x6x1024_2_0_0) shapeCasts_S1x6x1024_S6x1024)) (broadcastInDim S2x4096x6x1024 ![0, 1, 2, 3] bcast_S2x1x6x1024_S2x4096x6x1024_0_1_2_3 (broadcastInDim S2x1x6x1024 ![0, 2, 3] bcast_S2x6x1024_S2x1x6x1024_0_2_3 (extractStridedSlice S2x6x1024 ![0, 0, 0] A1 slices_S3x6x1024_S2x6x1024_0_0_0)))
/-- The shift. -/
def shift : FVec Ideal S2x4352x1024 .f32 := shapeCast S2x4352x1024 (extractStridedSlice S2x4352x1x1024 ![0, 0, 0, 0] (byRow A1) slices_S2x4352x6x1024_S2x4352x1x1024_0_0_0_0) shapeCasts_S2x4352x1x1024_S2x4352x1024
/-- The scale. -/
def scl : FVec Ideal S2x4352x1024 .f32 := shapeCast S2x4352x1024 (extractStridedSlice S2x4352x1x1024 ![0, 0, 1, 0] (byRow A1) slices_S2x4352x6x1024_S2x4352x1x1024_0_0_1_0) shapeCasts_S2x4352x1x1024_S2x4352x1024
/-- One and the scale. -/
def scale1 : FVec Ideal S2x4352x1024 .f32 := addf (broadcastInDim S2x4352x1024 ![] bcast_S_S2x4352x1024 (constant S_ .f32 0x3F800000#32)) (scl A1)
/-- The rows' mean squares. -/
def msq : FVec Ideal S2x4352x1 .f32 := addf (Host.divf (broadcastInDim S2x4352x1 ![0, 1] bcast_S2x4352_S2x4352x1_0_1 (Host.reduceAdd (mulf A0 A0) (constant S_ .f32 0x00000000#32) reducesTo_S2x4352x1024_S2x4352_d2 h_S_)) (broadcastInDim S2x4352x1 ![] bcast_S_S2x4352x1 (constant S_ .f32 0x44800000#32))) (broadcastInDim S2x4352x1 ![] bcast_S_S2x4352x1 (constant S_ .f32 0x358637BD#32))
/-- Their reciprocal roots. -/
def rsq : FVec Ideal S2x4352x1 .f32 := Host.rsqrt (msq A0)
/-- The normalised rows. -/
def nrm : FVec Ideal S2x4352x1024 .f32 := mulf A0 (broadcastInDim S2x4352x1024 ![0, 1, 2] bcast_S2x4352x1_S2x4352x1024_0_1_2 (rsq A0))
/-- … with the weight. -/
def nrmW : FVec Ideal S2x4352x1024 .f32 := mulf (nrm A0) (broadcastInDim S2x4352x1024 ![0, 1, 2] bcast_S1x1x1024_S2x4352x1024_0_1_2 (broadcastInDim S1x1x1024 ![2] bcast_S1024_S1x1x1024_2 A2))
/-- The layer's input. -/
def hin : FVec Ideal S2x4352x1024 .f32 := addf (mulf (nrmW A0 A2) (scale1 A1)) (shift A1)
/-- A batch entry's rows, in one list. -/
def flat (A : FVec Ideal S2x4352x1024 .f32) : FVec Ideal S8704x1024 .f32 := shapeCast S8704x1024 A shapeCasts_S2x4352x1024_S8704x1024
/-- … at the narrower format. -/
def flatB (A : FVec Ideal S2x4352x1024 .f32) : FVec Ideal S8704x1024 .bf16 := shapeCast S8704x1024 (truncf .bf16 A bitsLt_bf16_f32) shapeCasts_S2x4352x1024_S8704x1024
/-- The piece of 384 columns, its rows in one list. -/
def flat384 (A : FVec Ideal S2x4352x384 .f32) : FVec Ideal S8704x384 .bf16 := shapeCast S8704x384 (truncf .bf16 A bitsLt_bf16_f32) shapeCasts_S2x4352x384_S8704x384
/-- The piece of 896 columns, its rows in one list. -/
def flat896 (A : FVec Ideal S2x4352x896 .f32) : FVec Ideal S8704x896 .bf16 := shapeCast S8704x896 (truncf .bf16 A bitsLt_bf16_f32) shapeCasts_S2x4352x896_S8704x896
/-- The piece of 256 columns, its rows in one list. -/
def flat256 (A : FVec Ideal S2x4352x256 .f32) : FVec Ideal S8704x256 .bf16 := shapeCast S8704x256 (truncf .bf16 A bitsLt_bf16_f32) shapeCasts_S2x4352x256_S8704x256
/-- The piece of 128 columns, its rows in one list. -/
def flat128 (A : FVec Ideal S2x4352x128 .f32) : FVec Ideal S8704x128 .bf16 := shapeCast S8704x128 (truncf .bf16 A bitsLt_bf16_f32) shapeCasts_S2x4352x128_S8704x128
/-- A context block and sixteen others, for two batch entries. -/
def catM (a : FVec Ideal S1x6x1024 .f32) (b : FVec Ideal S16x6x1024 .f32) (c : FVec Ideal S1x6x1024 .f32) (d : FVec Ideal S16x6x1024 .f32) : FVec Ideal S34x8x1024 .f32 := pad S34x8x1024 ![0, 0, 0] ![0, 2, 0] ![0, 0, 0] (concatenate S34x6x1024 0 [⟨S1x6x1024, a⟩, ⟨S16x6x1024, b⟩, ⟨S1x6x1024, c⟩, ⟨S16x6x1024, d⟩] concatenates_S1x6x1024_S16x6x1024_S1x6x1024_S16x6x1024_S34x6x1024_d0) (sitofp .f32 (constantI S_ 32 0#32)) pads_S34x6x1024_S34x8x1024_000_020_000 h_S_
/-- The blocks' modulations. -/
def mods : FVec Ideal S34x8x1024 .f32 := catM (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![0, 0, 0] A1 slices_S3x6x1024_S1x6x1024_0_0_0)) (extractStridedSlice S1x6x1024 ![2, 0, 0] A1 slices_S3x6x1024_S1x6x1024_2_0_0) (broadcastInDim S16x6x1024 ![0, 1, 2] bcast_S1x6x1024_S16x6x1024_0_1_2 (extractStridedSlice S1x6x1024 ![1, 0, 0] A1 slices_S3x6x1024_S1x6x1024_1_0_0))

/-- The matrix, at the narrower format. -/
def wB (A : FVec Ideal S1024x2176 .f32) : FVec Ideal S1024x2176 .bf16 := truncf .bf16 A bitsLt_bf16_f32
/-- The weight, in a row. -/
def wR (A : FVec Ideal S1024 .f32) : FVec Ideal S1x1024 .f32 := broadcastInDim S1x1024 ![1] bcast_S1024_S1x1024_1 A

/-- A product of arrays, at an index. -/
theorem mul_at {s : Shape} (a b : FVec Ideal s .f32) (i : s.Idx) : mulf a b i = (a i * b i : EReal) := rfl

/-- A sum of arrays, at an index. -/
theorem add_at {s : Shape} (a b : FVec Ideal s .f32) (i : s.Idx) : addf a b i = (a i + b i : EReal) := rfl

/-- An array of ones. -/
theorem one_at (i : S2x4352x1024.Idx) : broadcastInDim S2x4352x1024 ![] bcast_S_S2x4352x1024 (constant (F := Ideal) S_ .f32 0x3F800000#32) i = (1 : EReal) :=
  Ideal.ofBits_one_f32

/-- A token's modulation. -/
theorem byRow_at (b : Fin 2) (t : Fin 4352) (j : Fin 6) (l : Fin 1024) : byRow A1 (ix4 b t j l) = md (args A0 A1 A2 A3 A4 A5 A6 A7 A8 A9 A10 A11) j b t l := by
  unfold md args
  pointwise [byRow, catR]
  split_ifs <;> rfl

/-- The shift. -/
theorem shift_at (b : Fin 2) (t : Fin 4352) (l : Fin 1024) : shift A1 (ix3 b t l) = md (args A0 A1 A2 A3 A4 A5 A6 A7 A8 A9 A10 A11) 0 b t l := by
  rw [← byRow_at]
  pointwise [shift]

/-- The scale. -/
theorem scl_at (b : Fin 2) (t : Fin 4352) (l : Fin 1024) : scl A1 (ix3 b t l) = md (args A0 A1 A2 A3 A4 A5 A6 A7 A8 A9 A10 A11) 1 b t l := by
  rw [← byRow_at]
  pointwise [scl]

/-- One and the scale. -/
theorem scale1_at (b : Fin 2) (t : Fin 4352) (l : Fin 1024) : scale1 A1 (ix3 b t l) = 1 + md (args A0 A1 A2 A3 A4 A5 A6 A7 A8 A9 A10 A11) 1 b t l := by
  unfold scale1
  refine (add_at _ _ _).trans ?_
  rw [one_at, scl_at A0 A1 A2 A3 A4 A5 A6 A7 A8 A9 A10 A11]

/-- A row's mean square. -/
theorem msq_at (b : Fin 2) (t : Fin 4352) : msq A0 (ix3 b t 0) = ms (args A0 A1 A2 A3 A4 A5 A6 A7 A8 A9 A10 A11) b t := by
  unfold ms
  pointwise [msq, args]

/-- Its reciprocal root. -/
theorem rsq_at (b : Fin 2) (t : Fin 4352) : rsq A0 (ix3 b t 0) = rs (args A0 A1 A2 A3 A4 A5 A6 A7 A8 A9 A10 A11) b t := by
  unfold rs
  rw [← msq_at]
  pointwise [rsq]

/-- A row's reciprocal root, on all its lanes. -/
theorem rsqB_at (b : Fin 2) (t : Fin 4352) (l : Fin 1024) : broadcastInDim S2x4352x1024 ![0, 1, 2] bcast_S2x4352x1_S2x4352x1024_0_1_2 (rsq A0) (ix3 b t l) = rs (args A0 A1 A2 A3 A4 A5 A6 A7 A8 A9 A10 A11) b t := by
  rw [← rsq_at]
  generalize rsq A0 = v
  pointwise []

/-- A normalised row. -/
theorem nrm_at (b : Fin 2) (t : Fin 4352) (l : Fin 1024) : nrm A0 (ix3 b t l) = xh (args A0 A1 A2 A3 A4 A5 A6 A7 A8 A9 A10 A11) b t l := by
  unfold nrm xh
  refine (mul_at _ _ _).trans ?_
  rw [rsqB_at A0 A1 A2 A3 A4 A5 A6 A7 A8 A9 A10 A11]
  rfl

/-- The weight, on all rows. -/
theorem wN_at (b : Fin 2) (t : Fin 4352) (l : Fin 1024) : broadcastInDim S2x4352x1024 ![0, 1, 2] bcast_S1x1x1024_S2x4352x1024_0_1_2 (broadcastInDim S1x1x1024 ![2] bcast_S1024_S1x1x1024_2 A2) (ix3 b t l) = (args A0 A1 A2 A3 A4 A5 A6 A7 A8 A9 A10 A11).w l := by
  pointwise [args]

/-- A normalised row with the weight. -/
theorem nrmW_at (b : Fin 2) (t : Fin 4352) (l : Fin 1024) : nrmW A0 A2 (ix3 b t l) = xh (args A0 A1 A2 A3 A4 A5 A6 A7 A8 A9 A10 A11) b t l * (args A0 A1 A2 A3 A4 A5 A6 A7 A8 A9 A10 A11).w l := by
  unfold nrmW
  refine (mul_at _ _ _).trans ?_
  rw [wN_at A0 A1 A2 A3 A4 A5 A6 A7 A8 A9 A10 A11, nrm_at A0 A1 A2 A3 A4 A5 A6 A7 A8 A9 A10 A11]

/-- The layer's input. -/
theorem hin_at (b : Fin 2) (t : Fin 4352) (l : Fin 1024) : hin A0 A1 A2 (ix3 b t l) = inp (args A0 A1 A2 A3 A4 A5 A6 A7 A8 A9 A10 A11) b t l := by
  unfold hin inp
  refine (add_at _ _ _).trans ?_
  rw [mul_at, nrmW_at A0 A1 A2 A3 A4 A5 A6 A7 A8 A9 A10 A11, scale1_at A0 A1 A2 A3 A4 A5 A6 A7 A8 A9 A10 A11, shift_at A0 A1 A2 A3 A4 A5 A6 A7 A8 A9 A10 A11]

/-- The weight, at an index. -/
theorem wR_at (A : FVec Ideal S1024 .f32) (l : Fin 1024) : wR A (ix2 0 l) = A (ix1 l) := by
  pointwise [wR]

/-- The rows in one list, at an index. -/
theorem flat_at (v : FVec Ideal S2x4352x1024 .f32) (R : Fin 8704) (l : Fin 1024) : flat v (ix2 R l) = v (ix3 (rB R) (rT R) l) := by
  pointwise [flat]

/-- … at the narrower format. -/
theorem flatB_at (v : FVec Ideal S2x4352x1024 .f32) (R : Fin 8704) (l : Fin 1024) : flatB v (ix2 R l) = v (ix3 (rB R) (rT R) l) := by
  pointwise [flatB]

/-- The piece of 384 columns, at an index. -/
theorem flat384_at (v : FVec Ideal S2x4352x384 .f32) (R : Fin 8704) (n : Fin 384) : flat384 v (ix2 R n) = v (ix3 (rB R) (rT R) n) := by
  pointwise [flat384]

/-- The piece of 896 columns, at an index. -/
theorem flat896_at (v : FVec Ideal S2x4352x896 .f32) (R : Fin 8704) (n : Fin 896) : flat896 v (ix2 R n) = v (ix3 (rB R) (rT R) n) := by
  pointwise [flat896]

/-- The piece of 256 columns, at an index. -/
theorem flat256_at (v : FVec Ideal S2x4352x256 .f32) (R : Fin 8704) (n : Fin 256) : flat256 v (ix2 R n) = v (ix3 (rB R) (rT R) n) := by
  pointwise [flat256]

/-- The piece of 128 columns, at an index. -/
theorem flat128_at (v : FVec Ideal S2x4352x128 .f32) (R : Fin 8704) (n : Fin 128) : flat128 v (ix2 R n) = v (ix3 (rB R) (rT R) n) := by
  pointwise [flat128]

/-- A block's modulation is that of its tokens. -/
theorem mods_at (i : Fin 34) (j : Fin 6) (l : Fin 1024) (r : Fin 256) : mods A1 (ix3 i ⟨j, by omega⟩ l) = md (args A0 A1 A2 A3 A4 A5 A6 A7 A8 A9 A10 A11) j (bB i) (bT i r) l := by
  unfold md args
  pointwise [mods, catM]
  have key : ∀ a b : Fin 3, (a : ℕ) = b → A1 (ix3 a j l) = A1 (ix3 b j l) := fun a b h => by rw [Fin.ext h]
  have hi : (i : ℕ) < 34 := i.isLt
  have hr : (r : ℕ) < 256 := r.isLt
  by_cases h0 : (i : ℕ) < 1
  · refine (dif_pos h0).trans (Eq.trans ?_ (if_pos (by omega)).symm)
    exact key _ _ (by show 2 + (i : ℕ) = 2; omega)
  refine (dif_neg h0).trans ?_
  by_cases h1 : (i : ℕ) - 1 < 16
  · refine (dif_pos h1).trans (Eq.trans ?_ (if_neg (by omega)).symm)
    exact key _ _ (by show 0 = (i : ℕ) / 17; omega)
  refine (dif_neg h1).trans ?_
  by_cases h2 : (i : ℕ) - 1 - 16 < 1
  · refine (dif_pos h2).trans (Eq.trans ?_ (if_pos (by omega)).symm)
    exact key _ _ (by show 2 + ((i : ℕ) - 1 - 16) = 2; omega)
  · refine (dif_neg h2).trans (Eq.trans ?_ (if_neg (by omega)).symm)
    exact key _ _ (by show 1 = (i : ℕ) / 17; omega)

end Cert.Kernel6Ideal.Rows

end
-- ==== Proof.ProjEnt.lean ====
module

public import proofs.«01_k».proof.Proof.Gen.Kernel6Ideal.Value
public import proofs.«01_k».proof.Proof.ProjKer
public import Idealize.ShloMosaic.Lib.Pipeline.ValueKit

@[expose] public section

set_option maxRecDepth 16384

noncomputable section

namespace Cert.Kernel6Ideal.Rows

open Cert.Kernel6Ideal Cert.Kernel6Ideal.Gen Idealize.ShloMosaic Idealize.ShloMosaic.TcCoe Idealize.SL.Sem Cert.Proj

section
variable (m : (ℓ : Loc nD τ sig) → Buf (Elt Ideal) ℓ) (c : Dev nD)

set_option maxHeartbeats 4000000 in
/-- Operand 0 when the kernel starts. -/
theorem ent0 : V m c main_v44 = flat (m (c, Proc.tc.devRef main_arg4)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 1 when the kernel starts. -/
theorem ent1 : V m c main_v45 = flat (m (c, Proc.tc.devRef main_arg0)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 2 when the kernel starts. -/
theorem ent2 : V m c main_v29 = flatB (hin (m (c, Proc.tc.devRef main_arg0)) (m (c, Proc.tc.devRef main_arg1)) (m (c, Proc.tc.devRef main_arg2))) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 3 when the kernel starts. -/
theorem ent3 : V m c main_v31 = flat384 (m (c, Proc.tc.devRef main_arg5)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 4 when the kernel starts. -/
theorem ent4 : V m c main_v33 = flat896 (m (c, Proc.tc.devRef main_arg6)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 5 when the kernel starts. -/
theorem ent5 : V m c main_v35 = flat256 (m (c, Proc.tc.devRef main_arg7)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 6 when the kernel starts. -/
theorem ent6 : V m c main_v37 = flat256 (m (c, Proc.tc.devRef main_arg8)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 7 when the kernel starts. -/
theorem ent7 : V m c main_v39 = flat256 (m (c, Proc.tc.devRef main_arg9)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 8 when the kernel starts. -/
theorem ent8 : V m c main_v41 = flat128 (m (c, Proc.tc.devRef main_arg10)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 9 when the kernel starts. -/
theorem ent9 : V m c main_v43 = flat128 (m (c, Proc.tc.devRef main_arg11)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 10 when the kernel starts. -/
theorem ent10 : V m c main_v53 = mods (m (c, Proc.tc.devRef main_arg1)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 11 when the kernel starts. -/
theorem ent11 : V m c main_v54 = wR (m (c, Proc.tc.devRef main_arg2)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

set_option maxHeartbeats 4000000 in
/-- Operand 12 when the kernel starts. -/
theorem ent12 : V m c main_v55 = wB (m (c, Proc.tc.devRef main_arg3)) := by
  unfold V
  simp only [List.flatten_cons, List.flatten_nil, List.append_nil, StableHlo.after_append, hostOps0, hostOps0_1, hostOps0_2, StableHlo.TRef.nullary, StableHlo.TRef.binary, StableHlo.TRef.unary, StableHlo.TRef.toBuf, StableHlo.TRef.ofBuf, cast_eq]
  after_results_simp
  rfl

end

end Cert.Kernel6Ideal.Rows

end
-- ==== Proof.ProjPieces.lean ====
module

public import proofs.«01_k».proof.Proof.Gen.Kernel6Ideal.Value
public import proofs.«01_k».proof.Proof.MlpPieces
public import proofs.«01_k».proof.Proof.ProjMath

@[expose] public section

set_option maxRecDepth 16384

noncomputable section

namespace Cert.Kernel6Ideal.Pieces

open Cert.Kernel6Ideal Cert.Kernel6Ideal.Gen Idealize.ShloMosaic Idealize.ShloMosaic.TcCoe Idealize.SL.Sem
open Cert.Kernel2Ideal.Pieces (canon_unit2 canon_unit3)

section

variable (X3 : FVec Ideal S512x384 .bf16) (X4 : FVec Ideal S512x896 .bf16) (X5 X6 X7 : FVec Ideal S512x256 .bf16) (X8 X9 : FVec Ideal S512x128 .bf16)

/-- A row of the gradient of the projection's output, its columns put together. -/
def dpAt (r : Fin 512) (n : Fin 2176) : EReal :=
  Proj.cat (fun k => X3 (ix2 r k)) (fun k => X4 (ix2 r k)) (fun k => X5 (ix2 r k)) (fun k => X6 (ix2 r k)) (fun k => X7 (ix2 r k))
    (fun k => X8 (ix2 r k) + X9 (ix2 r k)) n

/-- The block of it. -/
def dp : FVec Ideal S512x2176 .bf16 := fun i => dpAt X3 X4 X5 X6 X7 X8 X9 (show Fin 512 from i 0) (show Fin 2176 from i 1)

/-- A stored run of columns is what was loaded. -/
theorem pay3_at (X : FVec Ideal S512x384 .bf16) (r : Fin 512) (k : Fin 384) : k0_pay3 (F := Ideal) X (ix2 r k) = X (ix2 r k) := by
  pointwise [k0_pay3]

/-- A stored run of columns is what was loaded. -/
theorem pay4_at (X : FVec Ideal S512x896 .bf16) (r : Fin 512) (k : Fin 896) : k0_pay4 (F := Ideal) X (ix2 r k) = X (ix2 r k) := by
  pointwise [k0_pay4]

/-- A stored run of columns is what was loaded. -/
theorem pay5_at (X : FVec Ideal S512x256 .bf16) (r : Fin 512) (k : Fin 256) : k0_pay5 (F := Ideal) X (ix2 r k) = X (ix2 r k) := by
  pointwise [k0_pay5]

/-- A stored run of columns is what was loaded. -/
theorem pay6_at (X : FVec Ideal S512x256 .bf16) (r : Fin 512) (k : Fin 256) : k0_pay6 (F := Ideal) X (ix2 r k) = X (ix2 r k) := by
  pointwise [k0_pay6]

/-- A stored run of columns is what was loaded. -/
theorem pay7_at (X : FVec Ideal S512x256 .bf16) (r : Fin 512) (k : Fin 256) : k0_pay7 (F := Ideal) X (ix2 r k) = X (ix2 r k) := by
  pointwise [k0_pay7]

/-- The last run of columns is the sum of two. -/
theorem pay8_at (X Y : FVec Ideal S512x128 .bf16) (r : Fin 512) (k : Fin 128) : k0_pay8 (F := Ideal) X Y (ix2 r k) = X (ix2 r k) + Y (ix2 r k) := by
  pointwise [k0_pay8]

/-- What the six stores leave, read at a row and a column. -/
theorem dp_canon (r : Fin 512) (n : Fin 2176) :
    View.canon (Val := Elt Ideal) (s := S512x2176) (e := .bf16) [⟨Rect.unit ![0, 2048] ![512, 128] inb_S512x2176_S512x128_0_2048, k0_pay8 (F := Ideal) X8 X9⟩, ⟨Rect.unit ![0, 1792] ![512, 256] inb_S512x2176_S512x256_0_1792, k0_pay7 (F := Ideal) X7⟩, ⟨Rect.unit ![0, 1536] ![512, 256] inb_S512x2176_S512x256_0_1536, k0_pay6 (F := Ideal) X6⟩, ⟨Rect.unit ![0, 1280] ![512, 256] inb_S512x2176_S512x256_0_1280, k0_pay5 (F := Ideal) X5⟩, ⟨Rect.unit ![0, 384] ![512, 896] inb_S512x2176_S512x896_0_384, k0_pay4 (F := Ideal) X4⟩, ⟨Rect.unit ![0, 0] ![512, 384] inb_S512x2176_S512x384_0_0, k0_pay3 (F := Ideal) X3⟩] (ix2 r n)
      = dpAt X3 X4 X5 X6 X7 X8 X9 r n := by
  erw [canon_unit2, canon_unit2, canon_unit2, canon_unit2, canon_unit2, canon_unit2]
  unfold dpAt Proj.cat
  by_cases h3 : (n : ℕ) < 384
  · rw [dif_neg (by omega), dif_neg (by omega), dif_neg (by omega), dif_neg (by omega), dif_neg (by omega), dif_pos (by omega), dif_pos h3]
    refine (pay3_at X3 _ _).trans ?_
    exact congrArg₂ (fun a b => X3 (ix2 a b)) (Fin.ext (by show (r : ℕ) - 0 = r; omega)) (Fin.ext (by show (n : ℕ) - 0 = (n : ℕ); omega))
  rw [dif_neg h3]
  by_cases h4 : (n : ℕ) - 384 < 896
  · rw [dif_neg (by omega), dif_neg (by omega), dif_neg (by omega), dif_neg (by omega), dif_pos (by omega), dif_pos h4]
    refine (pay4_at X4 _ _).trans ?_
    exact congrArg₂ (fun a b => X4 (ix2 a b)) (Fin.ext (by show (r : ℕ) - 0 = r; omega)) (Fin.ext (by show (n : ℕ) - 384 = (n : ℕ) - 384; omega))
  rw [dif_neg h4]
  by_cases h5 : (n : ℕ) - 384 - 896 < 256
  · rw [dif_neg (by omega), dif_neg (by omega), dif_neg (by omega), dif_pos (by omega), dif_pos h5]
    refine (pay5_at X5 _ _).trans ?_
    exact congrArg₂ (fun a b => X5 (ix2 a b)) (Fin.ext (by show (r : ℕ) - 0 = r; omega)) (Fin.ext (by show (n : ℕ) - 1280 = (n : ℕ) - 384 - 896; omega))
  rw [dif_neg h5]
  by_cases h6 : (n : ℕ) - 384 - 896 - 256 < 256
  · rw [dif_neg (by omega), dif_neg (by omega), dif_pos (by omega), dif_pos h6]
    refine (pay6_at X6 _ _).trans ?_
    exact congrArg₂ (fun a b => X6 (ix2 a b)) (Fin.ext (by show (r : ℕ) - 0 = r; omega)) (Fin.ext (by show (n : ℕ) - 1536 = (n : ℕ) - 384 - 896 - 256; omega))
  rw [dif_neg h6]
  by_cases h7 : (n : ℕ) - 384 - 896 - 256 - 256 < 256
  · rw [dif_neg (by omega), dif_pos (by omega), dif_pos h7]
    refine (pay7_at X7 _ _).trans ?_
    exact congrArg₂ (fun a b => X7 (ix2 a b)) (Fin.ext (by show (r : ℕ) - 0 = r; omega)) (Fin.ext (by show (n : ℕ) - 1792 = (n : ℕ) - 384 - 896 - 256 - 256; omega))
  rw [dif_neg h7]
  rw [dif_pos (by omega)]
  refine (pay8_at X8 X9 _ _).trans ?_
  exact congrArg₂ (fun a b => (X8 (ix2 a b) + X9 (ix2 a b) : EReal)) (Fin.ext (by show (r : ℕ) - 0 = r; omega)) (Fin.ext (by show (n : ℕ) - 2048 = (n : ℕ) - 384 - 896 - 256 - 256 - 256; omega))

/-- What the six stores leave, read whole. -/
theorem dp_read {sig' : RefSig} {κ : Kind} {sp : Space} (v : View sig' κ sp S512x2176 .bf16) :
    v.readCov (Val := Elt Ideal) [⟨Rect.unit ![0, 2048] ![512, 128] inb_S512x2176_S512x128_0_2048, k0_pay8 (F := Ideal) X8 X9⟩, ⟨Rect.unit ![0, 1792] ![512, 256] inb_S512x2176_S512x256_0_1792, k0_pay7 (F := Ideal) X7⟩, ⟨Rect.unit ![0, 1536] ![512, 256] inb_S512x2176_S512x256_0_1536, k0_pay6 (F := Ideal) X6⟩, ⟨Rect.unit ![0, 1280] ![512, 256] inb_S512x2176_S512x256_0_1280, k0_pay5 (F := Ideal) X5⟩, ⟨Rect.unit ![0, 384] ![512, 896] inb_S512x2176_S512x896_0_384, k0_pay4 (F := Ideal) X4⟩, ⟨Rect.unit ![0, 0] ![512, 384] inb_S512x2176_S512x384_0_0, k0_pay3 (F := Ideal) X3⟩] (Rect.unit ![0, 0] ![512, 2176] inb_S512x2176_S512x2176_0_0).toLoadRect
      = dp X3 X4 X5 X6 X7 X8 X9 := by
  rw [View.readCov_eq_canon']
  funext j
  obtain ⟨r, l, rfl⟩ : ∃ (r : Fin 512) (l : Fin 2176), j = ix2 r l := ⟨j 0, j 1, eq_ix2 j⟩
  have e : (Rect.unit (s := S512x2176) ![0, 0] ![512, 2176] inb_S512x2176_S512x2176_0_0).toLoadRect.idx (ix2 r l) = ix2 r l := by
    funext a
    refine Fin.cases ?_ (fun a => ?_) a
    · exact Fin.ext (by show 0 + 1 * (r : ℕ) = r; omega)
    · obtain rfl : a = 0 := Subsingleton.elim _ _
      exact Fin.ext (by show 0 + 1 * (l : ℕ) = l; omega)
  show View.canon _ ((Rect.unit (s := S512x2176) ![0, 0] ![512, 2176] inb_S512x2176_S512x2176_0_0).toLoadRect.idx (ix2 r l)) = _
  rw [e]
  exact dp_canon X3 X4 X5 X6 X7 X8 X9 r l

end

/-- The gradient of the projection's input. -/
def H (D : FVec Ideal S512x2176 .bf16) (X12 : FVec Ideal S1024x2176 .bf16) : FVec Ideal S512x1024 .f32 :=
  fun i => (∑ n : Fin 2176, D (ix2 (show Fin 512 from i 0) n) * X12 (ix2 (show Fin 1024 from i 1) n) : EReal)

/-- The first product is that gradient. -/
theorem pay10 (D : FVec Ideal S512x2176 .bf16) (X12 : FVec Ideal S1024x2176 .bf16) : k0_pay10 (F := Ideal) D X12 = H D X12 := by
  funext i
  obtain ⟨r, l, rfl⟩ : ∃ (r : Fin 512) (l : Fin 1024), i = ix2 r l := ⟨i 0, i 1, eq_ix2 i⟩
  show _ = (∑ n : Fin 2176, D (ix2 r n) * X12 (ix2 l n) : EReal)
  pointwise [k0_pay10]

/-- What a block adds to the matrix's gradient. -/
theorem pay9_at (A : FVec Ideal S1024x2176 .f32) (X2 : FVec Ideal S512x1024 .bf16) (D : FVec Ideal S512x2176 .bf16) (p : Fin 1024) (n : Fin 2176) :
    k0_pay9 (F := Ideal) A X2 D (ix2 p n) = (A (ix2 p n) + ∑ r : Fin 512, X2 (ix2 r p) * D (ix2 r n) : EReal) := by
  pointwise [k0_pay9]

/-- What the matrix's gradient starts from. -/
theorem pay2_at (p : Fin 1024) (n : Fin 2176) : k0_pay2 (F := Ideal) (ix2 p n) = (0 : EReal) := by
  pointwise [k0_pay2]

section

variable (X0 X1 : FVec Ideal S512x1024 .f32) (X10 : FVec Ideal S2x8x1024 .f32) (X11 : FVec Ideal S1x1024 .f32) (H : FVec Ideal S512x1024 .f32)

/-- A row's reciprocal root mean square. -/
def rsAt (r : Fin 512) : EReal :=
  Ideal.rsqrt (Ideal.div (∑ k, X1 (ix2 r k) * X1 (ix2 r k)) (Ideal.ofBits .f32 0x44800000#32) + Ideal.ofBits .f32 0x358637BD#32)

/-- A normalised row. -/
def xhAt (r : Fin 512) (l : Fin 1024) : EReal := X1 (ix2 r l) * rsAt X1 r

/-- The gradient through the scale. -/
def scAt (r : Fin 512) (l : Fin 1024) : EReal := H (ix2 r l) * (Ideal.ofBits .f32 0x3F800000#32 + X10 (ix3 ⟨r / 256, by omega⟩ 1 l))

/-- … through the norm's weight. -/
def dnAt (r : Fin 512) (l : Fin 1024) : EReal := scAt X10 H r l * X11 (ix2 0 l)

/-- The rows' gradient. -/
def dxAt (r : Fin 512) (l : Fin 1024) : EReal :=
  X0 (ix2 r l) + rsAt X1 r * (dnAt X10 X11 H r l - xhAt X1 r l * Ideal.div (∑ k, dnAt X10 X11 H r k * xhAt X1 r k) (Ideal.ofBits .f32 0x44800000#32))

/-- The sums over a half's rows. -/
def ptAt (s : Fin 2) (k : Fin 8) (l : Fin 1024) : EReal :=
  if (k : ℕ) = 0 then ∑ r : Fin 256, H (ix2 ⟨256 * s + r, by omega⟩ l)
  else if (k : ℕ) = 1 then ∑ r : Fin 256, H (ix2 ⟨256 * s + r, by omega⟩ l) * xhAt X1 ⟨256 * s + r, by omega⟩ l * X11 (ix2 0 l)
  else if (k : ℕ) = 2 then ∑ r : Fin 256, H (ix2 ⟨256 * s + r, by omega⟩ l) * (Ideal.ofBits .f32 0x3F800000#32 + X10 (ix3 s 1 l)) * xhAt X1 ⟨256 * s + r, by omega⟩ l
  else 0

/-- The first half's rows' gradient. -/
theorem dx0 (r : Fin 256) (l : Fin 1024) : k0_pay17 (F := Ideal) H (k0_pay11 X11) (k0_pay13 (View.ld (Val := Elt Ideal) (S := S512x1024) (e' := .f32) X1 (Rect.unit (s := S512x1024) ![0, 0] ![256, 1024] inb_S512x1024_S256x1024_0_0))) (k0_pay14 (View.ld (Val := Elt Ideal) (S := S512x1024) (e' := .f32) X1 (Rect.unit (s := S512x1024) ![0, 0] ![256, 1024] inb_S512x1024_S256x1024_0_0))) (View.ld (Val := Elt Ideal) (S := S2x8x1024) (e' := .f32) X10 (Rect.unit (s := S2x8x1024) ![0, 1, 0] ![1, 1, 1024] inb_S2x8x1024_S1x1x1024_0_1_0)) (View.ld (Val := Elt Ideal) (S := S512x1024) (e' := .f32) X0 (Rect.unit (s := S512x1024) ![0, 0] ![256, 1024] inb_S512x1024_S256x1024_0_0)) (ix2 r l)
      = dxAt X0 X1 X10 X11 H ⟨256 * 0 + r, by omega⟩ l := by
  have e : (⟨(256 * 0 + (r : ℕ)) / 256, by omega⟩ : Fin 2) = 0 := Fin.ext (by show (256 * 0 + (r : ℕ)) / 256 = 0; omega)
  unfold dxAt dnAt scAt xhAt rsAt
  simp only [e]
  pointwise [k0_pay11, k0_pay12, k0_pay13, k0_pay14, k0_pay15, k0_pay16, k0_pay17]

/-- The second half's rows' gradient. -/
theorem dx1 (r : Fin 256) (l : Fin 1024) : k0_pay25 (F := Ideal) H (k0_pay11 X11) (View.ld (Val := Elt Ideal) (S := S512x1024) (e' := .f32) X1 (Rect.unit (s := S512x1024) ![256, 0] ![256, 1024] inb_S512x1024_S256x1024_256_0)) (View.ld (Val := Elt Ideal) (S := S2x8x1024) (e' := .f32) X10 (Rect.unit (s := S2x8x1024) ![1, 1, 0] ![1, 1, 1024] inb_S2x8x1024_S1x1x1024_1_1_0)) (View.ld (Val := Elt Ideal) (S := S512x1024) (e' := .f32) X0 (Rect.unit (s := S512x1024) ![256, 0] ![256, 1024] inb_S512x1024_S256x1024_256_0)) (ix2 r l)
      = dxAt X0 X1 X10 X11 H ⟨256 * 1 + r, by omega⟩ l := by
  have e : (⟨(256 * 1 + (r : ℕ)) / 256, by omega⟩ : Fin 2) = 1 := Fin.ext (by show (256 * 1 + (r : ℕ)) / 256 = 1; omega)
  unfold dxAt dnAt scAt xhAt rsAt
  simp only [e]
  pointwise [k0_pay11, k0_pay19, k0_pay20, k0_pay21, k0_pay22, k0_pay23, k0_pay25]

/-- The first half's sums. -/
theorem pt0 (k : Fin 8) (l : Fin 1024) : k0_pay18 (F := Ideal) H (k0_pay11 X11) (k0_pay14 (View.ld (Val := Elt Ideal) (S := S512x1024) (e' := .f32) X1 (Rect.unit (s := S512x1024) ![0, 0] ![256, 1024] inb_S512x1024_S256x1024_0_0))) (View.ld (Val := Elt Ideal) (S := S2x8x1024) (e' := .f32) X10 (Rect.unit (s := S2x8x1024) ![0, 1, 0] ![1, 1, 1024] inb_S2x8x1024_S1x1x1024_0_1_0)) (ix3 0 k l)
      = ptAt X1 X10 X11 H 0 k l := by
  unfold ptAt xhAt rsAt
  pointwise [k0_pay11, k0_pay12, k0_pay13, k0_pay14, k0_pay15, k0_pay16, k0_pay18]
  split_ifs <;> first | rfl | omega

/-- The second half's sums. -/
theorem pt1 (k : Fin 8) (l : Fin 1024) : k0_pay1 (F := Ideal) (k0_pay24 H (View.ld (Val := Elt Ideal) (S := S512x1024) (e' := .f32) X1 (Rect.unit (s := S512x1024) ![256, 0] ![256, 1024] inb_S512x1024_S256x1024_256_0)) (View.ld (Val := Elt Ideal) (S := S2x8x1024) (e' := .f32) X10 (Rect.unit (s := S2x8x1024) ![1, 1, 0] ![1, 1, 1024] inb_S2x8x1024_S1x1x1024_1_1_0))) (k0_pay26 H) (k0_pay27 H (k0_pay11 X11) (View.ld (Val := Elt Ideal) (S := S512x1024) (e' := .f32) X1 (Rect.unit (s := S512x1024) ![256, 0] ![256, 1024] inb_S512x1024_S256x1024_256_0))) (ix3 0 k l)
      = ptAt X1 X10 X11 H 1 k l := by
  unfold ptAt xhAt rsAt
  pointwise [k0_pay1, k0_pay11, k0_pay19, k0_pay20, k0_pay21, k0_pay22, k0_pay23, k0_pay24, k0_pay26, k0_pay27]
  split_ifs <;> first | rfl | omega

end

end Cert.Kernel6Ideal.Pieces

end
-- ==== Proof.ProjBlocks.lean ====
module

public import proofs.«01_k».proof.Proof.ProjPieces

@[expose] public section

set_option maxRecDepth 16384

noncomputable section

namespace Cert.Kernel6Ideal.Blocks

open Cert.Kernel6Ideal Cert.Kernel6Ideal.Gen Cert.Kernel6Ideal.Pieces Idealize.ShloMosaic Idealize.ShloMosaic.TcCoe Idealize.SL.Sem
open Cert.Kernel2Ideal.Pieces (canon_unit2 canon_unit3)

variable (m : (ℓ : Loc nD τ sig) → Buf (Elt Ideal) ℓ) (c : Dev nD)

/-- The gradient of the projection's output a grid point puts together. -/
def D (t : Fin cfg0.N) : FVec Ideal S512x2176 .bf16 :=
  dp (iblk m c 3 t) (iblk m c 4 t) (iblk m c 5 t) (iblk m c 6 t) (iblk m c 7 t) (iblk m c 8 t) (iblk m c 9 t)

/-- The gradient of the projection's input at a grid point. -/
def HH (t : Fin cfg0.N) : FVec Ideal S512x1024 .f32 := H (D m c t) (iblk m c 12 t)

/-- The two halves' stores of the rows' gradient, read at a row. -/
theorem halves (X0 X1 : FVec Ideal S512x1024 .f32) (X10 : FVec Ideal S2x8x1024 .f32) (X11 : FVec Ideal S1x1024 .f32) (H : FVec Ideal S512x1024 .f32) (r : Fin 512) (l : Fin 1024) :
    View.canon (Val := Elt Ideal) (s := S512x1024) (e := .f32) [⟨Rect.unit ![256, 0] ![256, 1024] inb_S512x1024_S256x1024_256_0, k0_pay25 (F := Ideal) H (k0_pay11 X11) (View.ld (Val := Elt Ideal) (S := S512x1024) (e' := .f32) X1 (Rect.unit (s := S512x1024) ![256, 0] ![256, 1024] inb_S512x1024_S256x1024_256_0)) (View.ld (Val := Elt Ideal) (S := S2x8x1024) (e' := .f32) X10 (Rect.unit (s := S2x8x1024) ![1, 1, 0] ![1, 1, 1024] inb_S2x8x1024_S1x1x1024_1_1_0)) (View.ld (Val := Elt Ideal) (S := S512x1024) (e' := .f32) X0 (Rect.unit (s := S512x1024) ![256, 0] ![256, 1024] inb_S512x1024_S256x1024_256_0))⟩, ⟨Rect.unit ![0, 0] ![256, 1024] inb_S512x1024_S256x1024_0_0, k0_pay17 (F := Ideal) H (k0_pay11 X11) (k0_pay13 (View.ld (Val := Elt Ideal) (S := S512x1024) (e' := .f32) X1 (Rect.unit (s := S512x1024) ![0, 0] ![256, 1024] inb_S512x1024_S256x1024_0_0))) (k0_pay14 (View.ld (Val := Elt Ideal) (S := S512x1024) (e' := .f32) X1 (Rect.unit (s := S512x1024) ![0, 0] ![256, 1024] inb_S512x1024_S256x1024_0_0))) (View.ld (Val := Elt Ideal) (S := S2x8x1024) (e' := .f32) X10 (Rect.unit (s := S2x8x1024) ![0, 1, 0] ![1, 1, 1024] inb_S2x8x1024_S1x1x1024_0_1_0)) (View.ld (Val := Elt Ideal) (S := S512x1024) (e' := .f32) X0 (Rect.unit (s := S512x1024) ![0, 0] ![256, 1024] inb_S512x1024_S256x1024_0_0))⟩] (ix2 r l)
      = dxAt X0 X1 X10 X11 H r l := by
  erw [canon_unit2, canon_unit2]
  by_cases h : 256 ≤ (r : ℕ)
  · rw [dif_pos (by omega)]
    refine (dx1 _ _ _ _ _ _ _).trans ?_
    exact congrArg₂ (dxAt _ _ _ _ _) (Fin.ext (by show 256 * 1 + ((r : ℕ) - 256) = r; omega)) (Fin.ext (by show (l : ℕ) - 0 = l; omega))
  · rw [dif_neg (by omega), dif_pos (by omega)]
    refine (dx0 _ _ _ _ _ _ _).trans ?_
    exact congrArg₂ (dxAt _ _ _ _ _) (Fin.ext (by show 256 * 0 + ((r : ℕ) - 0) = r; omega)) (Fin.ext (by show (l : ℕ) - 0 = l; omega))

/-- The two halves' stores of the sums, read at a half and a row. -/
theorem sums (X1 : FVec Ideal S512x1024 .f32) (X10 : FVec Ideal S2x8x1024 .f32) (X11 : FVec Ideal S1x1024 .f32) (H : FVec Ideal S512x1024 .f32) (s : Fin 2) (k : Fin 8) (l : Fin 1024) :
    View.canon (Val := Elt Ideal) (s := S2x8x1024) (e := .f32) [⟨Rect.unit ![1, 0, 0] ![1, 8, 1024] inb_S2x8x1024_S1x8x1024_1_0_0, k0_pay1 (F := Ideal) (k0_pay24 H (View.ld (Val := Elt Ideal) (S := S512x1024) (e' := .f32) X1 (Rect.unit (s := S512x1024) ![256, 0] ![256, 1024] inb_S512x1024_S256x1024_256_0)) (View.ld (Val := Elt Ideal) (S := S2x8x1024) (e' := .f32) X10 (Rect.unit (s := S2x8x1024) ![1, 1, 0] ![1, 1, 1024] inb_S2x8x1024_S1x1x1024_1_1_0))) (k0_pay26 H) (k0_pay27 H (k0_pay11 X11) (View.ld (Val := Elt Ideal) (S := S512x1024) (e' := .f32) X1 (Rect.unit (s := S512x1024) ![256, 0] ![256, 1024] inb_S512x1024_S256x1024_256_0)))⟩, ⟨Rect.unit ![0, 0, 0] ![1, 8, 1024] inb_S2x8x1024_S1x8x1024_0_0_0, k0_pay18 (F := Ideal) H (k0_pay11 X11) (k0_pay14 (View.ld (Val := Elt Ideal) (S := S512x1024) (e' := .f32) X1 (Rect.unit (s := S512x1024) ![0, 0] ![256, 1024] inb_S512x1024_S256x1024_0_0))) (View.ld (Val := Elt Ideal) (S := S2x8x1024) (e' := .f32) X10 (Rect.unit (s := S2x8x1024) ![0, 1, 0] ![1, 1, 1024] inb_S2x8x1024_S1x1x1024_0_1_0))⟩] (ix3 s k l)
      = ptAt X1 X10 X11 H s k l := by
  erw [canon_unit3, canon_unit3]
  by_cases h : (s : ℕ) = 1
  · rw [if_pos h]
    obtain rfl : s = 1 := Fin.ext h
    exact pt1 _ _ _ _ _ _
  · rw [if_neg h, if_pos (by omega)]
    obtain rfl : s = 0 := Fin.ext (by show (s : ℕ) = 0; omega)
    exact pt0 _ _ _ _ _ _

/-- A grid point's block of the rows' gradient. -/
theorem b13 (t : Fin cfg0.N) (r : Fin 512) (l : Fin 1024) :
    (outsAt0 m c t.val t.isLt).1 (ix2 r l) = dxAt (iblk m c 0 t) (iblk m c 1 t) (iblk m c 10 t) (iblk m c 11 t) (HH m c t) r l := by
  by_cases h0 : t.val % 17 = 0
  · rw [outsAt0_A m c t h0]
    frame_out
    clear h0
    simp only [View.readCov_cons_toLoadRect, dp_read, pay10]
    exact halves _ _ _ _ _ _ _
  · rw [outsAt0_B m c t h0]
    frame_out
    clear h0
    simp only [View.readCov_cons_toLoadRect, dp_read, pay10]
    exact halves _ _ _ _ _ _ _

/-- A grid point's sums over its halves' rows. -/
theorem b15 (t : Fin cfg0.N) (s : Fin 2) (k : Fin 8) (l : Fin 1024) :
    (outsAt0 m c t.val t.isLt).2.2 (ix3 s k l) = ptAt (iblk m c 1 t) (iblk m c 10 t) (iblk m c 11 t) (HH m c t) s k l := by
  by_cases h0 : t.val % 17 = 0
  · rw [outsAt0_A m c t h0]
    frame_out
    clear h0
    simp only [View.readCov_cons_toLoadRect, dp_read, pay10]
    exact sums _ _ _ _ _ _ _
  · rw [outsAt0_B m c t h0]
    frame_out
    clear h0
    simp only [View.readCov_cons_toLoadRect, dp_read, pay10]
    exact sums _ _ _ _ _ _ _

end Cert.Kernel6Ideal.Blocks

end
-- ==== Proof.ProjReads.lean ====
module

public import proofs.«01_k».proof.Proof.ProjEnt
public import proofs.«01_k».proof.Proof.ProjBlocks
public import proofs.«01_k».proof.Proof.Sums

@[expose] public section

set_option maxRecDepth 16384

noncomputable section

namespace Cert.Kernel6Ideal.ProjReads

open Cert.Kernel6Ideal Cert.Kernel6Ideal.Gen Cert.Kernel6Ideal.Pieces Cert.Kernel6Ideal.Blocks Cert.Kernel6Ideal.Rows Idealize.ShloMosaic Idealize.ShloMosaic.TcCoe Idealize.SL.Sem Cert.Proj

/-- The windows' block indices. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0, 0] ∧ win0_11.index t = ![0, 0] ∧ win0_12.index t = ![0, 0] ∧ win0_13.index t = ![t.val, 0] ∧ win0_14.index t = ![0, 0] ∧ win0_15.index t = ![t.val, 0, 0] ∧ t.val < 17 :=
  (by decide +kernel : ∀ t : Fin grid0.N, _)

/-- The row of both batch entries at a row of a grid point's block. -/
abbrev rowR (t : Fin cfg0.N) (r : Fin 512) : Fin 8704 := ⟨512 * t.val + r, by have h : cfg0.N = 17 := N_0; have := t.isLt; omega⟩

/-- A half of a grid point's block. -/
abbrev blkR (t : Fin cfg0.N) (s : Fin 2) : Fin 34 := ⟨2 * t.val + s, by have h : cfg0.N = 17 := N_0; have := t.isLt; omega⟩

/-- Where block 0 sits. -/
theorem emb0 (t : Fin cfg0.N) (r : Fin 512) (l : Fin 1024) : ((cfg0.win 0).blk t).view.emb (ix2 r l) = ix2 (rowR t r) l := by
  have hN : cfg0.N = 17 := N_0
  have ht := t.isLt
  blk_ext [idx t]

/-- Where block 1 sits. -/
theorem emb1 (t : Fin cfg0.N) (r : Fin 512) (l : Fin 1024) : ((cfg0.win 1).blk t).view.emb (ix2 r l) = ix2 (rowR t r) l := by
  have hN : cfg0.N = 17 := N_0
  have ht := t.isLt
  blk_ext [idx t]

/-- Where block 2 sits. -/
theorem emb2 (t : Fin cfg0.N) (r : Fin 512) (l : Fin 1024) : ((cfg0.win 2).blk t).view.emb (ix2 r l) = ix2 (rowR t r) l := by
  have hN : cfg0.N = 17 := N_0
  have ht := t.isLt
  blk_ext [idx t]

/-- Where block 3 sits. -/
theorem emb3 (t : Fin cfg0.N) (r : Fin 512) (l : Fin 384) : ((cfg0.win 3).blk t).view.emb (ix2 r l) = ix2 (rowR t r) l := by
  have hN : cfg0.N = 17 := N_0
  have ht := t.isLt
  blk_ext [idx t]

/-- Where block 4 sits. -/
theorem emb4 (t : Fin cfg0.N) (r : Fin 512) (l : Fin 896) : ((cfg0.win 4).blk t).view.emb (ix2 r l) = ix2 (rowR t r) l := by
  have hN : cfg0.N = 17 := N_0
  have ht := t.isLt
  blk_ext [idx t]

/-- Where block 5 sits. -/
theorem emb5 (t : Fin cfg0.N) (r : Fin 512) (l : Fin 256) : ((cfg0.win 5).blk t).view.emb (ix2 r l) = ix2 (rowR t r) l := by
  have hN : cfg0.N = 17 := N_0
  have ht := t.isLt
  blk_ext [idx t]

/-- Where block 6 sits. -/
theorem emb6 (t : Fin cfg0.N) (r : Fin 512) (l : Fin 256) : ((cfg0.win 6).blk t).view.emb (ix2 r l) = ix2 (rowR t r) l := by
  have hN : cfg0.N = 17 := N_0
  have ht := t.isLt
  blk_ext [idx t]

/-- Where block 7 sits. -/
theorem emb7 (t : Fin cfg0.N) (r : Fin 512) (l : Fin 256) : ((cfg0.win 7).blk t).view.emb (ix2 r l) = ix2 (rowR t r) l := by
  have hN : cfg0.N = 17 := N_0
  have ht := t.isLt
  blk_ext [idx t]

/-- Where block 8 sits. -/
theorem emb8 (t : Fin cfg0.N) (r : Fin 512) (l : Fin 128) : ((cfg0.win 8).blk t).view.emb (ix2 r l) = ix2 (rowR t r) l := by
  have hN : cfg0.N = 17 := N_0
  have ht := t.isLt
  blk_ext [idx t]

/-- Where block 9 sits. -/
theorem emb9 (t : Fin cfg0.N) (r : Fin 512) (l : Fin 128) : ((cfg0.win 9).blk t).view.emb (ix2 r l) = ix2 (rowR t r) l := by
  have hN : cfg0.N = 17 := N_0
  have ht := t.isLt
  blk_ext [idx t]

/-- Where block 13 sits. -/
theorem emb13 (t : Fin cfg0.N) (r : Fin 512) (l : Fin 1024) : ((cfg0.win 13).blk t).view.emb (ix2 r l) = ix2 (rowR t r) l := by
  have hN : cfg0.N = 17 := N_0
  have ht := t.isLt
  blk_ext [idx t]

/-- Where block 10 sits. -/
theorem emb10 (t : Fin cfg0.N) (s : Fin 2) (j : Fin 8) (l : Fin 1024) : ((cfg0.win 10).blk t).view.emb (ix3 s j l) = ix3 (blkR t s) j l := by
  have hN : cfg0.N = 17 := N_0
  have ht := t.isLt
  blk_ext [idx t]

/-- Where block 15 sits. -/
theorem emb15 (t : Fin cfg0.N) (s : Fin 2) (j : Fin 8) (l : Fin 1024) : ((cfg0.win 15).blk t).view.emb (ix3 s j l) = ix3 (blkR t s) j l := by
  have hN : cfg0.N = 17 := N_0
  have ht := t.isLt
  blk_ext [idx t]

/-- Where block 11 sits. -/
theorem emb11 (t : Fin cfg0.N) (r : Fin 1) (l : Fin 1024) : ((cfg0.win 11).blk t).view.emb (ix2 r l) = ix2 r l := by
  have hN : cfg0.N = 17 := N_0
  have ht := t.isLt
  blk_ext [idx t]

/-- Where block 12 sits. -/
theorem emb12 (t : Fin cfg0.N) (r : Fin 1024) (l : Fin 2176) : ((cfg0.win 12).blk t).view.emb (ix2 r l) = ix2 r l := by
  have hN : cfg0.N = 17 := N_0
  have ht := t.isLt
  blk_ext [idx t]

/-- Where block 14 sits. -/
theorem emb14 (t : Fin cfg0.N) (r : Fin 1024) (l : Fin 2176) : ((cfg0.win 14).blk t).view.emb (ix2 r l) = ix2 r l := by
  have hN : cfg0.N = 17 := N_0
  have ht := t.isLt
  blk_ext [idx t]

variable (m : (ℓ : Loc nD τ sig) → Buf (Elt Ideal) ℓ) (c : Dev nD)

/-- The arguments on a device. -/
def inOf : In := args (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11))

variable (t : Fin cfg0.N)

/-- A block of the gradient past the projection. -/
theorem rd0 (r : Fin 512) (l : Fin 1024) : (show FVec Ideal S512x1024 .f32 from iblk m c 0 t) (ix2 r l) = (inOf m c).d (rB (rowR t r)) (rT (rowR t r)) l := by
  show V m c main_v44 (((cfg0.win 0).blk t).view.emb (ix2 r l)) = _
  rw [emb0, ent0]
  exact flat_at _ _ _

/-- A block of rows. -/
theorem rd1 (r : Fin 512) (l : Fin 1024) : (show FVec Ideal S512x1024 .f32 from iblk m c 1 t) (ix2 r l) = (inOf m c).x (rB (rowR t r)) (rT (rowR t r)) l := by
  show V m c main_v45 (((cfg0.win 1).blk t).view.emb (ix2 r l)) = _
  rw [emb1, ent1]
  exact flat_at _ _ _

/-- A block of the projection's input. -/
theorem rd2 (r : Fin 512) (l : Fin 1024) : (show FVec Ideal S512x1024 .bf16 from iblk m c 2 t) (ix2 r l) = inp (inOf m c) (rB (rowR t r)) (rT (rowR t r)) l := by
  show V m c main_v29 (((cfg0.win 2).blk t).view.emb (ix2 r l)) = _
  rw [emb2, ent2]
  exact (flatB_at _ _ _).trans (hin_at _ _ _ _ _ _ _ _ _ _ _ _ _ _ _)

/-- A block of a piece of the gradient of the projection's output. -/
theorem rd3 (r : Fin 512) (l : Fin 384) : (show FVec Ideal S512x384 .bf16 from iblk m c 3 t) (ix2 r l) = (show FVec Ideal S2x4352x384 .f32 from m (c, Proc.tc.devRef main_arg5)) (ix3 (rB (rowR t r)) (rT (rowR t r)) l) := by
  show V m c main_v31 (((cfg0.win 3).blk t).view.emb (ix2 r l)) = _
  rw [emb3, ent3]
  exact flat384_at _ _ _

/-- A block of a piece of the gradient of the projection's output. -/
theorem rd4 (r : Fin 512) (l : Fin 896) : (show FVec Ideal S512x896 .bf16 from iblk m c 4 t) (ix2 r l) = (show FVec Ideal S2x4352x896 .f32 from m (c, Proc.tc.devRef main_arg6)) (ix3 (rB (rowR t r)) (rT (rowR t r)) l) := by
  show V m c main_v33 (((cfg0.win 4).blk t).view.emb (ix2 r l)) = _
  rw [emb4, ent4]
  exact flat896_at _ _ _

/-- A block of a piece of the gradient of the projection's output. -/
theorem rd5 (r : Fin 512) (l : Fin 256) : (show FVec Ideal S512x256 .bf16 from iblk m c 5 t) (ix2 r l) = (show FVec Ideal S2x4352x256 .f32 from m (c, Proc.tc.devRef main_arg7)) (ix3 (rB (rowR t r)) (rT (rowR t r)) l) := by
  show V m c main_v35 (((cfg0.win 5).blk t).view.emb (ix2 r l)) = _
  rw [emb5, ent5]
  exact flat256_at _ _ _

/-- A block of a piece of the gradient of the projection's output. -/
theorem rd6 (r : Fin 512) (l : Fin 256) : (show FVec Ideal S512x256 .bf16 from iblk m c 6 t) (ix2 r l) = (show FVec Ideal S2x4352x256 .f32 from m (c, Proc.tc.devRef main_arg8)) (ix3 (rB (rowR t r)) (rT (rowR t r)) l) := by
  show V m c main_v37 (((cfg0.win 6).blk t).view.emb (ix2 r l)) = _
  rw [emb6, ent6]
  exact flat256_at _ _ _

/-- A block of a piece of the gradient of the projection's output. -/
theorem rd7 (r : Fin 512) (l : Fin 256) : (show FVec Ideal S512x256 .bf16 from iblk m c 7 t) (ix2 r l) = (show FVec Ideal S2x4352x256 .f32 from m (c, Proc.tc.devRef main_arg9)) (ix3 (rB (rowR t r)) (rT (rowR t r)) l) := by
  show V m c main_v39 (((cfg0.win 7).blk t).view.emb (ix2 r l)) = _
  rw [emb7, ent7]
  exact flat256_at _ _ _

/-- A block of a piece of the gradient of the projection's output. -/
theorem rd8 (r : Fin 512) (l : Fin 128) : (show FVec Ideal S512x128 .bf16 from iblk m c 8 t) (ix2 r l) = (show FVec Ideal S2x4352x128 .f32 from m (c, Proc.tc.devRef main_arg10)) (ix3 (rB (rowR t r)) (rT (rowR t r)) l) := by
  show V m c main_v41 (((cfg0.win 8).blk t).view.emb (ix2 r l)) = _
  rw [emb8, ent8]
  exact flat128_at _ _ _

/-- A block of a piece of the gradient of the projection's output. -/
theorem rd9 (r : Fin 512) (l : Fin 128) : (show FVec Ideal S512x128 .bf16 from iblk m c 9 t) (ix2 r l) = (show FVec Ideal S2x4352x128 .f32 from m (c, Proc.tc.devRef main_arg11)) (ix3 (rB (rowR t r)) (rT (rowR t r)) l) := by
  show V m c main_v43 (((cfg0.win 9).blk t).view.emb (ix2 r l)) = _
  rw [emb9, ent9]
  exact flat128_at _ _ _

/-- A block's modulations. -/
theorem rd10 (s : Fin 2) (j : Fin 6) (l : Fin 1024) (r : Fin 256) : (show FVec Ideal S2x8x1024 .f32 from iblk m c 10 t) (ix3 s ⟨j, by omega⟩ l) = md (inOf m c) j (bB (blkR t s)) (bT (blkR t s) r) l := by
  show V m c main_v53 (((cfg0.win 10).blk t).view.emb (ix3 s ⟨j, by omega⟩ l)) = _
  rw [emb10, ent10]
  exact mods_at _ _ _ _ _ _ _ _ _ _ _ _ _ _ _ _

/-- The weight. -/
theorem rd11 (l : Fin 1024) : (show FVec Ideal S1x1024 .f32 from iblk m c 11 t) (ix2 0 l) = (inOf m c).w l := by
  show V m c main_v54 (((cfg0.win 11).blk t).view.emb (ix2 0 l)) = _
  rw [emb11, ent11]
  exact wR_at _ _

/-- The matrix. -/
theorem rd12 (l : Fin 1024) (n : Fin 2176) : (show FVec Ideal S1024x2176 .bf16 from iblk m c 12 t) (ix2 l n) = (inOf m c).W l n := by
  show V m c main_v55 (((cfg0.win 12).blk t).view.emb (ix2 l n)) = _
  rw [emb12, ent12]
  rfl

end Cert.Kernel6Ideal.ProjReads

end
-- ==== Proof.ProjVals.lean ====
module

public import proofs.«01_k».proof.Proof.ProjReads

@[expose] public section

set_option maxRecDepth 16384

noncomputable section

namespace Cert.Kernel6Ideal.ProjVals

open Cert.Kernel6Ideal Cert.Kernel6Ideal.Gen Cert.Kernel6Ideal.Pieces Cert.Kernel6Ideal.Blocks Cert.Kernel6Ideal.Rows Cert.Kernel6Ideal.ProjReads Idealize.ShloMosaic Idealize.ShloMosaic.TcCoe Idealize.SL.Sem Cert.Proj

variable (m : (ℓ : Loc nD τ sig) → Buf (Elt Ideal) ℓ) (c : Dev nD) (t : Fin cfg0.N)

/-- The batch entry of a row of a grid point's block. -/
abbrev bt (r : Fin 512) : Fin 2 := rB (rowR t r)

/-- The token of a row of a grid point's block. -/
abbrev tt (r : Fin 512) : Fin 4352 := rT (rowR t r)

/-- A row's half of its block has its batch entry. -/
theorem eB (s : Fin 2) (r : Fin 256) : bt t ⟨256 * s + r, by omega⟩ = bB (blkR t s) := by
  have hN : cfg0.N = 17 := N_0
  have ht := t.isLt
  exact Fin.ext (by show (512 * t.val + (256 * (s : ℕ) + r)) / 4352 = (2 * t.val + s) / 17; omega)

/-- A row's token, by its half of its block. -/
theorem eT (s : Fin 2) (r : Fin 256) : tt t ⟨256 * s + r, by omega⟩ = bT (blkR t s) r := by
  have hN : cfg0.N = 17 := N_0
  have ht := t.isLt
  exact Fin.ext (by show (512 * t.val + (256 * (s : ℕ) + r)) % 4352 = 256 * ((2 * t.val + s) % 17) + r; omega)

/-- A row's modulation, from its block's. -/
theorem rdM (r : Fin 512) (j : Fin 6) (l : Fin 1024) :
    (show FVec Ideal S2x8x1024 .f32 from iblk m c 10 t) (ix3 ⟨r / 256, by omega⟩ ⟨j, by omega⟩ l) = md (inOf m c) j (bt t r) (tt t r) l := by
  have e : (⟨256 * ((⟨(r : ℕ) / 256, by omega⟩ : Fin 2) : ℕ) + (⟨(r : ℕ) % 256, by omega⟩ : Fin 256), by
      show 256 * ((r : ℕ) / 256) + (r : ℕ) % 256 < 512; omega⟩ : Fin 512) = r := Fin.ext (by show 256 * ((r : ℕ) / 256) + (r : ℕ) % 256 = r; omega)
  have h := rd10 m c t ⟨r / 256, by omega⟩ j l ⟨r % 256, by omega⟩
  rw [← eB t, ← eT t, e] at h
  exact h

/-- Six runs of columns, each by its entries. -/
theorem cat_congr {a a' : Fin 384 → EReal} {b b' : Fin 896 → EReal} {c c' d d' e e' : Fin 256 → EReal} {f f' : Fin 128 → EReal}
    (ha : ∀ k, a k = a' k) (hb : ∀ k, b k = b' k) (hc : ∀ k, c k = c' k) (hd : ∀ k, d k = d' k) (he : ∀ k, e k = e' k) (hf : ∀ k, f k = f' k)
    (n : Fin 2176) : cat a b c d e f n = cat a' b' c' d' e' f' n := by
  obtain rfl := funext ha
  obtain rfl := funext hb
  obtain rfl := funext hc
  obtain rfl := funext hd
  obtain rfl := funext he
  obtain rfl := funext hf
  rfl

/-- A row of the gradient of the projection's output. -/
theorem DV (r : Fin 512) (n : Fin 2176) : D m c t (ix2 r n) = (inOf m c).q (bt t r) (tt t r) n :=
  cat_congr (rd3 m c t r) (rd4 m c t r) (rd5 m c t r) (rd6 m c t r) (rd7 m c t r)
    (fun k => congrArg₂ (· + · : EReal → EReal → EReal) (rd8 m c t r k) (rd9 m c t r k)) n

/-- The gradient of the projection's input. -/
theorem HV (r : Fin 512) (l : Fin 1024) : HH m c t (ix2 r l) = dh (inOf m c) (bt t r) (tt t r) l := by
  have h : ∀ k : Fin 2176, (D m c t (ix2 r k) * (show FVec Ideal S1024x2176 .bf16 from iblk m c 12 t) (ix2 l k) : EReal) = (inOf m c).q (bt t r) (tt t r) k * (inOf m c).W l k :=
    fun k => congrArg₂ (· * · : EReal → EReal → EReal) (DV m c t r k) (rd12 m c t l k)
  unfold HH H dh
  exact Finset.sum_congr rfl fun k _ => h k

/-- A row's reciprocal root of its mean square. -/
theorem rsV (r : Fin 512) : rsAt (iblk m c 1 t) r = rs (inOf m c) (bt t r) (tt t r) := by
  unfold rsAt rs ms
  have h : ∀ k, (show FVec Ideal S512x1024 .f32 from iblk m c 1 t) (ix2 r k) = (inOf m c).x (bt t r) (tt t r) k := fun k => rd1 m c t r k
  exact congrArg (fun f : Fin 1024 → EReal => Ideal.rsqrt (Ideal.div (∑ k, f k * f k) (Ideal.ofBits .f32 0x44800000#32) + Ideal.ofBits .f32 0x358637BD#32)) (funext h)

/-- A normalised row. -/
theorem xhV (r : Fin 512) (l : Fin 1024) : xhAt (iblk m c 1 t) r l = xh (inOf m c) (bt t r) (tt t r) l :=
  congrArg₂ (· * · : EReal → EReal → EReal) (rd1 m c t r l) (rsV m c t r)

/-- The gradient through the scale. -/
theorem scV (r : Fin 512) (l : Fin 1024) : scAt (iblk m c 10 t) (HH m c t) r l = sc (inOf m c) (bt t r) (tt t r) l :=
  congrArg₂ (· * · : EReal → EReal → EReal) (HV m c t r l)
    (congrArg₂ (· + · : EReal → EReal → EReal) Ideal.ofBits_one_f32 (rdM m c t r 1 l))

/-- The gradient through the weight. -/
theorem dnV (r : Fin 512) (l : Fin 1024) : dnAt (iblk m c 10 t) (iblk m c 11 t) (HH m c t) r l = dn (inOf m c) (bt t r) (tt t r) l :=
  congrArg₂ (· * · : EReal → EReal → EReal) (scV m c t r l) (rd11 m c t l)

/-- A block of the rows' gradient. -/
theorem dxV (r : Fin 512) (l : Fin 1024) : dxAt (iblk m c 0 t) (iblk m c 1 t) (iblk m c 10 t) (iblk m c 11 t) (HH m c t) r l = dx (inOf m c) (bt t r) (tt t r) l := by
  unfold dxAt dx
  simp only [rsV, xhV, dnV]
  exact congrArg (· + _ : EReal → EReal) (rd0 m c t r l)

/-- A block of the sums. -/
theorem ptV (s : Fin 2) (k : Fin 8) (l : Fin 1024) :
    ptAt (iblk m c 1 t) (iblk m c 10 t) (iblk m c 11 t) (HH m c t) s k l = part (inOf m c) (blkR t s) k l := by
  have h : ∀ r : Fin 256, HH m c t (ix2 ⟨256 * s + r, by omega⟩ l) = dh (inOf m c) (bB (blkR t s)) (bT (blkR t s) r) l := fun r => by
    rw [HV, eB, eT]
  have hx : ∀ r : Fin 256, xhAt (iblk m c 1 t) ⟨256 * s + r, by omega⟩ l = xh (inOf m c) (bB (blkR t s)) (bT (blkR t s) r) l := fun r => by
    rw [xhV, eB, eT]
  have h5 : (show FVec Ideal S1x1024 .f32 from iblk m c 11 t) (ix2 0 l) = (inOf m c).w l := rd11 m c t l
  have h4 : ∀ r : Fin 256, (show FVec Ideal S2x8x1024 .f32 from iblk m c 10 t) (ix3 s 1 l) = md (inOf m c) 1 (bB (blkR t s)) (bT (blkR t s) r) l := fun r => rd10 m c t s 1 l r
  unfold ptAt part sc
  refine if_congr Iff.rfl (Finset.sum_congr rfl fun r _ => h r) ?_
  refine if_congr Iff.rfl (Finset.sum_congr rfl fun r _ => ?_) ?_
  · exact congrArg₂ (· * · : EReal → EReal → EReal) (congrArg₂ (· * · : EReal → EReal → EReal) (h r) (hx r)) h5
  refine if_congr Iff.rfl (Finset.sum_congr rfl fun r _ => ?_) rfl
  exact congrArg₂ (· * · : EReal → EReal → EReal) (congrArg₂ (· * · : EReal → EReal → EReal) (h r) (congrArg₂ (· + · : EReal → EReal → EReal) Ideal.ofBits_one_f32 (h4 r))) (hx r)

/-- What point `n` adds to the matrix's gradient. -/
def term (n : ℕ) (i : S1024x2176.Idx) : EReal :=
  ∑ r : Fin 512, inp (inOf m c) (rB ⟨512 * (n % 17) + r, by omega⟩) (rT ⟨512 * (n % 17) + r, by omega⟩) (show Fin 1024 from i 0)
    * (inOf m c).q (rB ⟨512 * (n % 17) + r, by omega⟩) (rT ⟨512 * (n % 17) + r, by omega⟩) (show Fin 2176 from i 1)

/-- What a point's rows give. -/
theorem termV (p : Fin 1024) (n : Fin 2176) :
    (∑ r : Fin 512, (show FVec Ideal S512x1024 .bf16 from iblk m c 2 t) (ix2 r p) * D m c t (ix2 r n) : EReal) = term m c t.val (ix2 p n) := by
  refine Finset.sum_congr rfl fun r _ => ?_
  have hN : cfg0.N = 17 := N_0
  have ht := t.isLt
  have e : (⟨512 * (t.val % 17) + r, by omega⟩ : Fin 8704) = rowR t r := Fin.ext (by show 512 * (t.val % 17) + (r : ℕ) = 512 * t.val + r; omega)
  refine congrArg₂ (· * · : EReal → EReal → EReal) ((rd2 m c t r p).trans ?_) ((DV m c t r n).trans ?_)
  · exact (congrArg (fun R : Fin 8704 => inp (inOf m c) (rB R) (rT R) p) e).symm
  · exact (congrArg (fun R : Fin 8704 => (inOf m c).q (rB R) (rT R) n) e).symm

end Cert.Kernel6Ideal.ProjVals

end
-- ==== Proof.ProjFinal.lean ====
module

public import proofs.«01_k».proof.Proof.ProjVals

@[expose] public section

set_option maxRecDepth 16384

noncomputable section

namespace Cert.Kernel6Ideal.ProjFinal

open Cert.Kernel6Ideal Cert.Kernel6Ideal.Gen Cert.Kernel6Ideal.Pieces Cert.Kernel6Ideal.Blocks Cert.Kernel6Ideal.ProjReads Cert.Kernel6Ideal.ProjVals Idealize.ShloMosaic Idealize.ShloMosaic.TcCoe Idealize.SL.Sem Cert.Proj

variable (m : (ℓ : Loc nD τ sig) → Buf (Elt Ideal) ℓ) (c : Dev nD)

/-- Rows as an array. -/
def rows {n : ℕ} {φ : FTy} (f : Fin 2 → Fin 4352 → Fin n → EReal) : FVec Ideal ⟨2, ![8704, n]⟩ φ :=
  fun i => f (rB (show Fin 8704 from i 0)) (rT (show Fin 8704 from i 0)) (show Fin n from i 1)

/-- The matrix's gradient as an array. -/
def mat (f : Fin 1024 → Fin 2176 → EReal) : FVec Ideal S1024x2176 .f32 := fun i => f (show Fin 1024 from i 0) (show Fin 2176 from i 1)

/-- The blocks' sums as an array. -/
def sums (f : Fin 34 → Fin 8 → Fin 1024 → EReal) : FVec Ideal S34x8x1024 .f32 :=
  fun i => f (show Fin 34 from i 0) (show Fin 8 from i 1) (show Fin 1024 from i 2)

/-- The matrix's gradient after a grid point: the sum of what the points up to it add. -/
theorem b14 (t : Fin cfg0.N) (i : S1024x2176.Idx) :
    (outsAt0 m c t.val t.isLt).2.1 i = ((0 : EReal) + ∑ k ∈ Finset.range (t.val + 1), term m c k i : EReal) := by
  refine Pipeline.eq_sum_of_reset_step_apply_single (M := EReal) (fun n h => (outsAt0 m c n h).2.1) 17 (fun _ => (0 : EReal)) (term m c)
    (fun t h j => ?_) (fun t h j => ?_) (by have h : cfg0.N = 17 := N_0; omega) t i
  · obtain ⟨p, n, rfl⟩ : ∃ (p : Fin 1024) (n : Fin 2176), j = ix2 p n := ⟨j 0, j 1, eq_ix2 j⟩
    rw [outsAt0_A m c t h]
    frame_out
    clear h
    simp only [View.readCov_cons_toLoadRect, dp_read]
    refine (pay9_at _ _ _ p n).trans ?_
    exact congrArg₂ (· + · : EReal → EReal → EReal) (pay2_at p n) (termV m c t p n)
  · obtain ⟨p, n, rfl⟩ : ∃ (p : Fin 1024) (n : Fin 2176), j = ix2 p n := ⟨j 0, j 1, eq_ix2 j⟩
    rw [outsAt0_B m c t h]
    frame_out
    clear h
    simp only [View.readCov_cons_toLoadRect, dp_read]
    refine (pay9_at _ _ _ p n).trans ?_
    exact congrArg₂ (· + · : EReal → EReal → EReal) rfl (termV m c t p n)

/-- All the points' terms make the sum over all rows. -/
theorem all (p : Fin 1024) (n : Fin 2176) : ((0 : EReal) + ∑ k ∈ Finset.range 17, term m c k (ix2 p n) : EReal) = dw (inOf m c) p n := by
  unfold dw
  rw [zero_add, Finset.sum_range, Sums.cut 17 512 8704 rfl]
  refine Finset.sum_congr rfl fun s _ => ?_
  have e : (s : ℕ) % 17 = s := by omega
  unfold term
  simp only [e]
  exact Finset.sum_congr rfl fun _ _ => rfl

/-- The kernel's first result is the rows' gradient. -/
theorem final13 : (dats m 0 c).arrAt 13 (cfgs 0).N = rows (φ := .f32) (dx (inOf m c)) := by
  refine (dats m 0 c).arrAt_eq_of_covers 13 _ (by decide +kernel) fun t hf y => ?_
  blk_simp
  rw [after0_13]
  idx_vars y
  rw [emb13 t]
  exact (b13 m c t _ _).trans (dxV m c t _ _)

/-- The kernel's second result is the matrix's gradient. -/
theorem final14 : (dats m 0 c).arrAt 14 (cfgs 0).N = mat (dw (inOf m c)) := by
  refine (dats m 0 c).arrAt_eq_of_covers 14 _ (by decide +kernel) fun t hf y => ?_
  have hN : cfg0.N = 17 := N_0
  have h16 : t.val = 16 := by have := (flush0_14 t).mp hf; have := t.isLt; omega
  blk_simp
  rw [after0_14]
  idx_vars y
  rw [emb14 t]
  refine (b14 m c t _).trans ?_
  rw [h16]
  exact all m c _ _

/-- The kernel's third result is the blocks' sums. -/
theorem final15 : (dats m 0 c).arrAt 15 (cfgs 0).N = sums (part (inOf m c)) := by
  refine (dats m 0 c).arrAt_eq_of_covers 15 _ (by decide +kernel) fun t hf y => ?_
  blk_simp
  rw [after0_15]
  idx_vars y
  rw [emb15 t]
  exact (b15 m c t _ _ _).trans (ptV m c t _ _ _)

end Cert.Kernel6Ideal.ProjFinal

end
-- ==== Proof.ProjRef.lean ====
module

public import proofs.«01_k».proof.Proof.Gen.Reference6Ideal.Run
public import proofs.«01_k».proof.Proof.ProjMath
public import proofs.«01_k».proof.Proof.WRef

@[expose] public section

set_option maxRecDepth 16384

noncomputable section

namespace Cert.Reference6Ideal.Rows

open Cert.Reference6Ideal Cert.Reference6Ideal.Gen Idealize.ShloMosaic Idealize.ShloMosaic.TcCoe Idealize.SL.Sem Cert.Proj

variable (A0 : FVec Ideal S2x4352x1024 .f32) (A1 : FVec Ideal S3x6x1024 .f32) (A2 : FVec Ideal S1024 .f32)
  (A3 : FVec Ideal S1024x2176 .f32) (A4 : FVec Ideal S2x4352x1024 .f32) (Q : FVec Ideal S2x4352x2176 .f32)

/-- The arguments, by their indices. -/
def args : In where
  x b t l := A0 (ix3 b t l)
  d b t l := A4 (ix3 b t l)
  m b j l := A1 (ix3 b j l)
  w l := A2 (ix1 l)
  W l n := A3 (ix2 l n)
  q b t n := Q (ix3 b t n)

/-- The tokens' modulations. -/
def byRow : FVec Ideal S2x4352x6x1024 .f32 := concatenate S2x4352x6x1024 1 [⟨S2x256x6x1024, (broadcastInDim S2x256x6x1024 ![2, 3] bcast_S6x1024_S2x256x6x1024_2_3 (shapeCast _ (extractStridedSlice S1x6x1024 ![2, 0, 0] A1 slices_S3x6x1024_S1x6x1024_2_0_0) shapeCasts_S1x6x1024_S6x1024))⟩, ⟨S2x4096x6x1024, (broadcastInDim S2x4096x6x1024 ![0, 1, 2, 3] bcast_S2x1x6x1024_S2x4096x6x1024_0_1_2_3 (broadcastInDim S2x1x6x1024 ![0, 2, 3] bcast_S2x6x1024_S2x1x6x1024_0_2_3 (extractStridedSlice S2x6x1024 ![0, 0, 0] A1 slices_S3x6x1024_S2x6x1024_0_0_0)))⟩] concatenates_S2x256x6x1024_S2x4096x6x1024_S2x4352x6x1024_d1
/-- The shift. -/
def shift : FVec Ideal S2x4352x1024 .f32 := shapeCast _ (extractStridedSlice S2x4352x1x1024 ![0, 0, 0, 0] (byRow A1) slices_S2x4352x6x1024_S2x4352x1x1024_0_0_0_0) shapeCasts_S2x4352x1x1024_S2x4352x1024
/-- The scale. -/
def scl : FVec Ideal S2x4352x1024 .f32 := shapeCast _ (extractStridedSlice S2x4352x1x1024 ![0, 0, 1, 0] (byRow A1) slices_S2x4352x6x1024_S2x4352x1x1024_0_0_1_0) shapeCasts_S2x4352x1x1024_S2x4352x1024
/-- One and the scale. -/
def scale1 : FVec Ideal S2x4352x1024 .f32 := addf (broadcastInDim S2x4352x1024 ![] bcast_S_S2x4352x1024 (constant S_ .f32 0x3F800000#32)) (scl A1)
/-- The rows' mean squares. -/
def msq : FVec Ideal S2x4352x1 .f32 := addf (Host.divf (broadcastInDim S2x4352x1 ![0, 1] bcast_S2x4352_S2x4352x1_0_1 (Host.reduceAdd (mulf A0 A0) (constant S_ .f32 0x00000000#32) reducesTo_S2x4352x1024_S2x4352_d2 h_S_)) (broadcastInDim S2x4352x1 ![] bcast_S_S2x4352x1 (constant S_ .f32 0x44800000#32))) (broadcastInDim S2x4352x1 ![] bcast_S_S2x4352x1 (constant S_ .f32 0x358637BD#32))
/-- Their reciprocal roots. -/
def rsq : FVec Ideal S2x4352x1 .f32 := Host.rsqrt (msq A0)
/-- The normalised rows. -/
def nrm : FVec Ideal S2x4352x1024 .f32 := mulf A0 (broadcastInDim S2x4352x1024 ![0, 1, 2] bcast_S2x4352x1_S2x4352x1024_0_1_2 (rsq A0))
/-- … with the weight. -/
def nrmW : FVec Ideal S2x4352x1024 .f32 := mulf (nrm A0) (broadcastInDim S2x4352x1024 ![2] bcast_S1024_S2x4352x1024_2 A2)
/-- The layer's input. -/
def hin : FVec Ideal S2x4352x1024 .f32 := addf (mulf (nrmW A0 A2) (scale1 A1)) (shift A1)
/-- The gradient of the layer's input. -/
def gin : FVec Ideal S2x4352x1024 .f32 := Host.dotGeneral dot_S2x4352x2176_S1024x2176_S2x4352x1024_2_1_01_0_n_n none Q A3
/-- … through the scale. -/
def gsc : FVec Ideal S2x4352x1024 .f32 := mulf (gin A3 Q) (scale1 A1)
/-- … through the weight. -/
def gnw : FVec Ideal S2x4352x1024 .f32 := mulf (gsc A1 A3 Q) (broadcastInDim S2x4352x1024 ![2] bcast_S1024_S2x4352x1024_2 A2)
/-- What the mean square's gradient gives a row. -/
def gms : FVec Ideal S2x4352x1024 .f32 := broadcastInDim S2x4352x1024 ![0, 1] bcast_S2x4352_S2x4352x1024_0_1 (Host.reduceAdd (Host.divf (mulf (shapeCast _ (Host.reduceAdd (mulf A0 (gnw A1 A2 A3 Q)) (constant S_ .f32 0x00000000#32) reducesTo_S2x4352x1024_S2x4352_d2 h_S_) shapeCasts_S2x4352_S2x4352x1) (mulf (broadcastInDim S2x4352x1 ![] bcast_S_S2x4352x1 (constant S_ .f32 0xBF000000#32)) (Host.divf (rsq A0) (msq A0)))) (broadcastInDim S2x4352x1 ![] bcast_S_S2x4352x1 (constant S_ .f32 0x44800000#32))) (constant S_ .f32 0x00000000#32) reducesTo_S2x4352x1_S2x4352_d2 h_S_)
/-- The rows' gradient. -/
def grow : FVec Ideal S8704x1024 .f32 := shapeCast _ (addf A4 (addf (addf (mulf (gnw A1 A2 A3 Q) (broadcastInDim S2x4352x1024 ![0, 1, 2] bcast_S2x4352x1_S2x4352x1024_0_1_2 (rsq A0))) (mulf A0 (gms A0 A1 A2 A3 Q))) (mulf (gms A0 A1 A2 A3 Q) A0))) shapeCasts_S2x4352x1024_S8704x1024
/-- Sums over blocks of 256 rows. -/
def bsum (v : FVec Ideal S2x4352x1024 .f32) : FVec Ideal S34x1x1024 .f32 := broadcastInDim S34x1x1024 ![0, 2] bcast_S34x1024_S34x1x1024_0_2 (Host.reduceAdd (shapeCast S34x256x1024 v shapeCasts_S2x4352x1024_S34x256x1024) (constant S_ .f32 0x00000000#32) reducesTo_S34x256x1024_S34x1024_d1 h_S_)
/-- Three of them and five rows of zeros. -/
def cat3 (a b c : FVec Ideal S34x1x1024 .f32) : FVec Ideal S34x8x1024 .f32 := pad S34x8x1024 ![0, 0, 0] ![0, 5, 0] ![0, 0, 0] (concatenate S34x3x1024 1 [⟨S34x1x1024, a⟩, ⟨S34x1x1024, b⟩, ⟨S34x1x1024, c⟩] concatenates_S34x1x1024_S34x1x1024_S34x1x1024_S34x3x1024_d1) (sitofp .f32 (constantI S_ 32 0#32)) pads_S34x3x1024_S34x8x1024_000_050_000 h_S_
/-- The sums. -/
def parts : FVec Ideal S34x8x1024 .f32 := cat3 (bsum (gin A3 Q)) (bsum (mulf (nrmW A0 A2) (gin A3 Q))) (bsum (mulf (nrm A0) (gsc A1 A3 Q)))
/-- The pieces of the gradient of the projection's output, side by side. -/
def catQ (A5 : FVec Ideal S2x4352x384 .f32) (A6 : FVec Ideal S2x4352x896 .f32) (A7 A8 A9 : FVec Ideal S2x4352x256 .f32) (A : FVec Ideal S2x4352x128 .f32) : FVec Ideal S2x4352x2176 .f32 := concatenate S2x4352x2176 2 [⟨S2x4352x384, A5⟩, ⟨S2x4352x896, A6⟩, ⟨S2x4352x256, A7⟩, ⟨S2x4352x256, A8⟩, ⟨S2x4352x256, A9⟩, ⟨S2x4352x128, A⟩] concatenates_S2x4352x384_S2x4352x896_S2x4352x256_S2x4352x256_S2x4352x256_S2x4352x128_S2x4352x2176_d2
/-- The matrix's gradient. -/
def gW : FVec Ideal S1024x2176 .f32 := transpose S1024x2176 [1, 0] (Host.dotGeneral dot_S2x4352x2176_S2x4352x1024_S2176x1024_01_01_2_2_n_n none Q (hin A0 A1 A2)) transposes_S2176x1024_S1024x2176_1_0

/-- A product of arrays, at an index. -/
theorem mul_at {s : Shape} (a b : FVec Ideal s .f32) (i : s.Idx) : mulf a b i = (a i * b i : EReal) := rfl

/-- A sum of arrays, at an index. -/
theorem add_at {s : Shape} (a b : FVec Ideal s .f32) (i : s.Idx) : addf a b i = (a i + b i : EReal) := rfl

/-- An array of ones. -/
theorem one_at (i : S2x4352x1024.Idx) : broadcastInDim S2x4352x1024 ![] bcast_S_S2x4352x1024 (constant (F := Ideal) S_ .f32 0x3F800000#32) i = (1 : EReal) :=
  Ideal.ofBits_one_f32

/-- A token's modulation. -/
theorem byRow_at (b : Fin 2) (t : Fin 4352) (j : Fin 6) (l : Fin 1024) : byRow A1 (ix4 b t j l) = md (args A0 A1 A2 A3 A4 Q) j b t l := by
  unfold md args
  pointwise [byRow]
  split_ifs <;> rfl

/-- The shift. -/
theorem shift_at (b : Fin 2) (t : Fin 4352) (l : Fin 1024) : shift A1 (ix3 b t l) = md (args A0 A1 A2 A3 A4 Q) 0 b t l := by
  rw [← byRow_at]
  pointwise [shift]

/-- The scale. -/
theorem scl_at (b : Fin 2) (t : Fin 4352) (l : Fin 1024) : scl A1 (ix3 b t l) = md (args A0 A1 A2 A3 A4 Q) 1 b t l := by
  rw [← byRow_at]
  pointwise [scl]

/-- One and the scale. -/
theorem scale1_at (b : Fin 2) (t : Fin 4352) (l : Fin 1024) : scale1 A1 (ix3 b t l) = 1 + md (args A0 A1 A2 A3 A4 Q) 1 b t l := by
  unfold scale1
  refine (add_at _ _ _).trans ?_
  rw [one_at, scl_at A0 A1 A2 A3 A4 Q]

/-- A row's mean square. -/
theorem msq_at (b : Fin 2) (t : Fin 4352) : msq A0 (ix3 b t 0) = ms (args A0 A1 A2 A3 A4 Q) b t := by
  unfold ms
  pointwise [msq, args]

/-- Its reciprocal root. -/
theorem rsq_at (b : Fin 2) (t : Fin 4352) : rsq A0 (ix3 b t 0) = rs (args A0 A1 A2 A3 A4 Q) b t := by
  unfold rs
  rw [← msq_at]
  pointwise [rsq]

/-- A row's reciprocal root, on all its lanes. -/
theorem rsqB_at (b : Fin 2) (t : Fin 4352) (l : Fin 1024) : broadcastInDim S2x4352x1024 ![0, 1, 2] bcast_S2x4352x1_S2x4352x1024_0_1_2 (rsq A0) (ix3 b t l) = rs (args A0 A1 A2 A3 A4 Q) b t := by
  rw [← rsq_at]
  generalize rsq A0 = v
  pointwise []

/-- A normalised row. -/
theorem nrm_at (b : Fin 2) (t : Fin 4352) (l : Fin 1024) : nrm A0 (ix3 b t l) = xh (args A0 A1 A2 A3 A4 Q) b t l := by
  unfold nrm xh
  refine (mul_at _ _ _).trans ?_
  rw [rsqB_at A0 A1 A2 A3 A4 Q]
  rfl

/-- The weight, on all rows. -/
theorem wB_at (b : Fin 2) (t : Fin 4352) (l : Fin 1024) : broadcastInDim S2x4352x1024 ![2] bcast_S1024_S2x4352x1024_2 A2 (ix3 b t l) = (args A0 A1 A2 A3 A4 Q).w l := by
  pointwise [args]

/-- A normalised row with the weight. -/
theorem nrmW_at (b : Fin 2) (t : Fin 4352) (l : Fin 1024) : nrmW A0 A2 (ix3 b t l) = xh (args A0 A1 A2 A3 A4 Q) b t l * (args A0 A1 A2 A3 A4 Q).w l := by
  unfold nrmW
  refine (mul_at _ _ _).trans ?_
  rw [wB_at A0 A1 A2 A3 A4 Q, nrm_at A0 A1 A2 A3 A4 Q]

/-- The layer's input. -/
theorem hin_at (b : Fin 2) (t : Fin 4352) (l : Fin 1024) : hin A0 A1 A2 (ix3 b t l) = inp (args A0 A1 A2 A3 A4 Q) b t l := by
  unfold hin inp
  refine (add_at _ _ _).trans ?_
  rw [mul_at, nrmW_at A0 A1 A2 A3 A4 Q, scale1_at A0 A1 A2 A3 A4 Q, shift_at A0 A1 A2 A3 A4 Q]

/-- A gradient through the first matrix. -/
theorem gw1_at (v : FVec Ideal S2x4352x2176 .f32) (b : Fin 2) (t : Fin 4352) (l : Fin 1024) :
    Host.dotGeneral dot_S2x4352x2176_S1024x2176_S2x4352x1024_2_1_01_0_n_n none v A3 (ix3 b t l) = (∑ n, v (ix3 b t n) * A3 (ix2 l n) : EReal) := by
  pointwise []

/-- A sum of a row. -/
theorem rowsum_at (v : FVec Ideal S2x4352x1024 .f32) (b : Fin 2) (t : Fin 4352) :
    shapeCast S2x4352x1 (Host.reduceAdd v (constant S_ .f32 0x00000000#32) reducesTo_S2x4352x1024_S2x4352_d2 h_S_) shapeCasts_S2x4352_S2x4352x1 (ix3 b t 0) = (∑ k, v (ix3 b t k) : EReal) := by
  pointwise []

/-- A row's number, on all its lanes. -/
theorem colsum_at (v : FVec Ideal S2x4352x1 .f32) (b : Fin 2) (t : Fin 4352) (l : Fin 1024) :
    broadcastInDim S2x4352x1024 ![0, 1] bcast_S2x4352_S2x4352x1024_0_1 (Host.reduceAdd v (constant S_ .f32 0x00000000#32) reducesTo_S2x4352x1_S2x4352_d2 h_S_) (ix3 b t l) = v (ix3 b t 0) := by
  pointwise []
  exact Fin.sum_univ_one _

/-- What the mean square's gradient gives, from the row's sum. -/
theorem gmv_at (v p q : FVec Ideal S2x4352x1 .f32) (b : Fin 2) (t : Fin 4352) :
    Host.divf (mulf v (mulf (broadcastInDim S2x4352x1 ![] bcast_S_S2x4352x1 (constant S_ .f32 0xBF000000#32)) (Host.divf p q))) (broadcastInDim S2x4352x1 ![] bcast_S_S2x4352x1 (constant S_ .f32 0x44800000#32)) (ix3 b t 0)
      = (Ideal.div (v (ix3 b t 0) * (Ideal.ofBits .f32 0xBF000000#32 * Ideal.div (p (ix3 b t 0)) (q (ix3 b t 0)))) (Ideal.ofBits .f32 0x44800000#32) : EReal) := by
  pointwise []

/-- A sum over a block's rows. -/
theorem bsum_at (v : FVec Ideal S2x4352x1024 .f32) (i : Fin 34) (l : Fin 1024) : bsum v (ix3 i 0 l) = (∑ r, v (ix3 (bB i) (bT i r) l) : EReal) := by
  pointwise [bsum]
  refine Finset.sum_congr rfl fun r _ => ?_
  have e : (⟨(i : ℕ) % 17 * 256 + r, by omega⟩ : Fin 4352) = bT i r := Fin.ext (by show (i : ℕ) % 17 * 256 + r = 256 * (i % 17) + r; omega)
  exact congrArg (fun t => v (ix3 (bB i) t l)) e

/-- Three rows of sums and five of zeros. -/
theorem cat3_at (a b c : FVec Ideal S34x1x1024 .f32) (i : Fin 34) (k : Fin 8) (l : Fin 1024) :
    cat3 a b c (ix3 i k l) = (if (k : ℕ) = 0 then a (ix3 i 0 l) else if (k : ℕ) = 1 then b (ix3 i 0 l) else if (k : ℕ) = 2 then c (ix3 i 0 l) else (0 : EReal)) := by
  pointwise [cat3]
  have z : FloatOps.sitofp (F := Ideal) .f32 0#32 = (0 : EReal) := by
    show (((BitVec.toInt (0#32) : ℤ) : ℝ) : EReal) = 0
    simp
  match k with
  | 0 => rfl
  | 1 => rfl
  | 2 => rfl
  | 3 => exact z
  | 4 => exact z
  | 5 => exact z
  | 6 => exact z
  | 7 => exact z

/-- The matrix's gradient, at an index. -/
theorem gW_at (v : FVec Ideal S2x4352x2176 .f32) (u : FVec Ideal S2x4352x1024 .f32) (p : Fin 1024) (n : Fin 2176) :
    transpose S1024x2176 [1, 0] (Host.dotGeneral dot_S2x4352x2176_S2x4352x1024_S2176x1024_01_01_2_2_n_n none v u) transposes_S2176x1024_S1024x2176_1_0 (ix2 p n)
      = (∑ k : Fin 8704, u (ix3 (rB k) (rT k) p) * v (ix3 (rB k) (rT k) n) : EReal) := by
  rw [WRef.rows fun a b => (u (ix3 a b p) * v (ix3 a b n) : EReal)]
  pointwise
  exact Finset.sum_congr rfl fun a _ => Finset.sum_congr rfl fun b _ => mul_comm _ _

/-- The pieces side by side, at an index. -/
theorem catQ_at (A5 : FVec Ideal S2x4352x384 .f32) (A6 : FVec Ideal S2x4352x896 .f32) (A7 A8 A9 : FVec Ideal S2x4352x256 .f32) (A : FVec Ideal S2x4352x128 .f32) (b : Fin 2) (t : Fin 4352) (n : Fin 2176) :
    catQ A5 A6 A7 A8 A9 A (ix3 b t n) = cat (fun k => A5 (ix3 b t k)) (fun k => A6 (ix3 b t k)) (fun k => A7 (ix3 b t k)) (fun k => A8 (ix3 b t k)) (fun k => A9 (ix3 b t k)) (fun k => A (ix3 b t k)) n := by
  unfold cat
  pointwise [catQ]

/-- A batch entry's rows, in one list. -/
theorem flat_at (v : FVec Ideal S2x4352x1024 .f32) (R : Fin 8704) (l : Fin 1024) : shapeCast S8704x1024 v shapeCasts_S2x4352x1024_S8704x1024 (ix2 R l) = v (ix3 (rB R) (rT R) l) := by
  pointwise []

/-- The gradient of the layer's input. -/
theorem gin_at (b : Fin 2) (t : Fin 4352) (l : Fin 1024) : gin A3 Q (ix3 b t l) = dh (args A0 A1 A2 A3 A4 Q) b t l := by
  unfold gin dh
  exact gw1_at _ _ _ _ _

/-- … through the scale. -/
theorem gsc_at (b : Fin 2) (t : Fin 4352) (l : Fin 1024) : gsc A1 A3 Q (ix3 b t l) = sc (args A0 A1 A2 A3 A4 Q) b t l := by
  unfold gsc sc
  refine (mul_at _ _ _).trans ?_
  rw [gin_at A0 A1 A2 A3 A4 Q, scale1_at A0 A1 A2 A3 A4 Q]

/-- … through the weight. -/
theorem gnw_at (b : Fin 2) (t : Fin 4352) (l : Fin 1024) : gnw A1 A2 A3 Q (ix3 b t l) = dn (args A0 A1 A2 A3 A4 Q) b t l := by
  unfold gnw dn
  refine (mul_at _ _ _).trans ?_
  rw [gsc_at A0 A1 A2 A3 A4 Q, wB_at A0 A1 A2 A3 A4 Q]

/-- What the mean square's gradient gives a row. -/
theorem gms_at (b : Fin 2) (t : Fin 4352) (l : Fin 1024) : gms A0 A1 A2 A3 Q (ix3 b t l) = gm (args A0 A1 A2 A3 A4 Q) b t := by
  unfold gms gm
  refine (colsum_at _ _ _ _).trans ?_
  refine (gmv_at _ _ _ _ _).trans ?_
  rw [rowsum_at, rsq_at A0 A1 A2 A3 A4 Q, msq_at A0 A1 A2 A3 A4 Q]
  simp only [mul_at, gnw_at A0 A1 A2 A3 A4 Q]
  rfl

/-- The rows' gradient. -/
theorem grow_at (R : Fin 8704) (l : Fin 1024) : grow A0 A1 A2 A3 A4 Q (ix2 R l) = dxR (args A0 A1 A2 A3 A4 Q) (rB R) (rT R) l := by
  unfold grow dxR
  refine (flat_at _ _ _).trans ?_
  rw [add_at, add_at, add_at, mul_at, mul_at, mul_at, gnw_at A0 A1 A2 A3 A4 Q, gms_at A0 A1 A2 A3 A4 Q, rsqB_at A0 A1 A2 A3 A4 Q]
  rfl

/-- The sums. -/
theorem parts_at (i : Fin 34) (k : Fin 8) (l : Fin 1024) : parts A0 A1 A2 A3 Q (ix3 i k l) = part (args A0 A1 A2 A3 A4 Q) i k l := by
  unfold parts part
  refine (cat3_at _ _ _ _ _ _).trans ?_
  rw [bsum_at, bsum_at, bsum_at]
  simp only [mul_at, gin_at A0 A1 A2 A3 A4 Q, gsc_at A0 A1 A2 A3 A4 Q, nrmW_at A0 A1 A2 A3 A4 Q, nrm_at A0 A1 A2 A3 A4 Q]
  have e1 : ∀ r, xh (args A0 A1 A2 A3 A4 Q) (bB i) (bT i r) l * (args A0 A1 A2 A3 A4 Q).w l * dh (args A0 A1 A2 A3 A4 Q) (bB i) (bT i r) l
      = dh (args A0 A1 A2 A3 A4 Q) (bB i) (bT i r) l * xh (args A0 A1 A2 A3 A4 Q) (bB i) (bT i r) l * (args A0 A1 A2 A3 A4 Q).w l := fun r => by
    rw [mul_comm, mul_assoc]
  have e3 : ∀ r, xh (args A0 A1 A2 A3 A4 Q) (bB i) (bT i r) l * sc (args A0 A1 A2 A3 A4 Q) (bB i) (bT i r) l
      = sc (args A0 A1 A2 A3 A4 Q) (bB i) (bT i r) l * xh (args A0 A1 A2 A3 A4 Q) (bB i) (bT i r) l := fun r => mul_comm _ _
  simp only [e1, e3]

/-- The matrix's gradient. -/
theorem dw_at (p : Fin 1024) (n : Fin 2176) : gW A0 A1 A2 Q (ix2 p n) = dw (args A0 A1 A2 A3 A4 Q) p n := by
  unfold gW dw
  refine (gW_at _ _ _ _).trans ?_
  simp only [hin_at A0 A1 A2 A3 A4 Q]
  rfl

section
variable (m : (ℓ : Loc nD τ sig) → Buf (Elt Ideal) ℓ) (c : Dev nD)

/-- The gradient of the projection's output on a device. -/
def qOf : FVec Ideal S2x4352x2176 .f32 := catQ (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (addf (m ((c.tc : Thread nD τ).loc main_arg10)) (m ((c.tc : Thread nD τ).loc main_arg11)))

/-- The first result is the rows' gradient. -/
theorem res65 : Value.res_main_v65 m c = grow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (qOf m c) := rfl

/-- The third is the sums. -/
theorem res66 : Value.res_main_v66 m c = parts (m ((c.tc : Thread nD τ).loc main_arg0)) (m ((c.tc : Thread nD τ).loc main_arg1)) (m ((c.tc : Thread nD τ).loc main_arg2)) (m ((c.tc : Thread nD τ).loc main_arg3)) (qOf m c) := rfl

end

end Cert.Reference6Ideal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Finite
public import proofs.«01_k».proof.Proof.Grad
public import proofs.«01_k».proof.Proof.RefRows
public import proofs.«01_k».proof.Proof.W1
public import proofs.«01_k».proof.Proof.W2
public import proofs.«01_k».proof.Proof.WRef
public import proofs.«01_k».proof.Proof.MlpFinal
public import proofs.«01_k».proof.Proof.MlpReal
public import proofs.«01_k».proof.Proof.MlpRefRows
public import proofs.«01_k».proof.Proof.FwdFinal
public import proofs.«01_k».proof.Proof.FwdRef
public import proofs.«01_k».proof.Proof.ProjFinal
public import proofs.«01_k».proof.Proof.ProjRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

open Cert.Attn Idealize.ShloMosaic.TcCoe

section
variable (m : (ℓ : Loc Cert.KernelIdeal.nD Cert.KernelIdeal.τ Cert.KernelIdeal.sig) → Buf (Elt Ideal) ℓ) (c : Dev Cert.KernelIdeal.nD)
variable (A0 A1 : FVec Ideal Cert.KernelIdeal.S2x4352x6x96 .f32) (A2 A3 : FVec Ideal Cert.KernelIdeal.S2x4352x6x64 .f32)
variable (e0 : m ((c.tc : Thread Cert.KernelIdeal.nD Cert.KernelIdeal.τ).loc Cert.KernelIdeal.main_arg0) = A0)
variable (e1 : m ((c.tc : Thread Cert.KernelIdeal.nD Cert.KernelIdeal.τ).loc Cert.KernelIdeal.main_arg1) = A1)
variable (e2 : m ((c.tc : Thread Cert.KernelIdeal.nD Cert.KernelIdeal.τ).loc Cert.KernelIdeal.main_arg2) = A2)
variable (e3 : m ((c.tc : Thread Cert.KernelIdeal.nD Cert.KernelIdeal.τ).loc Cert.KernelIdeal.main_arg3) = A3)
variable (hpre : Cert.Pre_finite.fn (F := Ideal) A0 A1 A2 A3 = fun _ => 1#1)
include e0 e1 e2 e3 hpre

/-- The gradient of the queries: the kernel's first array is the reference's first result. -/
theorem same0 : Cert.ReferenceIdeal.Rows.out0 A0 A1 A2 A3 = (Cert.KernelIdeal.Gen.dats m 0 c).arrAt 6 Cert.KernelIdeal.cfg0.N := by
  subst e0 e1 e2 e3
  obtain ⟨h0, h1, h2, h3⟩ := Cert.Pre_finite.reals _ _ _ _ hpre
  refine Eq.trans (funext fun i => ?_) (Cert.KernelIdeal.Grad.final6 m c _ _ _ _ (fun b t h d => h0 _) (fun b t h d => h1 _) (fun b t h d => h2 _) fun b t h d => h3 _).symm
  rw [eq_ix2 i]
  exact Cert.ReferenceIdeal.Rows.out0_at _ _ _ _ _ _ _ _ (fun b t h d => h0 _) (fun b t h d => h1 _) (fun b t h d => h2 _) (fun b t h d => h3 _) _ _

/-- The gradient of the keys: the kernel's second array is the reference's second result. -/
theorem same1 : Cert.ReferenceIdeal.Rows.out1 A0 A1 A2 A3 = (Cert.KernelIdeal.Gen.dats m 0 c).arrAt 7 Cert.KernelIdeal.cfg0.N := by
  subst e0 e1 e2 e3
  obtain ⟨h0, h1, h2, h3⟩ := Cert.Pre_finite.reals _ _ _ _ hpre
  refine Eq.trans (funext fun i => ?_) (Cert.KernelIdeal.Grad.final7 m c _ _ _ _ (fun b t h d => h0 _) (fun b t h d => h1 _) (fun b t h d => h2 _) fun b t h d => h3 _).symm
  rw [eq_ix2 i]
  exact Cert.ReferenceIdeal.Rows.out1_at _ _ _ _ _ _ _ _ (fun b t h d => h0 _) (fun b t h d => h1 _) (fun b t h d => h2 _) (fun b t h d => h3 _) _ _

/-- The gradient of the values: the kernel's third array is the reference's third result. -/
theorem same2 : Cert.ReferenceIdeal.Rows.out2 A0 A1 A3 = (Cert.KernelIdeal.Gen.dats m 0 c).arrAt 8 Cert.KernelIdeal.cfg0.N := by
  subst e0 e1 e2 e3
  obtain ⟨h0, h1, h2, h3⟩ := Cert.Pre_finite.reals _ _ _ _ hpre
  refine Eq.trans (funext fun i => ?_) (Cert.KernelIdeal.Grad.final8 m c _ _ _ (fun b t h d => h0 _) (fun b t h d => h1 _) fun b t h d => h3 _).symm
  rw [eq_ix2 i]
  exact Cert.ReferenceIdeal.Rows.out2_at _ _ _ _ _ _ (fun b t h d => h0 _) (fun b t h d => h1 _) (fun b t h d => h3 _) _ _

end

/-- At the ideal instance the kernel's three arrays and the reference's three results are equal. -/
theorem same : Cert.algebraic_KernelIdeal_ReferenceIdeal_pre_finite := by
  pair_intro
  · run_from Cert.KernelIdeal.Value.run_blocks m g
  · run_from Cert.ReferenceIdeal.Value.run m' g'
    · refine (Cert.ReferenceIdeal.Rows.res0 m' c).trans ?_
      rw [(hagree c).1, (hagree c).2.1, (hagree c).2.2.1, (hagree c).2.2.2]
      exact same0 m c _ _ _ _ rfl rfl rfl rfl (hpre c)
    · refine (Cert.ReferenceIdeal.Rows.res1 m' c).trans ?_
      rw [(hagree c).1, (hagree c).2.1, (hagree c).2.2.1, (hagree c).2.2.2]
      exact same1 m c _ _ _ _ rfl rfl rfl rfl (hpre c)
    · refine (Cert.ReferenceIdeal.Rows.res2 m' c).trans ?_
      rw [(hagree c).1, (hagree c).2.1, (hagree c).2.2.2]
      exact same2 m c _ _ _ _ rfl rfl rfl rfl (hpre c)

/-- The reference runs and leaves its arguments; it declares no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The gradient of the first weight: the kernel's array is the reference's result. -/
theorem same_w1 : Cert.algebraic_Kernel3Ideal_Reference3Ideal := by
  pair_intro
  · run_from Cert.Kernel3Ideal.Value.run m g
  · run_from Cert.Reference3Ideal.Value.run m' g'
    funext i
    obtain ⟨q, p, n, rfl⟩ : ∃ (q : Fin 4) (p n : Fin 1024), i = ix3 q p n := ⟨i 0, i 1, i 2, eq_ix3 i⟩
    exact (Cert.WRef.at3 _ _ q p n).trans (Cert.Kernel3Ideal.W1.final m c q p n).symm

/-- The gradient of the second weight: the kernel's array is the reference's result. -/
theorem same_w2 : Cert.algebraic_Kernel4Ideal_Reference4Ideal := by
  pair_intro
  · run_from Cert.Kernel4Ideal.Value.run m g
  · run_from Cert.Reference4Ideal.Value.run m' g'
    funext i
    obtain ⟨p, n, rfl⟩ : ∃ (p : Fin 4096) (n : Fin 1024), i = ix2 p n := ⟨i 0, i 1, eq_ix2 i⟩
    exact (Cert.WRef.at4 _ _ p n).trans (Cert.Kernel4Ideal.W2.final m c p n).symm

section
variable (m : (ℓ : Loc Cert.Kernel2Ideal.nD Cert.Kernel2Ideal.τ Cert.Kernel2Ideal.sig) → Buf (Elt Ideal) ℓ) (c : Dev Cert.Kernel2Ideal.nD)
variable (A0 A5 : FVec Ideal Cert.Kernel2Ideal.S2x4352x1024 .f32) (A1 : FVec Ideal Cert.Kernel2Ideal.S3x6x1024 .f32) (A2 : FVec Ideal Cert.Kernel2Ideal.S1024 .f32)
variable (A3 : FVec Ideal Cert.Kernel2Ideal.S1024x4096 .f32) (A4 : FVec Ideal Cert.Kernel2Ideal.S4096x1024 .f32)
variable (e0 : m ((c.tc : Thread Cert.Kernel2Ideal.nD Cert.Kernel2Ideal.τ).loc Cert.Kernel2Ideal.main_arg0) = A0)
variable (e1 : m ((c.tc : Thread Cert.Kernel2Ideal.nD Cert.Kernel2Ideal.τ).loc Cert.Kernel2Ideal.main_arg1) = A1)
variable (e2 : m ((c.tc : Thread Cert.Kernel2Ideal.nD Cert.Kernel2Ideal.τ).loc Cert.Kernel2Ideal.main_arg2) = A2)
variable (e3 : m ((c.tc : Thread Cert.Kernel2Ideal.nD Cert.Kernel2Ideal.τ).loc Cert.Kernel2Ideal.main_arg3) = A3)
variable (e4 : m ((c.tc : Thread Cert.Kernel2Ideal.nD Cert.Kernel2Ideal.τ).loc Cert.Kernel2Ideal.main_arg4) = A4)
variable (e5 : m ((c.tc : Thread Cert.Kernel2Ideal.nD Cert.Kernel2Ideal.τ).loc Cert.Kernel2Ideal.main_arg5) = A5)
include e0 e1 e2 e3 e4 e5

/-- The rows' gradient: the kernel's first array is the reference's first result. -/
theorem mlp0 : Cert.Reference2Ideal.Rows.grow A0 A1 A2 A3 A4 A5 = (Cert.Kernel2Ideal.Gen.dats m 0 c).arrAt 8 Cert.Kernel2Ideal.cfg0.N := by
  subst e0 e1 e2 e3 e4 e5
  refine Eq.trans (funext fun i => ?_) (Cert.Kernel2Ideal.MlpFinal.final8 m c).symm
  obtain ⟨R, l, rfl⟩ : ∃ (R : Fin 8704) (l : Fin 1024), i = ix2 R l := ⟨i 0, i 1, eq_ix2 i⟩
  exact (Cert.Reference2Ideal.Rows.grow_at _ _ _ _ _ _ R l).trans (Cert.Mlp.dx_eq _ _ _ _).symm

/-- The hidden layer's gradient: the kernel's second array is the reference's second result. -/
theorem mlp1 : Cert.Reference2Ideal.Rows.ghidB A0 A1 A2 A3 A4 A5 = (Cert.Kernel2Ideal.Gen.dats m 0 c).arrAt 9 Cert.Kernel2Ideal.cfg0.N := by
  subst e0 e1 e2 e3 e4 e5
  refine Eq.trans (funext fun i => ?_) (Cert.Kernel2Ideal.MlpFinal.final9 m c).symm
  obtain ⟨R, n, rfl⟩ : ∃ (R : Fin 8704) (n : Fin 4096), i = ix2 R n := ⟨i 0, i 1, eq_ix2 i⟩
  exact Cert.Reference2Ideal.Rows.ghidB_at _ _ _ _ _ _ R n

/-- The gated gradient: the kernel's third array is the reference's third result. -/
theorem mlp2 : Cert.Reference2Ideal.Rows.gdB A1 A5 = (Cert.Kernel2Ideal.Gen.dats m 0 c).arrAt 10 Cert.Kernel2Ideal.cfg0.N := by
  subst e0 e1 e2 e3 e4 e5
  refine Eq.trans (funext fun i => ?_) (Cert.Kernel2Ideal.MlpFinal.final10 m c).symm
  obtain ⟨R, l, rfl⟩ : ∃ (R : Fin 8704) (l : Fin 1024), i = ix2 R l := ⟨i 0, i 1, eq_ix2 i⟩
  exact Cert.Reference2Ideal.Rows.gdB_at _ _ _ _ _ _ R l

/-- The blocks' sums: the kernel's fourth array is the reference's fourth result. -/
theorem mlp3 : Cert.Reference2Ideal.Rows.parts A0 A1 A2 A3 A4 A5 = (Cert.Kernel2Ideal.Gen.dats m 0 c).arrAt 11 Cert.Kernel2Ideal.cfg0.N := by
  subst e0 e1 e2 e3 e4 e5
  refine Eq.trans (funext fun i => ?_) (Cert.Kernel2Ideal.MlpFinal.final11 m c).symm
  obtain ⟨s, k, l, rfl⟩ : ∃ (s : Fin 34) (k : Fin 8) (l : Fin 1024), i = ix3 s k l := ⟨i 0, i 1, i 2, eq_ix3 i⟩
  exact Cert.Reference2Ideal.Rows.parts_at _ _ _ _ _ _ s k l

end

/-- The multilayer perceptron's backward: at the ideal instance the kernel's four arrays are the reference's four results. -/
theorem same_mlp : Cert.algebraic_Kernel2Ideal_Reference2Ideal := by
  pair_intro
  · run_from Cert.Kernel2Ideal.Value.run_blocks m g
  · run_from Cert.Reference2Ideal.Value.run m' g'
    · refine (Cert.Reference2Ideal.Rows.res83 m' c).trans ?_
      rw [(hagree c).1, (hagree c).2.1, (hagree c).2.2.1, (hagree c).2.2.2.1, (hagree c).2.2.2.2.1, (hagree c).2.2.2.2.2]
      exact mlp0 m c _ _ _ _ _ _ rfl rfl rfl rfl rfl rfl
    · refine (Cert.Reference2Ideal.Rows.res85 m' c).trans ?_
      rw [(hagree c).1, (hagree c).2.1, (hagree c).2.2.1, (hagree c).2.2.2.1, (hagree c).2.2.2.2.1, (hagree c).2.2.2.2.2]
      exact mlp1 m c _ _ _ _ _ _ rfl rfl rfl rfl rfl rfl
    · rw [(hagree c).2.1]
      exact mlp2 m c _ _ _ _ _ _ rfl rfl rfl rfl rfl rfl
    · refine (Cert.Reference2Ideal.Rows.res88 m' c).trans ?_
      rw [(hagree c).1, (hagree c).2.1, (hagree c).2.2.1, (hagree c).2.2.2.1, (hagree c).2.2.2.2.1, (hagree c).2.2.2.2.2]
      exact mlp3 m c _ _ _ _ _ _ rfl rfl rfl rfl rfl rfl

/-- The reference of the multilayer perceptron's backward runs and leaves its arguments; it declares no semaphore. -/
theorem frame_reference2 : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run (F := Ideal) m g)

/-- The reference of the first weight's gradient runs and leaves its arguments; it declares no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The reference of the second weight's gradient runs and leaves its arguments; it declares no semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

section
variable (m : (ℓ : Loc Cert.Kernel5Ideal.nD Cert.Kernel5Ideal.τ Cert.Kernel5Ideal.sig) → Buf (Elt Ideal) ℓ) (c : Dev Cert.Kernel5Ideal.nD)
variable (A0 : FVec Ideal Cert.Kernel5Ideal.S2x4352x1024 .f32) (A1 : FVec Ideal Cert.Kernel5Ideal.S3x6x1024 .f32) (A2 : FVec Ideal Cert.Kernel5Ideal.S1024 .f32)
variable (A3 : FVec Ideal Cert.Kernel5Ideal.S1024x4096 .f32) (A4 : FVec Ideal Cert.Kernel5Ideal.S4096x1024 .f32)
variable (e0 : m ((c.tc : Thread Cert.Kernel5Ideal.nD Cert.Kernel5Ideal.τ).loc Cert.Kernel5Ideal.main_arg0) = A0)
variable (e1 : m ((c.tc : Thread Cert.Kernel5Ideal.nD Cert.Kernel5Ideal.τ).loc Cert.Kernel5Ideal.main_arg1) = A1)
variable (e2 : m ((c.tc : Thread Cert.Kernel5Ideal.nD Cert.Kernel5Ideal.τ).loc Cert.Kernel5Ideal.main_arg2) = A2)
variable (e3 : m ((c.tc : Thread Cert.Kernel5Ideal.nD Cert.Kernel5Ideal.τ).loc Cert.Kernel5Ideal.main_arg3) = A3)
variable (e4 : m ((c.tc : Thread Cert.Kernel5Ideal.nD Cert.Kernel5Ideal.τ).loc Cert.Kernel5Ideal.main_arg4) = A4)
include e0 e1 e2 e3 e4

/-- The rows with the gated output added: the kernel's first array is the reference's first result. -/
theorem fwd0 : Cert.Reference5Ideal.Rows.flat (Cert.Reference5Ideal.Rows.next A0 A1 A2 A3 A4) = (Cert.Kernel5Ideal.Gen.dats m 0 c).arrAt 5 Cert.Kernel5Ideal.cfg0.N := by
  subst e0 e1 e2 e3 e4
  refine Eq.trans (funext fun i => ?_) (Cert.Kernel5Ideal.FwdFinal.final5 m c).symm
  obtain ⟨R, l, rfl⟩ : ∃ (R : Fin 8704) (l : Fin 1024), i = ix2 R l := ⟨i 0, i 1, eq_ix2 i⟩
  exact (Cert.Reference5Ideal.Rows.flat_at _ _ _).trans (Cert.Reference5Ideal.Rows.next_at _ _ _ _ _ _ _ _)

/-- The output: the kernel's second array is the reference's second result. -/
theorem fwd1 : Cert.Reference5Ideal.Rows.flatB (Cert.Reference5Ideal.Rows.out A0 A1 A2 A3 A4) = (Cert.Kernel5Ideal.Gen.dats m 0 c).arrAt 6 Cert.Kernel5Ideal.cfg0.N := by
  subst e0 e1 e2 e3 e4
  refine Eq.trans (funext fun i => ?_) (Cert.Kernel5Ideal.FwdFinal.final6 m c).symm
  obtain ⟨R, l, rfl⟩ : ∃ (R : Fin 8704) (l : Fin 1024), i = ix2 R l := ⟨i 0, i 1, eq_ix2 i⟩
  exact (Cert.Reference5Ideal.Rows.flatB_at _ _ _).trans (Cert.Reference5Ideal.Rows.out_at _ _ _ _ _ _ _ _)

/-- The hidden layer: the kernel's third array is the reference's third result. -/
theorem fwd2 : Cert.Reference5Ideal.Rows.flatH (Cert.Reference5Ideal.Rows.rel A0 A1 A2 A3) = (Cert.Kernel5Ideal.Gen.dats m 0 c).arrAt 7 Cert.Kernel5Ideal.cfg0.N := by
  subst e0 e1 e2 e3 e4
  refine Eq.trans (funext fun i => ?_) (Cert.Kernel5Ideal.FwdFinal.final7 m c).symm
  obtain ⟨R, l, rfl⟩ : ∃ (R : Fin 8704) (l : Fin 4096), i = ix2 R l := ⟨i 0, i 1, eq_ix2 i⟩
  exact (Cert.Reference5Ideal.Rows.flatH_at _ _ _).trans (Cert.Reference5Ideal.Rows.rel_at _ _ _ _ _ _ _ _)

/-- The modulated rows: the kernel's fourth array is the reference's fourth result. -/
theorem fwd3 : Cert.Reference5Ideal.Rows.flatB (Cert.Reference5Ideal.Rows.hin A0 A1 A2) = (Cert.Kernel5Ideal.Gen.dats m 0 c).arrAt 8 Cert.Kernel5Ideal.cfg0.N := by
  subst e0 e1 e2 e3 e4
  refine Eq.trans (funext fun i => ?_) (Cert.Kernel5Ideal.FwdFinal.final8 m c).symm
  obtain ⟨R, l, rfl⟩ : ∃ (R : Fin 8704) (l : Fin 1024), i = ix2 R l := ⟨i 0, i 1, eq_ix2 i⟩
  exact (Cert.Reference5Ideal.Rows.flatB_at _ _ _).trans (Cert.Reference5Ideal.Rows.hin_at _ _ _ _ _ _ _ _)

end

/-- The multilayer perceptron's forward: at the ideal instance the kernel's four arrays are the reference's four results. -/
theorem same_fwd : Cert.algebraic_Kernel5Ideal_Reference5Ideal := by
  pair_intro
  · run_from Cert.Kernel5Ideal.Value.run_blocks m g
  · run_from Cert.Reference5Ideal.Value.run m' g'
    · refine (Cert.Reference5Ideal.Rows.res36 m' c).trans ?_
      rw [(hagree c).1, (hagree c).2.1, (hagree c).2.2.1, (hagree c).2.2.2.1, (hagree c).2.2.2.2]
      exact fwd0 m c _ _ _ _ _ rfl rfl rfl rfl rfl
    · refine (Cert.Reference5Ideal.Rows.res38 m' c).trans ?_
      rw [(hagree c).1, (hagree c).2.1, (hagree c).2.2.1, (hagree c).2.2.2.1, (hagree c).2.2.2.2]
      exact fwd1 m c _ _ _ _ _ rfl rfl rfl rfl rfl
    · refine (show _ = Cert.Reference5Ideal.Rows.flatH (Cert.Reference5Ideal.Rows.rel (m ((c.tc : Thread Cert.Kernel5Ideal.nD Cert.Kernel5Ideal.τ).loc Cert.Kernel5Ideal.main_arg0)) (m' ((c.tc : Thread Cert.Reference5Ideal.nD Cert.Reference5Ideal.τ).loc Cert.Reference5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) from rfl).trans ?_
      rw [(hagree c).2.1]
      exact fwd2 m c _ _ _ _ _ rfl rfl rfl rfl rfl
    · refine (show _ = Cert.Reference5Ideal.Rows.flatB (Cert.Reference5Ideal.Rows.hin (m ((c.tc : Thread Cert.Kernel5Ideal.nD Cert.Kernel5Ideal.τ).loc Cert.Kernel5Ideal.main_arg0)) (m' ((c.tc : Thread Cert.Reference5Ideal.nD Cert.Reference5Ideal.τ).loc Cert.Reference5Ideal.main_arg1)) (m ((c.tc : Thread Cert.Kernel5Ideal.nD Cert.Kernel5Ideal.τ).loc Cert.Kernel5Ideal.main_arg2))) from rfl).trans ?_
      rw [(hagree c).2.1]
      exact fwd3 m c _ _ _ _ _ rfl rfl rfl rfl rfl

/-- The reference of the multilayer perceptron's forward runs and leaves its arguments; it declares no semaphore. -/
theorem frame_reference5 : Cert.quiescent_Reference5Ideal := fun m g _ =>
  (θ_run Cert.Reference5Ideal.defs _ _).mono (fun r h => ⟨fun c => (h c).2.2.2.2, sem_eq_zero_of_no_sems (by decide) r.2⟩)
    (Cert.Reference5Ideal.Value.run (F := Ideal) m g)

section
variable (m : (ℓ : Loc Cert.Kernel6Ideal.nD Cert.Kernel6Ideal.τ Cert.Kernel6Ideal.sig) → Buf (Elt Ideal) ℓ) (c : Dev Cert.Kernel6Ideal.nD)
variable (A0 : FVec Ideal Cert.Kernel6Ideal.S2x4352x1024 .f32)
variable (A1 : FVec Ideal Cert.Kernel6Ideal.S3x6x1024 .f32)
variable (A2 : FVec Ideal Cert.Kernel6Ideal.S1024 .f32)
variable (A3 : FVec Ideal Cert.Kernel6Ideal.S1024x2176 .f32)
variable (A4 : FVec Ideal Cert.Kernel6Ideal.S2x4352x1024 .f32)
variable (A5 : FVec Ideal Cert.Kernel6Ideal.S2x4352x384 .f32)
variable (A6 : FVec Ideal Cert.Kernel6Ideal.S2x4352x896 .f32)
variable (A7 : FVec Ideal Cert.Kernel6Ideal.S2x4352x256 .f32)
variable (A8 : FVec Ideal Cert.Kernel6Ideal.S2x4352x256 .f32)
variable (A9 : FVec Ideal Cert.Kernel6Ideal.S2x4352x256 .f32)
variable (A10 : FVec Ideal Cert.Kernel6Ideal.S2x4352x128 .f32)
variable (A11 : FVec Ideal Cert.Kernel6Ideal.S2x4352x128 .f32)

/-- The reference's arguments and the kernel's are one input: the pieces of the gradient put together are its columns. -/
theorem proj_args : Cert.Reference6Ideal.Rows.args A0 A1 A2 A3 A4 (Cert.Reference6Ideal.Rows.catQ A5 A6 A7 A8 A9 (addf A10 A11)) = Cert.Kernel6Ideal.Rows.args A0 A1 A2 A3 A4 A5 A6 A7 A8 A9 A10 A11 :=
  congrArg (Cert.Proj.In.mk _ _ _ _ _) (funext fun b => funext fun t => funext fun n => Cert.Reference6Ideal.Rows.catQ_at A5 A6 A7 A8 A9 (addf A10 A11) b t n)

variable (e0 : m ((c.tc : Thread Cert.Kernel6Ideal.nD Cert.Kernel6Ideal.τ).loc Cert.Kernel6Ideal.main_arg0) = A0)
variable (e1 : m ((c.tc : Thread Cert.Kernel6Ideal.nD Cert.Kernel6Ideal.τ).loc Cert.Kernel6Ideal.main_arg1) = A1)
variable (e2 : m ((c.tc : Thread Cert.Kernel6Ideal.nD Cert.Kernel6Ideal.τ).loc Cert.Kernel6Ideal.main_arg2) = A2)
variable (e3 : m ((c.tc : Thread Cert.Kernel6Ideal.nD Cert.Kernel6Ideal.τ).loc Cert.Kernel6Ideal.main_arg3) = A3)
variable (e4 : m ((c.tc : Thread Cert.Kernel6Ideal.nD Cert.Kernel6Ideal.τ).loc Cert.Kernel6Ideal.main_arg4) = A4)
variable (e5 : m ((c.tc : Thread Cert.Kernel6Ideal.nD Cert.Kernel6Ideal.τ).loc Cert.Kernel6Ideal.main_arg5) = A5)
variable (e6 : m ((c.tc : Thread Cert.Kernel6Ideal.nD Cert.Kernel6Ideal.τ).loc Cert.Kernel6Ideal.main_arg6) = A6)
variable (e7 : m ((c.tc : Thread Cert.Kernel6Ideal.nD Cert.Kernel6Ideal.τ).loc Cert.Kernel6Ideal.main_arg7) = A7)
variable (e8 : m ((c.tc : Thread Cert.Kernel6Ideal.nD Cert.Kernel6Ideal.τ).loc Cert.Kernel6Ideal.main_arg8) = A8)
variable (e9 : m ((c.tc : Thread Cert.Kernel6Ideal.nD Cert.Kernel6Ideal.τ).loc Cert.Kernel6Ideal.main_arg9) = A9)
variable (e10 : m ((c.tc : Thread Cert.Kernel6Ideal.nD Cert.Kernel6Ideal.τ).loc Cert.Kernel6Ideal.main_arg10) = A10)
variable (e11 : m ((c.tc : Thread Cert.Kernel6Ideal.nD Cert.Kernel6Ideal.τ).loc Cert.Kernel6Ideal.main_arg11) = A11)
include e0 e1 e2 e3 e4 e5 e6 e7 e8 e9 e10 e11

/-- The rows' gradient: the kernel's first array is the reference's first result. -/
theorem proj0 : Cert.Reference6Ideal.Rows.grow A0 A1 A2 A3 A4 (Cert.Reference6Ideal.Rows.catQ A5 A6 A7 A8 A9 (addf A10 A11)) = (Cert.Kernel6Ideal.Gen.dats m 0 c).arrAt 13 Cert.Kernel6Ideal.cfg0.N := by
  subst e0 e1 e2 e3 e4 e5 e6 e7 e8 e9 e10 e11
  refine Eq.trans (funext fun i => ?_) (Cert.Kernel6Ideal.ProjFinal.final13 m c).symm
  obtain ⟨R, l, rfl⟩ : ∃ (R : Fin 8704) (l : Fin 1024), i = ix2 R l := ⟨i 0, i 1, eq_ix2 i⟩
  refine (Cert.Reference6Ideal.Rows.grow_at _ _ _ _ _ _ R l).trans ?_
  rw [proj_args]
  exact (Cert.Proj.dx_eq _ _ _ _).symm

/-- The matrix's gradient: the kernel's second array is the reference's second result. -/
theorem proj1 : Cert.Reference6Ideal.Rows.gW A0 A1 A2 (Cert.Reference6Ideal.Rows.catQ A5 A6 A7 A8 A9 (addf A10 A11)) = (Cert.Kernel6Ideal.Gen.dats m 0 c).arrAt 14 Cert.Kernel6Ideal.cfg0.N := by
  subst e0 e1 e2 e3 e4 e5 e6 e7 e8 e9 e10 e11
  refine Eq.trans (funext fun i => ?_) (Cert.Kernel6Ideal.ProjFinal.final14 m c).symm
  obtain ⟨p, n, rfl⟩ : ∃ (p : Fin 1024) (n : Fin 2176), i = ix2 p n := ⟨i 0, i 1, eq_ix2 i⟩
  refine (Cert.Reference6Ideal.Rows.dw_at _ _ _ (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) _ p n).trans ?_
  rw [proj_args]
  rfl

/-- The blocks' sums: the kernel's third array is the reference's third result. -/
theorem proj2 : Cert.Reference6Ideal.Rows.parts A0 A1 A2 A3 (Cert.Reference6Ideal.Rows.catQ A5 A6 A7 A8 A9 (addf A10 A11)) = (Cert.Kernel6Ideal.Gen.dats m 0 c).arrAt 15 Cert.Kernel6Ideal.cfg0.N := by
  subst e0 e1 e2 e3 e4 e5 e6 e7 e8 e9 e10 e11
  refine Eq.trans (funext fun i => ?_) (Cert.Kernel6Ideal.ProjFinal.final15 m c).symm
  obtain ⟨s, k, l, rfl⟩ : ∃ (s : Fin 34) (k : Fin 8) (l : Fin 1024), i = ix3 s k l := ⟨i 0, i 1, i 2, eq_ix3 i⟩
  refine (Cert.Reference6Ideal.Rows.parts_at _ _ _ _ (m ((c.tc : Thread Cert.Kernel6Ideal.nD Cert.Kernel6Ideal.τ).loc Cert.Kernel6Ideal.main_arg4)) _ s k l).trans ?_
  rw [proj_args]
  rfl

end

set_option maxHeartbeats 1000000 in
/-- The gradient through the projection: at the ideal instance the kernel's three arrays are the reference's three results. -/
theorem same_proj : Cert.algebraic_Kernel6Ideal_Reference6Ideal := by
  pair_intro
  · run_from Cert.Kernel6Ideal.Value.run_blocks m g
  · run_from Cert.Reference6Ideal.Value.run m' g'
    · refine (Cert.Reference6Ideal.Rows.res65 m' c).trans ?_
      unfold Cert.Reference6Ideal.Rows.qOf
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact proj0 m c _ _ _ _ _ _ _ _ _ _ _ _ rfl rfl rfl rfl rfl rfl rfl rfl rfl rfl rfl rfl
    · refine (show _ = Cert.Reference6Ideal.Rows.gW (m ((c.tc : Thread Cert.Kernel6Ideal.nD Cert.Kernel6Ideal.τ).loc Cert.Kernel6Ideal.main_arg0)) (m' ((c.tc : Thread Cert.Reference6Ideal.nD Cert.Reference6Ideal.τ).loc Cert.Reference6Ideal.main_arg1)) (m ((c.tc : Thread Cert.Kernel6Ideal.nD Cert.Kernel6Ideal.τ).loc Cert.Kernel6Ideal.main_arg2)) (Cert.Reference6Ideal.Rows.qOf m' c) from rfl).trans ?_
      unfold Cert.Reference6Ideal.Rows.qOf
      rw [(hagree c).2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact proj1 m c _ _ _ _ _ _ _ _ _ _ _ _ rfl rfl rfl rfl rfl rfl rfl rfl rfl rfl rfl rfl
    · refine (Cert.Reference6Ideal.Rows.res66 m' c).trans ?_
      unfold Cert.Reference6Ideal.Rows.qOf
      rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact proj2 m c _ _ _ _ _ _ _ _ _ _ _ _ rfl rfl rfl rfl rfl rfl rfl rfl rfl rfl rfl rfl

/-- The reference of the gradient through the projection runs and leaves its arguments; it declares no semaphore. -/
theorem frame_reference6 : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

/-- Every program runs and leaves its arguments, and the kernels' results are the references'. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    trivial, same, trivial, same_mlp, trivial, same_w1, trivial, same_w2, trivial, same_fwd, trivial, same_proj⟩

end Cert.Proof

end
